-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def preserves_Kernel_KernelIdeal : Prop :=
  IdealRules.named_const.Statement Cert.KernelIdeal.κ "mask" .f32 0xF149F2CA#32 ⊥

def algebraic_KernelIdeal_ReferenceIdeal_on_first_tile_pre_finite [hKernelIdeal : Cert.KernelIdeal.Facts] [hReferenceIdeal : Cert.ReferenceIdeal.Facts] [hPre_finite : Cert.Pre_finite.Facts] [hOn_first_tile : Cert.On_first_tile.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v40_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨3, ![4, 8192, 512]⟩ : Shape).Idx, (Cert.On_first_tile.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) i = 1#1 → r.2.mem ((c.tc : Thread Cert.KernelIdeal.nD Cert.KernelIdeal.τ).loc Cert.KernelIdeal.main_v40_1) i = v0 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨3, ![4, 8192, 512]⟩ : Shape).Idx, (Cert.On_first_tile.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) i = 1#1 → r.2.mem ((c.tc : Thread Cert.ReferenceIdeal.nD Cert.ReferenceIdeal.τ).loc Cert.ReferenceIdeal.main_v59) i = v0 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) →
    ∃ (v0 : (c : Dev Cert.Kernel2Ideal.nD) → Buf (Elt Ideal) ((c.tc : Thread Cert.Kernel2Ideal.nD Cert.Kernel2Ideal.τ).loc Cert.Kernel2Ideal.main_v6_0)) (v1 : (c : Dev Cert.Kernel2Ideal.nD) → Buf (Elt Ideal) ((c.tc : Thread Cert.Kernel2Ideal.nD Cert.Kernel2Ideal.τ).loc Cert.Kernel2Ideal.main_v6_1)) (v2 : (c : Dev Cert.Kernel2Ideal.nD) → Buf (Elt Ideal) ((c.tc : Thread Cert.Kernel2Ideal.nD Cert.Kernel2Ideal.τ).loc Cert.Kernel2Ideal.main_v6_2)) (v3 : (c : Dev Cert.Kernel2Ideal.nD) → Buf (Elt Ideal) ((c.tc : Thread Cert.Kernel2Ideal.nD Cert.Kernel2Ideal.τ).loc Cert.Kernel2Ideal.main_v6_3)) (v4 : (c : Dev Cert.Kernel2Ideal.nD) → Buf (Elt Ideal) ((c.tc : Thread Cert.Kernel2Ideal.nD Cert.Kernel2Ideal.τ).loc Cert.Kernel2Ideal.main_v6_4)) (v5 : (c : Dev Cert.Kernel2Ideal.nD) → Buf (Elt Ideal) ((c.tc : Thread Cert.Kernel2Ideal.nD Cert.Kernel2Ideal.τ).loc Cert.Kernel2Ideal.main_v6_5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6_0) = v0 c
          ∧ r.2.mem ((c.tc : Thread Cert.Kernel2Ideal.nD Cert.Kernel2Ideal.τ).loc Cert.Kernel2Ideal.main_v6_1) = v1 c
          ∧ r.2.mem ((c.tc : Thread Cert.Kernel2Ideal.nD Cert.Kernel2Ideal.τ).loc Cert.Kernel2Ideal.main_v6_2) = v2 c
          ∧ r.2.mem ((c.tc : Thread Cert.Kernel2Ideal.nD Cert.Kernel2Ideal.τ).loc Cert.Kernel2Ideal.main_v6_3) = v3 c
          ∧ r.2.mem ((c.tc : Thread Cert.Kernel2Ideal.nD Cert.Kernel2Ideal.τ).loc Cert.Kernel2Ideal.main_v6_4) = v4 c
          ∧ r.2.mem ((c.tc : Thread Cert.Kernel2Ideal.nD Cert.Kernel2Ideal.τ).loc Cert.Kernel2Ideal.main_v6_5) = v5 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v21) = v0 c
          ∧ r.2.mem ((c.tc : Thread Cert.Reference2Ideal.nD Cert.Reference2Ideal.τ).loc Cert.Reference2Ideal.main_v23) = v1 c
          ∧ r.2.mem ((c.tc : Thread Cert.Reference2Ideal.nD Cert.Reference2Ideal.τ).loc Cert.Reference2Ideal.main_v24) = v2 c
          ∧ r.2.mem ((c.tc : Thread Cert.Reference2Ideal.nD Cert.Reference2Ideal.τ).loc Cert.Reference2Ideal.main_v25) = v3 c
          ∧ r.2.mem ((c.tc : Thread Cert.Reference2Ideal.nD Cert.Reference2Ideal.τ).loc Cert.Reference2Ideal.main_v26) = v4 c
          ∧ r.2.mem ((c.tc : Thread Cert.Reference2Ideal.nD Cert.Reference2Ideal.τ).loc Cert.Reference2Ideal.main_v27) = v5 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v44) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite : Cert.Pre_finite.Facts) (hOn_first_tile : Cert.On_first_tile.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_on_first_tile_pre_finite (hKernelIdeal := hKernelIdeal) (hReferenceIdeal := hReferenceIdeal) (hPre_finite := hPre_finite) (hOn_first_tile := hOn_first_tile)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== On_first_tile.lean ====
abbrev S4x8192x1024 : Shape := ⟨3, ![4, 8192, 1024]⟩
abbrev S1024 : Shape := ⟨1, ![1024]⟩
abbrev S4112x1024 : Shape := ⟨2, ![4112, 1024]⟩
abbrev S4x1536 : Shape := ⟨2, ![4, 1536]⟩
abbrev S1536 : Shape := ⟨1, ![1536]⟩
abbrev S16 : Shape := ⟨1, ![16]⟩
abbrev S8x513 : Shape := ⟨2, ![8, 513]⟩
abbrev S4x8192x512 : Shape := ⟨3, ![4, 8192, 512]⟩
abbrev S_ : Shape := ⟨0, ![]⟩

class Facts : Prop where
  bcast_S_S4x8192x512 : S_.BroadcastsInDim S4x8192x512 (![] : Fin 0 → Fin S4x8192x512.rank)

variable [Facts]

def fn {F : FTy → Type} [FloatOps F] (main_arg0 : FVec F S4x8192x1024 .f32) (main_arg1 : FVec F S1024 .f32) (main_arg2 : FVec F S4112x1024 .bf16) (main_arg3 : FVec F S4x1536 .f32) (main_arg4 : FVec F S1536 .f32) (main_arg5 : FVec F S16 .f32) (main_arg6 : FVec F S16 .f32) (main_arg7 : FVec F S16 .f32) (main_arg8 : FVec F S1024 .f32) (main_arg9 : FVec F S8x513 .f32) : IVec S4x8192x512 1 :=
  let main_v0 : IVec S4x8192x512 32 := iotaInDim S4x8192x512 32 0
  let main_c : IVec S_ 32 := constantI S_ 32 1#32
  let main_v1 : IVec S4x8192x512 32 := broadcastInDim S4x8192x512 ![] bcast_S_S4x8192x512 main_c
  let main_v2 : IVec S4x8192x512 1 := cmpi .slt main_v0 main_v1
  let main_v3 : IVec S4x8192x512 32 := iotaInDim S4x8192x512 32 1
  let main_c_0 : IVec S_ 32 := constantI S_ 32 256#32
  let main_v4 : IVec S4x8192x512 32 := broadcastInDim S4x8192x512 ![] bcast_S_S4x8192x512 main_c_0
  let main_v5 : IVec S4x8192x512 1 := cmpi .slt main_v3 main_v4
  let main_v6 : IVec S4x8192x512 1 := andi main_v2 main_v5
  let main_v7 : IVec S4x8192x512 32 := iotaInDim S4x8192x512 32 2
  let main_c_1 : IVec S_ 32 := constantI S_ 32 64#32
  let main_v8 : IVec S4x8192x512 32 := broadcastInDim S4x8192x512 ![] bcast_S_S4x8192x512 main_c_1
  let main_v9 : IVec S4x8192x512 1 := cmpi .slt main_v7 main_v8
  let main_v10 : IVec S4x8192x512 1 := andi main_v6 main_v9
  main_v10
-- ==== Pre_finite.lean ====
abbrev S4x8192x1024 : Shape := ⟨3, ![4, 8192, 1024]⟩
abbrev S1024 : Shape := ⟨1, ![1024]⟩
abbrev S4112x1024 : Shape := ⟨2, ![4112, 1024]⟩
abbrev S4x1536 : Shape := ⟨2, ![4, 1536]⟩
abbrev S1536 : Shape := ⟨1, ![1536]⟩
abbrev S16 : Shape := ⟨1, ![16]⟩
abbrev S8x513 : Shape := ⟨2, ![8, 513]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel
  bitsLt_bf16_f32 : FTy.bits .bf16 < FTy.bits .f32
  bcast_S_S4112x1024 : S_.BroadcastsInDim S4112x1024 (![] : Fin 0 → Fin S4112x1024.rank)
  reducesTo_S4112x1024_S_d0_1 : S4112x1024.ReducesTo [0, 1] S_
  bcast_S_S8x513 : S_.BroadcastsInDim S8x513 (![] : Fin 0 → Fin S8x513.rank)
  reducesTo_S8x513_S_d0_1 : S8x513.ReducesTo [0, 1] S_

variable [Facts]

def fn {F : FTy → Type} [FloatOps F] (main_arg0 : FVec F S4x8192x1024 .f32) (main_arg1 : FVec F S1024 .f32) (main_arg2 : FVec F S4112x1024 .bf16) (main_arg3 : FVec F S4x1536 .f32) (main_arg4 : FVec F S1536 .f32) (main_arg5 : FVec F S16 .f32) (main_arg6 : FVec F S16 .f32) (main_arg7 : FVec F S16 .f32) (main_arg8 : FVec F S1024 .f32) (main_arg9 : FVec F S8x513 .f32) : IVec S_ 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_c : IVec S_ 1 := constantI S_ 1 1#1
  let main_v3 : IVec S_ 1 := (fun x v => Host.reduce IntOp.andi x v reducesTo_S1024_S_d0 h_S_) main_v2 main_c
  let main_v4 : FVec F S4112x1024 .f32 := (extf .f32 · bitsLt_bf16_f32) main_arg2
  let main_v5 : FVec F S4112x1024 .f32 := Host.absf main_v4
  let main_cst_0 : FVec F S_ .f32 := constant S_ .f32 0x7F800000#32
  let main_v6 : FVec F S4112x1024 .f32 := broadcastInDim S4112x1024 ![] bcast_S_S4112x1024 main_cst_0
  let main_v7 : IVec S4112x1024 1 := cmpf .olt main_v5 main_v6
  let main_c_1 : IVec S_ 1 := constantI S_ 1 1#1
  let main_v8 : IVec S_ 1 := (fun x v => Host.reduce IntOp.andi x v reducesTo_S4112x1024_S_d0_1 h_S_) main_v7 main_c_1
  let main_v9 : IVec S_ 1 := andi main_v3 main_v8
  let main_v10 : FVec F S8x513 .f32 := Host.absf main_arg9
  let main_cst_2 : FVec F S_ .f32 := constant S_ .f32 0x7F800000#32
  let main_v11 : FVec F S8x513 .f32 := broadcastInDim S8x513 ![] bcast_S_S8x513 main_cst_2
  let main_v12 : IVec S8x513 1 := cmpf .olt main_v10 main_v11
  let main_c_3 : IVec S_ 1 := constantI S_ 1 1#1
  let main_v13 : IVec S_ 1 := (fun x v => Host.reduce IntOp.andi x v reducesTo_S8x513_S_d0_1 h_S_) main_v12 main_c_3
  let main_v14 : IVec S_ 1 := andi main_v9 main_v13
  main_v14
-- ==== Kernel.lean ====
abbrev S4x8192x1024 : Shape := ⟨3, ![4, 8192, 1024]⟩
abbrev S1024 : Shape := ⟨1, ![1024]⟩
abbrev S4112x1024 : Shape := ⟨2, ![4112, 1024]⟩
abbrev S4x1536 : Shape := ⟨2, ![4, 1536]⟩
abbrev S1536 : Shape := ⟨1, ![1536]⟩
abbrev S16 : Shape := ⟨1, ![16]⟩
abbrev S8x513 : Shape := ⟨2, ![8, 513]⟩
abbrev S1536x1024 : Shape := ⟨2, ![1536, 1024]⟩
abbrev S1024x1024 : Shape := ⟨2, ![1024, 1024]⟩
abbrev S512x1024 : Shape := ⟨2, ![512, 1024]⟩
abbrev S_ : Shape := ⟨0, ![]⟩
abbrev S16x1024 : Shape := ⟨2, ![16, 1024]⟩
abbrev S112x1024 : Shape := ⟨2, ![112, 1024]⟩
abbrev S3712x1024 : Shape := ⟨2, ![3712, 1024]⟩
abbrev S1024x3712 : Shape := ⟨2, ![1024, 3712]⟩
abbrev S8x64x1024 : Shape := ⟨3, ![8, 64, 1024]⟩
abbrev S8x80x1024 : Shape := ⟨3, ![8, 80, 1024]⟩
abbrev S640x1024 : Shape := ⟨2, ![640, 1024]⟩
abbrev S8x80 : Shape := ⟨2, ![8, 80]⟩
abbrev S1 : Shape := ⟨1, ![1]⟩
abbrev S8 : Shape := ⟨1, ![8]⟩
abbrev S640x1 : Shape := ⟨2, ![640, 1]⟩
abbrev S1x1024 : Shape := ⟨2, ![1, 1024]⟩
abbrev S1x1536 : Shape := ⟨2, ![1, 1536]⟩
abbrev S128 : Shape := ⟨1, ![128]⟩
abbrev S128x1 : Shape := ⟨2, ![128, 1]⟩
abbrev S16x64 : Shape := ⟨2, ![16, 64]⟩
abbrev S8x1 : Shape := ⟨2, ![8, 1]⟩
abbrev S8x1x257 : Shape := ⟨3, ![8, 1, 257]⟩
abbrev S8x257 : Shape := ⟨2, ![8, 257]⟩
abbrev S8x511 : Shape := ⟨2, ![8, 511]⟩
abbrev S8x1x256 : Shape := ⟨3, ![8, 1, 256]⟩
abbrev S8x256 : Shape := ⟨2, ![8, 256]⟩
abbrev S8x1024 : Shape := ⟨2, ![8, 1024]⟩
abbrev S4x8192x512 : Shape := ⟨3, ![4, 8192, 512]⟩
abbrev S1x256x1024 : Shape := ⟨3, ![1, 256, 1024]⟩
abbrev S1x256x512 : Shape := ⟨3, ![1, 256, 512]⟩
abbrev S12x264x128 : Shape := ⟨3, ![12, 264, 128]⟩
abbrev S2x128x512 : Shape := ⟨3, ![2, 128, 512]⟩
abbrev S4x3x256x512 : Shape := ⟨4, ![4, 3, 256, 512]⟩
abbrev S3x8x768x256 : Shape := ⟨4, ![3, 8, 768, 256]⟩
abbrev S3x256x512 : Shape := ⟨3, ![3, 256, 512]⟩
abbrev S3x640x256 : Shape := ⟨3, ![3, 640, 256]⟩
abbrev S1x256x128 : Shape := ⟨3, ![1, 256, 128]⟩
abbrev S128x256 : Shape := ⟨2, ![128, 256]⟩
abbrev S12x8x128 : Shape := ⟨3, ![12, 8, 128]⟩
abbrev S256x1024 : Shape := ⟨2, ![256, 1024]⟩
abbrev S256 : Shape := ⟨1, ![256]⟩
abbrev S256x1 : Shape := ⟨2, ![256, 1]⟩
abbrev S1024x128 : Shape := ⟨2, ![1024, 128]⟩
abbrev S256x128 : Shape := ⟨2, ![256, 128]⟩
abbrev S1024x1536 : Shape := ⟨2, ![1024, 1536]⟩
abbrev S256x1536 : Shape := ⟨2, ![256, 1536]⟩
abbrev S640x256 : Shape := ⟨2, ![640, 256]⟩
abbrev S1x640x256 : Shape := ⟨3, ![1, 640, 256]⟩
abbrev S1024x512 : Shape := ⟨2, ![1024, 512]⟩
abbrev S256x512 : Shape := ⟨2, ![256, 512]⟩
abbrev S1x128 : Shape := ⟨2, ![1, 128]⟩
abbrev S768x256 : Shape := ⟨2, ![768, 256]⟩
abbrev S768x1024 : Shape := ⟨2, ![768, 1024]⟩
abbrev S1x1x768x256 : Shape := ⟨4, ![1, 1, 768, 256]⟩
abbrev S512x128 : Shape := ⟨2, ![512, 128]⟩
abbrev S1x1x256x512 : Shape := ⟨4, ![1, 1, 256, 512]⟩
abbrev S1x1x128x256 : Shape := ⟨4, ![1, 1, 128, 256]⟩
abbrev S1x1x128x128 : Shape := ⟨4, ![1, 1, 128, 128]⟩
abbrev S128x128 : Shape := ⟨2, ![128, 128]⟩
abbrev S1x256 : Shape := ⟨2, ![1, 256]⟩
abbrev S256x256 : Shape := ⟨2, ![256, 256]⟩
abbrev S80x256 : Shape := ⟨2, ![80, 256]⟩
abbrev S1x1x256x256 : Shape := ⟨4, ![1, 1, 256, 256]⟩
abbrev S64x256 : Shape := ⟨2, ![64, 256]⟩
abbrev S1x256x256 : Shape := ⟨3, ![1, 256, 256]⟩
abbrev S1x128x512 : Shape := ⟨3, ![1, 128, 512]⟩
abbrev S128x512 : Shape := ⟨2, ![128, 512]⟩
abbrev S1x1 : Shape := ⟨2, ![1, 1]⟩
abbrev S768x128 : Shape := ⟨2, ![768, 128]⟩
abbrev S1x128x128 : Shape := ⟨3, ![1, 128, 128]⟩

abbrev nBuf : Space → Nat
  | .hbm => 64
  | .vmem => 30
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S4112x1024, .bf16⟩
  | .hbm, ⟨3, _⟩ => ⟨S4x1536, .f32⟩
  | .hbm, ⟨4, _⟩ => ⟨S1536, .f32⟩
  | .hbm, ⟨5, _⟩ => ⟨S16, .f32⟩
  | .hbm, ⟨6, _⟩ => ⟨S16, .f32⟩
  | .hbm, ⟨7, _⟩ => ⟨S16, .f32⟩
  | .hbm, ⟨8, _⟩ => ⟨S1024, .f32⟩
  | .hbm, ⟨9, _⟩ => ⟨S8x513, .f32⟩
  | .hbm, ⟨10, _⟩ => ⟨S1536x1024, .bf16⟩
  | .hbm, ⟨11, _⟩ => ⟨S1024x1024, .bf16⟩
  | .hbm, ⟨12, _⟩ => ⟨S512x1024, .bf16⟩
  | .hbm, ⟨13, _⟩ => ⟨S_, .bf16⟩
  | .hbm, ⟨14, _⟩ => ⟨S512x1024, .bf16⟩
  | .hbm, ⟨15, _⟩ => ⟨S512x1024, .bf16⟩
  | .hbm, ⟨16, _⟩ => ⟨S512x1024, .bf16⟩
  | .hbm, ⟨17, _⟩ => ⟨S16x1024, .bf16⟩
  | .hbm, ⟨18, _⟩ => ⟨S_, .bf16⟩
  | .hbm, ⟨19, _⟩ => ⟨S112x1024, .bf16⟩
  | .hbm, ⟨20, _⟩ => ⟨S3712x1024, .bf16⟩
  | .hbm, ⟨21, _⟩ => ⟨S1024x3712, .bf16⟩
  | .hbm, ⟨22, _⟩ => ⟨S512x1024, .bf16⟩
  | .hbm, ⟨23, _⟩ => ⟨S8x64x1024, .bf16⟩
  | .hbm, ⟨24, _⟩ => ⟨S_, .i32⟩
  | .hbm, ⟨25, _⟩ => ⟨S_, .bf16⟩
  | .hbm, ⟨26, _⟩ => ⟨S8x80x1024, .bf16⟩
  | .hbm, ⟨27, _⟩ => ⟨S640x1024, .bf16⟩
  | .hbm, ⟨28, _⟩ => ⟨S_, .f32⟩
  | .hbm, ⟨29, _⟩ => ⟨S8x80, .f32⟩
  | .hbm, ⟨30, _⟩ => ⟨S_, .i32⟩
  | .hbm, ⟨31, _⟩ => ⟨S1, .i32⟩
  | .hbm, ⟨32, _⟩ => ⟨S_, .f32⟩
  | .hbm, ⟨33, _⟩ => ⟨S8, .f32⟩
  | .hbm, ⟨34, _⟩ => ⟨S8x80, .f32⟩
  | .hbm, ⟨35, _⟩ => ⟨S640x1, .f32⟩
  | .hbm, ⟨36, _⟩ => ⟨S16, .f32⟩
  | .hbm, ⟨37, _⟩ => ⟨S16, .f32⟩
  | .hbm, ⟨38, _⟩ => ⟨S_, .f32⟩
  | .hbm, ⟨39, _⟩ => ⟨S16, .f32⟩
  | .hbm, ⟨40, _⟩ => ⟨S16, .f32⟩
  | .hbm, ⟨41, _⟩ => ⟨S1x1024, .f32⟩
  | .hbm, ⟨42, _⟩ => ⟨S1x1536, .f32⟩
  | .hbm, ⟨43, _⟩ => ⟨S_, .i32⟩
  | .hbm, ⟨44, _⟩ => ⟨S_, .f32⟩
  | .hbm, ⟨45, _⟩ => ⟨S128, .f32⟩
  | .hbm, ⟨46, _⟩ => ⟨S128x1, .f32⟩
  | .hbm, ⟨47, _⟩ => ⟨S_, .i32⟩
  | .hbm, ⟨48, _⟩ => ⟨S_, .f32⟩
  | .hbm, ⟨49, _⟩ => ⟨S128, .f32⟩
  | .hbm, ⟨50, _⟩ => ⟨S128x1, .f32⟩
  | .hbm, ⟨51, _⟩ => ⟨S16x64, .f32⟩
  | .hbm, ⟨52, _⟩ => ⟨S1024, .f32⟩
  | .hbm, ⟨53, _⟩ => ⟨S1x1024, .f32⟩
  | .hbm, ⟨54, _⟩ => ⟨S1x1024, .f32⟩
  | .hbm, ⟨55, _⟩ => ⟨S8x1, .f32⟩
  | .hbm, ⟨56, _⟩ => ⟨S8x1x257, .f32⟩
  | .hbm, ⟨57, _⟩ => ⟨S8x257, .f32⟩
  | .hbm, ⟨58, _⟩ => ⟨S8x511, .f32⟩
  | .hbm, ⟨59, _⟩ => ⟨S8x1x256, .f32⟩
  | .hbm, ⟨60, _⟩ => ⟨S8x256, .f32⟩
  | .hbm, ⟨61, _⟩ => ⟨S8x1024, .f32⟩
  | .hbm, ⟨62, _⟩ => ⟨S4x8192x1024, .bf16⟩
  | .hbm, ⟨63, _⟩ => ⟨S4x8192x512, .bf16⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1024x3712, .bf16⟩
  | .local _ .vmem, ⟨4, _⟩ => ⟨S640x1024, .bf16⟩
  | .local _ .vmem, ⟨5, _⟩ => ⟨S640x1, .f32⟩
  | .local _ .vmem, ⟨6, _⟩ => ⟨S4x1536, .f32⟩
  | .local _ .vmem, ⟨7, _⟩ => ⟨S1x1536, .f32⟩
  | .local _ .vmem, ⟨8, _⟩ => ⟨S128x1, .f32⟩
  | .local _ .vmem, ⟨9, _⟩ => ⟨S128x1, .f32⟩
  | .local _ .vmem, ⟨10, _⟩ => ⟨S1x1024, .f32⟩
  | .local _ .vmem, ⟨11, _⟩ => ⟨S1x1024, .f32⟩
  | .local _ .vmem, ⟨12, _⟩ => ⟨S8x1024, .f32⟩
  | .local _ .vmem, ⟨13, _⟩ => ⟨S1x256x1024, .bf16⟩
  | .local _ .vmem, ⟨14, _⟩ => ⟨S1x256x1024, .bf16⟩
  | .local _ .vmem, ⟨15, _⟩ => ⟨S1x256x512, .bf16⟩
  | .local _ .vmem, ⟨16, _⟩ => ⟨S1x256x512, .bf16⟩
  | .local _ .vmem, ⟨17, _⟩ => ⟨S12x264x128, .f32⟩
  | .local _ .vmem, ⟨18, _⟩ => ⟨S2x128x512, .f32⟩
  | .local _ .vmem, ⟨19, _⟩ => ⟨S4x3x256x512, .f32⟩
  | .local _ .vmem, ⟨20, _⟩ => ⟨S3x8x768x256, .f32⟩
  | .local _ .vmem, ⟨21, _⟩ => ⟨S3x256x512, .bf16⟩
  | .local _ .vmem, ⟨22, _⟩ => ⟨S3x640x256, .bf16⟩
  | .local _ .vmem, ⟨23, _⟩ => ⟨S1x256x1024, .f32⟩
  | .local _ .vmem, ⟨24, _⟩ => ⟨S1x256x512, .bf16⟩
  | .local _ .vmem, ⟨25, _⟩ => ⟨S1x256x1024, .f32⟩
  | .local _ .vmem, ⟨26, _⟩ => ⟨S1x256x512, .bf16⟩
  | .local _ .vmem, ⟨27, _⟩ => ⟨S1x256x128, .f32⟩
  | .local _ .vmem, ⟨28, _⟩ => ⟨S1x256x128, .f32⟩
  | .local _ .vmem, ⟨29, _⟩ => ⟨S128x256, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_call0_v0 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_c_2 : Ref sig .tc := ⟨.hbm, 30, rfl⟩
abbrev main_v15 : Ref sig .tc := ⟨.hbm, 31, rfl⟩
abbrev main_cst_3 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_4 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_c_5 : Ref sig .tc := ⟨.hbm, 43, rfl⟩
abbrev main_call1_v0 : Ref sig .tc := ⟨.hbm, 44, rfl⟩
abbrev main_v25 : Ref sig .tc := ⟨.hbm, 45, rfl⟩
abbrev main_v26 : Ref sig .tc := ⟨.hbm, 46, rfl⟩
abbrev main_c_6 : Ref sig .tc := ⟨.hbm, 47, rfl⟩
abbrev main_call2_v0 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40_0 : Ref sig .tc := ⟨.hbm, 62, rfl⟩
abbrev main_v40_1 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg12_1 : Ref sig .tc := ⟨.vmem, 14, rfl⟩
abbrev cc0_stg13_0 : Ref sig .tc := ⟨.vmem, 15, rfl⟩
abbrev cc0_stg13_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_scratch4 : Ref sig .tc := ⟨.vmem, 21, rfl⟩
abbrev cc0_scratch5 : Ref sig .tc := ⟨.vmem, 22, rfl⟩
abbrev cc0_scratch6 : Ref sig .tc := ⟨.vmem, 23, rfl⟩
abbrev cc0_scratch7 : Ref sig .tc := ⟨.vmem, 24, rfl⟩
abbrev cc0_scratch8 : Ref sig .tc := ⟨.vmem, 25, rfl⟩
abbrev cc0_scratch9 : Ref sig .tc := ⟨.vmem, 26, rfl⟩
abbrev cc0_scratch10 : Ref sig .tc := ⟨.vmem, 27, rfl⟩
abbrev cc0_scratch11 : Ref sig .tc := ⟨.vmem, 28, rfl⟩
abbrev cc0_scratch12 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem12_1 : DmaSem sig := 14
abbrev cc0_sem13_0 : DmaSem sig := 15
abbrev cc0_sem13_1 : DmaSem sig := 16

abbrev nD : Nat := 1
abbrev τ : Topo := Topo.v7x

variable {F : FTy → Type} [FloatOps F]

abbrev grid0 : Pipeline.Grid := ⟨2, ![4, 32], ![false, false]⟩

def k0_off1 (i : grid0.Coords) : Fin 3 → Nat :=
  let arg1 : BitVec 32 := BitVec.ofNat 32 (i 1).val
  let c3_i32_8 : BitVec 32 := 3#32
  let v17 : BitVec 32 := Scalar.addi arg1 c3_i32_8
  let c3_i32_9 : BitVec 32 := 3#32
  let c0_i32_10 : BitVec 32 := 0#32
  let v18 : BitVec 1 := Scalar.cmpi .eq c3_i32_9 c0_i32_10
  let c1_i32_11 : BitVec 32 := 1#32
  let v19 : BitVec 32 := Scalar.select v18 c1_i32_11 c3_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let v194 : Index := Scalar.indexCast v27
  let c0_95 : Index := 0#32
  let c0_96 : Index := 0#32
  ![v194.toNat, 0, 0]
def k0_off2 (i : grid0.Coords) : Fin 3 → Nat :=
  let arg1 : BitVec 32 := BitVec.ofNat 32 (i 1).val
  let c3_i32 : BitVec 32 := 3#32
  let v6 : BitVec 32 := Scalar.addi arg1 c3_i32
  let c3_i32_3 : BitVec 32 := 3#32
  let c0_i32_4 : BitVec 32 := 0#32
  let v7 : BitVec 1 := Scalar.cmpi .eq c3_i32_3 c0_i32_4
  let c1_i32 : BitVec 32 := 1#32
  let v8 : BitVec 32 := Scalar.select v7 c1_i32 c3_i32_3
  let v9 : BitVec 32 := Scalar.remsi v6 v8
  let c0_i32_6 : BitVec 32 := 0#32
  let v11 : BitVec 1 := Scalar.cmpi .slt v9 c0_i32_6
  let c0_i32_7 : BitVec 32 := 0#32
  let v12 : BitVec 1 := Scalar.cmpi .slt v8 c0_i32_7
  let v13 : BitVec 1 := Scalar.xori v11 v12
  let c0_i32_5 : BitVec 32 := 0#32
  let v10 : BitVec 1 := Scalar.cmpi .ne v9 c0_i32_5
  let v14 : BitVec 1 := Scalar.andi v13 v10
  let v15 : BitVec 32 := Scalar.addi v9 v8
  let v16 : BitVec 32 := Scalar.select v14 v15 v9
  let v215 : Index := Scalar.indexCast v16
  let c0_109 : Index := 0#32
  let c0_110 : Index := 0#32
  ![v215.toNat, 0, 0]
def k0_off3 (i : grid0.Coords) (c1_i32_460 : BitVec 32) : Fin 3 → Nat :=
  let arg1 : BitVec 32 := BitVec.ofNat 32 (i 1).val
  let v703 : BitVec 32 := Scalar.addi arg1 c1_i32_460
  let c3_i32_461 : BitVec 32 := 3#32
  let c0_i32_462 : BitVec 32 := 0#32
  let v704 : BitVec 1 := Scalar.cmpi .eq c3_i32_461 c0_i32_462
  let c1_i32_463 : BitVec 32 := 1#32
  let v705 : BitVec 32 := Scalar.select v704 c1_i32_463 c3_i32_461
  let v706 : BitVec 32 := Scalar.remsi v703 v705
  let c0_i32_465 : BitVec 32 := 0#32
  let v708 : BitVec 1 := Scalar.cmpi .slt v706 c0_i32_465
  let c0_i32_466 : BitVec 32 := 0#32
  let v709 : BitVec 1 := Scalar.cmpi .slt v705 c0_i32_466
  let v710 : BitVec 1 := Scalar.xori v708 v709
  let c0_i32_464 : BitVec 32 := 0#32
  let v707 : BitVec 1 := Scalar.cmpi .ne v706 c0_i32_464
  let v711 : BitVec 1 := Scalar.andi v710 v707
  let v712 : BitVec 32 := Scalar.addi v706 v705
  let v713 : BitVec 32 := Scalar.select v711 v712 v706
  let c0_i32_511 : BitVec 32 := 0#32
  let c0_i32_512 : BitVec 32 := 0#32
  ![v713.toNat, 0, 0]
def k0_off4 (i : grid0.Coords) : Fin 4 → Nat :=
  let arg1 : BitVec 32 := BitVec.ofNat 32 (i 1).val
  let c2_i32_505 : BitVec 32 := 2#32
  let v774 : BitVec 32 := Scalar.minsi arg1 c2_i32_505
  let v888 : Index := Scalar.indexCast v774
  let c0_647 : Index := 0#32
  let c512_648 : Index := 512#32
  let c0_649 : Index := 0#32
  ![v888.toNat, 0, 512, 0]
def k0_off5 (i : grid0.Coords) : Fin 4 → Nat :=
  let arg1 : BitVec 32 := BitVec.ofNat 32 (i 1).val
  let c2_i32_505 : BitVec 32 := 2#32
  let v774 : BitVec 32 := Scalar.minsi arg1 c2_i32_505
  let v894 : Index := Scalar.indexCast v774
  let c0_654 : Index := 0#32
  let c640_655 : Index := 640#32
  let c128_656 : Index := 128#32
  ![v894.toNat, 0, 640, 128]
def k0_off6 (i : grid0.Coords) (c3_i32_495 : BitVec 32) : Fin 3 → Nat :=
  let arg1 : BitVec 32 := BitVec.ofNat 32 (i 1).val
  let v758 : BitVec 32 := Scalar.addi arg1 c3_i32_495
  let c3_i32_496 : BitVec 32 := 3#32
  let c0_i32_497 : BitVec 32 := 0#32
  let v759 : BitVec 1 := Scalar.cmpi .eq c3_i32_496 c0_i32_497
  let c1_i32_498 : BitVec 32 := 1#32
  let v760 : BitVec 32 := Scalar.select v759 c1_i32_498 c3_i32_496
  let v761 : BitVec 32 := Scalar.remsi v758 v760
  let c0_i32_500 : BitVec 32 := 0#32
  let v763 : BitVec 1 := Scalar.cmpi .slt v761 c0_i32_500
  let c0_i32_501 : BitVec 32 := 0#32
  let v764 : BitVec 1 := Scalar.cmpi .slt v760 c0_i32_501
  let v765 : BitVec 1 := Scalar.xori v763 v764
  let c0_i32_499 : BitVec 32 := 0#32
  let v762 : BitVec 1 := Scalar.cmpi .ne v761 c0_i32_499
  let v766 : BitVec 1 := Scalar.andi v765 v762
  let v767 : BitVec 32 := Scalar.addi v761 v760
  let v768 : BitVec 32 := Scalar.select v766 v767 v761
  let c0_i32_661 : BitVec 32 := 0#32
  let c0_i32_662 : BitVec 32 := 0#32
  ![v768.toNat, 0, 0]
def k0_off7 (i : grid0.Coords) : Fin 4 → Nat :=
  let arg1 : BitVec 32 := BitVec.ofNat 32 (i 1).val
  let c2_i32_505 : BitVec 32 := 2#32
  let v774 : BitVec 32 := Scalar.minsi arg1 c2_i32_505
  let v923 : Index := Scalar.indexCast v774
  let c0_670 : Index := 0#32
  let c256_671 : Index := 256#32
  let c0_672 : Index := 0#32
  ![v923.toNat, 0, 256, 0]
def k0_off8 (i : grid0.Coords) : Fin 4 → Nat :=
  let arg1 : BitVec 32 := BitVec.ofNat 32 (i 1).val
  let c2_i32_505 : BitVec 32 := 2#32
  let v774 : BitVec 32 := Scalar.minsi arg1 c2_i32_505
  let v945 : Index := Scalar.indexCast v774
  let c0_683 : Index := 0#32
  let c128_684 : Index := 128#32
  let c0_685 : Index := 0#32
  ![v945.toNat, 0, 128, 0]
def k0_off9 (i : grid0.Coords) : Fin 4 → Nat :=
  let arg1 : BitVec 32 := BitVec.ofNat 32 (i 1).val
  let c2_i32_505 : BitVec 32 := 2#32
  let v774 : BitVec 32 := Scalar.minsi arg1 c2_i32_505
  let v951 : Index := Scalar.indexCast v774
  let c0_690 : Index := 0#32
  let c0_691 : Index := 0#32
  let c0_692 : Index := 0#32
  ![v951.toNat, 0, 0, 0]
def k0_off10 (i : grid0.Coords) : Fin 4 → Nat :=
  let arg1 : BitVec 32 := BitVec.ofNat 32 (i 1).val
  let c2_i32_505 : BitVec 32 := 2#32
  let v774 : BitVec 32 := Scalar.minsi arg1 c2_i32_505
  let v990 : Index := Scalar.indexCast v774
  let c1_706 : Index := 1#32
  let c512_707 : Index := 512#32
  let c0_708 : Index := 0#32
  ![v990.toNat, 1, 512, 0]
def k0_off11 (i : grid0.Coords) : Fin 4 → Nat :=
  let arg1 : BitVec 32 := BitVec.ofNat 32 (i 1).val
  let c2_i32_505 : BitVec 32 := 2#32
  let v774 : BitVec 32 := Scalar.minsi arg1 c2_i32_505
  let v996 : Index := Scalar.indexCast v774
  let c1_713 : Index := 1#32
  let c640_714 : Index := 640#32
  let c128_715 : Index := 128#32
  ![v996.toNat, 1, 640, 128]
def k0_off12 (i : grid0.Coords) : Fin 4 → Nat :=
  let arg1 : BitVec 32 := BitVec.ofNat 32 (i 1).val
  let c2_i32_505 : BitVec 32 := 2#32
  let v774 : BitVec 32 := Scalar.minsi arg1 c2_i32_505
  let v1025 : Index := Scalar.indexCast v774
  let c1_728 : Index := 1#32
  let c256_729 : Index := 256#32
  let c0_730 : Index := 0#32
  ![v1025.toNat, 1, 256, 0]
def k0_off13 (i : grid0.Coords) : Fin 4 → Nat :=
  let arg1 : BitVec 32 := BitVec.ofNat 32 (i 1).val
  let c2_i32_505 : BitVec 32 := 2#32
  let v774 : BitVec 32 := Scalar.minsi arg1 c2_i32_505
  let v1047 : Index := Scalar.indexCast v774
  let c1_741 : Index := 1#32
  let c128_742 : Index := 128#32
  let c0_743 : Index := 0#32
  ![v1047.toNat, 1, 128, 0]
def k0_off14 (i : grid0.Coords) : Fin 4 → Nat :=
  let arg1 : BitVec 32 := BitVec.ofNat 32 (i 1).val
  let c2_i32_505 : BitVec 32 := 2#32
  let v774 : BitVec 32 := Scalar.minsi arg1 c2_i32_505
  let v1053 : Index := Scalar.indexCast v774
  let c1_748 : Index := 1#32
  let c0_749 : Index := 0#32
  let c0_750 : Index := 0#32
  ![v1053.toNat, 1, 0, 0]
def k0_off15 (i : grid0.Coords) : Fin 4 → Nat :=
  let arg1 : BitVec 32 := BitVec.ofNat 32 (i 1).val
  let c2_i32_505 : BitVec 32 := 2#32
  let v774 : BitVec 32 := Scalar.minsi arg1 c2_i32_505
  let v1098 : Index := Scalar.indexCast v774
  let c2_767 : Index := 2#32
  let c512_768 : Index := 512#32
  let c0_769 : Index := 0#32
  ![v1098.toNat, 2, 512, 0]
def k0_off16 (i : grid0.Coords) : Fin 4 → Nat :=
  let arg1 : BitVec 32 := BitVec.ofNat 32 (i 1).val
  let c2_i32_505 : BitVec 32 := 2#32
  let v774 : BitVec 32 := Scalar.minsi arg1 c2_i32_505
  let v1104 : Index := Scalar.indexCast v774
  let c2_774 : Index := 2#32
  let c640_775 : Index := 640#32
  let c128_776 : Index := 128#32
  ![v1104.toNat, 2, 640, 128]
def k0_off17 (i : grid0.Coords) : Fin 4 → Nat :=
  let arg1 : BitVec 32 := BitVec.ofNat 32 (i 1).val
  let c2_i32_505 : BitVec 32 := 2#32
  let v774 : BitVec 32 := Scalar.minsi arg1 c2_i32_505
  let v1133 : Index := Scalar.indexCast v774
  let c2_789 : Index := 2#32
  let c256_790 : Index := 256#32
  let c0_791 : Index := 0#32
  ![v1133.toNat, 2, 256, 0]
def k0_off18 (i : grid0.Coords) : Fin 4 → Nat :=
  let arg1 : BitVec 32 := BitVec.ofNat 32 (i 1).val
  let c2_i32_505 : BitVec 32 := 2#32
  let v774 : BitVec 32 := Scalar.minsi arg1 c2_i32_505
  let v1155 : Index := Scalar.indexCast v774
  let c2_802 : Index := 2#32
  let c128_803 : Index := 128#32
  let c0_804 : Index := 0#32
  ![v1155.toNat, 2, 128, 0]
def k0_off19 (i : grid0.Coords) : Fin 4 → Nat :=
  let arg1 : BitVec 32 := BitVec.ofNat 32 (i 1).val
  let c2_i32_505 : BitVec 32 := 2#32
  let v774 : BitVec 32 := Scalar.minsi arg1 c2_i32_505
  let v1161 : Index := Scalar.indexCast v774
  let c2_809 : Index := 2#32
  let c0_810 : Index := 0#32
  let c0_811 : Index := 0#32
  ![v1161.toNat, 2, 0, 0]
def k0_off20 (i : grid0.Coords) : Fin 4 → Nat :=
  let arg1 : BitVec 32 := BitVec.ofNat 32 (i 1).val
  let c2_i32_505 : BitVec 32 := 2#32
  let v774 : BitVec 32 := Scalar.minsi arg1 c2_i32_505
  let v1200 : Index := Scalar.indexCast v774
  let c3_825 : Index := 3#32
  let c512_826 : Index := 512#32
  let c0_827 : Index := 0#32
  ![v1200.toNat, 3, 512, 0]
def k0_off21 (i : grid0.Coords) : Fin 4 → Nat :=
  let arg1 : BitVec 32 := BitVec.ofNat 32 (i 1).val
  let c2_i32_505 : BitVec 32 := 2#32
  let v774 : BitVec 32 := Scalar.minsi arg1 c2_i32_505
  let v1206 : Index := Scalar.indexCast v774
  let c3_832 : Index := 3#32
  let c640_833 : Index := 640#32
  let c128_834 : Index := 128#32
  ![v1206.toNat, 3, 640, 128]
def k0_off22 (i : grid0.Coords) : Fin 4 → Nat :=
  let arg1 : BitVec 32 := BitVec.ofNat 32 (i 1).val
  let c2_i32_505 : BitVec 32 := 2#32
  let v774 : BitVec 32 := Scalar.minsi arg1 c2_i32_505
  let v1235 : Index := Scalar.indexCast v774
  let c3_847 : Index := 3#32
  let c256_848 : Index := 256#32
  let c0_849 : Index := 0#32
  ![v1235.toNat, 3, 256, 0]
def k0_off23 (i : grid0.Coords) : Fin 4 → Nat :=
  let arg1 : BitVec 32 := BitVec.ofNat 32 (i 1).val
  let c2_i32_505 : BitVec 32 := 2#32
  let v774 : BitVec 32 := Scalar.minsi arg1 c2_i32_505
  let v1257 : Index := Scalar.indexCast v774
  let c3_860 : Index := 3#32
  let c128_861 : Index := 128#32
  let c0_862 : Index := 0#32
  ![v1257.toNat, 3, 128, 0]
def k0_off24 (i : grid0.Coords) : Fin 4 → Nat :=
  let arg1 : BitVec 32 := BitVec.ofNat 32 (i 1).val
  let c2_i32_505 : BitVec 32 := 2#32
  let v774 : BitVec 32 := Scalar.minsi arg1 c2_i32_505
  let v1263 : Index := Scalar.indexCast v774
  let c3_867 : Index := 3#32
  let c0_868 : Index := 0#32
  let c0_869 : Index := 0#32
  ![v1263.toNat, 3, 0, 0]
def k0_off25 (i : grid0.Coords) : Fin 4 → Nat :=
  let arg1 : BitVec 32 := BitVec.ofNat 32 (i 1).val
  let c2_i32_505 : BitVec 32 := 2#32
  let v774 : BitVec 32 := Scalar.minsi arg1 c2_i32_505
  let v1308 : Index := Scalar.indexCast v774
  let c4_886 : Index := 4#32
  let c512_887 : Index := 512#32
  let c0_888 : Index := 0#32
  ![v1308.toNat, 4, 512, 0]
def k0_off26 (i : grid0.Coords) : Fin 4 → Nat :=
  let arg1 : BitVec 32 := BitVec.ofNat 32 (i 1).val
  let c2_i32_505 : BitVec 32 := 2#32
  let v774 : BitVec 32 := Scalar.minsi arg1 c2_i32_505
  let v1314 : Index := Scalar.indexCast v774
  let c4_893 : Index := 4#32
  let c640_894 : Index := 640#32
  let c128_895 : Index := 128#32
  ![v1314.toNat, 4, 640, 128]
def k0_off27 (i : grid0.Coords) : Fin 4 → Nat :=
  let arg1 : BitVec 32 := BitVec.ofNat 32 (i 1).val
  let c2_i32_505 : BitVec 32 := 2#32
  let v774 : BitVec 32 := Scalar.minsi arg1 c2_i32_505
  let v1343 : Index := Scalar.indexCast v774
  let c4_908 : Index := 4#32
  let c256_909 : Index := 256#32
  let c0_910 : Index := 0#32
  ![v1343.toNat, 4, 256, 0]
def k0_off28 (i : grid0.Coords) : Fin 4 → Nat :=
  let arg1 : BitVec 32 := BitVec.ofNat 32 (i 1).val
  let c2_i32_505 : BitVec 32 := 2#32
  let v774 : BitVec 32 := Scalar.minsi arg1 c2_i32_505
  let v1365 : Index := Scalar.indexCast v774
  let c4_921 : Index := 4#32
  let c128_922 : Index := 128#32
  let c0_923 : Index := 0#32
  ![v1365.toNat, 4, 128, 0]
def k0_off29 (i : grid0.Coords) : Fin 4 → Nat :=
  let arg1 : BitVec 32 := BitVec.ofNat 32 (i 1).val
  let c2_i32_505 : BitVec 32 := 2#32
  let v774 : BitVec 32 := Scalar.minsi arg1 c2_i32_505
  let v1371 : Index := Scalar.indexCast v774
  let c4_928 : Index := 4#32
  let c0_929 : Index := 0#32
  let c0_930 : Index := 0#32
  ![v1371.toNat, 4, 0, 0]
def k0_off30 (i : grid0.Coords) : Fin 4 → Nat :=
  let arg1 : BitVec 32 := BitVec.ofNat 32 (i 1).val
  let c2_i32_505 : BitVec 32 := 2#32
  let v774 : BitVec 32 := Scalar.minsi arg1 c2_i32_505
  let v1410 : Index := Scalar.indexCast v774
  let c5_944 : Index := 5#32
  let c512_945 : Index := 512#32
  let c0_946 : Index := 0#32
  ![v1410.toNat, 5, 512, 0]
def k0_off31 (i : grid0.Coords) : Fin 4 → Nat :=
  let arg1 : BitVec 32 := BitVec.ofNat 32 (i 1).val
  let c2_i32_505 : BitVec 32 := 2#32
  let v774 : BitVec 32 := Scalar.minsi arg1 c2_i32_505
  let v1416 : Index := Scalar.indexCast v774
  let c5_951 : Index := 5#32
  let c640_952 : Index := 640#32
  let c128_953 : Index := 128#32
  ![v1416.toNat, 5, 640, 128]
def k0_off32 (i : grid0.Coords) : Fin 4 → Nat :=
  let arg1 : BitVec 32 := BitVec.ofNat 32 (i 1).val
  let c2_i32_505 : BitVec 32 := 2#32
  let v774 : BitVec 32 := Scalar.minsi arg1 c2_i32_505
  let v1445 : Index := Scalar.indexCast v774
  let c5_966 : Index := 5#32
  let c256_967 : Index := 256#32
  let c0_968 : Index := 0#32
  ![v1445.toNat, 5, 256, 0]
def k0_off33 (i : grid0.Coords) : Fin 4 → Nat :=
  let arg1 : BitVec 32 := BitVec.ofNat 32 (i 1).val
  let c2_i32_505 : BitVec 32 := 2#32
  let v774 : BitVec 32 := Scalar.minsi arg1 c2_i32_505
  let v1467 : Index := Scalar.indexCast v774
  let c5_979 : Index := 5#32
  let c128_980 : Index := 128#32
  let c0_981 : Index := 0#32
  ![v1467.toNat, 5, 128, 0]
def k0_off34 (i : grid0.Coords) : Fin 4 → Nat :=
  let arg1 : BitVec 32 := BitVec.ofNat 32 (i 1).val
  let c2_i32_505 : BitVec 32 := 2#32
  let v774 : BitVec 32 := Scalar.minsi arg1 c2_i32_505
  let v1473 : Index := Scalar.indexCast v774
  let c5_986 : Index := 5#32
  let c0_987 : Index := 0#32
  let c0_988 : Index := 0#32
  ![v1473.toNat, 5, 0, 0]
def k0_off35 (i : grid0.Coords) : Fin 4 → Nat :=
  let arg1 : BitVec 32 := BitVec.ofNat 32 (i 1).val
  let c2_i32_505 : BitVec 32 := 2#32
  let v774 : BitVec 32 := Scalar.minsi arg1 c2_i32_505
  let v1518 : Index := Scalar.indexCast v774
  let c6_1005 : Index := 6#32
  let c512_1006 : Index := 512#32
  let c0_1007 : Index := 0#32
  ![v1518.toNat, 6, 512, 0]
def k0_off36 (i : grid0.Coords) : Fin 4 → Nat :=
  let arg1 : BitVec 32 := BitVec.ofNat 32 (i 1).val
  let c2_i32_505 : BitVec 32 := 2#32
  let v774 : BitVec 32 := Scalar.minsi arg1 c2_i32_505
  let v1524 : Index := Scalar.indexCast v774
  let c6_1012 : Index := 6#32
  let c640_1013 : Index := 640#32
  let c128_1014 : Index := 128#32
  ![v1524.toNat, 6, 640, 128]
def k0_off37 (i : grid0.Coords) : Fin 4 → Nat :=
  let arg1 : BitVec 32 := BitVec.ofNat 32 (i 1).val
  let c2_i32_505 : BitVec 32 := 2#32
  let v774 : BitVec 32 := Scalar.minsi arg1 c2_i32_505
  let v1553 : Index := Scalar.indexCast v774
  let c6_1027 : Index := 6#32
  let c256_1028 : Index := 256#32
  let c0_1029 : Index := 0#32
  ![v1553.toNat, 6, 256, 0]
def k0_off38 (i : grid0.Coords) : Fin 4 → Nat :=
  let arg1 : BitVec 32 := BitVec.ofNat 32 (i 1).val
  let c2_i32_505 : BitVec 32 := 2#32
  let v774 : BitVec 32 := Scalar.minsi arg1 c2_i32_505
  let v1575 : Index := Scalar.indexCast v774
  let c6_1040 : Index := 6#32
  let c128_1041 : Index := 128#32
  let c0_1042 : Index := 0#32
  ![v1575.toNat, 6, 128, 0]
def k0_off39 (i : grid0.Coords) : Fin 4 → Nat :=
  let arg1 : BitVec 32 := BitVec.ofNat 32 (i 1).val
  let c2_i32_505 : BitVec 32 := 2#32
  let v774 : BitVec 32 := Scalar.minsi arg1 c2_i32_505
  let v1581 : Index := Scalar.indexCast v774
  let c6_1047 : Index := 6#32
  let c0_1048 : Index := 0#32
  let c0_1049 : Index := 0#32
  ![v1581.toNat, 6, 0, 0]
def k0_off40 (i : grid0.Coords) : Fin 4 → Nat :=
  let arg1 : BitVec 32 := BitVec.ofNat 32 (i 1).val
  let c2_i32_505 : BitVec 32 := 2#32
  let v774 : BitVec 32 := Scalar.minsi arg1 c2_i32_505
  let v1620 : Index := Scalar.indexCast v774
  let c7_1063 : Index := 7#32
  let c512_1064 : Index := 512#32
  let c0_1065 : Index := 0#32
  ![v1620.toNat, 7, 512, 0]
def k0_off41 (i : grid0.Coords) : Fin 4 → Nat :=
  let arg1 : BitVec 32 := BitVec.ofNat 32 (i 1).val
  let c2_i32_505 : BitVec 32 := 2#32
  let v774 : BitVec 32 := Scalar.minsi arg1 c2_i32_505
  let v1626 : Index := Scalar.indexCast v774
  let c7_1070 : Index := 7#32
  let c640_1071 : Index := 640#32
  let c128_1072 : Index := 128#32
  ![v1626.toNat, 7, 640, 128]
def k0_off42 (i : grid0.Coords) : Fin 4 → Nat :=
  let arg1 : BitVec 32 := BitVec.ofNat 32 (i 1).val
  let c2_i32_505 : BitVec 32 := 2#32
  let v774 : BitVec 32 := Scalar.minsi arg1 c2_i32_505
  let v1655 : Index := Scalar.indexCast v774
  let c7_1085 : Index := 7#32
  let c256_1086 : Index := 256#32
  let c0_1087 : Index := 0#32
  ![v1655.toNat, 7, 256, 0]
def k0_off43 (i : grid0.Coords) : Fin 4 → Nat :=
  let arg1 : BitVec 32 := BitVec.ofNat 32 (i 1).val
  let c2_i32_505 : BitVec 32 := 2#32
  let v774 : BitVec 32 := Scalar.minsi arg1 c2_i32_505
  let v1677 : Index := Scalar.indexCast v774
  let c7_1098 : Index := 7#32
  let c128_1099 : Index := 128#32
  let c0_1100 : Index := 0#32
  ![v1677.toNat, 7, 128, 0]
def k0_off44 (i : grid0.Coords) : Fin 4 → Nat :=
  let arg1 : BitVec 32 := BitVec.ofNat 32 (i 1).val
  let c2_i32_505 : BitVec 32 := 2#32
  let v774 : BitVec 32 := Scalar.minsi arg1 c2_i32_505
  let v1683 : Index := Scalar.indexCast v774
  let c7_1105 : Index := 7#32
  let c0_1106 : Index := 0#32
  let c0_1107 : Index := 0#32
  ![v1683.toNat, 7, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x3712 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S640x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S640x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S4x1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1536 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S128x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S8x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x256x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S4x8192x1024 : Shape := ⟨3, ![4, 8192, 1024]⟩
abbrev S1024 : Shape := ⟨1, ![1024]⟩
abbrev S4112x1024 : Shape := ⟨2, ![4112, 1024]⟩
abbrev S4x1536 : Shape := ⟨2, ![4, 1536]⟩
abbrev S1536 : Shape := ⟨1, ![1536]⟩
abbrev S16 : Shape := ⟨1, ![16]⟩
abbrev S8x513 : Shape := ⟨2, ![8, 513]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S1024x4112 : Shape := ⟨2, ![1024, 4112]⟩
abbrev S4x8192x4112 : Shape := ⟨3, ![4, 8192, 4112]⟩
abbrev S4x8192x512 : Shape := ⟨3, ![4, 8192, 512]⟩
abbrev S4x8192x8x64 : Shape := ⟨4, ![4, 8192, 8, 64]⟩
abbrev S8192x8192 : Shape := ⟨2, ![8192, 8192]⟩
abbrev S8192x8192x1 : Shape := ⟨3, ![8192, 8192, 1]⟩
abbrev S8x8192x8192 : Shape := ⟨3, ![8, 8192, 8192]⟩
abbrev S4x8x8192x8192 : Shape := ⟨4, ![4, 8, 8192, 8192]⟩
abbrev S1x8x8192x8192 : Shape := ⟨4, ![1, 8, 8192, 8192]⟩
abbrev S1x1x8192x8192 : Shape := ⟨4, ![1, 1, 8192, 8192]⟩
abbrev S4x8x8192 : Shape := ⟨3, ![4, 8, 8192]⟩
abbrev S4x8x8192x1 : Shape := ⟨4, ![4, 8, 8192, 1]⟩
abbrev S4x8x64x8192 : Shape := ⟨4, ![4, 8, 64, 8192]⟩

abbrev nBuf : Space → Nat
  | .hbm => 93
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S4112x1024, .bf16⟩
  | .hbm, ⟨3, _⟩ => ⟨S4x1536, .f32⟩
  | .hbm, ⟨4, _⟩ => ⟨S1536, .f32⟩
  | .hbm, ⟨5, _⟩ => ⟨S16, .f32⟩
  | .hbm, ⟨6, _⟩ => ⟨S16, .f32⟩
  | .hbm, ⟨7, _⟩ => ⟨S16, .f32⟩
  | .hbm, ⟨8, _⟩ => ⟨S1024, .f32⟩
  | .hbm, ⟨9, _⟩ => ⟨S8x513, .f32⟩
  | .hbm, ⟨10, _⟩ => ⟨S4x8192x1024, .f32⟩
  | .hbm, ⟨11, _⟩ => ⟨S_, .f32⟩
  | .hbm, ⟨12, _⟩ => ⟨S4x8192, .f32⟩
  | .hbm, ⟨13, _⟩ => ⟨S4x8192x1, .f32⟩
  | .hbm, ⟨14, _⟩ => ⟨S_, .f32⟩
  | .hbm, ⟨15, _⟩ => ⟨S4x8192x1, .f32⟩
  | .hbm, ⟨16, _⟩ => ⟨S4x8192x1, .f32⟩
  | .hbm, ⟨17, _⟩ => ⟨S_, .f32⟩
  | .hbm, ⟨18, _⟩ => ⟨S4x8192x1, .f32⟩
  | .hbm, ⟨19, _⟩ => ⟨S4x8192x1, .f32⟩
  | .hbm, ⟨20, _⟩ => ⟨S4x8192x1, .f32⟩
  | .hbm, ⟨21, _⟩ => ⟨S4x8192x1024, .f32⟩
  | .hbm, ⟨22, _⟩ => ⟨S4x8192x1024, .f32⟩
  | .hbm, ⟨23, _⟩ => ⟨S1x1x1024, .f32⟩
  | .hbm, ⟨24, _⟩ => ⟨S4x8192x1024, .f32⟩
  | .hbm, ⟨25, _⟩ => ⟨S4x8192x1024, .f32⟩
  | .hbm, ⟨26, _⟩ => ⟨S4112x1024, .f32⟩
  | .hbm, ⟨27, _⟩ => ⟨S1024x4112, .f32⟩
  | .hbm, ⟨28, _⟩ => ⟨S4x8192x4112, .f32⟩
  | .hbm, ⟨29, _⟩ => ⟨S4x8192x512, .f32⟩
  | .hbm, ⟨30, _⟩ => ⟨S4x8192x512, .f32⟩
  | .hbm, ⟨31, _⟩ => ⟨S4x8192x512, .f32⟩
  | .hbm, ⟨32, _⟩ => ⟨S4x8192x8x64, .f32⟩
  | .hbm, ⟨33, _⟩ => ⟨S4x8192x8x64, .f32⟩
  | .hbm, ⟨34, _⟩ => ⟨S4x8192x8x64, .f32⟩
  | .hbm, ⟨35, _⟩ => ⟨S8192x8192, .i32⟩
  | .hbm, ⟨36, _⟩ => ⟨S8192x8192, .i32⟩
  | .hbm, ⟨37, _⟩ => ⟨S8192x8192, .i32⟩
  | .hbm, ⟨38, _⟩ => ⟨S_, .i32⟩
  | .hbm, ⟨39, _⟩ => ⟨S_, .i32⟩
  | .hbm, ⟨40, _⟩ => ⟨S_, .i32⟩
  | .hbm, ⟨41, _⟩ => ⟨S8192x8192, .i32⟩
  | .hbm, ⟨42, _⟩ => ⟨S8192x8192, .i32⟩
  | .hbm, ⟨43, _⟩ => ⟨S_, .i32⟩
  | .hbm, ⟨44, _⟩ => ⟨S8192x8192, .i32⟩
  | .hbm, ⟨45, _⟩ => ⟨S8192x8192, .i32⟩
  | .hbm, ⟨46, _⟩ => ⟨S_, .i32⟩
  | .hbm, ⟨47, _⟩ => ⟨S8192x8192, .i32⟩
  | .hbm, ⟨48, _⟩ => ⟨S8192x8192, .i32⟩
  | .hbm, ⟨49, _⟩ => ⟨S8192x8192x1, .i32⟩
  | .hbm, ⟨50, _⟩ => ⟨S8x8192x8192, .f32⟩
  | .hbm, ⟨51, _⟩ => ⟨S4x8x8192x8192, .f32⟩
  | .hbm, ⟨52, _⟩ => ⟨S_, .f32⟩
  | .hbm, ⟨53, _⟩ => ⟨S4x8x8192x8192, .f32⟩
  | .hbm, ⟨54, _⟩ => ⟨S4x8x8192x8192, .f32⟩
  | .hbm, ⟨55, _⟩ => ⟨S1x8x8192x8192, .f32⟩
  | .hbm, ⟨56, _⟩ => ⟨S4x8x8192x8192, .f32⟩
  | .hbm, ⟨57, _⟩ => ⟨S4x8x8192x8192, .f32⟩
  | .hbm, ⟨58, _⟩ => ⟨S_, .i32⟩
  | .hbm, ⟨59, _⟩ => ⟨S8192x8192, .i32⟩
  | .hbm, ⟨60, _⟩ => ⟨S8192x8192, .i32⟩
  | .hbm, ⟨61, _⟩ => ⟨S_, .i32⟩
  | .hbm, ⟨62, _⟩ => ⟨S8192x8192, .i32⟩
  | .hbm, ⟨63, _⟩ => ⟨S8192x8192, .i32⟩
  | .hbm, ⟨64, _⟩ => ⟨S8192x8192, .i32⟩
  | .hbm, ⟨65, _⟩ => ⟨S_, .i32⟩
  | .hbm, ⟨66, _⟩ => ⟨S8192x8192, .i32⟩
  | .hbm, ⟨67, _⟩ => ⟨S8192x8192, .i1⟩
  | .hbm, ⟨68, _⟩ => ⟨S_, .i32⟩
  | .hbm, ⟨69, _⟩ => ⟨S8192x8192, .i32⟩
  | .hbm, ⟨70, _⟩ => ⟨S8192x8192, .i1⟩
  | .hbm, ⟨71, _⟩ => ⟨S8192x8192, .i1⟩
  | .hbm, ⟨72, _⟩ => ⟨S1x1x8192x8192, .i1⟩
  | .hbm, ⟨73, _⟩ => ⟨S_, .f32⟩
  | .hbm, ⟨74, _⟩ => ⟨S_, .f32⟩
  | .hbm, ⟨75, _⟩ => ⟨S4x8x8192x8192, .i1⟩
  | .hbm, ⟨76, _⟩ => ⟨S4x8x8192x8192, .f32⟩
  | .hbm, ⟨77, _⟩ => ⟨S4x8x8192x8192, .f32⟩
  | .hbm, ⟨78, _⟩ => ⟨S_, .f32⟩
  | .hbm, ⟨79, _⟩ => ⟨S4x8x8192, .f32⟩
  | .hbm, ⟨80, _⟩ => ⟨S4x8x8192x1, .f32⟩
  | .hbm, ⟨81, _⟩ => ⟨S4x8x8192x8192, .f32⟩
  | .hbm, ⟨82, _⟩ => ⟨S4x8x8192x8192, .f32⟩
  | .hbm, ⟨83, _⟩ => ⟨S4x8x8192x8192, .f32⟩
  | .hbm, ⟨84, _⟩ => ⟨S_, .f32⟩
  | .hbm, ⟨85, _⟩ => ⟨S4x8x8192, .f32⟩
  | .hbm, ⟨86, _⟩ => ⟨S4x8x8192x1, .f32⟩
  | .hbm, ⟨87, _⟩ => ⟨S4x8x8192x8192, .f32⟩
  | .hbm, ⟨88, _⟩ => ⟨S4x8x8192x8192, .f32⟩
  | .hbm, ⟨89, _⟩ => ⟨S4x8x64x8192, .f32⟩
  | .hbm, ⟨90, _⟩ => ⟨S4x8192x8x64, .f32⟩
  | .hbm, ⟨91, _⟩ => ⟨S4x8192x512, .f32⟩
  | .hbm, ⟨92, _⟩ => ⟨S4x8192x512, .bf16⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_c : Ref sig .tc := ⟨.hbm, 38, rfl⟩
abbrev main_c_2 : Ref sig .tc := ⟨.hbm, 39, rfl⟩
abbrev main_call0_v0 : Ref sig .tc := ⟨.hbm, 40, rfl⟩
abbrev main_call0_v1 : Ref sig .tc := ⟨.hbm, 41, rfl⟩
abbrev main_call0_v2 : Ref sig .tc := ⟨.hbm, 42, rfl⟩
abbrev main_call0_v3 : Ref sig .tc := ⟨.hbm, 43, rfl⟩
abbrev main_call0_v4 : Ref sig .tc := ⟨.hbm, 44, rfl⟩
abbrev main_v25 : Ref sig .tc := ⟨.hbm, 45, rfl⟩
abbrev main_c_3 : Ref sig .tc := ⟨.hbm, 46, rfl⟩
abbrev main_v26 : Ref sig .tc := ⟨.hbm, 47, rfl⟩
abbrev main_v27 : Ref sig .tc := ⟨.hbm, 48, rfl⟩
abbrev main_call1_v0 : Ref sig .tc := ⟨.hbm, 49, rfl⟩
abbrev main_v28 : Ref sig .tc := ⟨.hbm, 50, rfl⟩
abbrev main_v29 : Ref sig .tc := ⟨.hbm, 51, rfl⟩
abbrev main_cst_4 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_c_5 : Ref sig .tc := ⟨.hbm, 58, rfl⟩
abbrev main_v35 : Ref sig .tc := ⟨.hbm, 59, rfl⟩
abbrev main_v36 : Ref sig .tc := ⟨.hbm, 60, rfl⟩
abbrev main_c_6 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_c_7 : Ref sig .tc := ⟨.hbm, 65, rfl⟩
abbrev main_v40 : Ref sig .tc := ⟨.hbm, 66, rfl⟩
abbrev main_v41 : Ref sig .tc := ⟨.hbm, 67, rfl⟩
abbrev main_c_8 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_cst_9 : Ref sig .tc := ⟨.hbm, 73, rfl⟩
abbrev main_call2_v0 : Ref sig .tc := ⟨.hbm, 74, rfl⟩
abbrev main_call2_v1 : Ref sig .tc := ⟨.hbm, 75, rfl⟩
abbrev main_call2_v2 : Ref sig .tc := ⟨.hbm, 76, rfl⟩
abbrev main_v46 : Ref sig .tc := ⟨.hbm, 77, rfl⟩
abbrev main_cst_10 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_cst_11 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩

abbrev nD : Nat := 1
abbrev τ : Topo := Topo.v7x

variable {F : FTy → Type} [FloatOps F]
-- ==== Kernel2.lean ====
abbrev S4x8192x1024 : Shape := ⟨3, ![4, 8192, 1024]⟩
abbrev S1024 : Shape := ⟨1, ![1024]⟩
abbrev S1024x2816 : Shape := ⟨2, ![1024, 2816]⟩
abbrev S2816x1024 : Shape := ⟨2, ![2816, 1024]⟩
abbrev S1024x4112 : Shape := ⟨2, ![1024, 4112]⟩
abbrev S1536x1024 : Shape := ⟨2, ![1536, 1024]⟩
abbrev S32768x1024 : Shape := ⟨2, ![32768, 1024]⟩
abbrev S1x1024 : Shape := ⟨2, ![1, 1024]⟩
abbrev S4112x1024 : Shape := ⟨2, ![4112, 1024]⟩
abbrev S1024x1024 : Shape := ⟨2, ![1024, 1024]⟩
abbrev S144x1024 : Shape := ⟨2, ![144, 1024]⟩
abbrev S48x1024 : Shape := ⟨2, ![48, 1024]⟩
abbrev S32x2816 : Shape := ⟨2, ![32, 2816]⟩
abbrev S96x1024 : Shape := ⟨2, ![96, 1024]⟩
abbrev S1024x1 : Shape := ⟨2, ![1024, 1]⟩
abbrev S1024x768 : Shape := ⟨2, ![1024, 768]⟩

abbrev nBuf : Space → Nat
  | .hbm => 22
  | .vmem => 29
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024x4112, .f32⟩
  | .hbm, ⟨6, _⟩ => ⟨S1536x1024, .f32⟩
  | .hbm, ⟨7, _⟩ => ⟨S1024x2816, .f32⟩
  | .hbm, ⟨8, _⟩ => ⟨S1024x2816, .f32⟩
  | .hbm, ⟨9, _⟩ => ⟨S2816x1024, .f32⟩
  | .hbm, ⟨10, _⟩ => ⟨S32768x1024, .f32⟩
  | .hbm, ⟨11, _⟩ => ⟨S1x1024, .f32⟩
  | .hbm, ⟨12, _⟩ => ⟨S1024x2816, .bf16⟩
  | .hbm, ⟨13, _⟩ => ⟨S1024x2816, .bf16⟩
  | .hbm, ⟨14, _⟩ => ⟨S2816x1024, .bf16⟩
  | .hbm, ⟨15, _⟩ => ⟨S4112x1024, .f32⟩
  | .hbm, ⟨16, _⟩ => ⟨S32768x1024, .f32⟩
  | .hbm, ⟨17, _⟩ => ⟨S4112x1024, .bf16⟩
  | .hbm, ⟨18, _⟩ => ⟨S1536x1024, .bf16⟩
  | .hbm, ⟨19, _⟩ => ⟨S1024x2816, .bf16⟩
  | .hbm, ⟨20, _⟩ => ⟨S1024x2816, .bf16⟩
  | .hbm, ⟨21, _⟩ => ⟨S2816x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S144x1024, .f32⟩
  | .local _ .vmem, ⟨7, _⟩ => ⟨S144x1024, .f32⟩
  | .local _ .vmem, ⟨8, _⟩ => ⟨S48x1024, .f32⟩
  | .local _ .vmem, ⟨9, _⟩ => ⟨S48x1024, .f32⟩
  | .local _ .vmem, ⟨10, _⟩ => ⟨S32x2816, .f32⟩
  | .local _ .vmem, ⟨11, _⟩ => ⟨S32x2816, .f32⟩
  | .local _ .vmem, ⟨12, _⟩ => ⟨S32x2816, .f32⟩
  | .local _ .vmem, ⟨13, _⟩ => ⟨S32x2816, .f32⟩
  | .local _ .vmem, ⟨14, _⟩ => ⟨S96x1024, .f32⟩
  | .local _ .vmem, ⟨15, _⟩ => ⟨S96x1024, .f32⟩
  | .local _ .vmem, ⟨16, _⟩ => ⟨S1024x1024, .f32⟩
  | .local _ .vmem, ⟨17, _⟩ => ⟨S1024x1024, .f32⟩
  | .local _ .vmem, ⟨18, _⟩ => ⟨S144x1024, .bf16⟩
  | .local _ .vmem, ⟨19, _⟩ => ⟨S144x1024, .bf16⟩
  | .local _ .vmem, ⟨20, _⟩ => ⟨S48x1024, .bf16⟩
  | .local _ .vmem, ⟨21, _⟩ => ⟨S48x1024, .bf16⟩
  | .local _ .vmem, ⟨22, _⟩ => ⟨S32x2816, .bf16⟩
  | .local _ .vmem, ⟨23, _⟩ => ⟨S32x2816, .bf16⟩
  | .local _ .vmem, ⟨24, _⟩ => ⟨S32x2816, .bf16⟩
  | .local _ .vmem, ⟨25, _⟩ => ⟨S32x2816, .bf16⟩
  | .local _ .vmem, ⟨26, _⟩ => ⟨S96x1024, .bf16⟩
  | .local _ .vmem, ⟨27, _⟩ => ⟨S96x1024, .bf16⟩
  | .local _ .vmem, ⟨28, _⟩ => ⟨S1024x2816, .bf16⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6_0 : Ref sig .tc := ⟨.hbm, 16, rfl⟩
abbrev main_v6_1 : Ref sig .tc := ⟨.hbm, 17, rfl⟩
abbrev main_v6_2 : Ref sig .tc := ⟨.hbm, 18, rfl⟩
abbrev main_v6_3 : Ref sig .tc := ⟨.hbm, 19, rfl⟩
abbrev main_v6_4 : Ref sig .tc := ⟨.hbm, 20, rfl⟩
abbrev main_v6_5 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_scratch0 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c28_i32 : BitVec 32 := 28#32
  let v0 : BitVec 32 := Scalar.minsi arg0 c28_i32
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c29_i32 : BitVec 32 := 29#32
  let v0 : BitVec 32 := Scalar.minsi arg0 c29_i32
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c28_i32 : BitVec 32 := 28#32
  let v0 : BitVec 32 := Scalar.minsi arg0 c28_i32
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_13 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_14 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_15 (i : grid0.Coords) : Fin 2 → Nat :=
  let arg0 : BitVec 32 := BitVec.ofNat 32 (i 0).val
  let c29_i32 : BitVec 32 := 29#32
  let v0 : BitVec 32 := Scalar.minsi arg0 c29_i32
  let c0_i32 : BitVec 32 := 0#32
  let c0_i32_0 : BitVec 32 := 0#32
  ![v0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S144x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S48x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S32x2816 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S32x2816 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S96x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S144x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S48x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S32x2816 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S32x2816 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S96x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference2Ideal.lean ====
abbrev S4x8192x1024 : Shape := ⟨3, ![4, 8192, 1024]⟩
abbrev S1024 : Shape := ⟨1, ![1024]⟩
abbrev S1024x2816 : Shape := ⟨2, ![1024, 2816]⟩
abbrev S2816x1024 : Shape := ⟨2, ![2816, 1024]⟩
abbrev S1024x4112 : Shape := ⟨2, ![1024, 4112]⟩
abbrev S1536x1024 : Shape := ⟨2, ![1536, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x2816 : Shape := ⟨3, ![4, 8192, 2816]⟩
abbrev S32768x1024 : Shape := ⟨2, ![32768, 1024]⟩
abbrev S4112x1024 : Shape := ⟨2, ![4112, 1024]⟩

abbrev nBuf : Space → Nat
  | .hbm => 50
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024x4112, .f32⟩
  | .hbm, ⟨6, _⟩ => ⟨S1536x1024, .f32⟩
  | .hbm, ⟨7, _⟩ => ⟨S1024x2816, .f32⟩
  | .hbm, ⟨8, _⟩ => ⟨S1024x2816, .f32⟩
  | .hbm, ⟨9, _⟩ => ⟨S2816x1024, .f32⟩
  | .hbm, ⟨10, _⟩ => ⟨S4x8192x1024, .f32⟩
  | .hbm, ⟨11, _⟩ => ⟨S_, .f32⟩
  | .hbm, ⟨12, _⟩ => ⟨S4x8192, .f32⟩
  | .hbm, ⟨13, _⟩ => ⟨S4x8192x1, .f32⟩
  | .hbm, ⟨14, _⟩ => ⟨S_, .f32⟩
  | .hbm, ⟨15, _⟩ => ⟨S4x8192x1, .f32⟩
  | .hbm, ⟨16, _⟩ => ⟨S4x8192x1, .f32⟩
  | .hbm, ⟨17, _⟩ => ⟨S_, .f32⟩
  | .hbm, ⟨18, _⟩ => ⟨S4x8192x1, .f32⟩
  | .hbm, ⟨19, _⟩ => ⟨S4x8192x1, .f32⟩
  | .hbm, ⟨20, _⟩ => ⟨S4x8192x1, .f32⟩
  | .hbm, ⟨21, _⟩ => ⟨S4x8192x1024, .f32⟩
  | .hbm, ⟨22, _⟩ => ⟨S4x8192x1024, .f32⟩
  | .hbm, ⟨23, _⟩ => ⟨S1x1x1024, .f32⟩
  | .hbm, ⟨24, _⟩ => ⟨S4x8192x1024, .f32⟩
  | .hbm, ⟨25, _⟩ => ⟨S4x8192x1024, .f32⟩
  | .hbm, ⟨26, _⟩ => ⟨S4x8192x2816, .f32⟩
  | .hbm, ⟨27, _⟩ => ⟨S4x8192x2816, .f32⟩
  | .hbm, ⟨28, _⟩ => ⟨S4x8192x2816, .f32⟩
  | .hbm, ⟨29, _⟩ => ⟨S_, .f32⟩
  | .hbm, ⟨30, _⟩ => ⟨S4x8192x2816, .f32⟩
  | .hbm, ⟨31, _⟩ => ⟨S4x8192x2816, .f32⟩
  | .hbm, ⟨32, _⟩ => ⟨S_, .f32⟩
  | .hbm, ⟨33, _⟩ => ⟨S4x8192x2816, .f32⟩
  | .hbm, ⟨34, _⟩ => ⟨S4x8192x2816, .f32⟩
  | .hbm, ⟨35, _⟩ => ⟨S4x8192x2816, .f32⟩
  | .hbm, ⟨36, _⟩ => ⟨S4x8192x2816, .f32⟩
  | .hbm, ⟨37, _⟩ => ⟨S4x8192x2816, .f32⟩
  | .hbm, ⟨38, _⟩ => ⟨S4x8192x1024, .f32⟩
  | .hbm, ⟨39, _⟩ => ⟨S_, .f32⟩
  | .hbm, ⟨40, _⟩ => ⟨S4x8192x1024, .f32⟩
  | .hbm, ⟨41, _⟩ => ⟨S4x8192x1024, .f32⟩
  | .hbm, ⟨42, _⟩ => ⟨S4x8192x1024, .f32⟩
  | .hbm, ⟨43, _⟩ => ⟨S32768x1024, .f32⟩
  | .hbm, ⟨44, _⟩ => ⟨S4112x1024, .f32⟩
  | .hbm, ⟨45, _⟩ => ⟨S4112x1024, .bf16⟩
  | .hbm, ⟨46, _⟩ => ⟨S1536x1024, .bf16⟩
  | .hbm, ⟨47, _⟩ => ⟨S1024x2816, .bf16⟩
  | .hbm, ⟨48, _⟩ => ⟨S1024x2816, .bf16⟩
  | .hbm, ⟨49, _⟩ => ⟨S2816x1024, .bf16⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_cst_2 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩

abbrev nD : Nat := 1
abbrev τ : Topo := Topo.v7x

variable {F : FTy → Type} [FloatOps F]
-- ==== Kernel3.lean ====
abbrev S32768x1024 : Shape := ⟨2, ![32768, 1024]⟩
abbrev S4x8192x1024 : Shape := ⟨3, ![4, 8192, 1024]⟩
abbrev S4x8192x512 : Shape := ⟨3, ![4, 8192, 512]⟩
abbrev S1536x1024 : Shape := ⟨2, ![1536, 1024]⟩
abbrev S1024 : Shape := ⟨1, ![1024]⟩
abbrev S1024x2816 : Shape := ⟨2, ![1024, 2816]⟩
abbrev S2816x1024 : Shape := ⟨2, ![2816, 1024]⟩
abbrev S32768x512 : Shape := ⟨2, ![32768, 512]⟩
abbrev S1x1024 : Shape := ⟨2, ![1, 1024]⟩
abbrev S1024x1024 : Shape := ⟨2, ![1024, 1024]⟩
abbrev S1024x512 : Shape := ⟨2, ![1024, 512]⟩
abbrev S512x1024 : Shape := ⟨2, ![512, 1024]⟩
abbrev S1024x1 : Shape := ⟨2, ![1024, 1]⟩
abbrev S1024x768 : Shape := ⟨2, ![1024, 768]⟩

abbrev nBuf : Space → Nat
  | .hbm => 14
  | .vmem => 15
  | .smem => 0
  | _ => 0

abbrev bufTy : (tb : Table) → Fin (tcTables nBuf tb) → BufTy
  | .hbm, ⟨0, _⟩ => ⟨S32768x1024, .f32⟩
  | .hbm, ⟨1, _⟩ => ⟨S4x8192x1024, .bf16⟩
  | .hbm, ⟨2, _⟩ => ⟨S4x8192x512, .bf16⟩
  | .hbm, ⟨3, _⟩ => ⟨S1536x1024, .bf16⟩
  | .hbm, ⟨4, _⟩ => ⟨S1024, .f32⟩
  | .hbm, ⟨5, _⟩ => ⟨S1024x2816, .bf16⟩
  | .hbm, ⟨6, _⟩ => ⟨S1024x2816, .bf16⟩
  | .hbm, ⟨7, _⟩ => ⟨S2816x1024, .bf16⟩
  | .hbm, ⟨8, _⟩ => ⟨S1024, .f32⟩
  | .hbm, ⟨9, _⟩ => ⟨S32768x1024, .bf16⟩
  | .hbm, ⟨10, _⟩ => ⟨S32768x512, .bf16⟩
  | .hbm, ⟨11, _⟩ => ⟨S1x1024, .f32⟩
  | .hbm, ⟨12, _⟩ => ⟨S1x1024, .f32⟩
  | .hbm, ⟨13, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x512, .bf16⟩
  | .local _ .vmem, ⟨5, _⟩ => ⟨S1024x512, .bf16⟩
  | .local _ .vmem, ⟨6, _⟩ => ⟨S1536x1024, .bf16⟩
  | .local _ .vmem, ⟨7, _⟩ => ⟨S1x1024, .f32⟩
  | .local _ .vmem, ⟨8, _⟩ => ⟨S1024x2816, .bf16⟩
  | .local _ .vmem, ⟨9, _⟩ => ⟨S1024x2816, .bf16⟩
  | .local _ .vmem, ⟨10, _⟩ => ⟨S2816x1024, .bf16⟩
  | .local _ .vmem, ⟨11, _⟩ => ⟨S1x1024, .f32⟩
  | .local _ .vmem, ⟨12, _⟩ => ⟨S1024x1024, .f32⟩
  | .local _ .vmem, ⟨13, _⟩ => ⟨S1024x1024, .f32⟩
  | .local _ .vmem, ⟨14, _⟩ => ⟨S1024x2816, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1536x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference3Ideal.lean ====
abbrev S32768x1024 : Shape := ⟨2, ![32768, 1024]⟩
abbrev S4x8192x1024 : Shape := ⟨3, ![4, 8192, 1024]⟩
abbrev S4x8192x512 : Shape := ⟨3, ![4, 8192, 512]⟩
abbrev S1536x1024 : Shape := ⟨2, ![1536, 1024]⟩
abbrev S1024 : Shape := ⟨1, ![1024]⟩
abbrev S1024x2816 : Shape := ⟨2, ![1024, 2816]⟩
abbrev S2816x1024 : Shape := ⟨2, ![2816, 1024]⟩
abbrev S4x8192x1536 : Shape := ⟨3, ![4, 8192, 1536]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x2816 : Shape := ⟨3, ![4, 8192, 2816]⟩

abbrev nBuf : Space → Nat
  | .hbm => 69
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S4x8192x1024, .bf16⟩
  | .hbm, ⟨2, _⟩ => ⟨S4x8192x512, .bf16⟩
  | .hbm, ⟨3, _⟩ => ⟨S1536x1024, .bf16⟩
  | .hbm, ⟨4, _⟩ => ⟨S1024, .f32⟩
  | .hbm, ⟨5, _⟩ => ⟨S1024x2816, .bf16⟩
  | .hbm, ⟨6, _⟩ => ⟨S1024x2816, .bf16⟩
  | .hbm, ⟨7, _⟩ => ⟨S2816x1024, .bf16⟩
  | .hbm, ⟨8, _⟩ => ⟨S1024, .f32⟩
  | .hbm, ⟨9, _⟩ => ⟨S4x8192x1024, .f32⟩
  | .hbm, ⟨10, _⟩ => ⟨S4x8192x1024, .f32⟩
  | .hbm, ⟨11, _⟩ => ⟨S4x8192x512, .f32⟩
  | .hbm, ⟨12, _⟩ => ⟨S4x8192x1536, .f32⟩
  | .hbm, ⟨13, _⟩ => ⟨S1536x1024, .f32⟩
  | .hbm, ⟨14, _⟩ => ⟨S4x8192x1024, .f32⟩
  | .hbm, ⟨15, _⟩ => ⟨S4x8192x1024, .f32⟩
  | .hbm, ⟨16, _⟩ => ⟨S4x8192x1024, .f32⟩
  | .hbm, ⟨17, _⟩ => ⟨S_, .f32⟩
  | .hbm, ⟨18, _⟩ => ⟨S4x8192, .f32⟩
  | .hbm, ⟨19, _⟩ => ⟨S4x8192x1, .f32⟩
  | .hbm, ⟨20, _⟩ => ⟨S_, .f32⟩
  | .hbm, ⟨21, _⟩ => ⟨S4x8192x1, .f32⟩
  | .hbm, ⟨22, _⟩ => ⟨S4x8192x1, .f32⟩
  | .hbm, ⟨23, _⟩ => ⟨S_, .f32⟩
  | .hbm, ⟨24, _⟩ => ⟨S4x8192x1, .f32⟩
  | .hbm, ⟨25, _⟩ => ⟨S4x8192x1, .f32⟩
  | .hbm, ⟨26, _⟩ => ⟨S4x8192x1, .f32⟩
  | .hbm, ⟨27, _⟩ => ⟨S4x8192x1024, .f32⟩
  | .hbm, ⟨28, _⟩ => ⟨S4x8192x1024, .f32⟩
  | .hbm, ⟨29, _⟩ => ⟨S1x1x1024, .f32⟩
  | .hbm, ⟨30, _⟩ => ⟨S4x8192x1024, .f32⟩
  | .hbm, ⟨31, _⟩ => ⟨S4x8192x1024, .f32⟩
  | .hbm, ⟨32, _⟩ => ⟨S1024x2816, .f32⟩
  | .hbm, ⟨33, _⟩ => ⟨S1024x2816, .f32⟩
  | .hbm, ⟨34, _⟩ => ⟨S2816x1024, .f32⟩
  | .hbm, ⟨35, _⟩ => ⟨S4x8192x2816, .f32⟩
  | .hbm, ⟨36, _⟩ => ⟨S4x8192x2816, .f32⟩
  | .hbm, ⟨37, _⟩ => ⟨S4x8192x2816, .f32⟩
  | .hbm, ⟨38, _⟩ => ⟨S_, .f32⟩
  | .hbm, ⟨39, _⟩ => ⟨S4x8192x2816, .f32⟩
  | .hbm, ⟨40, _⟩ => ⟨S4x8192x2816, .f32⟩
  | .hbm, ⟨41, _⟩ => ⟨S_, .f32⟩
  | .hbm, ⟨42, _⟩ => ⟨S4x8192x2816, .f32⟩
  | .hbm, ⟨43, _⟩ => ⟨S4x8192x2816, .f32⟩
  | .hbm, ⟨44, _⟩ => ⟨S4x8192x2816, .f32⟩
  | .hbm, ⟨45, _⟩ => ⟨S4x8192x2816, .f32⟩
  | .hbm, ⟨46, _⟩ => ⟨S4x8192x2816, .f32⟩
  | .hbm, ⟨47, _⟩ => ⟨S4x8192x1024, .f32⟩
  | .hbm, ⟨48, _⟩ => ⟨S_, .f32⟩
  | .hbm, ⟨49, _⟩ => ⟨S4x8192x1024, .f32⟩
  | .hbm, ⟨50, _⟩ => ⟨S4x8192x1024, .f32⟩
  | .hbm, ⟨51, _⟩ => ⟨S4x8192x1024, .f32⟩
  | .hbm, ⟨52, _⟩ => ⟨S4x8192x1024, .f32⟩
  | .hbm, ⟨53, _⟩ => ⟨S_, .f32⟩
  | .hbm, ⟨54, _⟩ => ⟨S4x8192, .f32⟩
  | .hbm, ⟨55, _⟩ => ⟨S4x8192x1, .f32⟩
  | .hbm, ⟨56, _⟩ => ⟨S_, .f32⟩
  | .hbm, ⟨57, _⟩ => ⟨S4x8192x1, .f32⟩
  | .hbm, ⟨58, _⟩ => ⟨S4x8192x1, .f32⟩
  | .hbm, ⟨59, _⟩ => ⟨S_, .f32⟩
  | .hbm, ⟨60, _⟩ => ⟨S4x8192x1, .f32⟩
  | .hbm, ⟨61, _⟩ => ⟨S4x8192x1, .f32⟩
  | .hbm, ⟨62, _⟩ => ⟨S4x8192x1, .f32⟩
  | .hbm, ⟨63, _⟩ => ⟨S4x8192x1024, .f32⟩
  | .hbm, ⟨64, _⟩ => ⟨S4x8192x1024, .f32⟩
  | .hbm, ⟨65, _⟩ => ⟨S1x1x1024, .f32⟩
  | .hbm, ⟨66, _⟩ => ⟨S4x8192x1024, .f32⟩
  | .hbm, ⟨67, _⟩ => ⟨S4x8192x1024, .f32⟩
  | .hbm, ⟨68, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_call0_v5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_2 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_cst_3 : Ref sig .tc := ⟨.hbm, 53, rfl⟩
abbrev main_v32 : Ref sig .tc := ⟨.hbm, 54, rfl⟩
abbrev main_v33 : Ref sig .tc := ⟨.hbm, 55, rfl⟩
abbrev main_cst_4 : Ref sig .tc := ⟨.hbm, 56, rfl⟩
abbrev main_v34 : Ref sig .tc := ⟨.hbm, 57, rfl⟩
abbrev main_v35 : Ref sig .tc := ⟨.hbm, 58, rfl⟩
abbrev main_cst_5 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩

abbrev nD : Nat := 1
abbrev τ : Topo := Topo.v7x

variable {F : FTy → Type} [FloatOps F]
-- ==== Proof.Spec.lean ====
module

public import Idealize.ShloMosaic.Lib.Pointwise

/-! The row formulas shared by the two feed-forward kernels: root-mean-square normalization of one token's 1024
channels, the gated activation of the 2816 hidden channels, and the residual half step. -/

@[expose] public section

namespace Cert.Layer

open Idealize.ShloMosaic

noncomputable section

/-- One token's row, normalized by its root mean square and multiplied by the channel weights. -/
def rms (x w : Fin 1024 → EReal) (c : Fin 1024) : EReal :=
  x c * Ideal.rsqrt (Ideal.div (∑ k, x k * x k) (Ideal.ofBits FTy.f32 0x44800000#32) +
    Ideal.ofBits FTy.f32 0x3727C5AC#32) * w c

/-- The gated hidden channel `f` of a row: `silu (h · gate) · (h · up)`. -/
def act {n : ℕ} (h : Fin 1024 → EReal) (g u : Fin 1024 → Fin n → EReal) (f : Fin n) : EReal :=
  (∑ k, h k * g k f) * Ideal.div 1 (1 + Ideal.exp (0 - ∑ k, h k * g k f)) * ∑ k, h k * u k f

/-- A row plus half of its gated feed-forward image, the activations given. -/
def halfStep (x : Fin 1024 → EReal) (a : Fin 2816 → EReal) (d : Fin 2816 → Fin 1024 → EReal) (c : Fin 1024) : EReal :=
  x c + Ideal.ofBits FTy.f32 0x3F000000#32 * ∑ f, a f * d f c

/-- The whole half step of a row: normalize, gate, project down, add half to the row. -/
def ffn (x w : Fin 1024 → EReal) (g u : Fin 1024 → Fin 2816 → EReal) (d : Fin 2816 → Fin 1024 → EReal) :
    Fin 1024 → EReal :=
  halfStep x (act (rms x w) g u) d

/-- A row plus the output projection of its 1024 recurrence channels and 512 attention channels. -/
def mix (x y : Fin 1024 → EReal) (a : Fin 512 → EReal) (wo : Fin 1536 → Fin 1024 → EReal) (c : Fin 1024) : EReal :=
  x c + ((∑ k : Fin 1024, y k * wo ⟨k, by omega⟩ c) + ∑ k : Fin 512, a k * wo ⟨1024 + k, by omega⟩ c)

end

end Cert.Layer
-- ==== Proof.FfnRef.lean ====
module

public import proofs.«01_k».proof.Proof.Spec
public import proofs.«01_k».proof.Proof.Gen.Reference2Ideal.Run
public import Idealize.ShloMosaic.Lib.Pipeline.ValueKit

/-! The reference of the first call, read one element at a time: normalization, gated half step. -/

@[expose] public section

set_option maxRecDepth 16384

namespace Cert.Reference2Ideal.Mine

open Idealize.ShloMosaic Idealize.ShloMosaic.TcCoe Idealize.SL.Sem
open Idealize.ShloMosaic.StableHlo
open Cert.Reference2Ideal Cert.Reference2Ideal.Gen Cert.Reference2Ideal.Value Cert.Layer

noncomputable section

/-- Normalization of every row of `X`, channel weights `w`. -/
def nrm (X2 : FVec Ideal S4x8192x1024 .f32) (a4 : FVec Ideal S1024 .f32) :
    FVec Ideal S4x8192x1024 .f32 :=
  mulf (mulf X2 (broadcastInDim S4x8192x1024 ![0, 1, 2] bcast_S4x8192x1_S4x8192x1024_0_1_2 (Host.rsqrt (addf (Host.divf (broadcastInDim S4x8192x1 ![0, 1] bcast_S4x8192_S4x8192x1_0_1 (Host.reduceAdd (mulf X2 X2) (constant S_ .f32 0x00000000#32) reducesTo_S4x8192x1024_S4x8192_d2 h_S_)) (broadcastInDim S4x8192x1 ![] bcast_S_S4x8192x1 (constant S_ .f32 0x44800000#32))) (broadcastInDim S4x8192x1 ![] bcast_S_S4x8192x1 (constant S_ .f32 0x3727C5AC#32)))))) (broadcastInDim S4x8192x1024 ![0, 1, 2] bcast_S1x1x1024_S4x8192x1024_0_1_2 (broadcastInDim S1x1x1024 ![2] bcast_S1024_S1x1x1024_2 a4))

/-- The gated hidden activations. -/
def hid (H : FVec Ideal S4x8192x1024 .f32) (a5 a6 : FVec Ideal S1024x2816 .f32) :
    FVec Ideal S4x8192x2816 .f32 :=
  mulf (mulf (Host.dotGeneral dot_S4x8192x1024_S1024x2816_S4x8192x2816_2_0_01_1_n_n none H a5) (Host.divf (broadcastInDim S4x8192x2816 ![] bcast_S_S4x8192x2816 (constant S_ .f32 0x3F800000#32)) (addf (broadcastInDim S4x8192x2816 ![] bcast_S_S4x8192x2816 (constant S_ .f32 0x3F800000#32)) (Host.exp (Host.negf (Host.dotGeneral dot_S4x8192x1024_S1024x2816_S4x8192x2816_2_0_01_1_n_n none H a5)))))) (Host.dotGeneral dot_S4x8192x1024_S1024x2816_S4x8192x2816_2_0_01_1_n_n none H a6)

/-- The residual half step. -/
def add (X2 : FVec Ideal S4x8192x1024 .f32) (A : FVec Ideal S4x8192x2816 .f32) (a7 : FVec Ideal S2816x1024 .f32) :
    FVec Ideal S4x8192x1024 .f32 :=
  addf X2 (mulf (broadcastInDim S4x8192x1024 ![] bcast_S_S4x8192x1024 (constant S_ .f32 0x3F000000#32)) (Host.dotGeneral dot_S4x8192x2816_S2816x1024_S4x8192x1024_2_0_01_1_n_n none A a7))

/-- The reference's first result from its five arguments. -/
def ref (a0 : FVec Ideal S4x8192x1024 .f32) (a1 : FVec Ideal S1024 .f32) (a2 a3 : FVec Ideal S1024x2816 .f32) (a4 : FVec Ideal S2816x1024 .f32) :
    FVec Ideal S32768x1024 .f32 :=
  shapeCast _ (add a0 (hid (nrm a0 a1) a2 a3) a4) shapeCasts_S4x8192x1024_S32768x1024

theorem nrm_apply (X : FVec Ideal S4x8192x1024 .f32) (w : FVec Ideal S1024 .f32) (b : Fin 4) (s : Fin 8192) (c : Fin 1024) :
    nrm X w (ix3 b s c) = rms (fun k => X (ix3 b s k)) (fun k => w (ix1 k)) c := by
  pointwise [nrm, rms]

theorem hid_apply (H : FVec Ideal S4x8192x1024 .f32) (g u : FVec Ideal S1024x2816 .f32) (b : Fin 4) (s : Fin 8192) (f : Fin 2816) :
    hid H g u (ix3 b s f) = act (fun k => H (ix3 b s k)) (fun k f => g (ix2 k f)) (fun k f => u (ix2 k f)) f := by
  pointwise [hid, act]
  simp only [zero_sub]

theorem add_apply (X : FVec Ideal S4x8192x1024 .f32) (A : FVec Ideal S4x8192x2816 .f32) (d : FVec Ideal S2816x1024 .f32) (b : Fin 4) (s : Fin 8192) (c : Fin 1024) :
    add X A d (ix3 b s c) = halfStep (fun k => X (ix3 b s k)) (fun f => A (ix3 b s f)) (fun f c => d (ix2 f c)) c := by
  pointwise [add, halfStep]

/-- The reference's first result at token `i`, channel `c`. -/
theorem ref_apply (a0 : FVec Ideal S4x8192x1024 .f32) (a1 : FVec Ideal S1024 .f32) (a2 a3 : FVec Ideal S1024x2816 .f32)
    (a4 : FVec Ideal S2816x1024 .f32) (i : Fin 32768) (c : Fin 1024) :
    ref a0 a1 a2 a3 a4 (ix2 i c) =
      ffn (fun k => a0 (ix3 ⟨i / 8192, by omega⟩ ⟨i % 8192, by omega⟩ k)) (fun k => a1 (ix1 k))
        (fun k f => a2 (ix2 k f)) (fun k f => a3 (ix2 k f)) (fun f c => a4 (ix2 f c)) c := by
  pointwise [ref]
  simp only [nrm_apply, add_apply, hid_apply, ffn]

end

end Cert.Reference2Ideal.Mine
-- ==== Proof.FfnFrameIdeal.lean ====
module

public import proofs.«01_k».proof.Proof.Gen.Kernel2Ideal.Frame
public import proofs.«01_k».proof.Proof.Gen.Kernel2Ideal.Skeleton
public import Idealize.ShloMosaic.Lib.Pipeline.ValueKit

/-! The frame of the first feed-forward call: its body runs at every grid point, also at the points whose weight
blocks overhang their arrays, and the pipeline returns every argument array unchanged. Only the part of such a
block inside its array is ever stated. -/

@[expose] public section

set_option maxRecDepth 16384

noncomputable section

namespace Cert.Kernel2Ideal.Mine

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the run's proof term is long
set_option maxHeartbeats 1000000 in
/-- The body on whole staging buffers: the pieces its stores leave in each output's buffer and in the scratch, with
    the proof that it runs, returning the inputs' buffers as found. -/
def kernelRun0_A (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x2816 .bf16) (harg3 : arg3.IsWhole) (arg4 : Memref sig .tc .vmem S1024x2816 .bf16) (harg4 : arg4.IsWhole) (arg5 : Memref sig .tc .vmem S2816x1024 .bf16) (harg5 : arg5.IsWhole) (arg6 : Memref sig .tc .vmem S144x1024 .f32) (harg6 : arg6.IsWhole) (arg7 : Memref sig .tc .vmem S48x1024 .f32) (harg7 : arg7.IsWhole) (arg8 : Memref sig .tc .vmem S32x2816 .f32) (harg8 : arg8.IsWhole) (arg9 : Memref sig .tc .vmem S32x2816 .f32) (harg9 : arg9.IsWhole) (arg10 : Memref sig .tc .vmem S96x1024 .f32) (harg10 : arg10.IsWhole) (arg11 : Memref sig .tc .vmem S1024x1024 .f32) (harg11 : arg11.IsWhole) (arg12 : Memref sig .tc .vmem S144x1024 .bf16) (harg12 : arg12.IsWhole) (arg13 : Memref sig .tc .vmem S48x1024 .bf16) (harg13 : arg13.IsWhole) (arg14 : Memref sig .tc .vmem S32x2816 .bf16) (harg14 : arg14.IsWhole) (arg15 : Memref sig .tc .vmem S32x2816 .bf16) (harg15 : arg15.IsWhole) (arg16 : Memref sig .tc .vmem S96x1024 .bf16) (harg16 : arg16.IsWhole) (arg17 : Memref sig .tc .vmem S1024x2816 .bf16) (harg17 : arg17.IsWhole)
    (x0 : Vec F S1024x1024 .f32) (x1 : Vec F S1x1024 .f32) (x2 : Vec F S1024x2816 .bf16) (x3 : Vec F S1024x2816 .bf16) (x4 : Vec F S2816x1024 .bf16) (x5 : Vec F S144x1024 .f32) (x6 : Vec F S48x1024 .f32) (x7 : Vec F S32x2816 .f32) (x8 : Vec F S32x2816 .f32) (x9 : Vec F S96x1024 .f32) :
    Σ' (L10 : List (View.Piece (Elt F) S1024x1024 .f32)), Σ' (L11 : List (View.Piece (Elt F) S144x1024 .bf16)), Σ' (L12 : List (View.Piece (Elt F) S48x1024 .bf16)), Σ' (L13 : List (View.Piece (Elt F) S32x2816 .bf16)), Σ' (L14 : List (View.Piece (Elt F) S32x2816 .bf16)), Σ' (L15 : List (View.Piece (Elt F) S96x1024 .bf16)), { L16 : List (View.Piece (Elt F) S1024x2816 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f L12) ∗ (∃ f, arg14.view.loc (c : Thread nD τ) ↦[arg14.view.set]{fullShare} arg14.view.writes (Elt F) f L13) ∗ (∃ f, arg15.view.loc (c : Thread nD τ) ↦[arg15.view.set]{fullShare} arg15.view.writes (Elt F) f L14) ∗ (∃ f, arg16.view.loc (c : Thread nD τ) ↦[arg16.view.set]{fullShare} arg16.view.writes (Elt F) f L15) ∗ (∃ f, arg17.view.loc (c : Thread nD τ) ↦[arg17.view.set]{fullShare} arg17.view.writes (Elt F) f L16)) -∗ K ⟨⟩))
          ⊢ wp frame (wpE (defs₀ (F := F)) Variants.none c none) E (cc0_ffn1 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, ?_, ?_, ?_, ?_, fun E K => ?run⟩
  case run =>
    simp only [cc0_ffn1_eq_skeleton]; unfold cc0_ffn1_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    iexists _; iexact H16

/-- The pieces stored into output 10's buffer cover it. -/
theorem cover0_A_10 (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x2816 .bf16) (harg3 : arg3.IsWhole) (arg4 : Memref sig .tc .vmem S1024x2816 .bf16) (harg4 : arg4.IsWhole) (arg5 : Memref sig .tc .vmem S2816x1024 .bf16) (harg5 : arg5.IsWhole) (arg6 : Memref sig .tc .vmem S144x1024 .f32) (harg6 : arg6.IsWhole) (arg7 : Memref sig .tc .vmem S48x1024 .f32) (harg7 : arg7.IsWhole) (arg8 : Memref sig .tc .vmem S32x2816 .f32) (harg8 : arg8.IsWhole) (arg9 : Memref sig .tc .vmem S32x2816 .f32) (harg9 : arg9.IsWhole) (arg10 : Memref sig .tc .vmem S96x1024 .f32) (harg10 : arg10.IsWhole) (arg11 : Memref sig .tc .vmem S1024x1024 .f32) (harg11 : arg11.IsWhole) (arg12 : Memref sig .tc .vmem S144x1024 .bf16) (harg12 : arg12.IsWhole) (arg13 : Memref sig .tc .vmem S48x1024 .bf16) (harg13 : arg13.IsWhole) (arg14 : Memref sig .tc .vmem S32x2816 .bf16) (harg14 : arg14.IsWhole) (arg15 : Memref sig .tc .vmem S32x2816 .bf16) (harg15 : arg15.IsWhole) (arg16 : Memref sig .tc .vmem S96x1024 .bf16) (harg16 : arg16.IsWhole) (arg17 : Memref sig .tc .vmem S1024x2816 .bf16) (harg17 : arg17.IsWhole)
    (x0 : Vec F S1024x1024 .f32) (x1 : Vec F S1x1024 .f32) (x2 : Vec F S1024x2816 .bf16) (x3 : Vec F S1024x2816 .bf16) (x4 : Vec F S2816x1024 .bf16) (x5 : Vec F S144x1024 .f32) (x6 : Vec F S48x1024 .f32) (x7 : Vec F S32x2816 .f32) (x8 : Vec F S32x2816 .f32) (x9 : Vec F S96x1024 .f32) (y : S1024x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9).1 S1024x1024.size (by sl_kernel_rfl) y

/-- What the body leaves in output 10's buffer. -/
def out0_A_10 (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x2816 .bf16) (harg3 : arg3.IsWhole) (arg4 : Memref sig .tc .vmem S1024x2816 .bf16) (harg4 : arg4.IsWhole) (arg5 : Memref sig .tc .vmem S2816x1024 .bf16) (harg5 : arg5.IsWhole) (arg6 : Memref sig .tc .vmem S144x1024 .f32) (harg6 : arg6.IsWhole) (arg7 : Memref sig .tc .vmem S48x1024 .f32) (harg7 : arg7.IsWhole) (arg8 : Memref sig .tc .vmem S32x2816 .f32) (harg8 : arg8.IsWhole) (arg9 : Memref sig .tc .vmem S32x2816 .f32) (harg9 : arg9.IsWhole) (arg10 : Memref sig .tc .vmem S96x1024 .f32) (harg10 : arg10.IsWhole) (arg11 : Memref sig .tc .vmem S1024x1024 .f32) (harg11 : arg11.IsWhole) (arg12 : Memref sig .tc .vmem S144x1024 .bf16) (harg12 : arg12.IsWhole) (arg13 : Memref sig .tc .vmem S48x1024 .bf16) (harg13 : arg13.IsWhole) (arg14 : Memref sig .tc .vmem S32x2816 .bf16) (harg14 : arg14.IsWhole) (arg15 : Memref sig .tc .vmem S32x2816 .bf16) (harg15 : arg15.IsWhole) (arg16 : Memref sig .tc .vmem S96x1024 .bf16) (harg16 : arg16.IsWhole) (arg17 : Memref sig .tc .vmem S1024x2816 .bf16) (harg17 : arg17.IsWhole)
    (x0 : Vec F S1024x1024 .f32) (x1 : Vec F S1x1024 .f32) (x2 : Vec F S1024x2816 .bf16) (x3 : Vec F S1024x2816 .bf16) (x4 : Vec F S2816x1024 .bf16) (x5 : Vec F S144x1024 .f32) (x6 : Vec F S48x1024 .f32) (x7 : Vec F S32x2816 .f32) (x8 : Vec F S32x2816 .f32) (x9 : Vec F S96x1024 .f32) : Vec F S1024x1024 .f32 :=
  View.canon (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9).1

/-- The pieces stored into output 11's buffer cover it. -/
theorem cover0_A_11 (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x2816 .bf16) (harg3 : arg3.IsWhole) (arg4 : Memref sig .tc .vmem S1024x2816 .bf16) (harg4 : arg4.IsWhole) (arg5 : Memref sig .tc .vmem S2816x1024 .bf16) (harg5 : arg5.IsWhole) (arg6 : Memref sig .tc .vmem S144x1024 .f32) (harg6 : arg6.IsWhole) (arg7 : Memref sig .tc .vmem S48x1024 .f32) (harg7 : arg7.IsWhole) (arg8 : Memref sig .tc .vmem S32x2816 .f32) (harg8 : arg8.IsWhole) (arg9 : Memref sig .tc .vmem S32x2816 .f32) (harg9 : arg9.IsWhole) (arg10 : Memref sig .tc .vmem S96x1024 .f32) (harg10 : arg10.IsWhole) (arg11 : Memref sig .tc .vmem S1024x1024 .f32) (harg11 : arg11.IsWhole) (arg12 : Memref sig .tc .vmem S144x1024 .bf16) (harg12 : arg12.IsWhole) (arg13 : Memref sig .tc .vmem S48x1024 .bf16) (harg13 : arg13.IsWhole) (arg14 : Memref sig .tc .vmem S32x2816 .bf16) (harg14 : arg14.IsWhole) (arg15 : Memref sig .tc .vmem S32x2816 .bf16) (harg15 : arg15.IsWhole) (arg16 : Memref sig .tc .vmem S96x1024 .bf16) (harg16 : arg16.IsWhole) (arg17 : Memref sig .tc .vmem S1024x2816 .bf16) (harg17 : arg17.IsWhole)
    (x0 : Vec F S1024x1024 .f32) (x1 : Vec F S1x1024 .f32) (x2 : Vec F S1024x2816 .bf16) (x3 : Vec F S1024x2816 .bf16) (x4 : Vec F S2816x1024 .bf16) (x5 : Vec F S144x1024 .f32) (x6 : Vec F S48x1024 .f32) (x7 : Vec F S32x2816 .f32) (x8 : Vec F S32x2816 .f32) (x9 : Vec F S96x1024 .f32) (y : S144x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9).2.1 S144x1024.size (by sl_kernel_rfl) y

/-- What the body leaves in output 11's buffer. -/
def out0_A_11 (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x2816 .bf16) (harg3 : arg3.IsWhole) (arg4 : Memref sig .tc .vmem S1024x2816 .bf16) (harg4 : arg4.IsWhole) (arg5 : Memref sig .tc .vmem S2816x1024 .bf16) (harg5 : arg5.IsWhole) (arg6 : Memref sig .tc .vmem S144x1024 .f32) (harg6 : arg6.IsWhole) (arg7 : Memref sig .tc .vmem S48x1024 .f32) (harg7 : arg7.IsWhole) (arg8 : Memref sig .tc .vmem S32x2816 .f32) (harg8 : arg8.IsWhole) (arg9 : Memref sig .tc .vmem S32x2816 .f32) (harg9 : arg9.IsWhole) (arg10 : Memref sig .tc .vmem S96x1024 .f32) (harg10 : arg10.IsWhole) (arg11 : Memref sig .tc .vmem S1024x1024 .f32) (harg11 : arg11.IsWhole) (arg12 : Memref sig .tc .vmem S144x1024 .bf16) (harg12 : arg12.IsWhole) (arg13 : Memref sig .tc .vmem S48x1024 .bf16) (harg13 : arg13.IsWhole) (arg14 : Memref sig .tc .vmem S32x2816 .bf16) (harg14 : arg14.IsWhole) (arg15 : Memref sig .tc .vmem S32x2816 .bf16) (harg15 : arg15.IsWhole) (arg16 : Memref sig .tc .vmem S96x1024 .bf16) (harg16 : arg16.IsWhole) (arg17 : Memref sig .tc .vmem S1024x2816 .bf16) (harg17 : arg17.IsWhole)
    (x0 : Vec F S1024x1024 .f32) (x1 : Vec F S1x1024 .f32) (x2 : Vec F S1024x2816 .bf16) (x3 : Vec F S1024x2816 .bf16) (x4 : Vec F S2816x1024 .bf16) (x5 : Vec F S144x1024 .f32) (x6 : Vec F S48x1024 .f32) (x7 : Vec F S32x2816 .f32) (x8 : Vec F S32x2816 .f32) (x9 : Vec F S96x1024 .f32) : Vec F S144x1024 .bf16 :=
  View.canon (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9).2.1

/-- The pieces stored into output 12's buffer cover it. -/
theorem cover0_A_12 (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x2816 .bf16) (harg3 : arg3.IsWhole) (arg4 : Memref sig .tc .vmem S1024x2816 .bf16) (harg4 : arg4.IsWhole) (arg5 : Memref sig .tc .vmem S2816x1024 .bf16) (harg5 : arg5.IsWhole) (arg6 : Memref sig .tc .vmem S144x1024 .f32) (harg6 : arg6.IsWhole) (arg7 : Memref sig .tc .vmem S48x1024 .f32) (harg7 : arg7.IsWhole) (arg8 : Memref sig .tc .vmem S32x2816 .f32) (harg8 : arg8.IsWhole) (arg9 : Memref sig .tc .vmem S32x2816 .f32) (harg9 : arg9.IsWhole) (arg10 : Memref sig .tc .vmem S96x1024 .f32) (harg10 : arg10.IsWhole) (arg11 : Memref sig .tc .vmem S1024x1024 .f32) (harg11 : arg11.IsWhole) (arg12 : Memref sig .tc .vmem S144x1024 .bf16) (harg12 : arg12.IsWhole) (arg13 : Memref sig .tc .vmem S48x1024 .bf16) (harg13 : arg13.IsWhole) (arg14 : Memref sig .tc .vmem S32x2816 .bf16) (harg14 : arg14.IsWhole) (arg15 : Memref sig .tc .vmem S32x2816 .bf16) (harg15 : arg15.IsWhole) (arg16 : Memref sig .tc .vmem S96x1024 .bf16) (harg16 : arg16.IsWhole) (arg17 : Memref sig .tc .vmem S1024x2816 .bf16) (harg17 : arg17.IsWhole)
    (x0 : Vec F S1024x1024 .f32) (x1 : Vec F S1x1024 .f32) (x2 : Vec F S1024x2816 .bf16) (x3 : Vec F S1024x2816 .bf16) (x4 : Vec F S2816x1024 .bf16) (x5 : Vec F S144x1024 .f32) (x6 : Vec F S48x1024 .f32) (x7 : Vec F S32x2816 .f32) (x8 : Vec F S32x2816 .f32) (x9 : Vec F S96x1024 .f32) (y : S48x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9).2.2.1 S48x1024.size (by sl_kernel_rfl) y

/-- What the body leaves in output 12's buffer. -/
def out0_A_12 (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x2816 .bf16) (harg3 : arg3.IsWhole) (arg4 : Memref sig .tc .vmem S1024x2816 .bf16) (harg4 : arg4.IsWhole) (arg5 : Memref sig .tc .vmem S2816x1024 .bf16) (harg5 : arg5.IsWhole) (arg6 : Memref sig .tc .vmem S144x1024 .f32) (harg6 : arg6.IsWhole) (arg7 : Memref sig .tc .vmem S48x1024 .f32) (harg7 : arg7.IsWhole) (arg8 : Memref sig .tc .vmem S32x2816 .f32) (harg8 : arg8.IsWhole) (arg9 : Memref sig .tc .vmem S32x2816 .f32) (harg9 : arg9.IsWhole) (arg10 : Memref sig .tc .vmem S96x1024 .f32) (harg10 : arg10.IsWhole) (arg11 : Memref sig .tc .vmem S1024x1024 .f32) (harg11 : arg11.IsWhole) (arg12 : Memref sig .tc .vmem S144x1024 .bf16) (harg12 : arg12.IsWhole) (arg13 : Memref sig .tc .vmem S48x1024 .bf16) (harg13 : arg13.IsWhole) (arg14 : Memref sig .tc .vmem S32x2816 .bf16) (harg14 : arg14.IsWhole) (arg15 : Memref sig .tc .vmem S32x2816 .bf16) (harg15 : arg15.IsWhole) (arg16 : Memref sig .tc .vmem S96x1024 .bf16) (harg16 : arg16.IsWhole) (arg17 : Memref sig .tc .vmem S1024x2816 .bf16) (harg17 : arg17.IsWhole)
    (x0 : Vec F S1024x1024 .f32) (x1 : Vec F S1x1024 .f32) (x2 : Vec F S1024x2816 .bf16) (x3 : Vec F S1024x2816 .bf16) (x4 : Vec F S2816x1024 .bf16) (x5 : Vec F S144x1024 .f32) (x6 : Vec F S48x1024 .f32) (x7 : Vec F S32x2816 .f32) (x8 : Vec F S32x2816 .f32) (x9 : Vec F S96x1024 .f32) : Vec F S48x1024 .bf16 :=
  View.canon (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9).2.2.1

/-- The pieces stored into output 13's buffer cover it. -/
theorem cover0_A_13 (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x2816 .bf16) (harg3 : arg3.IsWhole) (arg4 : Memref sig .tc .vmem S1024x2816 .bf16) (harg4 : arg4.IsWhole) (arg5 : Memref sig .tc .vmem S2816x1024 .bf16) (harg5 : arg5.IsWhole) (arg6 : Memref sig .tc .vmem S144x1024 .f32) (harg6 : arg6.IsWhole) (arg7 : Memref sig .tc .vmem S48x1024 .f32) (harg7 : arg7.IsWhole) (arg8 : Memref sig .tc .vmem S32x2816 .f32) (harg8 : arg8.IsWhole) (arg9 : Memref sig .tc .vmem S32x2816 .f32) (harg9 : arg9.IsWhole) (arg10 : Memref sig .tc .vmem S96x1024 .f32) (harg10 : arg10.IsWhole) (arg11 : Memref sig .tc .vmem S1024x1024 .f32) (harg11 : arg11.IsWhole) (arg12 : Memref sig .tc .vmem S144x1024 .bf16) (harg12 : arg12.IsWhole) (arg13 : Memref sig .tc .vmem S48x1024 .bf16) (harg13 : arg13.IsWhole) (arg14 : Memref sig .tc .vmem S32x2816 .bf16) (harg14 : arg14.IsWhole) (arg15 : Memref sig .tc .vmem S32x2816 .bf16) (harg15 : arg15.IsWhole) (arg16 : Memref sig .tc .vmem S96x1024 .bf16) (harg16 : arg16.IsWhole) (arg17 : Memref sig .tc .vmem S1024x2816 .bf16) (harg17 : arg17.IsWhole)
    (x0 : Vec F S1024x1024 .f32) (x1 : Vec F S1x1024 .f32) (x2 : Vec F S1024x2816 .bf16) (x3 : Vec F S1024x2816 .bf16) (x4 : Vec F S2816x1024 .bf16) (x5 : Vec F S144x1024 .f32) (x6 : Vec F S48x1024 .f32) (x7 : Vec F S32x2816 .f32) (x8 : Vec F S32x2816 .f32) (x9 : Vec F S96x1024 .f32) (y : S32x2816.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9).2.2.2.1 S32x2816.size (by sl_kernel_rfl) y

/-- What the body leaves in output 13's buffer. -/
def out0_A_13 (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x2816 .bf16) (harg3 : arg3.IsWhole) (arg4 : Memref sig .tc .vmem S1024x2816 .bf16) (harg4 : arg4.IsWhole) (arg5 : Memref sig .tc .vmem S2816x1024 .bf16) (harg5 : arg5.IsWhole) (arg6 : Memref sig .tc .vmem S144x1024 .f32) (harg6 : arg6.IsWhole) (arg7 : Memref sig .tc .vmem S48x1024 .f32) (harg7 : arg7.IsWhole) (arg8 : Memref sig .tc .vmem S32x2816 .f32) (harg8 : arg8.IsWhole) (arg9 : Memref sig .tc .vmem S32x2816 .f32) (harg9 : arg9.IsWhole) (arg10 : Memref sig .tc .vmem S96x1024 .f32) (harg10 : arg10.IsWhole) (arg11 : Memref sig .tc .vmem S1024x1024 .f32) (harg11 : arg11.IsWhole) (arg12 : Memref sig .tc .vmem S144x1024 .bf16) (harg12 : arg12.IsWhole) (arg13 : Memref sig .tc .vmem S48x1024 .bf16) (harg13 : arg13.IsWhole) (arg14 : Memref sig .tc .vmem S32x2816 .bf16) (harg14 : arg14.IsWhole) (arg15 : Memref sig .tc .vmem S32x2816 .bf16) (harg15 : arg15.IsWhole) (arg16 : Memref sig .tc .vmem S96x1024 .bf16) (harg16 : arg16.IsWhole) (arg17 : Memref sig .tc .vmem S1024x2816 .bf16) (harg17 : arg17.IsWhole)
    (x0 : Vec F S1024x1024 .f32) (x1 : Vec F S1x1024 .f32) (x2 : Vec F S1024x2816 .bf16) (x3 : Vec F S1024x2816 .bf16) (x4 : Vec F S2816x1024 .bf16) (x5 : Vec F S144x1024 .f32) (x6 : Vec F S48x1024 .f32) (x7 : Vec F S32x2816 .f32) (x8 : Vec F S32x2816 .f32) (x9 : Vec F S96x1024 .f32) : Vec F S32x2816 .bf16 :=
  View.canon (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9).2.2.2.1

/-- The pieces stored into output 14's buffer cover it. -/
theorem cover0_A_14 (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x2816 .bf16) (harg3 : arg3.IsWhole) (arg4 : Memref sig .tc .vmem S1024x2816 .bf16) (harg4 : arg4.IsWhole) (arg5 : Memref sig .tc .vmem S2816x1024 .bf16) (harg5 : arg5.IsWhole) (arg6 : Memref sig .tc .vmem S144x1024 .f32) (harg6 : arg6.IsWhole) (arg7 : Memref sig .tc .vmem S48x1024 .f32) (harg7 : arg7.IsWhole) (arg8 : Memref sig .tc .vmem S32x2816 .f32) (harg8 : arg8.IsWhole) (arg9 : Memref sig .tc .vmem S32x2816 .f32) (harg9 : arg9.IsWhole) (arg10 : Memref sig .tc .vmem S96x1024 .f32) (harg10 : arg10.IsWhole) (arg11 : Memref sig .tc .vmem S1024x1024 .f32) (harg11 : arg11.IsWhole) (arg12 : Memref sig .tc .vmem S144x1024 .bf16) (harg12 : arg12.IsWhole) (arg13 : Memref sig .tc .vmem S48x1024 .bf16) (harg13 : arg13.IsWhole) (arg14 : Memref sig .tc .vmem S32x2816 .bf16) (harg14 : arg14.IsWhole) (arg15 : Memref sig .tc .vmem S32x2816 .bf16) (harg15 : arg15.IsWhole) (arg16 : Memref sig .tc .vmem S96x1024 .bf16) (harg16 : arg16.IsWhole) (arg17 : Memref sig .tc .vmem S1024x2816 .bf16) (harg17 : arg17.IsWhole)
    (x0 : Vec F S1024x1024 .f32) (x1 : Vec F S1x1024 .f32) (x2 : Vec F S1024x2816 .bf16) (x3 : Vec F S1024x2816 .bf16) (x4 : Vec F S2816x1024 .bf16) (x5 : Vec F S144x1024 .f32) (x6 : Vec F S48x1024 .f32) (x7 : Vec F S32x2816 .f32) (x8 : Vec F S32x2816 .f32) (x9 : Vec F S96x1024 .f32) (y : S32x2816.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9).2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9).2.2.2.2.1 S32x2816.size (by sl_kernel_rfl) y

/-- What the body leaves in output 14's buffer. -/
def out0_A_14 (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x2816 .bf16) (harg3 : arg3.IsWhole) (arg4 : Memref sig .tc .vmem S1024x2816 .bf16) (harg4 : arg4.IsWhole) (arg5 : Memref sig .tc .vmem S2816x1024 .bf16) (harg5 : arg5.IsWhole) (arg6 : Memref sig .tc .vmem S144x1024 .f32) (harg6 : arg6.IsWhole) (arg7 : Memref sig .tc .vmem S48x1024 .f32) (harg7 : arg7.IsWhole) (arg8 : Memref sig .tc .vmem S32x2816 .f32) (harg8 : arg8.IsWhole) (arg9 : Memref sig .tc .vmem S32x2816 .f32) (harg9 : arg9.IsWhole) (arg10 : Memref sig .tc .vmem S96x1024 .f32) (harg10 : arg10.IsWhole) (arg11 : Memref sig .tc .vmem S1024x1024 .f32) (harg11 : arg11.IsWhole) (arg12 : Memref sig .tc .vmem S144x1024 .bf16) (harg12 : arg12.IsWhole) (arg13 : Memref sig .tc .vmem S48x1024 .bf16) (harg13 : arg13.IsWhole) (arg14 : Memref sig .tc .vmem S32x2816 .bf16) (harg14 : arg14.IsWhole) (arg15 : Memref sig .tc .vmem S32x2816 .bf16) (harg15 : arg15.IsWhole) (arg16 : Memref sig .tc .vmem S96x1024 .bf16) (harg16 : arg16.IsWhole) (arg17 : Memref sig .tc .vmem S1024x2816 .bf16) (harg17 : arg17.IsWhole)
    (x0 : Vec F S1024x1024 .f32) (x1 : Vec F S1x1024 .f32) (x2 : Vec F S1024x2816 .bf16) (x3 : Vec F S1024x2816 .bf16) (x4 : Vec F S2816x1024 .bf16) (x5 : Vec F S144x1024 .f32) (x6 : Vec F S48x1024 .f32) (x7 : Vec F S32x2816 .f32) (x8 : Vec F S32x2816 .f32) (x9 : Vec F S96x1024 .f32) : Vec F S32x2816 .bf16 :=
  View.canon (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9).2.2.2.2.1

/-- The pieces stored into output 15's buffer cover it. -/
theorem cover0_A_15 (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x2816 .bf16) (harg3 : arg3.IsWhole) (arg4 : Memref sig .tc .vmem S1024x2816 .bf16) (harg4 : arg4.IsWhole) (arg5 : Memref sig .tc .vmem S2816x1024 .bf16) (harg5 : arg5.IsWhole) (arg6 : Memref sig .tc .vmem S144x1024 .f32) (harg6 : arg6.IsWhole) (arg7 : Memref sig .tc .vmem S48x1024 .f32) (harg7 : arg7.IsWhole) (arg8 : Memref sig .tc .vmem S32x2816 .f32) (harg8 : arg8.IsWhole) (arg9 : Memref sig .tc .vmem S32x2816 .f32) (harg9 : arg9.IsWhole) (arg10 : Memref sig .tc .vmem S96x1024 .f32) (harg10 : arg10.IsWhole) (arg11 : Memref sig .tc .vmem S1024x1024 .f32) (harg11 : arg11.IsWhole) (arg12 : Memref sig .tc .vmem S144x1024 .bf16) (harg12 : arg12.IsWhole) (arg13 : Memref sig .tc .vmem S48x1024 .bf16) (harg13 : arg13.IsWhole) (arg14 : Memref sig .tc .vmem S32x2816 .bf16) (harg14 : arg14.IsWhole) (arg15 : Memref sig .tc .vmem S32x2816 .bf16) (harg15 : arg15.IsWhole) (arg16 : Memref sig .tc .vmem S96x1024 .bf16) (harg16 : arg16.IsWhole) (arg17 : Memref sig .tc .vmem S1024x2816 .bf16) (harg17 : arg17.IsWhole)
    (x0 : Vec F S1024x1024 .f32) (x1 : Vec F S1x1024 .f32) (x2 : Vec F S1024x2816 .bf16) (x3 : Vec F S1024x2816 .bf16) (x4 : Vec F S2816x1024 .bf16) (x5 : Vec F S144x1024 .f32) (x6 : Vec F S48x1024 .f32) (x7 : Vec F S32x2816 .f32) (x8 : Vec F S32x2816 .f32) (x9 : Vec F S96x1024 .f32) (y : S96x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9).2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9).2.2.2.2.2.1 S96x1024.size (by sl_kernel_rfl) y

/-- What the body leaves in output 15's buffer. -/
def out0_A_15 (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x2816 .bf16) (harg3 : arg3.IsWhole) (arg4 : Memref sig .tc .vmem S1024x2816 .bf16) (harg4 : arg4.IsWhole) (arg5 : Memref sig .tc .vmem S2816x1024 .bf16) (harg5 : arg5.IsWhole) (arg6 : Memref sig .tc .vmem S144x1024 .f32) (harg6 : arg6.IsWhole) (arg7 : Memref sig .tc .vmem S48x1024 .f32) (harg7 : arg7.IsWhole) (arg8 : Memref sig .tc .vmem S32x2816 .f32) (harg8 : arg8.IsWhole) (arg9 : Memref sig .tc .vmem S32x2816 .f32) (harg9 : arg9.IsWhole) (arg10 : Memref sig .tc .vmem S96x1024 .f32) (harg10 : arg10.IsWhole) (arg11 : Memref sig .tc .vmem S1024x1024 .f32) (harg11 : arg11.IsWhole) (arg12 : Memref sig .tc .vmem S144x1024 .bf16) (harg12 : arg12.IsWhole) (arg13 : Memref sig .tc .vmem S48x1024 .bf16) (harg13 : arg13.IsWhole) (arg14 : Memref sig .tc .vmem S32x2816 .bf16) (harg14 : arg14.IsWhole) (arg15 : Memref sig .tc .vmem S32x2816 .bf16) (harg15 : arg15.IsWhole) (arg16 : Memref sig .tc .vmem S96x1024 .bf16) (harg16 : arg16.IsWhole) (arg17 : Memref sig .tc .vmem S1024x2816 .bf16) (harg17 : arg17.IsWhole)
    (x0 : Vec F S1024x1024 .f32) (x1 : Vec F S1x1024 .f32) (x2 : Vec F S1024x2816 .bf16) (x3 : Vec F S1024x2816 .bf16) (x4 : Vec F S2816x1024 .bf16) (x5 : Vec F S144x1024 .f32) (x6 : Vec F S48x1024 .f32) (x7 : Vec F S32x2816 .f32) (x8 : Vec F S32x2816 .f32) (x9 : Vec F S96x1024 .f32) : Vec F S96x1024 .bf16 :=
  View.canon (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9).2.2.2.2.2.1

/-- The residual block depends on the first five operands' blocks only. -/
theorem out0_A_10_congr (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x2816 .bf16) (harg3 : arg3.IsWhole) (arg4 : Memref sig .tc .vmem S1024x2816 .bf16) (harg4 : arg4.IsWhole) (arg5 : Memref sig .tc .vmem S2816x1024 .bf16) (harg5 : arg5.IsWhole) (arg6 : Memref sig .tc .vmem S144x1024 .f32) (harg6 : arg6.IsWhole) (arg7 : Memref sig .tc .vmem S48x1024 .f32) (harg7 : arg7.IsWhole) (arg8 : Memref sig .tc .vmem S32x2816 .f32) (harg8 : arg8.IsWhole) (arg9 : Memref sig .tc .vmem S32x2816 .f32) (harg9 : arg9.IsWhole) (arg10 : Memref sig .tc .vmem S96x1024 .f32) (harg10 : arg10.IsWhole) (arg11 : Memref sig .tc .vmem S1024x1024 .f32) (harg11 : arg11.IsWhole) (arg12 : Memref sig .tc .vmem S144x1024 .bf16) (harg12 : arg12.IsWhole) (arg13 : Memref sig .tc .vmem S48x1024 .bf16) (harg13 : arg13.IsWhole) (arg14 : Memref sig .tc .vmem S32x2816 .bf16) (harg14 : arg14.IsWhole) (arg15 : Memref sig .tc .vmem S32x2816 .bf16) (harg15 : arg15.IsWhole) (arg16 : Memref sig .tc .vmem S96x1024 .bf16) (harg16 : arg16.IsWhole) (arg17 : Memref sig .tc .vmem S1024x2816 .bf16) (harg17 : arg17.IsWhole)
    (x0 : Vec F S1024x1024 .f32) (x1 : Vec F S1x1024 .f32) (x2 : Vec F S1024x2816 .bf16) (x3 : Vec F S1024x2816 .bf16) (x4 : Vec F S2816x1024 .bf16) (x5 : Vec F S144x1024 .f32) (x6 : Vec F S48x1024 .f32) (x7 : Vec F S32x2816 .f32) (x8 : Vec F S32x2816 .f32) (x9 : Vec F S96x1024 .f32) (y5 : Vec F S144x1024 .f32) (y6 : Vec F S48x1024 .f32) (y7 : Vec F S32x2816 .f32) (y8 : Vec F S32x2816 .f32) (y9 : Vec F S96x1024 .f32) :
    out0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 = out0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 y5 y6 y7 y8 y9 := by
  unfold out0_A_10
  exact congrArg View.canon rfl

/-- Output 11's buffer ends holding operand 5's block, rounded. -/
theorem out0_A_11_eq (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x2816 .bf16) (harg3 : arg3.IsWhole) (arg4 : Memref sig .tc .vmem S1024x2816 .bf16) (harg4 : arg4.IsWhole) (arg5 : Memref sig .tc .vmem S2816x1024 .bf16) (harg5 : arg5.IsWhole) (arg6 : Memref sig .tc .vmem S144x1024 .f32) (harg6 : arg6.IsWhole) (arg7 : Memref sig .tc .vmem S48x1024 .f32) (harg7 : arg7.IsWhole) (arg8 : Memref sig .tc .vmem S32x2816 .f32) (harg8 : arg8.IsWhole) (arg9 : Memref sig .tc .vmem S32x2816 .f32) (harg9 : arg9.IsWhole) (arg10 : Memref sig .tc .vmem S96x1024 .f32) (harg10 : arg10.IsWhole) (arg11 : Memref sig .tc .vmem S1024x1024 .f32) (harg11 : arg11.IsWhole) (arg12 : Memref sig .tc .vmem S144x1024 .bf16) (harg12 : arg12.IsWhole) (arg13 : Memref sig .tc .vmem S48x1024 .bf16) (harg13 : arg13.IsWhole) (arg14 : Memref sig .tc .vmem S32x2816 .bf16) (harg14 : arg14.IsWhole) (arg15 : Memref sig .tc .vmem S32x2816 .bf16) (harg15 : arg15.IsWhole) (arg16 : Memref sig .tc .vmem S96x1024 .bf16) (harg16 : arg16.IsWhole) (arg17 : Memref sig .tc .vmem S1024x2816 .bf16) (harg17 : arg17.IsWhole)
    (x0 : Vec F S1024x1024 .f32) (x1 : Vec F S1x1024 .f32) (x2 : Vec F S1024x2816 .bf16) (x3 : Vec F S1024x2816 .bf16) (x4 : Vec F S2816x1024 .bf16) (x5 : Vec F S144x1024 .f32) (x6 : Vec F S48x1024 .f32) (x7 : Vec F S32x2816 .f32) (x8 : Vec F S32x2816 .f32) (x9 : Vec F S96x1024 .f32) : out0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 = k0_pay2 x5 := by
  unfold out0_A_11; frame_out

/-- Output 12's buffer ends holding operand 6's block, rounded. -/
theorem out0_A_12_eq (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x2816 .bf16) (harg3 : arg3.IsWhole) (arg4 : Memref sig .tc .vmem S1024x2816 .bf16) (harg4 : arg4.IsWhole) (arg5 : Memref sig .tc .vmem S2816x1024 .bf16) (harg5 : arg5.IsWhole) (arg6 : Memref sig .tc .vmem S144x1024 .f32) (harg6 : arg6.IsWhole) (arg7 : Memref sig .tc .vmem S48x1024 .f32) (harg7 : arg7.IsWhole) (arg8 : Memref sig .tc .vmem S32x2816 .f32) (harg8 : arg8.IsWhole) (arg9 : Memref sig .tc .vmem S32x2816 .f32) (harg9 : arg9.IsWhole) (arg10 : Memref sig .tc .vmem S96x1024 .f32) (harg10 : arg10.IsWhole) (arg11 : Memref sig .tc .vmem S1024x1024 .f32) (harg11 : arg11.IsWhole) (arg12 : Memref sig .tc .vmem S144x1024 .bf16) (harg12 : arg12.IsWhole) (arg13 : Memref sig .tc .vmem S48x1024 .bf16) (harg13 : arg13.IsWhole) (arg14 : Memref sig .tc .vmem S32x2816 .bf16) (harg14 : arg14.IsWhole) (arg15 : Memref sig .tc .vmem S32x2816 .bf16) (harg15 : arg15.IsWhole) (arg16 : Memref sig .tc .vmem S96x1024 .bf16) (harg16 : arg16.IsWhole) (arg17 : Memref sig .tc .vmem S1024x2816 .bf16) (harg17 : arg17.IsWhole)
    (x0 : Vec F S1024x1024 .f32) (x1 : Vec F S1x1024 .f32) (x2 : Vec F S1024x2816 .bf16) (x3 : Vec F S1024x2816 .bf16) (x4 : Vec F S2816x1024 .bf16) (x5 : Vec F S144x1024 .f32) (x6 : Vec F S48x1024 .f32) (x7 : Vec F S32x2816 .f32) (x8 : Vec F S32x2816 .f32) (x9 : Vec F S96x1024 .f32) : out0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 = k0_pay3 x6 := by
  unfold out0_A_12; frame_out

/-- Output 13's buffer ends holding operand 7's block, rounded. -/
theorem out0_A_13_eq (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x2816 .bf16) (harg3 : arg3.IsWhole) (arg4 : Memref sig .tc .vmem S1024x2816 .bf16) (harg4 : arg4.IsWhole) (arg5 : Memref sig .tc .vmem S2816x1024 .bf16) (harg5 : arg5.IsWhole) (arg6 : Memref sig .tc .vmem S144x1024 .f32) (harg6 : arg6.IsWhole) (arg7 : Memref sig .tc .vmem S48x1024 .f32) (harg7 : arg7.IsWhole) (arg8 : Memref sig .tc .vmem S32x2816 .f32) (harg8 : arg8.IsWhole) (arg9 : Memref sig .tc .vmem S32x2816 .f32) (harg9 : arg9.IsWhole) (arg10 : Memref sig .tc .vmem S96x1024 .f32) (harg10 : arg10.IsWhole) (arg11 : Memref sig .tc .vmem S1024x1024 .f32) (harg11 : arg11.IsWhole) (arg12 : Memref sig .tc .vmem S144x1024 .bf16) (harg12 : arg12.IsWhole) (arg13 : Memref sig .tc .vmem S48x1024 .bf16) (harg13 : arg13.IsWhole) (arg14 : Memref sig .tc .vmem S32x2816 .bf16) (harg14 : arg14.IsWhole) (arg15 : Memref sig .tc .vmem S32x2816 .bf16) (harg15 : arg15.IsWhole) (arg16 : Memref sig .tc .vmem S96x1024 .bf16) (harg16 : arg16.IsWhole) (arg17 : Memref sig .tc .vmem S1024x2816 .bf16) (harg17 : arg17.IsWhole)
    (x0 : Vec F S1024x1024 .f32) (x1 : Vec F S1x1024 .f32) (x2 : Vec F S1024x2816 .bf16) (x3 : Vec F S1024x2816 .bf16) (x4 : Vec F S2816x1024 .bf16) (x5 : Vec F S144x1024 .f32) (x6 : Vec F S48x1024 .f32) (x7 : Vec F S32x2816 .f32) (x8 : Vec F S32x2816 .f32) (x9 : Vec F S96x1024 .f32) : out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 = k0_pay4 x7 := by
  unfold out0_A_13; frame_out

/-- Output 14's buffer ends holding operand 8's block, rounded. -/
theorem out0_A_14_eq (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x2816 .bf16) (harg3 : arg3.IsWhole) (arg4 : Memref sig .tc .vmem S1024x2816 .bf16) (harg4 : arg4.IsWhole) (arg5 : Memref sig .tc .vmem S2816x1024 .bf16) (harg5 : arg5.IsWhole) (arg6 : Memref sig .tc .vmem S144x1024 .f32) (harg6 : arg6.IsWhole) (arg7 : Memref sig .tc .vmem S48x1024 .f32) (harg7 : arg7.IsWhole) (arg8 : Memref sig .tc .vmem S32x2816 .f32) (harg8 : arg8.IsWhole) (arg9 : Memref sig .tc .vmem S32x2816 .f32) (harg9 : arg9.IsWhole) (arg10 : Memref sig .tc .vmem S96x1024 .f32) (harg10 : arg10.IsWhole) (arg11 : Memref sig .tc .vmem S1024x1024 .f32) (harg11 : arg11.IsWhole) (arg12 : Memref sig .tc .vmem S144x1024 .bf16) (harg12 : arg12.IsWhole) (arg13 : Memref sig .tc .vmem S48x1024 .bf16) (harg13 : arg13.IsWhole) (arg14 : Memref sig .tc .vmem S32x2816 .bf16) (harg14 : arg14.IsWhole) (arg15 : Memref sig .tc .vmem S32x2816 .bf16) (harg15 : arg15.IsWhole) (arg16 : Memref sig .tc .vmem S96x1024 .bf16) (harg16 : arg16.IsWhole) (arg17 : Memref sig .tc .vmem S1024x2816 .bf16) (harg17 : arg17.IsWhole)
    (x0 : Vec F S1024x1024 .f32) (x1 : Vec F S1x1024 .f32) (x2 : Vec F S1024x2816 .bf16) (x3 : Vec F S1024x2816 .bf16) (x4 : Vec F S2816x1024 .bf16) (x5 : Vec F S144x1024 .f32) (x6 : Vec F S48x1024 .f32) (x7 : Vec F S32x2816 .f32) (x8 : Vec F S32x2816 .f32) (x9 : Vec F S96x1024 .f32) : out0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 = k0_pay5 x8 := by
  unfold out0_A_14; frame_out

/-- Output 15's buffer ends holding operand 9's block, rounded. -/
theorem out0_A_15_eq (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x2816 .bf16) (harg3 : arg3.IsWhole) (arg4 : Memref sig .tc .vmem S1024x2816 .bf16) (harg4 : arg4.IsWhole) (arg5 : Memref sig .tc .vmem S2816x1024 .bf16) (harg5 : arg5.IsWhole) (arg6 : Memref sig .tc .vmem S144x1024 .f32) (harg6 : arg6.IsWhole) (arg7 : Memref sig .tc .vmem S48x1024 .f32) (harg7 : arg7.IsWhole) (arg8 : Memref sig .tc .vmem S32x2816 .f32) (harg8 : arg8.IsWhole) (arg9 : Memref sig .tc .vmem S32x2816 .f32) (harg9 : arg9.IsWhole) (arg10 : Memref sig .tc .vmem S96x1024 .f32) (harg10 : arg10.IsWhole) (arg11 : Memref sig .tc .vmem S1024x1024 .f32) (harg11 : arg11.IsWhole) (arg12 : Memref sig .tc .vmem S144x1024 .bf16) (harg12 : arg12.IsWhole) (arg13 : Memref sig .tc .vmem S48x1024 .bf16) (harg13 : arg13.IsWhole) (arg14 : Memref sig .tc .vmem S32x2816 .bf16) (harg14 : arg14.IsWhole) (arg15 : Memref sig .tc .vmem S32x2816 .bf16) (harg15 : arg15.IsWhole) (arg16 : Memref sig .tc .vmem S96x1024 .bf16) (harg16 : arg16.IsWhole) (arg17 : Memref sig .tc .vmem S1024x2816 .bf16) (harg17 : arg17.IsWhole)
    (x0 : Vec F S1024x1024 .f32) (x1 : Vec F S1x1024 .f32) (x2 : Vec F S1024x2816 .bf16) (x3 : Vec F S1024x2816 .bf16) (x4 : Vec F S2816x1024 .bf16) (x5 : Vec F S144x1024 .f32) (x6 : Vec F S48x1024 .f32) (x7 : Vec F S32x2816 .f32) (x8 : Vec F S32x2816 .f32) (x9 : Vec F S96x1024 .f32) : out0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 = k0_pay6 x9 := by
  unfold out0_A_15; frame_out

/-! ## The proof data -/

abbrev ms0_0 (t : Fin cfg0.N) : Memref sig .tc .vmem S1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x2816 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x2816 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2816x1024 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S144x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S48x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S32x2816 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S32x2816 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S96x1024 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1024x1024 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S144x1024 .bf16 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S48x1024 .bf16 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S32x2816 .bf16 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S32x2816 .bf16 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S96x1024 .bf16 := win0_15.stage (cfg0.slots t 15)
abbrev hs0_15 (t : Fin cfg0.N) : (ms0_15 t).IsWhole := hstage0_15 ((cfg0.slots t 15).cast nbuf0_15)
/-- The scratch operand. -/
abbrev scM0_0 : Memref sig .tc .vmem S1024x2816 .bf16 := Memref.whole cc0_scratch0

/-- The invariant: the scratch at some contents and the generator register. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-- The block of `w_in` at point `t`, filled out past the array's end with the zero word. -/
def blk5 (c : Dev nD) (t : Fin cfg0.N) : Vec F S144x1024 .f32 :=
  win0_5.fill (grid0.coords t) (fun _ => Scalar.ofBits .f32 0#32) (iblk m c 5 t)
/-- The block of the second half step's down weights at point `t`, likewise. -/
def blk9 (c : Dev nD) (t : Fin cfg0.N) : Vec F S96x1024 .f32 :=
  win0_9.fill (grid0.coords t) (fun _ => Scalar.ofBits .f32 0#32) (iblk m c 9 t)

/-- The residual block the body leaves at point `t`. -/
def outAt (c : Dev nD) (t : Fin cfg0.N) : Vec F S1024x1024 .f32 :=
  out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _)
    (iblk m c 0 t) (iblk m c 1 t) (iblk m c 2 t) (iblk m c 3 t) (iblk m c 4 t) (blk5 m c t) (iblk m c 6 t) (iblk m c 7 t) (iblk m c 8 t) (blk9 m c t)

/-- The proof data: arrays as the region finds them; after the body the inputs' buffers at their blocks, the
    residual's at `outAt`, each cast's at its operand's block rounded. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => blk5 m c t
    | ⟨6, _⟩ => iblk m c 6 t
    | ⟨7, _⟩ => iblk m c 7 t
    | ⟨8, _⟩ => iblk m c 8 t
    | ⟨9, _⟩ => blk9 m c t
    | ⟨10, _⟩ => outAt m c t
    | ⟨11, _⟩ => k0_pay2 (blk5 m c t)
    | ⟨12, _⟩ => k0_pay3 (iblk m c 6 t)
    | ⟨13, _⟩ => k0_pay4 (iblk m c 7 t)
    | ⟨14, _⟩ => k0_pay5 (iblk m c 8 t)
    | ⟨15, _⟩ => k0_pay6 (blk9 m c t)
    | ⟨_ + 16, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = blk5 m c t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = blk9 m c t := by dsimp only [dats]
theorem after0_10 (c : Dev nD) (t : Fin cfg0.N) : (dats m 0 c).after 10 t = outAt m c t := by dsimp only [dats]
theorem after0_11 (c : Dev nD) (t : Fin cfg0.N) : (dats m 0 c).after 11 t = k0_pay2 (blk5 m c t) := by dsimp only [dats]
theorem after0_12 (c : Dev nD) (t : Fin cfg0.N) : (dats m 0 c).after 12 t = k0_pay3 (iblk m c 6 t) := by dsimp only [dats]
theorem after0_13 (c : Dev nD) (t : Fin cfg0.N) : (dats m 0 c).after 13 t = k0_pay4 (iblk m c 7 t) := by dsimp only [dats]
theorem after0_14 (c : Dev nD) (t : Fin cfg0.N) : (dats m 0 c).after 14 t = k0_pay5 (iblk m c 8 t) := by dsimp only [dats]
theorem after0_15 (c : Dev nD) (t : Fin cfg0.N) : (dats m 0 c).after 15 t = k0_pay6 (blk9 m c t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
/-- The body finds the block inside the array, anything past the array's end. -/
theorem before0_5 (c : Dev nD) (t : Fin cfg0.N) (d) :
    (dats m 0 c).before 5 t d = win0_5.fill (grid0.coords t) d (iblk m c 5 t) :=
  ((dats m 0 c).before_in_eq_fetched 5 rfl (fun _ => rfl)
    (fun t t' h => funext fun a => congrArg (fun f : Fin 2 → Nat => Pipeline.Clip.of (f a) (S144x1024.size a) (S4112x1024.size a)) h)
    (fun t => by rw [after0_5]; exact win0_5.cut_fill _ _ _) t d).trans rfl
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
/-- The body finds the block inside the array, anything past the array's end. -/
theorem before0_9 (c : Dev nD) (t : Fin cfg0.N) (d) :
    (dats m 0 c).before 9 t d = win0_9.fill (grid0.coords t) d (iblk m c 9 t) :=
  ((dats m 0 c).before_in_eq_fetched 9 rfl (fun _ => rfl)
    (fun t t' h => funext fun a => congrArg (fun f : Fin 2 → Nat => Pipeline.Clip.of (f a) (S96x1024.size a) (S2816x1024.size a)) h)
    (fun t => by rw [after0_9]; exact win0_9.cut_fill _ _ _) t d).trans rfl

/-- Rounding acts entrywise: blocks agreeing inside the array round to blocks agreeing there. -/
theorem cut_pay2 (i : grid0.Coords) {X Y : Vec F S144x1024 .f32} (h : win0_5.cut i X = win0_5.cut i Y) :
    win0_11.cut i (k0_pay2 X) = win0_11.cut i (k0_pay2 Y) := by
  funext j
  have e := congrFun h j
  unfold k0_pay2
  simp only [shapeCast_id]
  exact congrArg (fun x => FloatOps.truncf .bf16 bitsLt_bf16_f32 x) e
theorem cut_pay6 (i : grid0.Coords) {X Y : Vec F S96x1024 .f32} (h : win0_9.cut i X = win0_9.cut i Y) :
    win0_15.cut i (k0_pay6 X) = win0_15.cut i (k0_pay6 Y) := by
  funext j
  have e := congrFun h j
  unfold k0_pay6
  exact congrArg (fun x => FloatOps.truncf .bf16 bitsLt_bf16_f32 x) e

/-! ## The body obligation -/

/-- What the body is called with at point `t`, -/
def bodyPre (c : Dev nD) (t : Fin cfg0.N) : sProp 𝕄 :=
  iprop((dats m 0 c).Φ t.castSucc ∗ (dats m 0 c).owesAt () t.castSucc ∗ (∃ d, owns (c : Thread nD τ) (ms0_0 t) fullShare ((dats m 0 c).before 0 t d)) ∗ (∃ d, owns (c : Thread nD τ) (ms0_1 t) fullShare ((dats m 0 c).before 1 t d)) ∗ (∃ d, owns (c : Thread nD τ) (ms0_2 t) fullShare ((dats m 0 c).before 2 t d)) ∗ (∃ d, owns (c : Thread nD τ) (ms0_3 t) fullShare ((dats m 0 c).before 3 t d)) ∗ (∃ d, owns (c : Thread nD τ) (ms0_4 t) fullShare ((dats m 0 c).before 4 t d)) ∗ (∃ d, owns (c : Thread nD τ) (ms0_5 t) fullShare ((dats m 0 c).before 5 t d)) ∗ (∃ d, owns (c : Thread nD τ) (ms0_6 t) fullShare ((dats m 0 c).before 6 t d)) ∗ (∃ d, owns (c : Thread nD τ) (ms0_7 t) fullShare ((dats m 0 c).before 7 t d)) ∗ (∃ d, owns (c : Thread nD τ) (ms0_8 t) fullShare ((dats m 0 c).before 8 t d)) ∗ (∃ d, owns (c : Thread nD τ) (ms0_9 t) fullShare ((dats m 0 c).before 9 t d)) ∗ (∃ d, owns (c : Thread nD τ) (ms0_10 t) fullShare ((dats m 0 c).before 10 t d)) ∗ (∃ d, owns (c : Thread nD τ) (ms0_11 t) fullShare ((dats m 0 c).before 11 t d)) ∗ (∃ d, owns (c : Thread nD τ) (ms0_12 t) fullShare ((dats m 0 c).before 12 t d)) ∗ (∃ d, owns (c : Thread nD τ) (ms0_13 t) fullShare ((dats m 0 c).before 13 t d)) ∗ (∃ d, owns (c : Thread nD τ) (ms0_14 t) fullShare ((dats m 0 c).before 14 t d)) ∗ (∃ d, owns (c : Thread nD τ) (ms0_15 t) fullShare ((dats m 0 c).before 15 t d)))
/-- and what it returns. -/
def bodyPost (c : Dev nD) (t : Fin cfg0.N) : sProp 𝕄 :=
  iprop((dats m 0 c).Φ t.succ ∗ (dats m 0 c).owesAt () t.succ ∗ owns (c : Thread nD τ) (ms0_0 t) fullShare ((dats m 0 c).after 0 t) ∗ owns (c : Thread nD τ) (ms0_1 t) fullShare ((dats m 0 c).after 1 t) ∗ owns (c : Thread nD τ) (ms0_2 t) fullShare ((dats m 0 c).after 2 t) ∗ owns (c : Thread nD τ) (ms0_3 t) fullShare ((dats m 0 c).after 3 t) ∗ owns (c : Thread nD τ) (ms0_4 t) fullShare ((dats m 0 c).after 4 t) ∗ (∃ d, owns (c : Thread nD τ) (ms0_5 t) fullShare (win0_5.fill (grid0.coords t) d (win0_5.cut (grid0.coords t) ((dats m 0 c).after 5 t)))) ∗ owns (c : Thread nD τ) (ms0_6 t) fullShare ((dats m 0 c).after 6 t) ∗ owns (c : Thread nD τ) (ms0_7 t) fullShare ((dats m 0 c).after 7 t) ∗ owns (c : Thread nD τ) (ms0_8 t) fullShare ((dats m 0 c).after 8 t) ∗ (∃ d, owns (c : Thread nD τ) (ms0_9 t) fullShare (win0_9.fill (grid0.coords t) d (win0_9.cut (grid0.coords t) ((dats m 0 c).after 9 t)))) ∗ owns (c : Thread nD τ) (ms0_10 t) fullShare ((dats m 0 c).after 10 t) ∗ (∃ d, owns (c : Thread nD τ) (ms0_11 t) fullShare (win0_11.fill (grid0.coords t) d (win0_11.cut (grid0.coords t) ((dats m 0 c).after 11 t)))) ∗ owns (c : Thread nD τ) (ms0_12 t) fullShare ((dats m 0 c).after 12 t) ∗ owns (c : Thread nD τ) (ms0_13 t) fullShare ((dats m 0 c).after 13 t) ∗ owns (c : Thread nD τ) (ms0_14 t) fullShare ((dats m 0 c).after 14 t) ∗ (∃ d, owns (c : Thread nD τ) (ms0_15 t) fullShare (win0_15.fill (grid0.coords t) d (win0_15.cut (grid0.coords t) ((dats m 0 c).after 15 t)))))

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15]
  rw [show (dats m 0 c).Φ t.castSucc = Pipeline.ΦA spec0 c from rfl, PhiA0_eq]
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  have hout : outAt m c t = _ := out0_A_10_congr c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _)
    (iblk m c 0 t) (iblk m c 1 t) (iblk m c 2 t) (iblk m c 3 t) (iblk m c 4 t) (blk5 m c t) (iblk m c 6 t) (iblk m c 7 t) (iblk m c 8 t) (blk9 m c t)
    (win0_5.fill (grid0.coords t) d5 (iblk m c 5 t)) (iblk m c 6 t) (iblk m c 7 t) (iblk m c 8 t) (win0_9.fill (grid0.coords t) d9 (iblk m c 9 t))
  iapply ((kernelRun0_A c (grid0.coords t) _ _ _ _ _ _ _ _ _ _ _ _ _ _ _ _ _ _ _ _ _ _ _ _ _ _ _ _ _ _ _ _ _ _ (iblk m c 0 t) (iblk m c 1 t) (iblk m c 2 t) (iblk m c 3 t) (iblk m c 4 t) (win0_5.fill (grid0.coords t) d5 (iblk m c 5 t)) (iblk m c 6 t) (iblk m c 7 t) (iblk m c 8 t) (win0_9.fill (grid0.coords t) d9 (iblk m c 9 t))).2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [HS0]; · iexact HS0
  iintro ⟨H0, H1, H2, H3, H4, H5, H6, H7, H8, H9, ⟨%e10, H10⟩, ⟨%e11, H11⟩, ⟨%e12, H12⟩, ⟨%e13, H13⟩, ⟨%e14, H14⟩, ⟨%e15, H15⟩, ⟨%fT0, HS0⟩⟩
  isplitl [HS0 Hg]
  · isplitl [HS0]
    · iexists _; unfold owns; iexists _; isplitr
      swap; · iexact HS0
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]
  · iexists d5
    rw [show win0_5.cut (grid0.coords t) (blk5 m c t) = iblk m c 5 t from win0_5.cut_fill _ _ _]
    iexact H5
  isplitl [H6]; · iexact H6
  isplitl [H7]; · iexact H7
  isplitl [H8]; · iexact H8
  isplitl [H9]
  · iexists d9
    rw [show win0_9.cut (grid0.coords t) (blk9 m c t) = iblk m c 9 t from win0_9.cut_fill _ _ _]
    iexact H9
  isplitl [H10]
  · rw [hout]; unfold owns; iexists _; isplitr
    swap; · iexact H10
    ipureintro; exact (View.read_writes_eq_canon _ _ _ (cover0_A_10 c _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (win0_5.fill (grid0.coords t) d5 (iblk m c 5 t)) (iblk m c 6 t) (iblk m c 7 t) (iblk m c 8 t) (win0_9.fill (grid0.coords t) d9 (iblk m c 9 t))))
  isplitl [H11]
  · iexists k0_pay2 (win0_5.fill (grid0.coords t) d5 (iblk m c 5 t))
    rw [win0_11.fill_congr_cut (grid0.coords t) (cut_pay2 (grid0.coords t) (X := (win0_5.fill (grid0.coords t) d5 (iblk m c 5 t))) (Y := blk5 m c t)
      ((win0_5.cut_fill _ _ _).trans (win0_5.cut_fill _ _ _).symm))]
    unfold owns; iexists _; isplitr
    swap; · iexact H11
    ipureintro; exact (View.read_writes_eq_canon _ _ _ (cover0_A_11 c _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (win0_5.fill (grid0.coords t) d5 (iblk m c 5 t)) (iblk m c 6 t) (iblk m c 7 t) (iblk m c 8 t) (win0_9.fill (grid0.coords t) d9 (iblk m c 9 t)))).trans (out0_A_11_eq c _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (win0_5.fill (grid0.coords t) d5 (iblk m c 5 t)) (iblk m c 6 t) (iblk m c 7 t) (iblk m c 8 t) (win0_9.fill (grid0.coords t) d9 (iblk m c 9 t)))
  isplitl [H12]
  · unfold owns; iexists _; isplitr
    swap; · iexact H12
    ipureintro; exact (View.read_writes_eq_canon _ _ _ (cover0_A_12 c _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (win0_5.fill (grid0.coords t) d5 (iblk m c 5 t)) (iblk m c 6 t) (iblk m c 7 t) (iblk m c 8 t) (win0_9.fill (grid0.coords t) d9 (iblk m c 9 t)))).trans (out0_A_12_eq c _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (win0_5.fill (grid0.coords t) d5 (iblk m c 5 t)) (iblk m c 6 t) (iblk m c 7 t) (iblk m c 8 t) (win0_9.fill (grid0.coords t) d9 (iblk m c 9 t)))
  isplitl [H13]
  · unfold owns; iexists _; isplitr
    swap; · iexact H13
    ipureintro; exact (View.read_writes_eq_canon _ _ _ (cover0_A_13 c _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (win0_5.fill (grid0.coords t) d5 (iblk m c 5 t)) (iblk m c 6 t) (iblk m c 7 t) (iblk m c 8 t) (win0_9.fill (grid0.coords t) d9 (iblk m c 9 t)))).trans (out0_A_13_eq c _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (win0_5.fill (grid0.coords t) d5 (iblk m c 5 t)) (iblk m c 6 t) (iblk m c 7 t) (iblk m c 8 t) (win0_9.fill (grid0.coords t) d9 (iblk m c 9 t)))
  isplitl [H14]
  · unfold owns; iexists _; isplitr
    swap; · iexact H14
    ipureintro; exact (View.read_writes_eq_canon _ _ _ (cover0_A_14 c _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (win0_5.fill (grid0.coords t) d5 (iblk m c 5 t)) (iblk m c 6 t) (iblk m c 7 t) (iblk m c 8 t) (win0_9.fill (grid0.coords t) d9 (iblk m c 9 t)))).trans (out0_A_14_eq c _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (win0_5.fill (grid0.coords t) d5 (iblk m c 5 t)) (iblk m c 6 t) (iblk m c 7 t) (iblk m c 8 t) (win0_9.fill (grid0.coords t) d9 (iblk m c 9 t)))
  iexists k0_pay6 (win0_9.fill (grid0.coords t) d9 (iblk m c 9 t))
  rw [win0_15.fill_congr_cut (grid0.coords t) (cut_pay6 (grid0.coords t) (X := (win0_9.fill (grid0.coords t) d9 (iblk m c 9 t))) (Y := blk9 m c t)
    ((win0_9.cut_fill _ _ _).trans (win0_9.cut_fill _ _ _).symm))]
  unfold owns; iexists _; isplitr
  swap; · iexact H15
  ipureintro; exact (View.read_writes_eq_canon _ _ _ (cover0_A_15 c _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (win0_5.fill (grid0.coords t) d5 (iblk m c 5 t)) (iblk m c 6 t) (iblk m c 7 t) (iblk m c 8 t) (win0_9.fill (grid0.coords t) d9 (iblk m c 9 t)))).trans (out0_A_15_eq c _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (win0_5.fill (grid0.coords t) d5 (iblk m c 5 t)) (iblk m c 6 t) (iblk m c 7 t) (iblk m c 8 t) (win0_9.fill (grid0.coords t) d9 (iblk m c 9 t)))

/-- The body table's row at point `t`'s buffers is the body there. -/
theorem defs₀_row (t : Fin cfg0.N) :
    defs₀ (F := F) .tc cfg0.body (cfg0.bodyArgs t (cfg0.slots t)) = bodyAt0 t := by
  unfold defs₀; rw [Defs.onTc_tc]

/-- The pipeline's body obligation, at every point. -/
theorem body_obligation (c : Dev nD) : BodyObligationLoose (dats (F := F) m 0 c) (defs₀ (F := F)) Variants.none () Set.univ := fun t => by
  rw [bigSep_W0, bigSep_W0, defs₀_row]
  exact triple_restated (sound_body m c t) rfl .rfl fun _ => .rfl

/-! ## The run and the frame -/

-- the launch theorem's implicit arguments are found through plain definitions
set_option backward.isDefEq.respectTransparency.types false in
/-- The run: every array of the pipeline ends at what the proof data compute, every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hΦ := fun _ _ => rfl)

/-- The same without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The frame: the argument arrays end unchanged, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7) ∧ r.2.mem ((c.tc : Thread nD τ).loc main_arg8) = m ((c.tc : Thread nD τ).loc main_arg8) ∧ r.2.mem ((c.tc : Thread nD τ).loc main_arg9) = m ((c.tc : Thread nD τ).loc main_arg9))
      ∧ r.2.sem = fun _ => 0) :=
  θ_run_and (frame_of m ρ (dats m) (A_eq m) (run_main m ρ)) ((θ_run defs _ _).mono (fun _ h => h.2) (run_main_quiescent m ρ))

end Cert.Kernel2Ideal.Mine

end
-- ==== Proof.FfnValue.lean ====
module

public import proofs.«01_k».proof.Proof.FfnRef
public import proofs.«01_k».proof.Proof.FfnFrameIdeal
public import Idealize.ShloMosaic.Lib.Claim

/-! What one grid point of the first call writes, and the arrays all points together leave: the residual stream after
the first half step, and the five weight matrices rounded. -/

@[expose] public section

set_option maxRecDepth 16384

namespace Cert.Kernel2Ideal.Mine

open Idealize.ShloMosaic Idealize.ShloMosaic.TcCoe Idealize.SL.Sem
open Idealize.ShloMosaic.Pipeline (Dat)
open Cert.Kernel2Ideal Cert.Kernel2Ideal.Gen Cert.Layer

noncomputable section

/-- The normalized row. -/
theorem pay8_apply (x : FVec Ideal S1024x1024 .f32) (w : FVec Ideal S1x1024 .f32) (r c : Fin 1024) :
    k0_pay8 (F := Ideal) x w (ix2 r c) = rms (fun k => x (ix2 r k)) (fun k => w (ix2 0 k)) c := by
  pointwise [k0_pay8, k0_pay7, rms]

/-- The gated hidden block of a normalized block `h`. -/
def hidden (h : FVec Ideal S1024x1024 .bf16) (g u : FVec Ideal S1024x2816 .bf16) : FVec Ideal S1024x2816 .bf16 := fun i =>
  act (fun k => h (ix2 (i 0) k)) (fun k f => g (ix2 k f)) (fun k f => u (ix2 k f)) (i 1)

/-- The gated hidden block at row `r`, channel `f`. -/
theorem hidden_apply (h : FVec Ideal S1024x1024 .bf16) (g u : FVec Ideal S1024x2816 .bf16) (r : Fin 1024) (f : Fin 2816) :
    hidden h g u (ix2 r f) = act (fun k => h (ix2 r k)) (fun k f => g (ix2 k f)) (fun k f => u (ix2 k f)) f := rfl

/-- The three column ranges `0 … 1023`, `1024 … 2047`, `2048 … 2815` cover the scratch buffer. -/
theorem cols_cover (w1 w2 w3) (y : S1024x2816.Idx) :
    ∃ p ∈ ([⟨Rect.unit ![0, 2048] ![1024, 768] inb_S1024x2816_S1024x768_0_2048, w1⟩,
        ⟨Rect.unit ![0, 1024] ![1024, 1024] inb_S1024x2816_S1024x1024_0_1024, w2⟩,
        ⟨Rect.unit ![0, 0] ![1024, 1024] inb_S1024x2816_S1024x1024_0_0, w3⟩] :
        List (View.Piece (Elt Ideal) S1024x2816 .bf16)), y ∈ p.1.set := by
  idx_vars y
  by_cases h1 : y1.val < 1024
  · refine ⟨⟨Rect.unit ![0, 0] ![1024, 1024] inb_S1024x2816_S1024x1024_0_0, w3⟩, .tail _ (.tail _ (.head _)), ?_⟩
    refine (Rect.mem_set_unit (inb := inb_S1024x2816_S1024x1024_0_0)).2 fun a => ?_
    fin_cases a
    · exact ⟨Nat.zero_le _, by simp⟩
    · exact ⟨Nat.zero_le _, by simpa using h1⟩
  by_cases h2 : y1.val < 2048
  · refine ⟨⟨Rect.unit ![0, 1024] ![1024, 1024] inb_S1024x2816_S1024x1024_0_1024, w2⟩, .tail _ (.head _), ?_⟩
    refine (Rect.mem_set_unit (inb := inb_S1024x2816_S1024x1024_0_1024)).2 fun a => ?_
    fin_cases a
    · exact ⟨Nat.zero_le _, by simp⟩
    · exact ⟨by simpa using h1, by simpa using h2⟩
  · refine ⟨⟨Rect.unit ![0, 2048] ![1024, 768] inb_S1024x2816_S1024x768_0_2048, w1⟩, .head _, ?_⟩
    refine (Rect.mem_set_unit (inb := inb_S1024x2816_S1024x768_0_2048)).2 fun a => ?_
    fin_cases a
    · exact ⟨Nat.zero_le _, by simp⟩
    · exact ⟨by simpa using h2, by simp⟩

/-- The scratch buffer, stored in three column ranges and read back whole, holds the gated hidden block. -/
theorem hidden_eq (x : FVec Ideal S1024x1024 .f32) (w : FVec Ideal S1x1024 .f32) (g u : FVec Ideal S1024x2816 .bf16) :
    (View.whole cc0_scratch0).readCov (Val := Elt Ideal)
        [⟨Rect.unit ![0, 2048] ![1024, 768] inb_S1024x2816_S1024x768_0_2048,
            k0_pay12 (F := Ideal) (k0_pay8 x w)
              (View.ld (Val := Elt Ideal) (S := S1024x2816) (e' := .bf16) g (Rect.unit ![0, 2048] ![1024, 768] inb_S1024x2816_S1024x768_0_2048))
              (View.ld (Val := Elt Ideal) (S := S1024x2816) (e' := .bf16) u (Rect.unit ![0, 2048] ![1024, 768] inb_S1024x2816_S1024x768_0_2048))⟩,
          ⟨Rect.unit ![0, 1024] ![1024, 1024] inb_S1024x2816_S1024x1024_0_1024,
            k0_pay11 (F := Ideal) (k0_pay8 x w)
              (k0_pay10 (View.ld (Val := Elt Ideal) (S := S1024x2816) (e' := .bf16) g (Rect.unit ![0, 1024] ![1024, 1024] inb_S1024x2816_S1024x1024_0_1024)))
              (View.ld (Val := Elt Ideal) (S := S1024x2816) (e' := .bf16) u (Rect.unit ![0, 1024] ![1024, 1024] inb_S1024x2816_S1024x1024_0_1024))⟩,
          ⟨Rect.unit ![0, 0] ![1024, 1024] inb_S1024x2816_S1024x1024_0_0,
            k0_pay9 (F := Ideal) x w
              (View.ld (Val := Elt Ideal) (S := S1024x2816) (e' := .bf16) g (Rect.unit ![0, 0] ![1024, 1024] inb_S1024x2816_S1024x1024_0_0))
              (View.ld (Val := Elt Ideal) (S := S1024x2816) (e' := .bf16) u (Rect.unit ![0, 0] ![1024, 1024] inb_S1024x2816_S1024x1024_0_0))⟩]
        (Rect.unit ![0, 0] ![1024, 2816] inb_S1024x2816_S1024x2816_0_0).toLoadRect =
      hidden (k0_pay8 x w) g u := by
  rw [View.readCov_eq_canon']
  funext j
  canon_tiles p hp using cols_cover _ _ _ _
  all_goals idx_vars p
  all_goals idx_vars j
  all_goals
    rw [Rect.idx_unit_val] at hp0 hp1
    change 0 + j0.val = _ at hp0
    change 0 + j1.val = _ at hp1
    rw [Nat.zero_add] at hp0 hp1
    obtain rfl : p0 = j0 := Fin.ext hp0.symm
  · have hb : 2048 + p1.val < 2816 := by omega
    obtain rfl : j1 = ⟨2048 + p1, hb⟩ := Fin.ext hp1
    generalize k0_pay8 (F := Ideal) x w = h
    pointwise [hidden, act, k0_pay12]
  · have hb : 1024 + p1.val < 2816 := by omega
    obtain rfl : j1 = ⟨1024 + p1, hb⟩ := Fin.ext hp1
    generalize k0_pay8 (F := Ideal) x w = h
    pointwise [hidden, act, k0_pay11, k0_pay10]
  · have hb : p1.val < 2816 := by omega
    obtain rfl : j1 = ⟨p1, hb⟩ := Fin.ext hp1
    unfold k0_pay9
    generalize k0_pay8 (F := Ideal) x w = h
    pointwise [hidden, act]

/-- The block written: the half step of the block of rows. -/
theorem pay1_apply (x : FVec Ideal S1024x1024 .f32) (a : FVec Ideal S1024x2816 .bf16) (d : FVec Ideal S2816x1024 .bf16) (r c : Fin 1024) :
    k0_pay1 (F := Ideal) (k0_pay7 x) a d (ix2 r c) =
      halfStep (fun k => x (ix2 r k)) (fun f => a (ix2 r f)) (fun f c => d (ix2 f c)) c := by
  pointwise [k0_pay1, k0_pay7, halfStep]

/-- A matrix rounded entrywise. -/
def rnd {S : Shape} (x : FVec Ideal S .f32) : FVec Ideal S .bf16 := truncf .bf16 x bitsLt_bf16_f32

/-- The input projection's weights, transposed. -/
def tr (x : FVec Ideal S1024x4112 .f32) : FVec Ideal S4112x1024 .f32 :=
  transpose S4112x1024 [1, 0] x transposes_S1024x4112_S4112x1024_1_0

variable (m : (ℓ : Loc nD τ sig) → Buf (Elt Ideal) ℓ)

/-- Which block each window holds at point `t`. -/
theorem idx : ∀ t : Fin cfg0.N,
    win0_0.index t = ![t.val, 0] ∧ win0_1.index t = ![0, 0] ∧ win0_2.index t = ![0, 0] ∧
      win0_3.index t = ![0, 0] ∧ win0_4.index t = ![0, 0] ∧ win0_5.index t = ![min t.val 28, 0] ∧
      win0_6.index t = ![t.val, 0] ∧ win0_7.index t = ![t.val, 0] ∧ win0_8.index t = ![t.val, 0] ∧
      win0_9.index t = ![min t.val 29, 0] ∧ win0_10.index t = ![t.val, 0] ∧ win0_11.index t = ![min t.val 28, 0] ∧
      win0_12.index t = ![t.val, 0] ∧ win0_13.index t = ![t.val, 0] ∧ win0_14.index t = ![t.val, 0] ∧
      win0_15.index t = ![min t.val 29, 0] :=
  (by decide +kernel : ∀ t : Fin grid0.N, _)

/-- Inside the array the padded block is the array's block. -/
theorem cut_blk5 (c : Dev nD) (t : Fin cfg0.N) : win0_5.cut (grid0.coords t) (blk5 m c t) = iblk m c 5 t := win0_5.cut_fill _ _ _
theorem cut_blk9 (c : Dev nD) (t : Fin cfg0.N) : win0_9.cut (grid0.coords t) (blk9 m c t) = iblk m c 9 t := win0_9.cut_fill _ _ _

open Cert.Reference2Ideal.Mine (ref ref_apply)

/-- After the run the residual stream is the reference's term of the arguments. -/
theorem final10 (c : Dev nD) :
    (dats m 0 c).arrAt 10 (cfgs 0).N = ref (m ((c : Thread nD τ).loc main_arg0)) (m ((c : Thread nD τ).loc main_arg1))
      (m ((c : Thread nD τ).loc main_arg2)) (m ((c : Thread nD τ).loc main_arg3)) (m ((c : Thread nD τ).loc main_arg4)) := by
  refine (dats m 0 c).arrAt_eq_of_covers 10 _ (by decide +kernel) fun t _ y => ?_
  blk_simp
  rw [after0_10]
  unfold outAt out0_A_10
  frame_out
  rw [hidden_eq]
  idx_vars y
  rw [pay1_apply]
  simp only [hidden_apply, pay8_apply]
  have hN : t.val < 32 := t.isLt
  have hi : t.val * 1024 + y0.val < 32768 := by omega
  have he : (win0_10.blk t).view.emb (ix2 y0 y1) = (ix2 ⟨t.val * 1024 + y0.val, hi⟩ y1 : S32768x1024.Idx) := by
    blk_ext [idx t]
  refine Eq.trans ?_ (congrArg (ref _ _ _ _ _) he).symm
  rw [ref_apply]
  have h0 : ∀ k, iblk m c 0 t (ix2 y0 k) = m ((c : Thread nD τ).loc main_arg0)
      (ix3 ⟨(t.val * 1024 + y0.val) / 8192, by omega⟩ ⟨(t.val * 1024 + y0.val) % 8192, by omega⟩ k) := fun k => by
    have hk : ((View.whole main_v0).slice (win0_0.rect t)).emb (ix2 y0 k) = (ix2 ⟨t.val * 1024 + y0.val, hi⟩ k : S32768x1024.Idx) := by
      blk_ext [idx t]
    blk_simp [iblk, V, idx t]
    entry_read
    refine (congrArg (shapeCast S32768x1024 _ _) hk).trans ?_
    pointwise
  have h1 : ∀ k, iblk m c 1 t (ix2 0 k) = m ((c : Thread nD τ).loc main_arg1) (ix1 k) := fun k => by
    have hk : ((View.whole main_v1).slice (win0_1.rect t)).emb (ix2 0 k) = (ix2 0 k : S1x1024.Idx) := by
      blk_ext [idx t]
    blk_simp [iblk, V, idx t]
    entry_read
    refine (congrArg (shapeCast S1x1024 _ _) hk).trans ?_
    pointwise
  have h2 : ∀ k f, iblk m c 2 t (ix2 k f) = m ((c : Thread nD τ).loc main_arg2) (ix2 k f) := fun k f => by
    have hk : ((View.whole main_v2).slice (win0_2.rect t)).emb (ix2 k f) = (ix2 k f : S1024x2816.Idx) := by
      blk_ext [idx t]
    blk_simp [iblk, V, idx t]
    entry_read
    refine (congrArg (rnd (S := S1024x2816) (m ((c : Thread nD τ).loc main_arg2))) hk).trans ?_
    rfl
  have h3 : ∀ k f, iblk m c 3 t (ix2 k f) = m ((c : Thread nD τ).loc main_arg3) (ix2 k f) := fun k f => by
    have hk : ((View.whole main_v3).slice (win0_3.rect t)).emb (ix2 k f) = (ix2 k f : S1024x2816.Idx) := by
      blk_ext [idx t]
    blk_simp [iblk, V, idx t]
    entry_read
    refine (congrArg (rnd (S := S1024x2816) (m ((c : Thread nD τ).loc main_arg3))) hk).trans ?_
    rfl
  have h4 : ∀ k f, iblk m c 4 t (ix2 k f) = m ((c : Thread nD τ).loc main_arg4) (ix2 k f) := fun k f => by
    have hk : ((View.whole main_v4).slice (win0_4.rect t)).emb (ix2 k f) = (ix2 k f : S2816x1024.Idx) := by
      blk_ext [idx t]
    blk_simp [iblk, V, idx t]
    entry_read
    refine (congrArg (rnd (S := S2816x1024) (m ((c : Thread nD τ).loc main_arg4))) hk).trans ?_
    rfl
  simp only [h0, h1, h2, h3, h4]
  rfl

/-- After the run this copy is argument 6 rounded. -/
theorem final12 (c : Dev nD) :
    (dats m 0 c).arrAt 12 (cfgs 0).N = rnd (S := S1536x1024) (m ((c : Thread nD τ).loc main_arg6)) := by
  refine (dats m 0 c).arrAt_eq_of_covers 12 _ (by decide +kernel) fun t _ y => ?_
  blk_simp
  rw [after0_12]
  unfold k0_pay3
  refine congrArg (fun x => FloatOps.truncf .bf16 bitsLt_bf16_f32 x) ?_
  blk_ext [iblk, V, idx t]

/-- After the run this copy is argument 7 rounded. -/
theorem final13 (c : Dev nD) :
    (dats m 0 c).arrAt 13 (cfgs 0).N = rnd (S := S1024x2816) (m ((c : Thread nD τ).loc main_arg7)) := by
  refine (dats m 0 c).arrAt_eq_of_covers 13 _ (by decide +kernel) fun t _ y => ?_
  blk_simp
  rw [after0_13]
  unfold k0_pay4
  refine congrArg (fun x => FloatOps.truncf .bf16 bitsLt_bf16_f32 x) ?_
  blk_ext [iblk, V, idx t]

/-- After the run this copy is argument 8 rounded. -/
theorem final14 (c : Dev nD) :
    (dats m 0 c).arrAt 14 (cfgs 0).N = rnd (S := S1024x2816) (m ((c : Thread nD τ).loc main_arg8)) := by
  refine (dats m 0 c).arrAt_eq_of_covers 14 _ (by decide +kernel) fun t _ y => ?_
  blk_simp
  rw [after0_14]
  unfold k0_pay5
  refine congrArg (fun x => FloatOps.truncf .bf16 bitsLt_bf16_f32 x) ?_
  blk_ext [iblk, V, idx t]

/-- After the run this copy is argument 9 rounded: blocks past the array's end are cut off. -/
theorem final15 (c : Dev nD) :
    (dats m 0 c).arrAt 15 (cfgs 0).N = rnd (S := S2816x1024) (m ((c : Thread nD τ).loc main_arg9)) := by
  refine (dats m 0 c).arrAt_eq_of_covers 15 _ (by decide +kernel) fun t _ y => ?_
  blk_simp
  rw [after0_15]
  unfold k0_pay6
  refine congrArg (fun x => FloatOps.truncf .bf16 bitsLt_bf16_f32 x) ?_
  refine (congrFun (cut_blk9 m c t) y).trans ?_
  blk_ext [iblk, V, idx t]

/-- After the run this copy is argument 5 transposed and rounded: blocks past the array's end are cut off. -/
theorem final11 (c : Dev nD) :
    (dats m 0 c).arrAt 11 (cfgs 0).N =
      rnd (tr (m ((c : Thread nD τ).loc main_arg5))) := by
  refine (dats m 0 c).arrAt_eq_of_covers 11 _ (by decide +kernel) fun t _ y => ?_
  blk_simp
  rw [after0_11]
  unfold k0_pay2
  simp only [shapeCast_id]
  refine congrArg (fun x => FloatOps.truncf .bf16 bitsLt_bf16_f32 x) ?_
  refine (congrFun (cut_blk5 m c t) y).trans ?_
  have hk : ((View.whole main_v5).slice (win0_5.rect t)).emb y = (win0_11.blk t).view.emb y := by
    blk_ext [idx t]
  blk_simp [iblk, V, idx t]
  entry_read
  exact congrArg (tr (m ((c : Thread nD τ).loc main_arg5))) hk

end

end Cert.Kernel2Ideal.Mine
-- ==== Proof.Ffn.lean ====
module

public import proofs.«01_k».proof.Defs
public import proofs.«01_k».proof.Proof.FfnValue
public import proofs.«01_k».proof.Proof.FfnFrame
public import Idealize.ShloMosaic.Lib.Claim

/-! The claims about the first call: the first feed-forward half step, and the rounded copies of the later calls'
weights. -/

@[expose] public section

noncomputable section

namespace Cert.Proof

open Idealize.ShloMosaic Idealize.SL.Sem

/-- The reference leaves its arguments alone. -/
theorem quiescent2 : Cert.quiescent_Reference2Ideal := fun m ρ _ =>
  (θ_run Cert.Reference2Ideal.defs _ _).mono
    (fun r h => ⟨fun c => (h c).2.2.2.2.2.2, sem_eq_zero_of_no_sems (by decide) r.2⟩)
    (Cert.Reference2Ideal.Value.run (F := Ideal) m ρ)

open Cert.Kernel2Ideal.Mine (final10 final11 final12 final13 final14 final15 rnd tr)
open Cert.Reference2Ideal.Mine (ref)

/-- Kernel and reference end with equal results, all six of them. -/
theorem algebraic2 : Cert.algebraic_Kernel2Ideal_Reference2Ideal := fun m g m' g' _ hagree =>
  ⟨fun c => ref (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)),
    fun c => rnd (tr (m ((c.tc : Thread Cert.Kernel2Ideal.nD Cert.Kernel2Ideal.τ).loc Cert.Kernel2Ideal.main_arg5))), fun c => rnd (S := Cert.Kernel2Ideal.S1536x1024) (m ((c.tc : Thread Cert.Kernel2Ideal.nD Cert.Kernel2Ideal.τ).loc Cert.Kernel2Ideal.main_arg6)),
    fun c => rnd (S := Cert.Kernel2Ideal.S1024x2816) (m ((c.tc : Thread Cert.Kernel2Ideal.nD Cert.Kernel2Ideal.τ).loc Cert.Kernel2Ideal.main_arg7)), fun c => rnd (S := Cert.Kernel2Ideal.S1024x2816) (m ((c.tc : Thread Cert.Kernel2Ideal.nD Cert.Kernel2Ideal.τ).loc Cert.Kernel2Ideal.main_arg8)),
    fun c => rnd (S := Cert.Kernel2Ideal.S2816x1024) (m ((c.tc : Thread Cert.Kernel2Ideal.nD Cert.Kernel2Ideal.τ).loc Cert.Kernel2Ideal.main_arg9)),
    (θ_run Cert.Kernel2Ideal.defs _ _).mono
      (fun r h c => ⟨((h.1 c).1 10).trans (final10 m c), ((h.1 c).1 11).trans (final11 m c), ((h.1 c).1 12).trans (final12 m c),
        ((h.1 c).1 13).trans (final13 m c), ((h.1 c).1 14).trans (final14 m c), ((h.1 c).1 15).trans (final15 m c), h.2.1 c⟩)
      (θ_run_and (Cert.Kernel2Ideal.Mine.run_main m g) (Cert.Kernel2Ideal.Mine.frame m g)),
    (θ_run Cert.Reference2Ideal.defs _ _).mono
      (fun r h c => by
        obtain ⟨h0, h1, h2, h3, h4, h5, h6, h7, h8, h9⟩ := hagree c
        obtain ⟨r0, r1, r2, r3, r4, r5, hr⟩ := h c
        exact ⟨r0.trans (by rw [h0, h1, h2, h3, h4]; rfl), r1.trans (by rw [h5]; rfl), r2.trans (by rw [h6]; rfl),
          r3.trans (by rw [h7]; rfl), r4.trans (by rw [h8]; rfl), r5.trans (by rw [h9]; rfl), hr⟩)
      (Cert.Reference2Ideal.Value.run (F := Ideal) m' g')⟩

end Cert.Proof
-- ==== Proof.Safe.lean ====
module

public import Idealize.ShloMosaic.Lib.Pipeline.Frame
public import Idealize.ShloMosaic.Lib.Tactic

/-! A program is *safe* over a resource when, started holding the resource, it runs to its return and holds the
resource again. Safety composes along sequencing and branches, and every load and store of a buffer the resource
holds at unstated contents is safe, wherever in the buffer it goes. -/

@[expose] public section

noncomputable section

namespace Cert.Safe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type} {Λ : Labels} {U : Type} [URA U]

local notation "𝕄" => MT nD τ sig Unit Val ℕ U ℕ

variable (defs : Defs nD τ sig Val Λ) (c : Thread nD τ) (E : Set ℕ) (R : sProp (MT nD τ sig Unit Val ℕ U ℕ))

/-- From `R` the program runs to its return and `R` holds again. -/
def Safe {α : Type} (p : Prog (TpuEff nD τ sig Val Λ c.2) α) : Prop :=
  R ⊢ wp frame (wpE (Ix := Unit) (Name := ℕ) (U := U) (Lvl := ℕ) defs Variants.none c none) E p (fun _ => R)

/-- `R` holds a share of the whole buffer at `ℓ`, and takes it back as it was. -/
def Reads (ℓ : Loc nD τ sig) : Prop :=
  ∃ (q : PosShare TreeShare) (f : Buf Val ℓ) (B : sProp 𝕄), (R ⊢ (iprop((ℓ ↦{q} f) ∗ B) : sProp 𝕄)) ∧ ((iprop((ℓ ↦{q} f) ∗ B) : sProp 𝕄) ⊢ R)

/-- `R` holds the whole buffer at `ℓ` outright, and takes it back at any contents. -/
def Writes (ℓ : Loc nD τ sig) : Prop :=
  ∃ B : sProp 𝕄, (R ⊢ (iprop((∃ f : Buf Val ℓ, ℓ ↦{fullShare} f) ∗ B) : sProp 𝕄)) ∧ ((iprop((∃ f : Buf Val ℓ, ℓ ↦{fullShare} f) ∗ B) : sProp 𝕄) ⊢ R)

variable {defs c E R}

theorem safe_pure {α : Type} (a : α) : Safe defs c E R (pure a) := by
  unfold Safe; rw [wp_pure]; exact fupd_intro (PROP := sProp 𝕄)

theorem safe_bind {α β : Type} {p : Prog (TpuEff nD τ sig Val Λ c.2) α} {k : α → Prog (TpuEff nD τ sig Val Λ c.2) β}
    (hp : Safe defs c E R p) (hk : ∀ a, Safe defs c E R (k a)) : Safe defs c E R (p >>= k) := by
  unfold Safe at *; rw [wp_bind]; exact hp.trans (wp_mono _ _ _ hk)

/-- A branch is safe when both sides are. -/
theorem safe_ite {α : Type} {b : Prop} [Decidable b] {p : b → Prog (TpuEff nD τ sig Val Λ c.2) α}
    {p' : ¬b → Prog (TpuEff nD τ sig Val Λ c.2) α} (hp : ∀ h, Safe defs c E R (p h)) (hp' : ∀ h, Safe defs c E R (p' h)) :
    Safe defs c E R (dite b p p') := by
  by_cases h : b
  · rw [dif_pos h]; exact hp h
  · rw [dif_neg h]; exact hp' h

/-- A load anywhere in a buffer of which `R` holds a share. -/
theorem Reads.load {cs : CoreSpace} {s : Shape} {e : EltTy} {M : Memref sig c.2.kind cs s e} {r : LoadRect s}
    {hl : M.view.LoadsAt r} (h : Reads R (M.view.loc c)) : Safe defs c E R (Prog.lift (.load M r hl)) := by
  obtain ⟨q, f, B, h1, h2⟩ := h
  unfold Safe Prog.lift
  refine h1.trans ?_
  iintro ⟨H, HB⟩
  ihave Hw := (wp_load (defs := defs) Variants.none c none (Γ := .empty) E (Q := fun _ => R) (m := M) (r := r) (hl := hl)
    (k := fun x => .ret x) (q := q) (f := f) (S := Finset.univ) (Finset.subset_univ _)) $$ H
  iapply Hw
  iintro H
  rw [wp_ret]
  imodintro
  iapply h2
  isplitl [H]; · iexact H
  iexact HB

/-- A store anywhere in a buffer which `R` holds at unstated contents. -/
theorem Writes.store {cs : CoreSpace} {s : Shape} {e : EltTy} {M : Memref sig c.2.kind cs s e} {r : Rect s}
    {w : r.shape.Idx → Val e} {Mk : Finset r.shape.Idx} {hx : (M.access r).Stores Mk}
    {hm : Mk = Finset.univ ∨ ∀ a, r.stride a = 1} (h : Writes R (M.view.loc c)) :
    Safe defs c E R (Prog.lift (.store M r w Mk hx hm)) := by
  obtain ⟨B, h1, h2⟩ := h
  unfold Safe Prog.lift
  refine h1.trans ?_
  iintro ⟨⟨%f, H⟩, HB⟩
  ihave Hw := (wp_store (defs := defs) Variants.none c none (Γ := .empty) E (Q := fun _ => R) (m := M) (r := r) (w := w)
    (Mk := Mk) (hx := hx) (hm := hm) (k := fun x => .ret x) (f := f) (S := Finset.univ) (Finset.subset_univ _)) $$ H
  iapply Hw
  iintro H
  rw [wp_ret]
  imodintro
  iapply h2
  isplitl [H]; · iexists _; iexact H
  iexact HB

/-- A load anywhere in a buffer which `R` holds at unstated contents. -/
theorem Writes.load {cs : CoreSpace} {s : Shape} {e : EltTy} {M : Memref sig c.2.kind cs s e} {r : LoadRect s}
    {hl : M.view.LoadsAt r} (h : Writes R (M.view.loc c)) : Safe defs c E R (Prog.lift (.load M r hl)) := by
  obtain ⟨B, h1, h2⟩ := h
  unfold Safe Prog.lift
  refine h1.trans ?_
  iintro ⟨⟨%f, H⟩, HB⟩
  ihave Hw := (wp_load (defs := defs) Variants.none c none (Γ := .empty) E (Q := fun _ => R) (m := M) (r := r) (hl := hl)
    (k := fun x => .ret x) (q := fullShare) (f := f) (S := Finset.univ) (Finset.subset_univ _)) $$ H
  iapply Hw
  iintro H
  rw [wp_ret]
  imodintro
  iapply h2
  isplitl [H]; · iexists _; iexact H
  iexact HB

/-- A slice of a buffer lies in the buffer. -/
theorem Writes.slice {sp : Space} {s : Shape} {e : EltTy} {M : Memref sig c.2.kind sp s e} {r : Rect s}
    {hr : ∀ a, r.stride a = 1} (h : Writes R (M.view.loc c)) : Writes R ((M.slice r hr).view.loc c) := h

/-- So does a slice with its unit axes dropped. -/
theorem Writes.squeeze {sp : Space} {s s' : Shape} {e : EltTy} {M : Memref sig c.2.kind sp s e} {hs : s.Squeezes s'}
    (h : Writes R (M.view.loc c)) : Writes R ((M.squeeze s' hs).view.loc c) := h

/-! Which buffers a resource holds -/

theorem Reads.of_owns {cs : CoreSpace} {s : Shape} {e : EltTy} {M : Memref sig c.2.kind cs s e} (hM : M.IsWhole)
    {q : PosShare TreeShare} {X : s.Idx → Val e} : Reads (owns c M q X : sProp 𝕄) (M.view.loc c) := by
  refine ⟨q, hM.unread X, iprop(emp), ?_, ?_⟩
  · unfold owns
    iintro ⟨%f, %hf, H⟩
    obtain rfl := hM.eq_unread hf
    rw [hM.set_eq_univ]
    isplitl [H]; · iexact H
    exact .rfl
  · unfold owns
    iintro ⟨H, -⟩
    iexists _
    isplitr; · ipureintro; exact hM.read_unread _
    rw [hM.set_eq_univ]
    iexact H

theorem Writes.of_owns {cs : CoreSpace} {s : Shape} {e : EltTy} {M : Memref sig c.2.kind cs s e} (hM : M.IsWhole) :
    Writes (iprop(∃ X, owns c M fullShare X) : sProp 𝕄) (M.view.loc c) := by
  refine ⟨iprop(emp), ?_, ?_⟩
  · unfold owns
    iintro ⟨%X, %f, -, H⟩
    rw [hM.set_eq_univ]
    isplitl [H]; · iexists _; iexact H
    exact .rfl
  · unfold owns
    iintro ⟨⟨%f, H⟩, -⟩
    iexists _, f
    isplitr; · ipureintro; rfl
    rw [hM.set_eq_univ]
    iexact H

variable {A C : sProp (MT nD τ sig Unit Val ℕ U ℕ)} {ℓ : Loc nD τ sig}

theorem Reads.left (h : Reads A ℓ) : Reads iprop(A ∗ C) ℓ := by
  obtain ⟨q, f, B, h1, h2⟩ := h
  refine ⟨q, f, iprop(B ∗ C), (sep_mono_left h1).trans ?_, BIBase.Entails.trans ?_ (sep_mono_left h2)⟩
  · iintro ⟨⟨H, HB⟩, HC⟩
    isplitl [H]; · iexact H
    isplitl [HB]; · iexact HB
    iexact HC
  · iintro ⟨H, HB, HC⟩
    isplitl [H HB]
    · isplitl [H]; · iexact H
      iexact HB
    iexact HC

theorem Reads.right (h : Reads A ℓ) : Reads iprop(C ∗ A) ℓ := by
  obtain ⟨q, f, B, h1, h2⟩ := h
  refine ⟨q, f, iprop(B ∗ C), (sep_mono_right h1).trans ?_, BIBase.Entails.trans ?_ (sep_mono_right h2)⟩
  · iintro ⟨HC, H, HB⟩
    isplitl [H]; · iexact H
    isplitl [HB]; · iexact HB
    iexact HC
  · iintro ⟨H, HB, HC⟩
    isplitl [HC]; · iexact HC
    isplitl [H]; · iexact H
    iexact HB

theorem Writes.left (h : Writes A ℓ) : Writes iprop(A ∗ C) ℓ := by
  obtain ⟨B, h1, h2⟩ := h
  refine ⟨iprop(B ∗ C), (sep_mono_left h1).trans ?_, BIBase.Entails.trans ?_ (sep_mono_left h2)⟩
  · iintro ⟨⟨H, HB⟩, HC⟩
    isplitl [H]; · iexact H
    isplitl [HB]; · iexact HB
    iexact HC
  · iintro ⟨H, HB, HC⟩
    isplitl [H HB]
    · isplitl [H]; · iexact H
      iexact HB
    iexact HC

theorem Writes.right (h : Writes A ℓ) : Writes iprop(C ∗ A) ℓ := by
  obtain ⟨B, h1, h2⟩ := h
  refine ⟨iprop(B ∗ C), (sep_mono_right h1).trans ?_, BIBase.Entails.trans ?_ (sep_mono_right h2)⟩
  · iintro ⟨HC, H, HB⟩
    isplitl [H]; · iexact H
    isplitl [HB]; · iexact HB
    iexact HC
  · iintro ⟨H, HB, HC⟩
    isplitl [HC]; · iexact HC
    isplitl [H]; · iexact H
    iexact HB

end Cert.Safe

end
-- ==== Proof.Runs.lean ====
module

public import proofs.«01_k».proof.Proof.Safe
public import Idealize.ShloMosaic.Lib.Pipeline.FrameBody
public import Idealize.ShloMosaic.Lib.Writes

/-! Programs followed by what they compute: besides running to its return, a program's result meets a predicate, and a
buffer's contents meet a predicate which each store establishes or keeps. -/

@[expose] public section

noncomputable section

namespace Cert.Safe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type} {Λ : Labels} {U : Type} [URA U]

local notation "𝕄" => MT nD τ sig Unit Val ℕ U ℕ

variable (defs : Defs nD τ sig Val Λ) (c : Thread nD τ) (E : Set ℕ) (R : sProp (MT nD τ sig Unit Val ℕ U ℕ))

/-- From `R` the program runs to its return; its result meets `Q` and `R'` holds. -/
def Runs {α : Type} (p : Prog (TpuEff nD τ sig Val Λ c.2) α) (Q : α → Prop) (R' : sProp (MT nD τ sig Unit Val ℕ U ℕ)) : Prop :=
  R ⊢ wp frame (wpE (Ix := Unit) (Name := ℕ) (U := U) (Lvl := ℕ) defs Variants.none c none) E p (fun a => iprop(⌜Q a⌝ ∗ R'))

/-- `R` holds the whole buffer of `M` at contents meeting some predicate, which every store at an `ok` rectangle keeps. -/
def Stores {sp : Space} {s : Shape} {e : EltTy} (M : Memref sig c.2.kind sp s e) (ok : Rect s → Prop) : Prop :=
  ∃ (P : Buf Val (M.view.loc c) → Prop) (B : sProp 𝕄),
    (R ⊢ (iprop((∃ f : Buf Val (M.view.loc c), ⌜P f⌝ ∗ M.view.loc c ↦{fullShare} f) ∗ B) : sProp 𝕄)) ∧
    ((iprop((∃ f : Buf Val (M.view.loc c), ⌜P f⌝ ∗ M.view.loc c ↦{fullShare} f) ∗ B) : sProp 𝕄) ⊢ R) ∧
    ∀ (f : Buf Val (M.view.loc c)) (r : Rect s) (w : r.shape.Idx → Val e) (Mk : Finset r.shape.Idx), ok r → P f → P ((M.access r).write Val f w Mk)

/-- `R` holds the whole buffer at `ℓ` outright, and takes it back as it was. -/
def Loads (ℓ : Loc nD τ sig) : Prop :=
  ∃ (P : Buf Val ℓ → Prop) (B : sProp 𝕄), (R ⊢ (iprop((∃ f : Buf Val ℓ, ⌜P f⌝ ∗ ℓ ↦{fullShare} f) ∗ B) : sProp 𝕄)) ∧
    ((iprop((∃ f : Buf Val ℓ, ⌜P f⌝ ∗ ℓ ↦{fullShare} f) ∗ B) : sProp 𝕄) ⊢ R)

/-- `R` holds the buffer of `M` at the contents `X`, and takes it back as it was. -/
def Has {sp : Space} {s : Shape} {e : EltTy} (M : Memref sig c.2.kind sp s e) (X : s.Idx → Val e) : Prop :=
  ∃ (q : PosShare TreeShare) (B : sProp 𝕄), (R ⊢ (iprop(owns c M q X ∗ B) : sProp 𝕄)) ∧ ((iprop(owns c M q X ∗ B) : sProp 𝕄) ⊢ R)

/-- The buffer of `M`, held outright at some contents meeting `P`. -/
def sat {sp : Space} {s : Shape} {e : EltTy} (M : Memref sig c.2.kind sp s e) (P : (s.Idx → Val e) → Prop) : sProp 𝕄 :=
  iprop(∃ X, ⌜P X⌝ ∗ owns c M fullShare X)

/-- The resource `RR P` holds the buffer of `M` at contents meeting `P`, beside the same rest for every `P`. -/
def Slot {sp : Space} {s : Shape} {e : EltTy} (RR : ((s.Idx → Val e) → Prop) → sProp (MT nD τ sig Unit Val ℕ U ℕ))
    (M : Memref sig c.2.kind sp s e) : Prop :=
  ∃ B : sProp 𝕄, ∀ P, (RR P ⊢ (iprop(sat c M P ∗ B) : sProp 𝕄)) ∧ ((iprop(sat c M P ∗ B) : sProp 𝕄) ⊢ RR P)

variable {defs c E R}

theorem Runs.of_safe {α : Type} {p : Prog (TpuEff nD τ sig Val Λ c.2) α} (h : Safe defs c E R p) :
    Runs defs c E R p (fun _ => True) R := by
  unfold Safe at h; unfold Runs
  refine h.trans (wp_mono _ _ _ fun _ => ?_)
  iintro H; isplitr; · ipureintro; trivial
  iexact H

theorem Runs.safe {α : Type} {p : Prog (TpuEff nD τ sig Val Λ c.2) α} {Q : α → Prop} (h : Runs defs c E R p Q R) :
    Safe defs c E R p := by
  unfold Runs at h; unfold Safe
  refine h.trans (wp_mono _ _ _ fun _ => ?_)
  iintro ⟨-, H⟩; iexact H

theorem Runs.pos {α : Type} {b : Prop} [Decidable b] {p : b → Prog (TpuEff nD τ sig Val Λ c.2) α} {p' : ¬b → Prog (TpuEff nD τ sig Val Λ c.2) α}
    {Q : α → Prop} {R' : sProp 𝕄} (hb : b) (h : Runs defs c E R (p hb) Q R') : Runs defs c E R (dite b p p') Q R' := by
  rw [dif_pos hb]; exact h

theorem Runs.ite {α : Type} {b : Prop} [Decidable b] {p : b → Prog (TpuEff nD τ sig Val Λ c.2) α} {p' : ¬b → Prog (TpuEff nD τ sig Val Λ c.2) α}
    {Q : α → Prop} {R' : sProp 𝕄} (h : ∀ hb, Runs defs c E R (p hb) Q R') (h' : ∀ hb, Runs defs c E R (p' hb) Q R') :
    Runs defs c E R (dite b p p') Q R' := by
  by_cases hb : b
  · rw [dif_pos hb]; exact h hb
  · rw [dif_neg hb]; exact h' hb

theorem Runs.pure {α : Type} {Q : α → Prop} (a : α) (h : Q a) : Runs defs c E R (pure a) Q R := by
  unfold Runs; rw [wp_pure]
  refine BIBase.Entails.trans ?_ (fupd_intro (PROP := sProp 𝕄))
  iintro H; isplitr; · ipureintro; exact h
  iexact H

theorem Runs.bind {α β : Type} {p : Prog (TpuEff nD τ sig Val Λ c.2) α} {k : α → Prog (TpuEff nD τ sig Val Λ c.2) β}
    {Q : α → Prop} {R' R'' : sProp 𝕄} {Q' : β → Prop}
    (hp : Runs defs c E R p Q R') (hk : ∀ a, Q a → Runs defs c E R' (k a) Q' R'') : Runs defs c E R (p >>= k) Q' R'' := by
  unfold Runs at *; rw [wp_bind]
  refine hp.trans (wp_mono _ _ _ fun a => ?_)
  iintro ⟨%h, H⟩
  ihave H' := (hk a h) $$ H
  iexact H'

theorem Runs.mono {α : Type} {p : Prog (TpuEff nD τ sig Val Λ c.2) α} {Q Q' : α → Prop} {R' : sProp 𝕄}
    (hp : Runs defs c E R p Q R') (h : ∀ a, Q a → Q' a) : Runs defs c E R p Q' R' := by
  unfold Runs at *
  refine hp.trans (wp_mono _ _ _ fun a => ?_)
  iintro ⟨%h', H⟩
  isplitr; · ipureintro; exact h a h'
  iexact H

theorem Runs.pre {α : Type} {p : Prog (TpuEff nD τ sig Val Λ c.2) α} {Q : α → Prop} {R0 R' : sProp 𝕄}
    (h : R0 ⊢ R) (hp : Runs defs c E R p Q R') : Runs defs c E R0 p Q R' := by
  unfold Runs at *; exact h.trans hp

theorem _root_.Cert.Safe.Writes.stores {sp : Space} {s : Shape} {e : EltTy} {M : Memref sig c.2.kind sp s e} {ok : Rect s → Prop}
    (h : Writes R (M.view.loc c)) : Stores (Val := Val) c R M ok := by
  obtain ⟨B, h1, h2⟩ := h
  refine ⟨fun _ => True, B, h1.trans ?_, BIBase.Entails.trans ?_ h2, fun _ _ _ _ _ _ => trivial⟩
  · iintro ⟨⟨%f, H⟩, HB⟩
    isplitl [H]
    · iexists f; isplitr; · ipureintro; trivial
      iexact H
    iexact HB
  · iintro ⟨⟨%f, -, H⟩, HB⟩
    isplitl [H]
    · iexists f; iexact H
    iexact HB

/-- A store at an `ok` rectangle. -/
theorem Stores.store {cs : CoreSpace} {s : Shape} {e : EltTy} {M : Memref sig c.2.kind cs s e} {ok : Rect s → Prop} {r : Rect s}
    {w : r.shape.Idx → Val e} {Mk : Finset r.shape.Idx} {hx : (M.access r).Stores Mk}
    {hm : Mk = Finset.univ ∨ ∀ a, r.stride a = 1} (h : Stores c R M ok) (hr : ok r) :
    Safe defs c E R (Prog.lift (.store M r w Mk hx hm)) := by
  obtain ⟨P, B, h1, h2, h3⟩ := h
  unfold Safe Prog.lift
  refine h1.trans ?_
  iintro ⟨⟨%f, %hf, H⟩, HB⟩
  ihave Hw := (wp_store (defs := defs) Variants.none c none (Γ := .empty) E (Q := fun _ => R) (m := M) (r := r) (w := w)
    (Mk := Mk) (hx := hx) (hm := hm) (k := fun x => .ret x) (f := f) (S := Finset.univ) (Finset.subset_univ _)) $$ H
  iapply Hw
  iintro H
  rw [wp_ret]
  imodintro
  iapply h2
  isplitl [H]
  · iexists _; isplitr; · ipureintro; exact h3 f r w Mk hr hf
    iexact H
  iexact HB

theorem Stores.loads {sp : Space} {s : Shape} {e : EltTy} {M : Memref sig c.2.kind sp s e} {ok : Rect s → Prop}
    (h : Stores c R M ok) : Loads R (M.view.loc c) := by
  obtain ⟨P, B, h1, h2, -⟩ := h; exact ⟨P, B, h1, h2⟩

/-- A load anywhere in the buffer. -/
theorem Loads.load {cs : CoreSpace} {s : Shape} {e : EltTy} {M : Memref sig c.2.kind cs s e} {r : LoadRect s}
    {hl : M.view.LoadsAt r} (h : Loads R (M.view.loc c)) : Safe defs c E R (Prog.lift (.load M r hl)) := by
  obtain ⟨P, B, h1, h2⟩ := h
  unfold Safe Prog.lift
  refine h1.trans ?_
  iintro ⟨⟨%f, %hf, H⟩, HB⟩
  ihave Hw := (wp_load (defs := defs) Variants.none c none (Γ := .empty) E (Q := fun _ => R) (m := M) (r := r) (hl := hl)
    (k := fun x => .ret x) (q := fullShare) (f := f) (S := Finset.univ) (Finset.subset_univ _)) $$ H
  iapply Hw
  iintro H
  rw [wp_ret]
  imodintro
  iapply h2
  isplitl [H]
  · iexists _; isplitr; · ipureintro; exact hf
    iexact H
  iexact HB

theorem Loads.slice {sp : Space} {s : Shape} {e : EltTy} {M : Memref sig c.2.kind sp s e} {r : Rect s}
    {hr : ∀ a, r.stride a = 1} (h : Loads R (M.view.loc c)) : Loads R ((M.slice r hr).view.loc c) := h

theorem Loads.squeeze {sp : Space} {s s' : Shape} {e : EltTy} {M : Memref sig c.2.kind sp s e} {hs : s.Squeezes s'}
    (h : Loads R (M.view.loc c)) : Loads R ((M.squeeze s' hs).view.loc c) := h

/-- A load from a buffer held at `X` returns `X` on the rectangle. -/
theorem Has.load {cs : CoreSpace} {s : Shape} {e : EltTy} {M : Memref sig c.2.kind cs s e} {r : Rect s}
    {hl : M.view.LoadsAt r.toLoadRect} {X : s.Idx → Val e} (hM : M.IsWhole) (h : Has c R M X) :
    Runs defs c E R (Prog.lift (.load M r.toLoadRect hl)) (fun v => v = View.ld X r) R := by
  obtain ⟨q, B, h1, h2⟩ := h
  unfold Runs Prog.lift
  refine h1.trans ?_
  unfold owns at h2 ⊢
  iintro ⟨⟨%f, %hf, H⟩, HB⟩
  rw [hM.set_eq_univ]
  ihave Hw := (wp_load (defs := defs) Variants.none c none (Γ := .empty) E (Q := fun v => iprop(⌜v = View.ld X r⌝ ∗ R)) (m := M) (r := r.toLoadRect) (hl := hl)
    (k := fun x => .ret x) (q := q) (f := f) (S := Finset.univ) (Finset.subset_univ _)) $$ H
  iapply Hw
  iintro H
  rw [wp_ret]
  imodintro
  isplitr; · ipureintro; rw [← hf]; rfl
  iapply h2
  isplitl [H]
  · iexists f; isplitr; · ipureintro; exact hf
    rw [hM.set_eq_univ]
    iexact H
  iexact HB

variable {sp : Space} {s : Shape} {e : EltTy} {RR : ((s.Idx → Val e) → Prop) → sProp (MT nD τ sig Unit Val ℕ U ℕ)}

theorem points_cast {ℓ ℓ' : Loc nD τ sig} (h : ℓ' = ℓ) (f : Buf Val ℓ) :
    ((ℓ ↦{fullShare} f : sProp 𝕄) ⊢ (ℓ' ↦{fullShare} (cast (congrArg (Buf Val) h.symm) f) : sProp 𝕄)) ∧
    ((ℓ' ↦{fullShare} (cast (congrArg (Buf Val) h.symm) f) : sProp 𝕄) ⊢ (ℓ ↦{fullShare} f : sProp 𝕄)) := by
  subst h; exact ⟨.rfl, .rfl⟩

/-- A load, through any memref of the buffer of `M`, returns what it reads in some contents meeting `P`. -/
theorem Slot.load {M : Memref sig c.2.kind sp s e} (hM : M.IsWhole) (h : Slot c RR M) (P : (s.Idx → Val e) → Prop) {cs : CoreSpace} {s' : Shape} {e' : EltTy}
    {N : Memref sig c.2.kind cs s' e'} {r : LoadRect s'} {hl : N.view.LoadsAt r} (rd : (s.Idx → Val e) → (r.shape.Idx → Val e'))
    (hloc : N.view.loc c = M.view.loc c)
    (hrd : ∀ f : Buf Val (M.view.loc c), N.view.readAt Val r (cast (congrArg (Buf Val) hloc.symm) f) = rd (M.view.read Val f)) :
    Runs defs c E (RR P) (Prog.lift (.load N r hl)) (fun v => ∃ X, P X ∧ v = rd X) (RR P) := by
  obtain ⟨B, hB⟩ := h
  have h1 := (hB P).1; have h2 := (hB P).2
  unfold Runs Prog.lift
  refine h1.trans ?_
  unfold sat owns at h2 ⊢
  iintro ⟨⟨%X, %hX, %f, %hf, H⟩, HB⟩
  rw [hM.set_eq_univ]
  have hN := (points_cast (U := U) hloc f).1
  have hN' := (points_cast (U := U) hloc f).2
  ihave H := hN $$ H
  ihave Hw := (wp_load (defs := defs) Variants.none c none (Γ := .empty) E (Q := fun v => iprop(⌜∃ X, P X ∧ v = rd X⌝ ∗ RR P)) (m := N) (r := r) (hl := hl)
    (k := fun x => .ret x) (q := fullShare) (f := cast (congrArg (Buf Val) hloc.symm) f) (S := Finset.univ) (Finset.subset_univ _)) $$ H
  iapply Hw
  iintro H
  rw [wp_ret]
  imodintro
  isplitr; · ipureintro; exact ⟨X, hX, by rw [← hf]; exact hrd f⟩
  ihave H := hN' $$ H
  iapply h2
  isplitl [H]
  · iexists X; isplitr; · ipureintro; exact hX
    iexists f; isplitr; · ipureintro; exact hf
    rw [hM.set_eq_univ]
    iexact H
  iexact HB

/-- A whole store: contents meeting `P` become contents meeting `P'`. -/
theorem Slot.store {cs : CoreSpace} {RR : ((s.Idx → Val e) → Prop) → sProp (MT nD τ sig Unit Val ℕ U ℕ)} {M : Memref sig c.2.kind cs s e}
    (hM : M.IsWhole) (h : Slot c RR M) (P P' : (s.Idx → Val e) → Prop) {r : Rect s}
    {w : r.shape.Idx → Val e} {hx : (M.access r).Stores Finset.univ}
    {hm : Finset.univ = Finset.univ ∨ ∀ a, r.stride a = 1}
    (hP : ∀ X X' : s.Idx → Val e, P X → (∀ x, X' (r.emb x) = w x) → (∀ y, y ∉ r.set → X' y = X y) → P' X') :
    Runs defs c E (RR P) (Prog.lift (.store M r w Finset.univ hx hm)) (fun _ => True) (RR P') := by
  obtain ⟨B, hB⟩ := h
  have h1 := (hB P).1; have h2 := (hB P').2
  unfold Runs Prog.lift
  refine h1.trans ?_
  unfold sat owns at h2 ⊢
  iintro ⟨⟨%X, %hX, %f, %hf, H⟩, HB⟩
  rw [hM.set_eq_univ]
  ihave Hw := (wp_store (defs := defs) Variants.none c none (Γ := .empty) E (Q := fun _ => iprop(⌜True⌝ ∗ RR P')) (m := M) (r := r) (w := w)
    (Mk := Finset.univ) (hx := hx) (hm := hm) (k := fun x => .ret x) (f := f) (S := Finset.univ) (Finset.subset_univ _)) $$ H
  iapply Hw
  iintro H
  rw [wp_ret]
  imodintro
  isplitr; · ipureintro; trivial
  iapply h2
  isplitl [H]
  · iexists (M.view.read Val ((M.access r).write Val f w Finset.univ)); isplitr
    · ipureintro
      refine hP X _ hX (fun x => ?_) (fun y hy => ?_)
      · exact View.read_writes_cons_emb M.view f r w [] x
      · rw [← hf]; exact View.read_writes_cons_miss M.view f ⟨r, w⟩ [] y hy
    iexists _; isplitr; · ipureintro; rfl
    rw [hM.set_eq_univ]
    iexact H
  iexact HB

/-- The resource of a slot allows every store that keeps its predicate. -/
theorem Slot.stores {M : Memref sig c.2.kind sp s e} (hM : M.IsWhole) (h : Slot c RR M) (P : (s.Idx → Val e) → Prop) (ok : Rect s → Prop)
    (hP : ∀ (r : Rect s) (X X' : s.Idx → Val e), ok r → P X → (∀ y, y ∉ r.set → X' y = X y) → P X') : Stores c (RR P) M ok := by
  obtain ⟨B, hB⟩ := h
  have h1 := (hB P).1; have h2 := (hB P).2
  refine ⟨fun f => P (M.view.read Val f), B, h1.trans ?_, BIBase.Entails.trans ?_ h2, fun f r w Mk hr hf => ?_⟩
  · unfold sat owns
    iintro ⟨⟨%X, %hX, %f, %hf, H⟩, HB⟩
    rw [hM.set_eq_univ]
    isplitl [H]
    · iexists f; isplitr; · ipureintro; show P (M.view.read Val f); rw [hf]; exact hX
      iexact H
    iexact HB
  · unfold sat owns
    iintro ⟨⟨%f, %hf, H⟩, HB⟩
    isplitl [H]
    · iexists (M.view.read Val f); isplitr; · ipureintro; exact hf
      iexists f; isplitr; · ipureintro; rfl
      rw [hM.set_eq_univ]
      iexact H
    iexact HB
  · refine hP r _ _ hr hf fun y hy => ?_
    apply View.read_slice_write_of_not_mem
    intro hmem
    apply hy
    rw [← Rect.map_emb_univ]
    exact Finset.map_subset_map.2 (Finset.subset_univ _) hmem

theorem Slot.here (M : Memref sig c.2.kind sp s e) : Slot (sig := sig) (Val := Val) (U := U) c (fun P => sat c M P) M :=
  ⟨iprop(emp), fun P => ⟨by iintro H; isplitl [H]; · iexact H
                            exact .rfl, by iintro ⟨H, -⟩; iexact H⟩⟩

theorem Slot.left {C : sProp 𝕄} {M : Memref sig c.2.kind sp s e} (h : Slot c RR M) : Slot c (fun P => iprop(RR P ∗ C)) M := by
  obtain ⟨B, hB⟩ := h
  refine ⟨iprop(B ∗ C), fun P => ⟨(sep_mono_left (hB P).1).trans ?_, BIBase.Entails.trans ?_ (sep_mono_left (hB P).2)⟩⟩
  · iintro ⟨⟨H, HB⟩, HC⟩
    isplitl [H]; · iexact H
    isplitl [HB]; · iexact HB
    iexact HC
  · iintro ⟨H, HB, HC⟩
    isplitl [H HB]
    · isplitl [H]; · iexact H
      iexact HB
    iexact HC

theorem Slot.right {C : sProp 𝕄} {M : Memref sig c.2.kind sp s e} (h : Slot c RR M) : Slot c (fun P => iprop(C ∗ RR P)) M := by
  obtain ⟨B, hB⟩ := h
  refine ⟨iprop(B ∗ C), fun P => ⟨(sep_mono_right (hB P).1).trans ?_, BIBase.Entails.trans ?_ (sep_mono_right (hB P).2)⟩⟩
  · iintro ⟨HC, H, HB⟩
    isplitl [H]; · iexact H
    isplitl [HB]; · iexact HB
    iexact HC
  · iintro ⟨H, HB, HC⟩
    isplitl [HC]; · iexact HC
    isplitl [H]; · iexact H
    iexact HB

theorem Has.of_owns {M : Memref sig c.2.kind sp s e} {X : s.Idx → Val e} : Has (Val := Val) (U := U) c (owns c M fullShare X) M X :=
  ⟨fullShare, iprop(emp), by iintro H; isplitl [H]; · iexact H
                             exact .rfl, by iintro ⟨H, -⟩; iexact H⟩

variable {A C : sProp (MT nD τ sig Unit Val ℕ U ℕ)}

theorem Has.left {M : Memref sig c.2.kind sp s e} {X : s.Idx → Val e} (h : Has c A M X) : Has c iprop(A ∗ C) M X := by
  obtain ⟨q, B, h1, h2⟩ := h
  refine ⟨q, iprop(B ∗ C), (sep_mono_left h1).trans ?_, BIBase.Entails.trans ?_ (sep_mono_left h2)⟩
  · iintro ⟨⟨H, HB⟩, HC⟩
    isplitl [H]; · iexact H
    isplitl [HB]; · iexact HB
    iexact HC
  · iintro ⟨H, HB, HC⟩
    isplitl [H HB]
    · isplitl [H]; · iexact H
      iexact HB
    iexact HC

theorem Has.right {M : Memref sig c.2.kind sp s e} {X : s.Idx → Val e} (h : Has c A M X) : Has c iprop(C ∗ A) M X := by
  obtain ⟨q, B, h1, h2⟩ := h
  refine ⟨q, iprop(B ∗ C), (sep_mono_right h1).trans ?_, BIBase.Entails.trans ?_ (sep_mono_right h2)⟩
  · iintro ⟨HC, H, HB⟩
    isplitl [H]; · iexact H
    isplitl [HB]; · iexact HB
    iexact HC
  · iintro ⟨H, HB, HC⟩
    isplitl [HC]; · iexact HC
    isplitl [H]; · iexact H
    iexact HB

end Cert.Safe

end
-- ==== Proof.FrontSafeIdeal.lean ====
module

public import proofs.«01_k».proof.Proof.Gen.KernelIdeal.Frame
public import proofs.«01_k».proof.Proof.Gen.KernelIdeal.Skeleton
public import proofs.«01_k».proof.Proof.Runs

/-! The body of the middle call runs from any contents of its output and scratch buffers: each part of it only loads
from the buffers it is handed and stores into its own, so it is safe over any resource that holds them. -/

@[expose] public section

set_option maxRecDepth 65536

noncomputable section

namespace Cert.KernelIdeal.Mine

open Cert.KernelIdeal Cert.KernelIdeal.Gen Cert.Safe
open Idealize.ShloMosaic Idealize.ShloMosaic.TcCoe
open Idealize.SL Idealize.SL.RA Idealize.SL.BI
open scoped Idealize.SL.BI
open Idealize.SL.BI.BIBase Idealize.SL.BI.Laws Idealize.SL.Sem
open Idealize.ShloMosaic.Rounds

variable {F : FTy → Type} [FloatOps F] [Named F]

/-- The buffers a resource must hold for the body: a share of each input, each output and each scratch buffer
outright at whatever contents; six of the buffers only take the stores that spare a corner of them, or every store where
`free` holds. -/
structure Holds (c : Dev nD) (R : sProp (MT nD τ sig Unit (Elt F) ℕ (UR sig nD τ) ℕ)) (free : Prop)
    (arg2 : Memref sig .tc .vmem S1x256x1024 .f32)
    (arg3 : Memref sig .tc .vmem S1x1024 .f32)
    (arg4 : Memref sig .tc .vmem S1024x3712 .bf16)
    (arg5 : Memref sig .tc .vmem S640x1024 .bf16)
    (arg6 : Memref sig .tc .vmem S640x1 .f32)
    (arg7 : Memref sig .tc .vmem S4x1536 .f32)
    (arg8 : Memref sig .tc .vmem S1x1536 .f32)
    (arg9 : Memref sig .tc .vmem S128x1 .f32)
    (arg10 : Memref sig .tc .vmem S128x1 .f32)
    (arg11 : Memref sig .tc .vmem S1x1024 .f32)
    (arg12 : Memref sig .tc .vmem S1x1024 .f32)
    (arg13 : Memref sig .tc .vmem S8x1024 .f32)
    (arg14 : Memref sig .tc .vmem S1x256x1024 .bf16)
    (arg15 : Memref sig .tc .vmem S1x256x512 .bf16)
    (arg16 : Memref sig .tc .vmem S12x264x128 .f32)
    (arg17 : Memref sig .tc .vmem S2x128x512 .f32)
    (arg18 : Memref sig .tc .vmem S4x3x256x512 .f32)
    (arg19 : Memref sig .tc .vmem S3x8x768x256 .f32)
    (arg20 : Memref sig .tc .vmem S3x256x512 .bf16)
    (arg21 : Memref sig .tc .vmem S3x640x256 .bf16)
    (arg22 : Memref sig .tc .vmem S1x256x1024 .f32)
    (arg23 : Memref sig .tc .vmem S1x256x512 .bf16)
    (arg24 : Memref sig .tc .vmem S1x256x1024 .f32)
    (arg25 : Memref sig .tc .vmem S1x256x512 .bf16)
    (arg26 : Memref sig .tc .vmem S1x256x128 .f32)
    (arg27 : Memref sig .tc .vmem S1x256x128 .f32)
    (arg28 : Memref sig .tc .vmem S128x256 .f32) : Prop where
  r2 : Reads R (arg2.view.loc (c : Thread nD τ))
  r3 : Reads R (arg3.view.loc (c : Thread nD τ))
  r4 : Reads R (arg4.view.loc (c : Thread nD τ))
  r5 : Reads R (arg5.view.loc (c : Thread nD τ))
  r6 : Reads R (arg6.view.loc (c : Thread nD τ))
  r7 : Reads R (arg7.view.loc (c : Thread nD τ))
  r8 : Reads R (arg8.view.loc (c : Thread nD τ))
  r9 : Reads R (arg9.view.loc (c : Thread nD τ))
  r10 : Reads R (arg10.view.loc (c : Thread nD τ))
  r11 : Reads R (arg11.view.loc (c : Thread nD τ))
  r12 : Reads R (arg12.view.loc (c : Thread nD τ))
  r13 : Reads R (arg13.view.loc (c : Thread nD τ))
  w14 : Writes R (arg14.view.loc (c : Thread nD τ))
  w15 : Stores (c : Thread nD τ) R arg15 (fun r => free ∨ 128 ≤ r.off 2)
  w16 : Writes R (arg16.view.loc (c : Thread nD τ))
  w17 : Writes R (arg17.view.loc (c : Thread nD τ))
  w18 : Stores (c : Thread nD τ) R arg18 (fun r => free ∨ 1 ≤ r.off 0)
  w19 : Stores (c : Thread nD τ) R arg19 (fun r => free ∨ 1 ≤ r.off 0 ∨ 1 ≤ r.off 1)
  w20 : Stores (c : Thread nD τ) R arg20 (fun r => free)
  w21 : Stores (c : Thread nD τ) R arg21 (fun r => free)
  w22 : Writes R (arg22.view.loc (c : Thread nD τ))
  w23 : Writes R (arg23.view.loc (c : Thread nD τ))
  w24 : Writes R (arg24.view.loc (c : Thread nD τ))
  w25 : Stores (c : Thread nD τ) R arg25 (fun r => free)
  w26 : Writes R (arg26.view.loc (c : Thread nD τ))
  w27 : Writes R (arg27.view.loc (c : Thread nD τ))
  w28 : Writes R (arg28.view.loc (c : Thread nD τ))

variable (c : Dev nD) (E : Set ℕ) (R : sProp (MT nD τ sig Unit (Elt F) ℕ (UR sig nD τ) ℕ)) (free : Prop) (i : grid0.Coords)
  {arg2 : Memref sig .tc .vmem S1x256x1024 .f32} {harg2 : arg2.IsWhole}
  {arg3 : Memref sig .tc .vmem S1x1024 .f32} {harg3 : arg3.IsWhole}
  {arg4 : Memref sig .tc .vmem S1024x3712 .bf16} {harg4 : arg4.IsWhole}
  {arg5 : Memref sig .tc .vmem S640x1024 .bf16} {harg5 : arg5.IsWhole}
  {arg6 : Memref sig .tc .vmem S640x1 .f32} {harg6 : arg6.IsWhole}
  {arg7 : Memref sig .tc .vmem S4x1536 .f32} {harg7 : arg7.IsWhole}
  {arg8 : Memref sig .tc .vmem S1x1536 .f32} {harg8 : arg8.IsWhole}
  {arg9 : Memref sig .tc .vmem S128x1 .f32} {harg9 : arg9.IsWhole}
  {arg10 : Memref sig .tc .vmem S128x1 .f32} {harg10 : arg10.IsWhole}
  {arg11 : Memref sig .tc .vmem S1x1024 .f32} {harg11 : arg11.IsWhole}
  {arg12 : Memref sig .tc .vmem S1x1024 .f32} {harg12 : arg12.IsWhole}
  {arg13 : Memref sig .tc .vmem S8x1024 .f32} {harg13 : arg13.IsWhole}
  {arg14 : Memref sig .tc .vmem S1x256x1024 .bf16} {harg14 : arg14.IsWhole}
  {arg15 : Memref sig .tc .vmem S1x256x512 .bf16} {harg15 : arg15.IsWhole}
  {arg16 : Memref sig .tc .vmem S12x264x128 .f32} {harg16 : arg16.IsWhole}
  {arg17 : Memref sig .tc .vmem S2x128x512 .f32} {harg17 : arg17.IsWhole}
  {arg18 : Memref sig .tc .vmem S4x3x256x512 .f32} {harg18 : arg18.IsWhole}
  {arg19 : Memref sig .tc .vmem S3x8x768x256 .f32} {harg19 : arg19.IsWhole}
  {arg20 : Memref sig .tc .vmem S3x256x512 .bf16} {harg20 : arg20.IsWhole}
  {arg21 : Memref sig .tc .vmem S3x640x256 .bf16} {harg21 : arg21.IsWhole}
  {arg22 : Memref sig .tc .vmem S1x256x1024 .f32} {harg22 : arg22.IsWhole}
  {arg23 : Memref sig .tc .vmem S1x256x512 .bf16} {harg23 : arg23.IsWhole}
  {arg24 : Memref sig .tc .vmem S1x256x1024 .f32} {harg24 : arg24.IsWhole}
  {arg25 : Memref sig .tc .vmem S1x256x512 .bf16} {harg25 : arg25.IsWhole}
  {arg26 : Memref sig .tc .vmem S1x256x128 .f32} {harg26 : arg26.IsWhole}
  {arg27 : Memref sig .tc .vmem S1x256x128 .f32} {harg27 : arg27.IsWhole}
  {arg28 : Memref sig .tc .vmem S128x256 .f32} {harg28 : arg28.IsWhole}

variable (h : Holds c R free arg2 arg3 arg4 arg5 arg6 arg7 arg8 arg9 arg10 arg11 arg12 arg13 arg14 arg15 arg16 arg17 arg18 arg19 arg20 arg21 arg22 arg23 arg24 arg25 arg26 arg27 arg28)

include c E R free i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 h

/-- Part 10 of the body is safe. -/
theorem safe_part10 (hf : free) :
    Safe (defs₀ (F := F)) c E R (k0_part10 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28) := by
  rw [k0_part10_eq_skeleton]
  refine safe_ite (fun _ => ?_) (fun _ => ?_)
  · refine safe_bind h.w20.loads.load fun _ => ?_
    refine safe_bind ?_ fun _ => ?_
    · exact h.w20.store hf
    refine safe_bind h.w21.loads.load fun _ => ?_
    refine safe_bind ?_ fun _ => ?_
    · exact h.w21.store hf
    refine safe_ite (fun _ => ?_) (fun _ => ?_)
    · refine safe_bind h.w16.load fun _ => ?_
      refine safe_bind h.w16.store fun _ => ?_
      refine safe_ite (fun _ => ?_) (fun _ => ?_)
      · refine safe_bind h.w16.load fun _ => ?_
        refine safe_bind h.w16.load fun _ => ?_
        refine safe_bind h.w16.store fun _ => ?_
        exact safe_pure _
      · exact safe_pure _
    · refine safe_ite (fun _ => ?_) (fun _ => ?_)
      · refine safe_bind h.w16.load fun _ => ?_
        refine safe_bind h.w16.load fun _ => ?_
        refine safe_bind h.w16.store fun _ => ?_
        exact safe_pure _
      · exact safe_pure _
  · refine safe_ite (fun _ => ?_) (fun _ => ?_)
    · refine safe_bind h.w16.load fun _ => ?_
      refine safe_bind h.w16.store fun _ => ?_
      refine safe_ite (fun _ => ?_) (fun _ => ?_)
      · refine safe_bind h.w16.load fun _ => ?_
        refine safe_bind h.w16.load fun _ => ?_
        refine safe_bind h.w16.store fun _ => ?_
        exact safe_pure _
      · exact safe_pure _
    · refine safe_ite (fun _ => ?_) (fun _ => ?_)
      · refine safe_bind h.w16.load fun _ => ?_
        refine safe_bind h.w16.load fun _ => ?_
        refine safe_bind h.w16.store fun _ => ?_
        exact safe_pure _
      · exact safe_pure _

/-- Part 11 of the body is safe. -/
theorem safe_part11 :
    Safe (defs₀ (F := F)) c E R (k0_part11 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28) := by
  rw [k0_part11_eq_skeleton]
  refine safe_bind h.r2.load fun _ => ?_
  refine safe_bind h.r3.load fun _ => ?_
  refine safe_bind h.r4.load fun _ => ?_
  refine safe_bind h.w26.load fun _ => ?_
  refine safe_bind h.w26.store fun _ => ?_
  refine safe_bind h.w26.load fun _ => ?_
  refine safe_bind h.r9.load fun _ => ?_
  exact safe_pure _

/-- Part 12 of the body is safe. -/
theorem safe_part12 (v70 : FVec F S128x256 .f32) :
    Safe (defs₀ (F := F)) c E R (k0_part12 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v70) := by
  rw [k0_part12_eq_skeleton]
  refine safe_bind h.r10.load fun _ => ?_
  exact safe_pure _

/-- Part 13 of the body is safe. -/
theorem safe_part13 (v49 : FVec F S256x1024 .bf16) (v70 : FVec F S128x256 .f32) (v75 : IVec S128x256 32) (v111 : FVec F S128x256 .f32) :
    Safe (defs₀ (F := F)) c E R (k0_part13 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v49 v70 v75 v111) := by
  rw [k0_part13_eq_skeleton]
  refine safe_bind h.w28.load fun _ => ?_
  refine safe_bind h.w28.store fun _ => ?_
  refine safe_bind h.w26.load fun _ => ?_
  refine safe_bind h.w26.store fun _ => ?_
  refine safe_bind h.w27.load fun _ => ?_
  refine safe_bind h.w27.store fun _ => ?_
  refine safe_bind h.r4.load fun _ => ?_
  refine safe_bind h.w16.load fun _ => ?_
  refine safe_bind h.w16.store fun _ => ?_
  refine safe_bind h.w16.load fun _ => ?_
  exact safe_pure _

/-- Part 14 of the body is safe. -/
theorem safe_part14 (v137 : FVec F S256x1536 .f32) (v142 : FVec F S256x128 .f32) :
    Safe (defs₀ (F := F)) c E R (k0_part14 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v137 v142) := by
  rw [k0_part14_eq_skeleton]
  refine safe_bind h.w16.store fun _ => ?_
  refine safe_bind h.w16.load fun _ => ?_
  refine safe_bind h.w16.store fun _ => ?_
  refine safe_bind h.w16.load fun _ => ?_
  refine safe_bind h.w16.store fun _ => ?_
  refine safe_bind h.w16.load fun _ => ?_
  refine safe_bind h.w16.store fun _ => ?_
  refine safe_bind h.w16.load fun _ => ?_
  refine safe_bind h.w16.store fun _ => ?_
  refine safe_bind h.w16.load fun _ => ?_
  refine safe_bind h.w16.store fun _ => ?_
  refine safe_bind h.w16.load fun _ => ?_
  refine safe_bind h.w16.store fun _ => ?_
  refine safe_bind h.w16.load fun _ => ?_
  refine safe_bind h.w16.store fun _ => ?_
  exact safe_pure _

/-- Part 15 of the body is safe. -/
theorem safe_part15 (hf : free) (v27 : BitVec 32) (v49 : FVec F S256x1024 .bf16) (v137 : FVec F S256x1536 .f32) (v174 : FVec F S256x128 .f32) :
    Safe (defs₀ (F := F)) c E R (k0_part15 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v27 v49 v137 v174) := by
  rw [k0_part15_eq_skeleton]
  refine safe_bind h.w16.load fun _ => ?_
  refine safe_bind h.w16.store fun _ => ?_
  refine safe_bind h.w16.load fun _ => ?_
  refine safe_bind h.w16.store fun _ => ?_
  refine safe_bind h.w16.load fun _ => ?_
  refine safe_bind h.w16.store fun _ => ?_
  refine safe_bind h.r5.load fun _ => ?_
  refine safe_bind h.r6.load fun _ => ?_
  refine safe_bind h.w21.loads.load fun _ => ?_
  refine safe_bind ?_ fun _ => ?_
  · exact h.w21.store hf
  refine safe_bind h.r4.load fun _ => ?_
  refine safe_bind h.w24.load fun _ => ?_
  refine safe_bind h.w24.store fun _ => ?_
  refine safe_bind h.r4.load fun _ => ?_
  exact safe_pure _

/-- Part 16 of the body is safe. -/
theorem safe_part16 (hf : free) (v16 : BitVec 32) (v49 : FVec F S256x1024 .bf16) (v205 : FVec F S1024x512 .bf16) (cst_103 : FVec F S256x512 .f32) :
    Safe (defs₀ (F := F)) c E R (k0_part16 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v16 v49 v205 cst_103) := by
  rw [k0_part16_eq_skeleton]
  refine safe_bind h.w25.loads.load fun _ => ?_
  refine safe_bind ?_ fun _ => ?_
  · exact h.w25.store hf
  refine safe_bind h.r4.load fun _ => ?_
  refine safe_bind h.w20.loads.load fun _ => ?_
  refine safe_bind ?_ fun _ => ?_
  · exact h.w20.store hf
  refine safe_bind h.r8.load fun _ => ?_
  refine safe_bind h.w16.load fun _ => ?_
  refine safe_bind h.r7.load fun _ => ?_
  refine safe_bind h.w16.load fun _ => ?_
  refine safe_bind h.r7.load fun _ => ?_
  refine safe_bind h.w16.load fun _ => ?_
  refine safe_bind h.r7.load fun _ => ?_
  exact safe_pure _

/-- Part 17 of the body is safe. -/
theorem safe_part17 (v233 : FVec F S256x128 .f32) (v238 : FVec F S256x128 .f32) :
    Safe (defs₀ (F := F)) c E R (k0_part17 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v233 v238) := by
  rw [k0_part17_eq_skeleton]
  refine safe_bind h.w16.load fun _ => ?_
  refine safe_bind h.r7.load fun _ => ?_
  refine safe_bind h.w22.slice.squeeze.load fun _ => ?_
  refine safe_bind h.w22.slice.squeeze.store fun _ => ?_
  refine safe_bind h.r8.load fun _ => ?_
  refine safe_bind h.w16.load fun _ => ?_
  refine safe_bind h.r7.load fun _ => ?_
  refine safe_bind h.w16.load fun _ => ?_
  refine safe_bind h.r7.load fun _ => ?_
  exact safe_pure _

/-- Part 18 of the body is safe. -/
theorem safe_part18 (v267 : FVec F S256x128 .f32) (v272 : FVec F S256x128 .f32) :
    Safe (defs₀ (F := F)) c E R (k0_part18 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v267 v272) := by
  rw [k0_part18_eq_skeleton]
  refine safe_bind h.w16.load fun _ => ?_
  refine safe_bind h.r7.load fun _ => ?_
  refine safe_bind h.w16.load fun _ => ?_
  refine safe_bind h.r7.load fun _ => ?_
  refine safe_bind h.w22.slice.squeeze.load fun _ => ?_
  refine safe_bind h.w22.slice.squeeze.store fun _ => ?_
  refine safe_bind h.r8.load fun _ => ?_
  refine safe_bind h.w16.load fun _ => ?_
  refine safe_bind h.r7.load fun _ => ?_
  exact safe_pure _

/-- Part 19 of the body is safe. -/
theorem safe_part19 (v305 : FVec F S256x128 .f32) (v306 : FVec F S256x128 .f32) :
    Safe (defs₀ (F := F)) c E R (k0_part19 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v305 v306) := by
  rw [k0_part19_eq_skeleton]
  refine safe_bind h.w16.load fun _ => ?_
  refine safe_bind h.r7.load fun _ => ?_
  refine safe_bind h.w16.load fun _ => ?_
  refine safe_bind h.r7.load fun _ => ?_
  refine safe_bind h.w16.load fun _ => ?_
  refine safe_bind h.r7.load fun _ => ?_
  refine safe_bind h.w22.slice.squeeze.load fun _ => ?_
  refine safe_bind h.w22.slice.squeeze.store fun _ => ?_
  refine safe_bind h.r8.load fun _ => ?_
  exact safe_pure _

/-- Part 20 of the body is safe. -/
theorem safe_part20 (v340 : FVec F S1x128 .f32) :
    Safe (defs₀ (F := F)) c E R (k0_part20 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v340) := by
  rw [k0_part20_eq_skeleton]
  refine safe_bind h.w16.load fun _ => ?_
  refine safe_bind h.r7.load fun _ => ?_
  refine safe_bind h.w16.load fun _ => ?_
  refine safe_bind h.r7.load fun _ => ?_
  refine safe_bind h.w16.load fun _ => ?_
  refine safe_bind h.r7.load fun _ => ?_
  refine safe_bind h.w16.load fun _ => ?_
  refine safe_bind h.r7.load fun _ => ?_
  exact safe_pure _

/-- Part 21 of the body is safe. -/
theorem safe_part21 (v373 : FVec F S256x128 .f32) :
    Safe (defs₀ (F := F)) c E R (k0_part21 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v373) := by
  rw [k0_part21_eq_skeleton]
  refine safe_bind h.w22.slice.squeeze.load fun _ => ?_
  refine safe_bind h.w22.slice.squeeze.store fun _ => ?_
  refine safe_bind h.r8.load fun _ => ?_
  refine safe_bind h.w16.load fun _ => ?_
  refine safe_bind h.r7.load fun _ => ?_
  refine safe_bind h.w16.load fun _ => ?_
  refine safe_bind h.r7.load fun _ => ?_
  refine safe_bind h.w16.load fun _ => ?_
  refine safe_bind h.r7.load fun _ => ?_
  refine safe_bind h.w16.load fun _ => ?_
  refine safe_bind h.r7.load fun _ => ?_
  exact safe_pure _

/-- Part 22 of the body is safe. -/
theorem safe_part22 (v405 : FVec F S256x128 .f32) (v408 : FVec F S256x128 .f32) :
    Safe (defs₀ (F := F)) c E R (k0_part22 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v405 v408) := by
  rw [k0_part22_eq_skeleton]
  refine safe_bind h.w22.slice.squeeze.load fun _ => ?_
  refine safe_bind h.w22.slice.squeeze.store fun _ => ?_
  refine safe_bind h.r8.load fun _ => ?_
  refine safe_bind h.w16.load fun _ => ?_
  refine safe_bind h.r7.load fun _ => ?_
  refine safe_bind h.w16.load fun _ => ?_
  refine safe_bind h.r7.load fun _ => ?_
  refine safe_bind h.w16.load fun _ => ?_
  refine safe_bind h.r7.load fun _ => ?_
  refine safe_bind h.w16.load fun _ => ?_
  exact safe_pure _

/-- Part 23 of the body is safe. -/
theorem safe_part23 (v439 : FVec F S256x128 .f32) (v440 : Vec F S1x256x128 .f32) :
    Safe (defs₀ (F := F)) c E R (k0_part23 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v439 v440) := by
  rw [k0_part23_eq_skeleton]
  refine safe_bind h.r7.load fun _ => ?_
  refine safe_bind h.w22.slice.squeeze.load fun _ => ?_
  refine safe_bind h.w22.slice.squeeze.store fun _ => ?_
  refine safe_bind h.r8.load fun _ => ?_
  refine safe_bind h.w16.load fun _ => ?_
  refine safe_bind h.r7.load fun _ => ?_
  refine safe_bind h.w16.load fun _ => ?_
  refine safe_bind h.r7.load fun _ => ?_
  refine safe_bind h.w16.load fun _ => ?_
  exact safe_pure _

/-- Part 24 of the body is safe. -/
theorem safe_part24 (v473 : FVec F S256x128 .f32) (v474 : Vec F S1x256x128 .f32) :
    Safe (defs₀ (F := F)) c E R (k0_part24 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v473 v474) := by
  rw [k0_part24_eq_skeleton]
  refine safe_bind h.r7.load fun _ => ?_
  refine safe_bind h.w16.load fun _ => ?_
  refine safe_bind h.r7.load fun _ => ?_
  refine safe_bind h.w22.slice.squeeze.load fun _ => ?_
  refine safe_bind h.w22.slice.squeeze.store fun _ => ?_
  refine safe_bind h.r8.load fun _ => ?_
  refine safe_bind h.w16.load fun _ => ?_
  refine safe_bind h.r7.load fun _ => ?_
  refine safe_bind h.w16.load fun _ => ?_
  exact safe_pure _

/-- Part 25 of the body is safe. -/
theorem safe_part25 (v507 : FVec F S256x128 .f32) (v508 : Vec F S1x256x128 .f32) :
    Safe (defs₀ (F := F)) c E R (k0_part25 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v507 v508) := by
  rw [k0_part25_eq_skeleton]
  refine safe_bind h.r7.load fun _ => ?_
  refine safe_bind h.w16.load fun _ => ?_
  refine safe_bind h.r7.load fun _ => ?_
  refine safe_bind h.w16.load fun _ => ?_
  refine safe_bind h.r7.load fun _ => ?_
  refine safe_bind h.w22.slice.squeeze.load fun _ => ?_
  refine safe_bind h.w22.slice.squeeze.store fun _ => ?_
  refine safe_bind h.r8.load fun _ => ?_
  refine safe_bind h.w16.load fun _ => ?_
  exact safe_pure _

/-- Part 26 of the body is safe. -/
theorem safe_part26 (v540 : FVec F S1x128 .f32) (v542 : FVec F S256x128 .f32) :
    Safe (defs₀ (F := F)) c E R (k0_part26 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v540 v542) := by
  rw [k0_part26_eq_skeleton]
  refine safe_bind h.r7.load fun _ => ?_
  refine safe_bind h.w16.load fun _ => ?_
  refine safe_bind h.r7.load fun _ => ?_
  refine safe_bind h.w16.load fun _ => ?_
  refine safe_bind h.r7.load fun _ => ?_
  refine safe_bind h.w16.load fun _ => ?_
  refine safe_bind h.r7.load fun _ => ?_
  refine safe_bind h.w23.slice.squeeze.load fun _ => ?_
  exact safe_pure _

/-- Part 27 of the body is safe. -/
theorem safe_part27 (v574 : FVec F S256x128 .bf16) (v577 : Vec F S256x128 .bf16) :
    Safe (defs₀ (F := F)) c E R (k0_part27 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v574 v577) := by
  rw [k0_part27_eq_skeleton]
  refine safe_bind h.w23.store fun _ => ?_
  refine safe_bind h.r8.load fun _ => ?_
  refine safe_bind h.w16.load fun _ => ?_
  refine safe_bind h.r7.load fun _ => ?_
  refine safe_bind h.w16.load fun _ => ?_
  refine safe_bind h.r7.load fun _ => ?_
  refine safe_bind h.w16.load fun _ => ?_
  refine safe_bind h.r7.load fun _ => ?_
  refine safe_bind h.w16.load fun _ => ?_
  refine safe_bind h.r7.load fun _ => ?_
  exact safe_pure _

/-- Part 28 of the body is safe. -/
theorem safe_part28 (v606 : FVec F S256x128 .f32) (v611 : FVec F S256x128 .f32) :
    Safe (defs₀ (F := F)) c E R (k0_part28 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v606 v611) := by
  rw [k0_part28_eq_skeleton]
  refine safe_bind h.w23.slice.squeeze.load fun _ => ?_
  refine safe_bind h.w23.store fun _ => ?_
  refine safe_bind h.r8.load fun _ => ?_
  refine safe_bind h.w16.load fun _ => ?_
  refine safe_bind h.r7.load fun _ => ?_
  refine safe_bind h.w16.load fun _ => ?_
  refine safe_bind h.r7.load fun _ => ?_
  refine safe_bind h.w16.load fun _ => ?_
  refine safe_bind h.r7.load fun _ => ?_
  refine safe_bind h.w16.load fun _ => ?_
  exact safe_pure _

/-- Part 29 of the body is safe. -/
theorem safe_part29 (v641 : FVec F S256x128 .f32) (v643 : FVec F S256x128 .f32) :
    Safe (defs₀ (F := F)) c E R (k0_part29 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v641 v643) := by
  rw [k0_part29_eq_skeleton]
  refine safe_bind h.r7.load fun _ => ?_
  refine safe_bind h.w23.slice.squeeze.load fun _ => ?_
  refine safe_bind h.w23.store fun _ => ?_
  refine safe_bind h.r8.load fun _ => ?_
  refine safe_bind h.w16.load fun _ => ?_
  refine safe_bind h.r7.load fun _ => ?_
  refine safe_bind h.w16.load fun _ => ?_
  refine safe_bind h.r7.load fun _ => ?_
  exact safe_pure _

/-- Part 30 of the body is safe. -/
theorem safe_part30 (arg1 : BitVec 32) (v676 : FVec F S256x128 .f32) :
    Safe (defs₀ (F := F)) c E R (k0_part30 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg1 v676) := by
  rw [k0_part30_eq_skeleton]
  refine safe_bind h.w16.load fun _ => ?_
  refine safe_bind h.r7.load fun _ => ?_
  refine safe_bind h.w16.load fun _ => ?_
  refine safe_bind h.r7.load fun _ => ?_
  refine safe_bind h.w23.slice.squeeze.load fun _ => ?_
  refine safe_bind h.w23.store fun _ => ?_
  exact safe_pure _

/-- Part 31 of the body is safe. -/
theorem safe_part31 (arg1 : BitVec 32) (v706 : BitVec 32) (v711 : BitVec 1) (v712 : BitVec 32) :
    Safe (defs₀ (F := F)) c E R (k0_part31 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg1 v706 v711 v712) := by
  rw [k0_part31_eq_skeleton]
  exact safe_pure _

/-- Part 1 of the body is safe. -/
theorem safe_part1 :
    Safe (defs₀ (F := F)) c E R (k0_part1 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28) := by
  rw [k0_part1_eq_skeleton]
  exact safe_pure _

/-- Part 2 of the body is safe. -/
theorem safe_part2 (hf : free) (v2851 : IVec S768x256 32) (v2878 : IVec S768x256 32) (v2880 : IVec S768x256 32) (v2894 : IVec S768x256 1) (v2896 : IVec S768x256 32) (c0_i32_1260 : BitVec 32) :
    Safe (defs₀ (F := F)) c E R (k0_part2 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v2851 v2878 v2880 v2894 v2896 c0_i32_1260) := by
  rw [k0_part2_eq_skeleton]
  refine safe_bind h.r13.load fun _ => ?_
  refine safe_bind h.w19.loads.load fun _ => ?_
  refine safe_bind ?_ fun _ => ?_
  · exact h.w19.store (.inl hf)
  refine safe_bind h.w19.loads.load fun _ => ?_
  refine safe_bind ?_ fun _ => ?_
  · exact h.w19.store (.inr (.inl (show (1 : ℕ) ≤ 1 by decide)))
  exact safe_pure _

/-- Part 3 of the body is safe. -/
theorem safe_part3 (v2851 : IVec S768x256 32) (v2903 : IVec S768x256 32) (v2917 : FVec F S768x256 .f32) (v2933 : IVec S768x256 1) :
    Safe (defs₀ (F := F)) c E R (k0_part3 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v2851 v2903 v2917 v2933) := by
  rw [k0_part3_eq_skeleton]
  refine safe_bind h.w19.loads.load fun _ => ?_
  refine safe_bind ?_ fun _ => ?_
  · exact h.w19.store (.inr (.inl (show (1 : ℕ) ≤ 2 by decide)))
  refine safe_bind h.r13.load fun _ => ?_
  refine safe_bind h.w19.loads.load fun _ => ?_
  refine safe_bind ?_ fun _ => ?_
  · exact h.w19.store (.inr (.inr (show (1 : ℕ) ≤ 1 by decide)))
  refine safe_bind h.w19.loads.load fun _ => ?_
  refine safe_bind ?_ fun _ => ?_
  · exact h.w19.store (.inr (.inl (show (1 : ℕ) ≤ 1 by decide)))
  exact safe_pure _

/-- Part 4 of the body is safe. -/
theorem safe_part4 (v2851 : IVec S768x256 32) (v2903 : IVec S768x256 32) (v2952 : FVec F S768x256 .f32) :
    Safe (defs₀ (F := F)) c E R (k0_part4 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v2851 v2903 v2952) := by
  rw [k0_part4_eq_skeleton]
  refine safe_bind h.w19.loads.load fun _ => ?_
  refine safe_bind ?_ fun _ => ?_
  · exact h.w19.store (.inr (.inl (show (1 : ℕ) ≤ 2 by decide)))
  refine safe_bind h.r13.load fun _ => ?_
  refine safe_bind h.w19.loads.load fun _ => ?_
  refine safe_bind ?_ fun _ => ?_
  · exact h.w19.store (.inr (.inr (show (1 : ℕ) ≤ 2 by decide)))
  refine safe_bind h.w19.loads.load fun _ => ?_
  exact safe_pure _

/-- Part 5 of the body is safe. -/
theorem safe_part5 (v2851 : IVec S768x256 32) (v2903 : IVec S768x256 32) (v2987 : FVec F S768x256 .f32) (v2998 : FVec F S768x256 .f32) (v2999 : Vec F S1x1x768x256 .f32) :
    Safe (defs₀ (F := F)) c E R (k0_part5 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v2851 v2903 v2987 v2998 v2999) := by
  rw [k0_part5_eq_skeleton]
  refine safe_bind ?_ fun _ => ?_
  · exact h.w19.store (.inr (.inl (show (1 : ℕ) ≤ 1 by decide)))
  refine safe_bind h.w19.loads.load fun _ => ?_
  refine safe_bind ?_ fun _ => ?_
  · exact h.w19.store (.inr (.inl (show (1 : ℕ) ≤ 2 by decide)))
  refine safe_bind h.r13.load fun _ => ?_
  refine safe_bind h.w19.loads.load fun _ => ?_
  refine safe_bind ?_ fun _ => ?_
  · exact h.w19.store (.inr (.inr (show (1 : ℕ) ≤ 3 by decide)))
  exact safe_pure _

/-- Part 6 of the body is safe. -/
theorem safe_part6 (v2851 : IVec S768x256 32) (v2903 : IVec S768x256 32) (v3022 : FVec F S768x256 .f32) (v3033 : FVec F S768x256 .f32) :
    Safe (defs₀ (F := F)) c E R (k0_part6 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v2851 v2903 v3022 v3033) := by
  rw [k0_part6_eq_skeleton]
  refine safe_bind h.w19.loads.load fun _ => ?_
  refine safe_bind ?_ fun _ => ?_
  · exact h.w19.store (.inr (.inl (show (1 : ℕ) ≤ 1 by decide)))
  refine safe_bind h.w19.loads.load fun _ => ?_
  refine safe_bind ?_ fun _ => ?_
  · exact h.w19.store (.inr (.inl (show (1 : ℕ) ≤ 2 by decide)))
  refine safe_bind h.r13.load fun _ => ?_
  refine safe_bind h.w19.loads.load fun _ => ?_
  refine safe_bind ?_ fun _ => ?_
  · exact h.w19.store (.inr (.inr (show (1 : ℕ) ≤ 4 by decide)))
  exact safe_pure _

/-- Part 7 of the body is safe. -/
theorem safe_part7 (v2851 : IVec S768x256 32) (v2903 : IVec S768x256 32) (v3057 : FVec F S768x256 .f32) (v3066 : IVec S768x256 1) (v3067 : FVec F S768x256 .f32) :
    Safe (defs₀ (F := F)) c E R (k0_part7 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v2851 v2903 v3057 v3066 v3067) := by
  rw [k0_part7_eq_skeleton]
  refine safe_bind h.w19.loads.load fun _ => ?_
  refine safe_bind ?_ fun _ => ?_
  · exact h.w19.store (.inr (.inl (show (1 : ℕ) ≤ 1 by decide)))
  refine safe_bind h.w19.loads.load fun _ => ?_
  refine safe_bind ?_ fun _ => ?_
  · exact h.w19.store (.inr (.inl (show (1 : ℕ) ≤ 2 by decide)))
  refine safe_bind h.r13.load fun _ => ?_
  refine safe_bind h.w19.loads.load fun _ => ?_
  refine safe_bind ?_ fun _ => ?_
  · exact h.w19.store (.inr (.inr (show (1 : ℕ) ≤ 5 by decide)))
  exact safe_pure _

/-- Part 8 of the body is safe. -/
theorem safe_part8 (v2851 : IVec S768x256 32) (v2903 : IVec S768x256 32) (v3092 : FVec F S768x256 .f32) (v3100 : IVec S768x256 32) :
    Safe (defs₀ (F := F)) c E R (k0_part8 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v2851 v2903 v3092 v3100) := by
  rw [k0_part8_eq_skeleton]
  refine safe_bind h.w19.loads.load fun _ => ?_
  refine safe_bind ?_ fun _ => ?_
  · exact h.w19.store (.inr (.inl (show (1 : ℕ) ≤ 1 by decide)))
  refine safe_bind h.w19.loads.load fun _ => ?_
  refine safe_bind ?_ fun _ => ?_
  · exact h.w19.store (.inr (.inl (show (1 : ℕ) ≤ 2 by decide)))
  refine safe_bind h.r13.load fun _ => ?_
  refine safe_bind h.w19.loads.load fun _ => ?_
  exact safe_pure _

/-- Part 9 of the body is safe. -/
theorem safe_part9 (v2851 : IVec S768x256 32) (v2903 : IVec S768x256 32) (v3127 : FVec F S768x256 .f32) (v3134 : FVec F S1x1x768x256 .f32) :
    Safe (defs₀ (F := F)) c E R (k0_part9 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v2851 v2903 v3127 v3134) := by
  rw [k0_part9_eq_skeleton]
  refine safe_bind ?_ fun _ => ?_
  · exact h.w19.store (.inr (.inr (show (1 : ℕ) ≤ 6 by decide)))
  refine safe_bind h.w19.loads.load fun _ => ?_
  refine safe_bind ?_ fun _ => ?_
  · exact h.w19.store (.inr (.inl (show (1 : ℕ) ≤ 1 by decide)))
  refine safe_bind h.w19.loads.load fun _ => ?_
  refine safe_bind ?_ fun _ => ?_
  · exact h.w19.store (.inr (.inl (show (1 : ℕ) ≤ 2 by decide)))
  refine safe_bind h.r13.load fun _ => ?_
  exact safe_pure _

/-- Part 32 of the body is safe. -/
theorem safe_part32 (hf : free) (arg0 : BitVec 32) (arg1 : BitVec 32) (v747 : BitVec 32) (c3_i32_489 : BitVec 32) (v748 : BitVec 1) :
    Safe (defs₀ (F := F)) c E R (k0_part32 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg0 arg1 v747 c3_i32_489 v748) := by
  rw [k0_part32_eq_skeleton]
  refine safe_ite (fun _ => ?_) (fun _ => ?_)
  · refine safe_bind (safe_part1 c E R free i h) ?_
    rintro ⟨_, _, _, _, _, _⟩
    refine safe_bind (safe_part2 c E R free i h hf _ _ _ _ _ _) ?_
    rintro ⟨_, _, _⟩
    refine safe_bind ?_ fun _ => ?_
    · exact safe_part3 c E R free i h _ _ _ _
    refine safe_bind (safe_part4 c E R free i h _ _ _) ?_
    rintro ⟨_, _, _⟩
    refine safe_bind (safe_part5 c E R free i h _ _ _ _ _) ?_
    rintro ⟨_, _⟩
    refine safe_bind (safe_part6 c E R free i h _ _ _ _) ?_
    rintro ⟨_, _, _⟩
    refine safe_bind (safe_part7 c E R free i h _ _ _ _ _) ?_
    rintro ⟨_, _⟩
    refine safe_bind (safe_part8 c E R free i h _ _ _ _) ?_
    rintro ⟨_, _⟩
    refine safe_bind (safe_part9 c E R free i h _ _ _ _) ?_
    rintro ⟨_, _⟩
    refine safe_bind h.w19.loads.load fun _ => ?_
    refine safe_bind ?_ fun _ => ?_
    · exact h.w19.store (.inr (.inr (show (1 : ℕ) ≤ 7 by decide)))
    refine safe_bind h.w19.loads.load fun _ => ?_
    refine safe_bind ?_ fun _ => ?_
    · exact h.w19.store (.inr (.inl (show (1 : ℕ) ≤ 1 by decide)))
    refine safe_bind h.w19.loads.load fun _ => ?_
    refine safe_bind ?_ fun _ => ?_
    · exact h.w19.store (.inr (.inl (show (1 : ℕ) ≤ 2 by decide)))
    refine safe_bind h.w25.loads.load fun _ => ?_
    exact safe_pure _
  · refine safe_bind h.w25.loads.load fun _ => ?_
    exact safe_pure _

/-- Part 33 of the body is safe. -/
theorem safe_part33 (hf : free) (v777 : IVec S256x128 1) (v783 : FVec F S512x128 .bf16) :
    Safe (defs₀ (F := F)) c E R (k0_part33 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v777 v783) := by
  rw [k0_part33_eq_skeleton]
  refine safe_bind h.w20.loads.slice.load fun _ => ?_
  refine safe_bind h.w18.loads.load fun _ => ?_
  refine safe_bind ?_ fun _ => ?_
  · exact h.w18.store (.inl hf)
  refine safe_bind h.w20.loads.slice.load fun _ => ?_
  refine safe_bind h.w18.loads.load fun _ => ?_
  refine safe_bind ?_ fun _ => ?_
  · exact h.w18.store (.inl hf)
  refine safe_bind h.w20.loads.slice.load fun _ => ?_
  refine safe_bind h.w18.loads.load fun _ => ?_
  refine safe_bind ?_ fun _ => ?_
  · exact h.w18.store (.inl hf)
  refine safe_bind h.w25.loads.load fun _ => ?_
  exact safe_pure _

/-- Part 34 of the body is safe. -/
theorem safe_part34 (v810 : FVec F S512x128 .bf16) :
    Safe (defs₀ (F := F)) c E R (k0_part34 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v810) := by
  rw [k0_part34_eq_skeleton]
  refine safe_bind h.w20.loads.slice.load fun _ => ?_
  refine safe_bind h.w18.loads.load fun _ => ?_
  refine safe_bind ?_ fun _ => ?_
  · exact h.w18.store (.inr (show (1 : ℕ) ≤ 1 by decide))
  refine safe_bind h.w20.loads.slice.load fun _ => ?_
  refine safe_bind h.w18.loads.load fun _ => ?_
  refine safe_bind ?_ fun _ => ?_
  · exact h.w18.store (.inr (show (1 : ℕ) ≤ 1 by decide))
  refine safe_bind h.w20.loads.slice.load fun _ => ?_
  refine safe_bind h.w18.loads.load fun _ => ?_
  refine safe_bind ?_ fun _ => ?_
  · exact h.w18.store (.inr (show (1 : ℕ) ≤ 1 by decide))
  refine safe_bind h.w25.loads.load fun _ => ?_
  exact safe_pure _

/-- Part 35 of the body is safe. -/
theorem safe_part35 (v777 : IVec S256x128 1) (v833 : FVec F S256x128 .bf16) (cst_578 : F .bf16) :
    Safe (defs₀ (F := F)) c E R (k0_part35 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v777 v833 cst_578) := by
  rw [k0_part35_eq_skeleton]
  refine safe_bind h.w20.loads.slice.load fun _ => ?_
  refine safe_bind h.w18.loads.load fun _ => ?_
  refine safe_bind ?_ fun _ => ?_
  · exact h.w18.store (.inr (show (1 : ℕ) ≤ 2 by decide))
  refine safe_bind h.w20.loads.slice.load fun _ => ?_
  refine safe_bind h.w18.loads.load fun _ => ?_
  refine safe_bind ?_ fun _ => ?_
  · exact h.w18.store (.inr (show (1 : ℕ) ≤ 2 by decide))
  refine safe_bind h.w20.loads.slice.load fun _ => ?_
  refine safe_bind h.w18.loads.load fun _ => ?_
  refine safe_bind ?_ fun _ => ?_
  · exact h.w18.store (.inr (show (1 : ℕ) ≤ 2 by decide))
  exact safe_pure _

/-- Part 36 of the body is safe. -/
theorem safe_part36 (v777 : IVec S256x128 1) :
    Safe (defs₀ (F := F)) c E R (k0_part36 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v777) := by
  rw [k0_part36_eq_skeleton]
  refine safe_bind h.w25.loads.load fun _ => ?_
  refine safe_bind h.w20.loads.slice.load fun _ => ?_
  refine safe_bind h.w18.loads.load fun _ => ?_
  refine safe_bind ?_ fun _ => ?_
  · exact h.w18.store (.inr (show (1 : ℕ) ≤ 3 by decide))
  refine safe_bind h.w20.loads.slice.load fun _ => ?_
  refine safe_bind h.w18.loads.load fun _ => ?_
  refine safe_bind ?_ fun _ => ?_
  · exact h.w18.store (.inr (show (1 : ℕ) ≤ 3 by decide))
  refine safe_bind h.w20.loads.slice.load fun _ => ?_
  refine safe_bind h.w18.loads.load fun _ => ?_
  exact safe_pure _

/-- Part 37 of the body is safe. -/
theorem safe_part37 (v774 : BitVec 32) (v882 : FVec F S256x512 .f32) :
    Safe (defs₀ (F := F)) c E R (k0_part37 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v774 v882) := by
  rw [k0_part37_eq_skeleton]
  refine safe_bind ?_ fun _ => ?_
  · exact h.w18.store (.inr (show (1 : ℕ) ≤ 3 by decide))
  refine safe_bind h.w18.loads.load fun _ => ?_
  refine safe_bind h.w19.loads.load fun _ => ?_
  refine safe_bind h.w18.loads.load fun _ => ?_
  refine safe_bind h.w19.loads.load fun _ => ?_
  refine safe_bind h.w21.loads.slice.squeeze.load fun _ => ?_
  exact safe_pure _

/-- Part 38 of the body is safe. -/
theorem safe_part38 (v774 : BitVec 32) (v904 : FVec F S1x256 .f32) (v920 : FVec F S80x256 .f32) :
    Safe (defs₀ (F := F)) c E R (k0_part38 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v774 v904 v920) := by
  rw [k0_part38_eq_skeleton]
  refine safe_bind h.w18.loads.load fun _ => ?_
  refine safe_bind h.w19.loads.load fun _ => ?_
  refine safe_bind h.w21.loads.slice.squeeze.load fun _ => ?_
  refine safe_bind h.w18.loads.load fun _ => ?_
  refine safe_bind h.w19.loads.load fun _ => ?_
  refine safe_bind h.w18.loads.load fun _ => ?_
  refine safe_bind h.w19.loads.load fun _ => ?_
  exact safe_pure _

/-- Part 39 of the body is safe. -/
theorem safe_part39 (v774 : BitVec 32) (v929 : FVec F S1x256 .f32) (v942 : FVec F S80x256 .f32) (v948 : FVec F S128x256 .f32) (v950 : FVec F S128x128 .f32) (v953 : FVec F S128x128 .f32) :
    Safe (defs₀ (F := F)) c E R (k0_part39 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v774 v929 v942 v948 v950 v953) := by
  rw [k0_part39_eq_skeleton]
  refine safe_bind h.w21.loads.slice.squeeze.load fun _ => ?_
  refine safe_bind h.w18.loads.load fun _ => ?_
  refine safe_bind h.w19.loads.load fun _ => ?_
  exact safe_pure _

/-- Part 40 of the body is safe. -/
theorem safe_part40 (v774 : BitVec 32) (v993 : FVec F S128x256 .f32) :
    Safe (defs₀ (F := F)) c E R (k0_part40 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v774 v993) := by
  rw [k0_part40_eq_skeleton]
  refine safe_bind h.w18.loads.load fun _ => ?_
  refine safe_bind h.w19.loads.load fun _ => ?_
  refine safe_bind h.w21.loads.slice.squeeze.load fun _ => ?_
  refine safe_bind h.w18.loads.load fun _ => ?_
  refine safe_bind h.w19.loads.load fun _ => ?_
  exact safe_pure _

/-- Part 41 of the body is safe. -/
theorem safe_part41 (v774 : BitVec 32) (v1006 : FVec F S1x256 .f32) (v1022 : FVec F S80x256 .f32) (v1031 : FVec F S1x256 .f32) (v1033 : FVec F S256x256 .f32) :
    Safe (defs₀ (F := F)) c E R (k0_part41 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v774 v1006 v1022 v1031 v1033) := by
  rw [k0_part41_eq_skeleton]
  refine safe_bind h.w21.loads.slice.squeeze.load fun _ => ?_
  refine safe_bind h.w18.loads.load fun _ => ?_
  refine safe_bind h.w19.loads.load fun _ => ?_
  refine safe_bind h.w18.loads.load fun _ => ?_
  refine safe_bind h.w19.loads.load fun _ => ?_
  exact safe_pure _

/-- Part 42 of the body is safe. -/
theorem safe_part42 (hf : free) (v774 : BitVec 32) (v987 : FVec F S64x256 .f32) (v1031 : FVec F S1x256 .f32) (v1044 : FVec F S80x256 .f32) (v1064 : FVec F S1x256 .f32) (v1068 : FVec F S128x256 .bf16) (v1071 : FVec F S128x128 .f32) :
    Safe (defs₀ (F := F)) c E R (k0_part42 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v774 v987 v1031 v1044 v1064 v1068 v1071) := by
  rw [k0_part42_eq_skeleton]
  refine safe_bind h.w21.loads.slice.squeeze.load fun _ => ?_
  refine safe_bind h.w15.loads.load fun _ => ?_
  refine safe_bind ?_ fun _ => ?_
  · exact h.w15.store (.inl hf)
  refine safe_bind h.w18.loads.load fun _ => ?_
  refine safe_bind h.w19.loads.load fun _ => ?_
  refine safe_bind h.w18.loads.load fun _ => ?_
  refine safe_bind h.w19.loads.load fun _ => ?_
  exact safe_pure _

/-- Part 43 of the body is safe. -/
theorem safe_part43 (v774 : BitVec 32) (v1101 : FVec F S128x256 .f32) (v1107 : FVec F S128x128 .f32) :
    Safe (defs₀ (F := F)) c E R (k0_part43 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v774 v1101 v1107) := by
  rw [k0_part43_eq_skeleton]
  refine safe_bind h.w21.loads.slice.squeeze.load fun _ => ?_
  refine safe_bind h.w18.loads.load fun _ => ?_
  refine safe_bind h.w19.loads.load fun _ => ?_
  refine safe_bind h.w21.loads.slice.squeeze.load fun _ => ?_
  exact safe_pure _

/-- Part 44 of the body is safe. -/
theorem safe_part44 (v774 : BitVec 32) (v1114 : FVec F S1x256 .f32) (v1130 : FVec F S80x256 .f32) (v1139 : FVec F S1x256 .f32) (v1143 : FVec F S256x256 .bf16) (v1146 : Vec F S80x256 .bf16) :
    Safe (defs₀ (F := F)) c E R (k0_part44 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v774 v1114 v1130 v1139 v1143 v1146) := by
  rw [k0_part44_eq_skeleton]
  refine safe_bind h.w18.loads.load fun _ => ?_
  refine safe_bind h.w19.loads.load fun _ => ?_
  refine safe_bind h.w18.loads.load fun _ => ?_
  refine safe_bind h.w19.loads.load fun _ => ?_
  exact safe_pure _

/-- Part 45 of the body is safe. -/
theorem safe_part45 (v774 : BitVec 32) (v1139 : FVec F S1x256 .f32) (v1152 : FVec F S80x256 .f32) (v1172 : FVec F S1x256 .f32) (v1184 : FVec F S256x256 .bf16) :
    Safe (defs₀ (F := F)) c E R (k0_part45 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v774 v1139 v1152 v1172 v1184) := by
  rw [k0_part45_eq_skeleton]
  refine safe_bind h.w21.loads.slice.squeeze.load fun _ => ?_
  refine safe_bind h.w18.loads.load fun _ => ?_
  refine safe_bind h.w19.loads.load fun _ => ?_
  refine safe_bind h.w18.loads.load fun _ => ?_
  refine safe_bind h.w19.loads.load fun _ => ?_
  exact safe_pure _

/-- Part 46 of the body is safe. -/
theorem safe_part46 (v774 : BitVec 32) (v1216 : FVec F S1x256 .f32) (v1220 : FVec F S128x256 .bf16) (v1225 : FVec F S128x128 .bf16) :
    Safe (defs₀ (F := F)) c E R (k0_part46 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v774 v1216 v1220 v1225) := by
  rw [k0_part46_eq_skeleton]
  refine safe_bind h.w21.loads.slice.squeeze.load fun _ => ?_
  refine safe_bind h.w18.loads.load fun _ => ?_
  refine safe_bind h.w19.loads.load fun _ => ?_
  refine safe_bind h.w21.loads.slice.squeeze.load fun _ => ?_
  refine safe_bind h.w18.loads.load fun _ => ?_
  refine safe_bind h.w19.loads.load fun _ => ?_
  exact safe_pure _

/-- Part 47 of the body is safe. -/
theorem safe_part47 (v774 : BitVec 32) (v1197 : FVec F S64x256 .f32) (v1241 : FVec F S1x256 .f32) (v1254 : FVec F S80x256 .f32) (v1256 : FVec F S128x256 .f32) (v1259 : FVec F S128x256 .f32) :
    Safe (defs₀ (F := F)) c E R (k0_part47 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v774 v1197 v1241 v1254 v1256 v1259) := by
  rw [k0_part47_eq_skeleton]
  refine safe_bind h.w18.loads.load fun _ => ?_
  refine safe_bind h.w19.loads.load fun _ => ?_
  refine safe_bind h.w21.loads.slice.squeeze.load fun _ => ?_
  exact safe_pure _

/-- Part 48 of the body is safe. -/
theorem safe_part48 (v774 : BitVec 32) (v1302 : FVec F S256x128 .bf16) :
    Safe (defs₀ (F := F)) c E R (k0_part48 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v774 v1302) := by
  rw [k0_part48_eq_skeleton]
  refine safe_bind h.w15.loads.load fun _ => ?_
  refine safe_bind ?_ fun _ => ?_
  · exact h.w15.store (.inr (show (128 : ℕ) ≤ 128 by decide))
  refine safe_bind h.w18.loads.load fun _ => ?_
  refine safe_bind h.w19.loads.load fun _ => ?_
  refine safe_bind h.w18.loads.load fun _ => ?_
  refine safe_bind h.w19.loads.load fun _ => ?_
  exact safe_pure _

/-- Part 49 of the body is safe. -/
theorem safe_part49 (v774 : BitVec 32) (v1324 : FVec F S1x256 .f32) (v1336 : FVec F S256x256 .bf16) :
    Safe (defs₀ (F := F)) c E R (k0_part49 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v774 v1324 v1336) := by
  rw [k0_part49_eq_skeleton]
  refine safe_bind h.w21.loads.slice.squeeze.load fun _ => ?_
  refine safe_bind h.w18.loads.load fun _ => ?_
  refine safe_bind h.w19.loads.load fun _ => ?_
  refine safe_bind h.w21.loads.slice.squeeze.load fun _ => ?_
  refine safe_bind h.w18.loads.load fun _ => ?_
  refine safe_bind h.w19.loads.load fun _ => ?_
  refine safe_bind h.w18.loads.load fun _ => ?_
  exact safe_pure _

/-- Part 50 of the body is safe. -/
theorem safe_part50 (v774 : BitVec 32) (v1349 : FVec F S1x256 .f32) (v1362 : FVec F S80x256 .f32) (v1368 : FVec F S128x256 .f32) (v1370 : FVec F S128x128 .f32) :
    Safe (defs₀ (F := F)) c E R (k0_part50 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v774 v1349 v1362 v1368 v1370) := by
  rw [k0_part50_eq_skeleton]
  refine safe_bind h.w19.loads.load fun _ => ?_
  refine safe_bind h.w21.loads.slice.squeeze.load fun _ => ?_
  refine safe_bind h.w18.loads.load fun _ => ?_
  refine safe_bind h.w19.loads.load fun _ => ?_
  exact safe_pure _

/-- Part 51 of the body is safe. -/
theorem safe_part51 (v774 : BitVec 32) (v1413 : FVec F S128x256 .f32) :
    Safe (defs₀ (F := F)) c E R (k0_part51 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v774 v1413) := by
  rw [k0_part51_eq_skeleton]
  refine safe_bind h.w18.loads.load fun _ => ?_
  refine safe_bind h.w19.loads.load fun _ => ?_
  refine safe_bind h.w21.loads.slice.squeeze.load fun _ => ?_
  refine safe_bind h.w18.loads.load fun _ => ?_
  refine safe_bind h.w19.loads.load fun _ => ?_
  exact safe_pure _

/-- Part 52 of the body is safe. -/
theorem safe_part52 (v774 : BitVec 32) (v1426 : FVec F S1x256 .f32) (v1442 : FVec F S80x256 .f32) (v1448 : FVec F S256x256 .f32) (v1449 : FVec F S256 .f32) :
    Safe (defs₀ (F := F)) c E R (k0_part52 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v774 v1426 v1442 v1448 v1449) := by
  rw [k0_part52_eq_skeleton]
  refine safe_bind h.w21.loads.slice.squeeze.load fun _ => ?_
  refine safe_bind h.w18.loads.load fun _ => ?_
  refine safe_bind h.w19.loads.load fun _ => ?_
  refine safe_bind h.w18.loads.load fun _ => ?_
  refine safe_bind h.w19.loads.load fun _ => ?_
  exact safe_pure _

/-- Part 53 of the body is safe. -/
theorem safe_part53 (v774 : BitVec 32) (v1407 : FVec F S64x256 .f32) (v1451 : FVec F S1x256 .f32) (v1464 : FVec F S80x256 .f32) (v1476 : FVec F S128x128 .f32) (v1484 : FVec F S1x256 .f32) (v1487 : FVec F S128x256 .bf16) :
    Safe (defs₀ (F := F)) c E R (k0_part53 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v774 v1407 v1451 v1464 v1476 v1484 v1487) := by
  rw [k0_part53_eq_skeleton]
  refine safe_bind h.w21.loads.slice.squeeze.load fun _ => ?_
  refine safe_bind h.w15.loads.load fun _ => ?_
  refine safe_bind ?_ fun _ => ?_
  · exact h.w15.store (.inr (show (128 : ℕ) ≤ 256 by decide))
  refine safe_bind h.w18.loads.load fun _ => ?_
  refine safe_bind h.w19.loads.load fun _ => ?_
  refine safe_bind h.w18.loads.load fun _ => ?_
  exact safe_pure _

/-- Part 54 of the body is safe. -/
theorem safe_part54 (v774 : BitVec 32) (v1521 : FVec F S128x256 .f32) (v1523 : FVec F S128x128 .f32) :
    Safe (defs₀ (F := F)) c E R (k0_part54 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v774 v1521 v1523) := by
  rw [k0_part54_eq_skeleton]
  refine safe_bind h.w19.loads.load fun _ => ?_
  refine safe_bind h.w21.loads.slice.squeeze.load fun _ => ?_
  refine safe_bind h.w18.loads.load fun _ => ?_
  refine safe_bind h.w19.loads.load fun _ => ?_
  exact safe_pure _

/-- Part 55 of the body is safe. -/
theorem safe_part55 (v774 : BitVec 32) (v1534 : FVec F S1x256 .f32) (v1550 : FVec F S80x256 .f32) (v1559 : FVec F S1x256 .f32) (v1563 : FVec F S256x256 .bf16) :
    Safe (defs₀ (F := F)) c E R (k0_part55 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v774 v1534 v1550 v1559 v1563) := by
  rw [k0_part55_eq_skeleton]
  refine safe_bind h.w21.loads.slice.squeeze.load fun _ => ?_
  refine safe_bind h.w18.loads.load fun _ => ?_
  refine safe_bind h.w19.loads.load fun _ => ?_
  refine safe_bind h.w18.loads.load fun _ => ?_
  refine safe_bind h.w19.loads.load fun _ => ?_
  exact safe_pure _

/-- Part 56 of the body is safe. -/
theorem safe_part56 (v774 : BitVec 32) (v1559 : FVec F S1x256 .f32) (v1572 : FVec F S80x256 .f32) (v1592 : FVec F S1x256 .f32) (v1596 : FVec F S128x256 .bf16) (v1603 : FVec F S128x256 .bf16) :
    Safe (defs₀ (F := F)) c E R (k0_part56 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v774 v1559 v1572 v1592 v1596 v1603) := by
  rw [k0_part56_eq_skeleton]
  refine safe_bind h.w21.loads.slice.squeeze.load fun _ => ?_
  refine safe_bind h.w18.loads.load fun _ => ?_
  refine safe_bind h.w19.loads.load fun _ => ?_
  refine safe_bind h.w18.loads.load fun _ => ?_
  refine safe_bind h.w19.loads.load fun _ => ?_
  exact safe_pure _

/-- Part 57 of the body is safe. -/
theorem safe_part57 (v774 : BitVec 32) (v1629 : FVec F S128x128 .f32) (v1636 : FVec F S1x256 .f32) (v1640 : FVec F S128x256 .bf16) (v1641 : FVec F S1x128 .f32) :
    Safe (defs₀ (F := F)) c E R (k0_part57 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v774 v1629 v1636 v1640 v1641) := by
  rw [k0_part57_eq_skeleton]
  refine safe_bind h.w21.loads.slice.squeeze.load fun _ => ?_
  refine safe_bind h.w18.loads.load fun _ => ?_
  refine safe_bind h.w19.loads.load fun _ => ?_
  refine safe_bind h.w21.loads.slice.squeeze.load fun _ => ?_
  refine safe_bind h.w18.loads.load fun _ => ?_
  exact safe_pure _

/-- Part 58 of the body is safe. -/
theorem safe_part58 (v774 : BitVec 32) (v1661 : FVec F S1x256 .f32) (v1674 : FVec F S80x256 .f32) (v1676 : FVec F S128x256 .f32) :
    Safe (defs₀ (F := F)) c E R (k0_part58 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v774 v1661 v1674 v1676) := by
  rw [k0_part58_eq_skeleton]
  refine safe_bind h.w19.loads.load fun _ => ?_
  refine safe_bind h.w18.loads.load fun _ => ?_
  refine safe_bind h.w19.loads.load fun _ => ?_
  refine safe_bind h.w21.loads.slice.squeeze.load fun _ => ?_
  exact safe_pure _

/-- Part 59 of the body is safe. -/
theorem safe_part59 (arg1 : BitVec 32) (v1617 : FVec F S64x256 .f32) (v1719 : FVec F S64x256 .f32) :
    Safe (defs₀ (F := F)) c E R (k0_part59 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg1 v1617 v1719) := by
  rw [k0_part59_eq_skeleton]
  refine safe_bind h.w15.loads.load fun _ => ?_
  refine safe_bind ?_ fun _ => ?_
  · exact h.w15.store (.inr (show (128 : ℕ) ≤ 384 by decide))
  refine safe_ite (fun _ => ?_) (fun _ => ?_)
  · refine safe_bind h.w17.load fun _ => ?_
    refine safe_bind h.w17.store fun _ => ?_
    refine safe_bind h.w22.load fun _ => ?_
    refine safe_bind h.w23.load fun _ => ?_
    refine safe_bind h.w23.load fun _ => ?_
    refine safe_bind h.w26.load fun _ => ?_
    refine safe_bind h.w27.load fun _ => ?_
    refine safe_bind h.w28.load fun _ => ?_
    exact safe_pure _
  · refine safe_bind h.w22.load fun _ => ?_
    refine safe_bind h.w23.load fun _ => ?_
    refine safe_bind h.w23.load fun _ => ?_
    refine safe_bind h.w26.load fun _ => ?_
    refine safe_bind h.w27.load fun _ => ?_
    refine safe_bind h.w28.load fun _ => ?_
    exact safe_pure _

/-- Part 60 of the body is safe. -/
theorem safe_part60 (v1730 : FVec F S256x1024 .f32) (v1732 : FVec F S256x256 .bf16) (v1736 : FVec F S256x128 .f32) (v1738 : FVec F S256x128 .f32) (v1739 : Vec F S128x256 .f32) (v1742 : IVec S128x128 1) (v1745 : IVec S256x128 1) (v1752 : FVec F S256x128 .bf16) :
    Safe (defs₀ (F := F)) c E R (k0_part60 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v1730 v1732 v1736 v1738 v1739 v1742 v1745 v1752) := by
  rw [k0_part60_eq_skeleton]
  refine safe_bind h.w17.load fun _ => ?_
  exact safe_pure _

/-- Part 61 of the body is safe. -/
theorem safe_part61 (v1738 : FVec F S256x128 .f32) (v1739 : Vec F S128x256 .f32) (v1742 : IVec S128x128 1) (v1755 : FVec F S256x256 .bf16) (v1759 : FVec F S128x256 .bf16) (v1791 : FVec F S128x128 .bf16) (v1800 : FVec F S128x128 .bf16) :
    Safe (defs₀ (F := F)) c E R (k0_part61 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v1738 v1739 v1742 v1755 v1759 v1791 v1800) := by
  rw [k0_part61_eq_skeleton]
  exact safe_pure _

/-- Part 62 of the body is safe. -/
theorem safe_part62 (v1730 : FVec F S256x1024 .f32) (v1736 : FVec F S256x128 .f32) (v1738 : FVec F S256x128 .f32) (v1739 : Vec F S128x256 .f32) (v1742 : IVec S128x128 1) (v1745 : IVec S256x128 1) (v1748 : IVec S128x128 1) (v1751 : IVec S1x128 1) (v1761 : FVec F S128x512 .f32) (v1763 : FVec F S256x512 .f32) (v1773 : FVec F S256x128 .bf16) (v1804 : FVec F S128x256 .bf16) (v1809 : FVec F S128x256 .bf16) (v1840 : FVec F S128x256 .bf16) (v1845 : FVec F S128x256 .bf16) (v1846 : FVec F S1x1 .f32) (v1847 : FVec F S1x1 .f32) (v1854 : FVec F S128x256 .bf16) (v1861 : FVec F S128x256 .bf16) :
    Safe (defs₀ (F := F)) c E R (k0_part62 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v1730 v1736 v1738 v1739 v1742 v1745 v1748 v1751 v1761 v1763 v1773 v1804 v1809 v1840 v1845 v1846 v1847 v1854 v1861) := by
  rw [k0_part62_eq_skeleton]
  refine safe_bind h.w17.load fun _ => ?_
  refine safe_bind h.w17.store fun _ => ?_
  exact safe_pure _

/-- Part 63 of the body is safe. -/
theorem safe_part63 (v1738 : FVec F S256x128 .f32) (v1739 : Vec F S128x256 .f32) (v1742 : IVec S128x128 1) (v1755 : FVec F S256x256 .bf16) (v1904 : FVec F S256x1 .f32) (v1905 : FVec F S1x256 .f32) (v1914 : FVec F S128x128 .bf16) (v1915 : FVec F S128x1 .f32) :
    Safe (defs₀ (F := F)) c E R (k0_part63 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v1738 v1739 v1742 v1755 v1904 v1905 v1914 v1915) := by
  rw [k0_part63_eq_skeleton]
  exact safe_pure _

/-- Part 64 of the body is safe. -/
theorem safe_part64 (v1730 : FVec F S256x1024 .f32) (v1736 : FVec F S256x128 .f32) (v1738 : FVec F S256x128 .f32) (v1739 : Vec F S128x256 .f32) (v1745 : IVec S256x128 1) (v1748 : IVec S128x128 1) (v1751 : IVec S1x128 1) (v1755 : FVec F S256x256 .bf16) (v1759 : FVec F S128x256 .bf16) (v1761 : FVec F S128x512 .f32) (v1763 : FVec F S256x512 .f32) (v1903 : FVec F S256x128 .bf16) (v1934 : FVec F S128x256 .bf16) (v1939 : FVec F S128x256 .bf16) (v1957 : FVec F S128x128 .bf16) (v1966 : FVec F S128x128 .bf16) (v1970 : FVec F S128x256 .bf16) :
    Safe (defs₀ (F := F)) c E R (k0_part64 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v1730 v1736 v1738 v1739 v1745 v1748 v1751 v1755 v1759 v1761 v1763 v1903 v1934 v1939 v1957 v1966 v1970) := by
  rw [k0_part64_eq_skeleton]
  refine safe_bind h.w17.load fun _ => ?_
  refine safe_bind h.w17.store fun _ => ?_
  exact safe_pure _

/-- Part 65 of the body is safe. -/
theorem safe_part65 (v1736 : FVec F S256x128 .f32) (v1738 : FVec F S256x128 .f32) (v1739 : Vec F S128x256 .f32) (v1742 : IVec S128x128 1) (v1745 : IVec S256x128 1) (v1755 : FVec F S256x256 .bf16) (v2024 : FVec F S256x128 .f32) (v2025 : FVec F S256x1 .f32) :
    Safe (defs₀ (F := F)) c E R (k0_part65 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v1736 v1738 v1739 v1742 v1745 v1755 v2024 v2025) := by
  rw [k0_part65_eq_skeleton]
  exact safe_pure _

/-- Part 66 of the body is safe. -/
theorem safe_part66 (v1738 : FVec F S256x128 .f32) (v1739 : Vec F S128x256 .f32) (v1742 : IVec S128x128 1) (v1745 : IVec S256x128 1) (v1748 : IVec S128x128 1) (v1755 : FVec F S256x256 .bf16) (v1759 : FVec F S128x256 .bf16) (v1763 : FVec F S256x512 .f32) (v2033 : FVec F S256x128 .bf16) (v2064 : FVec F S128x256 .bf16) (v2069 : FVec F S128x256 .bf16) (v2070 : FVec F S256x1 .f32) (v2071 : FVec F S1x256 .f32) (v2080 : FVec F S128x128 .bf16) (v2081 : FVec F S128x1 .f32) :
    Safe (defs₀ (F := F)) c E R (k0_part66 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v1738 v1739 v1742 v1745 v1748 v1755 v1759 v1763 v2033 v2064 v2069 v2070 v2071 v2080 v2081) := by
  rw [k0_part66_eq_skeleton]
  exact safe_pure _

/-- Part 67 of the body is safe. -/
theorem safe_part67 (v1730 : FVec F S256x1024 .f32) (v1736 : FVec F S256x128 .f32) (v1738 : FVec F S256x128 .f32) (v1739 : Vec F S128x256 .f32) (v1742 : IVec S128x128 1) (v1745 : IVec S256x128 1) (v1751 : IVec S1x128 1) (v1755 : FVec F S256x256 .bf16) (v1761 : FVec F S128x512 .f32) (v2106 : FVec F S1x1 .f32) (v2107 : FVec F S1x1 .f32) (v2126 : FVec F S256x128 .f32) (v2129 : FVec F S128x128 .f32) (v2137 : FVec F S256x128 .f32) (v2138 : FVec F S256x128 .f32) :
    Safe (defs₀ (F := F)) c E R (k0_part67 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v1730 v1736 v1738 v1739 v1742 v1745 v1751 v1755 v1761 v2106 v2107 v2126 v2129 v2137 v2138) := by
  rw [k0_part67_eq_skeleton]
  refine safe_bind h.w17.load fun _ => ?_
  refine safe_bind h.w17.store fun _ => ?_
  exact safe_pure _

/-- Part 68 of the body is safe. -/
theorem safe_part68 (v1738 : FVec F S256x128 .f32) (v1739 : Vec F S128x256 .f32) (v1742 : IVec S128x128 1) (v1755 : FVec F S256x256 .bf16) (v1759 : FVec F S128x256 .bf16) (v2181 : FVec F S128x128 .bf16) (v2190 : FVec F S128x128 .bf16) (v2192 : FVec F S128x128 .bf16) :
    Safe (defs₀ (F := F)) c E R (k0_part68 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v1738 v1739 v1742 v1755 v1759 v2181 v2190 v2192) := by
  rw [k0_part68_eq_skeleton]
  exact safe_pure _

/-- Part 69 of the body is safe. -/
theorem safe_part69 (v1730 : FVec F S256x1024 .f32) (v1732 : FVec F S256x256 .bf16) (v1734 : FVec F S256x256 .bf16) (v1736 : FVec F S256x128 .f32) (v1738 : FVec F S256x128 .f32) (v1745 : IVec S256x128 1) (v1748 : IVec S128x128 1) (v1751 : IVec S1x128 1) (v1759 : FVec F S128x256 .bf16) (v1761 : FVec F S128x512 .f32) (v1763 : FVec F S256x512 .f32) (v2163 : FVec F S256x128 .bf16) (v2194 : FVec F S128x256 .bf16) (v2199 : FVec F S128x256 .bf16) (v2230 : FVec F S128x256 .bf16) (v2235 : FVec F S128x256 .bf16) (v2236 : FVec F S1x1 .f32) (v2237 : FVec F S1x1 .f32) (v2244 : FVec F S128x256 .bf16) (v2248 : FVec F S1x256 .bf16) :
    Safe (defs₀ (F := F)) c E R (k0_part69 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v1730 v1732 v1734 v1736 v1738 v1745 v1748 v1751 v1759 v1761 v1763 v2163 v2194 v2199 v2230 v2235 v2236 v2237 v2244 v2248) := by
  rw [k0_part69_eq_skeleton]
  refine safe_bind h.w17.load fun _ => ?_
  refine safe_bind h.w17.store fun _ => ?_
  refine safe_bind h.w17.load fun _ => ?_
  exact safe_pure _

/-- Part 80 of the body is safe. -/
theorem safe_part80 (hf : free) :
    Safe (defs₀ (F := F)) c E R (k0_part80 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28) := by
  rw [k0_part80_eq_skeleton]
  refine safe_bind (safe_part10 c E R free i h hf) ?_
  rintro ⟨_, _, _, _⟩
  refine safe_bind (safe_part11 c E R free i h) ?_
  rintro ⟨_, _⟩
  refine safe_bind (safe_part12 c E R free i h _) ?_
  rintro ⟨_, _⟩
  refine safe_bind (safe_part13 c E R free i h _ _ _ _) ?_
  rintro ⟨_, _⟩
  refine safe_bind ?_ fun _ => ?_
  · exact safe_part14 c E R free i h _ _
  refine safe_bind (safe_part15 c E R free i h hf _ _ _ _) ?_
  rintro ⟨_, _⟩
  refine safe_bind (safe_part16 c E R free i h hf _ _ _ _) ?_
  rintro ⟨_, _⟩
  refine safe_bind (safe_part17 c E R free i h _ _) ?_
  rintro ⟨_, _⟩
  refine safe_bind (safe_part18 c E R free i h _ _) ?_
  rintro ⟨_, _⟩
  refine safe_bind ?_ fun _ => ?_
  · exact safe_part19 c E R free i h _ _
  refine safe_bind ?_ fun _ => ?_
  · exact safe_part20 c E R free i h _
  refine safe_bind (safe_part21 c E R free i h _) ?_
  rintro ⟨_, _⟩
  refine safe_bind (safe_part22 c E R free i h _ _) ?_
  rintro ⟨_, _⟩
  refine safe_bind (safe_part23 c E R free i h _ _) ?_
  rintro ⟨_, _⟩
  refine safe_bind (safe_part24 c E R free i h _ _) ?_
  rintro ⟨_, _⟩
  refine safe_bind (safe_part25 c E R free i h _ _) ?_
  rintro ⟨_, _⟩
  refine safe_bind (safe_part26 c E R free i h _ _) ?_
  rintro ⟨_, _⟩
  refine safe_bind (safe_part27 c E R free i h _ _) ?_
  rintro ⟨_, _⟩
  refine safe_bind (safe_part28 c E R free i h _ _) ?_
  rintro ⟨_, _⟩
  refine safe_bind ?_ fun _ => ?_
  · exact safe_part29 c E R free i h _ _
  refine safe_bind (safe_part30 c E R free i h _ _) ?_
  rintro ⟨_, _, _⟩
  refine safe_bind (safe_part31 c E R free i h _ _ _ _) ?_
  rintro ⟨_, _, _⟩
  refine safe_bind (safe_part32 c E R free i h hf _ _ _ _ _) ?_
  rintro ⟨_, _, _⟩
  refine safe_bind ?_ fun _ => ?_
  · exact safe_part33 c E R free i h hf _ _
  refine safe_bind (safe_part34 c E R free i h _) ?_
  rintro ⟨_, _⟩
  refine safe_bind ?_ fun _ => ?_
  · exact safe_part35 c E R free i h _ _ _
  refine safe_bind ?_ fun _ => ?_
  · exact safe_part36 c E R free i h _
  refine safe_bind (safe_part37 c E R free i h _ _) ?_
  rintro ⟨_, _⟩
  refine safe_bind (safe_part38 c E R free i h _ _ _) ?_
  rintro ⟨_, _, _, _, _⟩
  refine safe_bind (safe_part39 c E R free i h _ _ _ _ _ _) ?_
  rintro ⟨_, _⟩
  refine safe_bind (safe_part40 c E R free i h _ _) ?_
  rintro ⟨_, _, _, _⟩
  refine safe_bind (safe_part41 c E R free i h _ _ _ _ _) ?_
  rintro ⟨_, _, _, _⟩
  refine safe_bind (safe_part42 c E R free i h hf _ _ _ _ _ _ _) ?_
  rintro ⟨_, _⟩
  refine safe_bind (safe_part43 c E R free i h _ _ _) ?_
  rintro ⟨_, _, _, _, _⟩
  refine safe_bind (safe_part44 c E R free i h _ _ _ _ _ _) ?_
  rintro ⟨_, _, _⟩
  refine safe_bind (safe_part45 c E R free i h _ _ _ _ _) ?_
  rintro ⟨_, _, _, _⟩
  refine safe_bind (safe_part46 c E R free i h _ _ _ _) ?_
  rintro ⟨_, _, _, _⟩
  refine safe_bind ?_ fun _ => ?_
  · exact safe_part47 c E R free i h _ _ _ _ _ _
  refine safe_bind (safe_part48 c E R free i h _ _) ?_
  rintro ⟨_, _⟩
  refine safe_bind (safe_part49 c E R free i h _ _ _) ?_
  rintro ⟨_, _, _, _⟩
  refine safe_bind (safe_part50 c E R free i h _ _ _ _ _) ?_
  rintro ⟨_, _⟩
  refine safe_bind (safe_part51 c E R free i h _ _) ?_
  rintro ⟨_, _, _, _⟩
  refine safe_bind (safe_part52 c E R free i h _ _ _ _ _) ?_
  rintro ⟨_, _, _, _, _⟩
  refine safe_bind (safe_part53 c E R free i h _ _ _ _ _ _ _) ?_
  rintro ⟨_, _⟩
  refine safe_bind (safe_part54 c E R free i h _ _ _) ?_
  rintro ⟨_, _, _, _⟩
  refine safe_bind (safe_part55 c E R free i h _ _ _ _ _) ?_
  rintro ⟨_, _, _, _⟩
  refine safe_bind (safe_part56 c E R free i h _ _ _ _ _ _) ?_
  rintro ⟨_, _, _, _, _⟩
  refine safe_bind (safe_part57 c E R free i h _ _ _ _ _) ?_
  rintro ⟨_, _, _⟩
  refine safe_bind ?_ fun _ => ?_
  · exact safe_part58 c E R free i h _ _ _ _
  refine safe_bind (safe_part59 c E R free i h _ _ _) ?_
  rintro ⟨_, _, _, _, _, _, _, _, _, _, _⟩
  refine safe_bind (safe_part60 c E R free i h _ _ _ _ _ _ _ _) ?_
  rintro ⟨_, _, _, _, _, _, _, _⟩
  refine safe_bind (safe_part61 c E R free i h _ _ _ _ _ _ _) ?_
  rintro ⟨_, _, _, _, _, _, _⟩
  refine safe_bind (safe_part62 c E R free i h _ _ _ _ _ _ _ _ _ _ _ _ _ _ _ _ _ _ _) ?_
  rintro ⟨_, _, _, _, _, _⟩
  refine safe_bind (safe_part63 c E R free i h _ _ _ _ _ _ _ _) ?_
  rintro ⟨_, _, _, _, _⟩
  refine safe_bind (safe_part64 c E R free i h _ _ _ _ _ _ _ _ _ _ _ _ _ _ _ _ _) ?_
  rintro ⟨_, _, _⟩
  refine safe_bind (safe_part65 c E R free i h _ _ _ _ _ _ _ _) ?_
  rintro ⟨_, _, _, _, _, _, _⟩
  refine safe_bind (safe_part66 c E R free i h _ _ _ _ _ _ _ _ _ _ _ _ _ _ _) ?_
  rintro ⟨_, _, _, _, _, _⟩
  refine safe_bind (safe_part67 c E R free i h _ _ _ _ _ _ _ _ _ _ _ _ _ _ _) ?_
  rintro ⟨_, _, _, _, _⟩
  refine safe_bind (safe_part68 c E R free i h _ _ _ _ _ _ _ _) ?_
  rintro ⟨_, _, _, _, _, _, _, _⟩
  refine safe_bind (safe_part69 c E R free i h _ _ _ _ _ _ _ _ _ _ _ _ _ _ _ _ _ _ _ _) ?_
  rintro ⟨_, _, _, _, _, _, _, _⟩
  exact safe_pure _

/-- Part 70 of the body is safe. -/
theorem safe_part70 (v1738 : FVec F S256x128 .f32) (v1739 : Vec F S128x256 .f32) (v1742 : IVec S128x128 1) (v1745 : IVec S256x128 1) (v2287 : FVec F S256x256 .bf16) (v2296 : FVec F S256x128 .f32) (v2297 : FVec F S256x1 .f32) (v2298 : FVec F S256x1 .f32) :
    Safe (defs₀ (F := F)) c E R (k0_part70 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v1738 v1739 v1742 v1745 v2287 v2296 v2297 v2298) := by
  rw [k0_part70_eq_skeleton]
  exact safe_pure _

/-- Part 71 of the body is safe. -/
theorem safe_part71 (v1738 : FVec F S256x128 .f32) (v1739 : Vec F S128x256 .f32) (v1742 : IVec S128x128 1) (v1745 : IVec S256x128 1) (v1748 : IVec S128x128 1) (v2287 : FVec F S256x256 .bf16) (v2291 : FVec F S128x256 .bf16) (v2295 : FVec F S256x512 .f32) (v2305 : FVec F S256x128 .bf16) (v2336 : FVec F S128x256 .bf16) (v2341 : FVec F S128x256 .bf16) (v2342 : FVec F S256x1 .f32) (v2343 : FVec F S1x256 .f32) (v2352 : FVec F S128x128 .bf16) (v2353 : FVec F S128x1 .f32) (v2354 : FVec F S1x128 .f32) :
    Safe (defs₀ (F := F)) c E R (k0_part71 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v1738 v1739 v1742 v1745 v1748 v2287 v2291 v2295 v2305 v2336 v2341 v2342 v2343 v2352 v2353 v2354) := by
  rw [k0_part71_eq_skeleton]
  exact safe_pure _

/-- Part 72 of the body is safe. -/
theorem safe_part72 (v1730 : FVec F S256x1024 .f32) (v1736 : FVec F S256x128 .f32) (v1738 : FVec F S256x128 .f32) (v1739 : Vec F S128x256 .f32) (v1742 : IVec S128x128 1) (v1745 : IVec S256x128 1) (v1751 : IVec S1x128 1) (v2287 : FVec F S256x256 .bf16) (v2293 : FVec F S128x512 .f32) (v2378 : FVec F S1x1 .f32) (v2379 : FVec F S1x1 .f32) (v2398 : FVec F S256x128 .f32) (v2401 : FVec F S128x128 .f32) (v2411 : FVec F S256x128 .f32) :
    Safe (defs₀ (F := F)) c E R (k0_part72 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v1730 v1736 v1738 v1739 v1742 v1745 v1751 v2287 v2293 v2378 v2379 v2398 v2401 v2411) := by
  rw [k0_part72_eq_skeleton]
  refine safe_bind h.w17.load fun _ => ?_
  refine safe_bind h.w17.store fun _ => ?_
  exact safe_pure _

/-- Part 73 of the body is safe. -/
theorem safe_part73 (v1738 : FVec F S256x128 .f32) (v1739 : Vec F S128x256 .f32) (v1742 : IVec S128x128 1) (v2287 : FVec F S256x256 .bf16) (v2291 : FVec F S128x256 .bf16) (v2453 : FVec F S128x128 .bf16) (v2462 : FVec F S128x128 .bf16) (v2464 : FVec F S128x128 .bf16) (cst_1204 : F .bf16) :
    Safe (defs₀ (F := F)) c E R (k0_part73 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v1738 v1739 v1742 v2287 v2291 v2453 v2462 v2464 cst_1204) := by
  rw [k0_part73_eq_skeleton]
  exact safe_pure _

/-- Part 74 of the body is safe. -/
theorem safe_part74 (v1730 : FVec F S256x1024 .f32) (v1736 : FVec F S256x128 .f32) (v1738 : FVec F S256x128 .f32) (v1739 : Vec F S128x256 .f32) (v1742 : IVec S128x128 1) (v1745 : IVec S256x128 1) (v1748 : IVec S128x128 1) (v1751 : IVec S1x128 1) (v2291 : FVec F S128x256 .bf16) (v2293 : FVec F S128x512 .f32) (v2295 : FVec F S256x512 .f32) (v2435 : FVec F S256x128 .bf16) (v2466 : FVec F S128x256 .bf16) (v2471 : FVec F S128x256 .bf16) (v2502 : FVec F S128x256 .bf16) (v2507 : FVec F S128x256 .bf16) (v2508 : FVec F S1x1 .f32) (v2509 : FVec F S1x1 .f32) (v2516 : FVec F S128x256 .bf16) (v2521 : FVec F S1x256 .bf16) :
    Safe (defs₀ (F := F)) c E R (k0_part74 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v1730 v1736 v1738 v1739 v1742 v1745 v1748 v1751 v2291 v2293 v2295 v2435 v2466 v2471 v2502 v2507 v2508 v2509 v2516 v2521) := by
  rw [k0_part74_eq_skeleton]
  refine safe_bind h.w17.load fun _ => ?_
  refine safe_bind h.w17.store fun _ => ?_
  exact safe_pure _

/-- Part 75 of the body is safe. -/
theorem safe_part75 (v1738 : FVec F S256x128 .f32) (v1739 : Vec F S128x256 .f32) (v1742 : IVec S128x128 1) (v2287 : FVec F S256x256 .bf16) (v2566 : FVec F S256x1 .f32) (v2567 : FVec F S1x256 .f32) (v2575 : FVec F S128x128 .bf16) :
    Safe (defs₀ (F := F)) c E R (k0_part75 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v1738 v1739 v1742 v2287 v2566 v2567 v2575) := by
  rw [k0_part75_eq_skeleton]
  exact safe_pure _

/-- Part 76 of the body is safe. -/
theorem safe_part76 (v1738 : FVec F S256x128 .f32) (v1739 : Vec F S128x256 .f32) (v1745 : IVec S256x128 1) (v1748 : IVec S128x128 1) (v1751 : IVec S1x128 1) (v2287 : FVec F S256x256 .bf16) (v2291 : FVec F S128x256 .bf16) (v2293 : FVec F S128x512 .f32) (v2295 : FVec F S256x512 .f32) (v2565 : FVec F S256x128 .bf16) (v2596 : FVec F S128x256 .bf16) (v2601 : FVec F S128x256 .bf16) (v2619 : FVec F S128x128 .bf16) (v2628 : FVec F S128x128 .bf16) (v2630 : FVec F S128x128 .bf16) (cst_1217 : F .bf16) :
    Safe (defs₀ (F := F)) c E R (k0_part76 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v1738 v1739 v1745 v1748 v1751 v2287 v2291 v2293 v2295 v2565 v2596 v2601 v2619 v2628 v2630 cst_1217) := by
  rw [k0_part76_eq_skeleton]
  refine safe_bind h.w17.load fun _ => ?_
  refine safe_bind h.w17.store fun _ => ?_
  exact safe_pure _

/-- Part 77 of the body is safe. -/
theorem safe_part77 (v1730 : FVec F S256x1024 .f32) (v1736 : FVec F S256x128 .f32) (v1738 : FVec F S256x128 .f32) (v1739 : Vec F S128x256 .f32) (v1742 : IVec S128x128 1) (v1745 : IVec S256x128 1) (v2287 : FVec F S256x256 .bf16) :
    Safe (defs₀ (F := F)) c E R (k0_part77 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v1730 v1736 v1738 v1739 v1742 v1745 v2287) := by
  rw [k0_part77_eq_skeleton]
  exact safe_pure _

/-- Part 78 of the body is safe. -/
theorem safe_part78 (v1738 : FVec F S256x128 .f32) (v1739 : Vec F S128x256 .f32) (v1742 : IVec S128x128 1) (v1745 : IVec S256x128 1) (v1748 : IVec S128x128 1) (v2287 : FVec F S256x256 .bf16) (v2291 : FVec F S128x256 .bf16) (v2695 : FVec F S256x128 .bf16) (v2726 : FVec F S128x256 .bf16) (v2731 : FVec F S128x256 .bf16) (v2732 : FVec F S256x1 .f32) (v2733 : FVec F S1x256 .f32) (v2741 : FVec F S128x128 .bf16) :
    Safe (defs₀ (F := F)) c E R (k0_part78 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v1738 v1739 v1742 v1745 v1748 v2287 v2291 v2695 v2726 v2731 v2732 v2733 v2741) := by
  rw [k0_part78_eq_skeleton]
  exact safe_pure _

/-- Part 79 of the body is safe. -/
theorem safe_part79 (v1730 : FVec F S256x1024 .f32) (v1751 : IVec S1x128 1) (v1880 : FVec F S256x128 .f32) (v2010 : FVec F S256x128 .f32) (v2140 : FVec F S256x128 .f32) (v2270 : FVec F S256x128 .f32) (v2293 : FVec F S128x512 .f32) (v2295 : FVec F S256x512 .f32) (v2412 : FVec F S256x128 .f32) (v2542 : FVec F S256x128 .f32) (v2672 : FVec F S256x128 .f32) (v2768 : FVec F S1x1 .f32) (v2769 : FVec F S1x1 .f32) (v2788 : FVec F S256x128 .f32) (v2791 : FVec F S128x128 .f32) (v2798 : FVec F S256x128 .f32) :
    Safe (defs₀ (F := F)) c E R (k0_part79 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v1730 v1751 v1880 v2010 v2140 v2270 v2293 v2295 v2412 v2542 v2672 v2768 v2769 v2788 v2791 v2798) := by
  rw [k0_part79_eq_skeleton]
  refine safe_bind h.w17.load fun _ => ?_
  refine safe_bind h.w17.store fun _ => ?_
  refine safe_bind h.r11.load fun _ => ?_
  refine safe_bind h.w24.load fun _ => ?_
  refine safe_bind h.r12.load fun _ => ?_
  exact safe_pure _

/-- The whole body is safe. -/
theorem safe_cc0_front (hf : free) :
    Safe (defs₀ (F := F)) c E R (cc0_front i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28) := by
  rw [cc0_front_eq_skeleton]
  refine safe_bind (safe_part80 c E R free i h hf) ?_
  rintro ⟨_, _, _, _, _, _, _, _, _, _, _, _, _, _, _, _, _, _, _⟩
  refine safe_bind (safe_part70 c E R free i h _ _ _ _ _ _ _ _) ?_
  rintro ⟨_, _, _, _, _, _, _, _⟩
  refine safe_bind (safe_part71 c E R free i h _ _ _ _ _ _ _ _ _ _ _ _ _ _ _ _) ?_
  rintro ⟨_, _, _, _, _⟩
  refine safe_bind (safe_part72 c E R free i h _ _ _ _ _ _ _ _ _ _ _ _ _ _) ?_
  rintro ⟨_, _, _, _, _, _⟩
  refine safe_bind (safe_part73 c E R free i h _ _ _ _ _ _ _ _ _) ?_
  rintro ⟨_, _, _, _, _, _, _, _⟩
  refine safe_bind (safe_part74 c E R free i h _ _ _ _ _ _ _ _ _ _ _ _ _ _ _ _ _ _ _ _) ?_
  rintro ⟨_, _, _, _, _⟩
  refine safe_bind (safe_part75 c E R free i h _ _ _ _ _ _ _) ?_
  rintro ⟨_, _, _, _, _, _⟩
  refine safe_bind ?_ fun _ => ?_
  · exact safe_part76 c E R free i h _ _ _ _ _ _ _ _ _ _ _ _ _ _ _ _
  refine safe_bind (safe_part77 c E R free i h _ _ _ _ _ _ _) ?_
  rintro ⟨_, _, _, _, _, _⟩
  refine safe_bind (safe_part78 c E R free i h _ _ _ _ _ _ _ _ _ _ _ _ _) ?_
  rintro ⟨_, _, _, _, _⟩
  refine safe_bind (safe_part79 c E R free i h _ _ _ _ _ _ _ _ _ _ _ _ _ _ _ _) ?_
  rintro ⟨_, _, _⟩
  refine safe_bind h.w14.load fun _ => ?_
  refine safe_bind h.w14.store fun _ => ?_
  exact safe_pure _

end Cert.KernelIdeal.Mine

end
-- ==== Proof.FrontRes.lean ====
module

public import proofs.«01_k».proof.Proof.FrontSafeIdeal
public import Idealize.ShloMosaic.Lib.Pipeline.ValueKit
public import Idealize.ShloMosaic.Lib.Pointwise

/-! What the body of the middle call knows of its buffers: its inputs at their contents, and six of the buffers it
writes at contents of which a corner may be known. -/

@[expose] public section

set_option maxRecDepth 65536

noncomputable section

namespace Cert.KernelIdeal.Mine

open Cert.KernelIdeal Cert.KernelIdeal.Gen Cert.Safe
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- The buffers the body is handed. -/
structure Bufs where
  arg2 : Memref sig .tc .vmem S1x256x1024 .f32
  harg2 : arg2.IsWhole
  arg3 : Memref sig .tc .vmem S1x1024 .f32
  harg3 : arg3.IsWhole
  arg4 : Memref sig .tc .vmem S1024x3712 .bf16
  harg4 : arg4.IsWhole
  arg5 : Memref sig .tc .vmem S640x1024 .bf16
  harg5 : arg5.IsWhole
  arg6 : Memref sig .tc .vmem S640x1 .f32
  harg6 : arg6.IsWhole
  arg7 : Memref sig .tc .vmem S4x1536 .f32
  harg7 : arg7.IsWhole
  arg8 : Memref sig .tc .vmem S1x1536 .f32
  harg8 : arg8.IsWhole
  arg9 : Memref sig .tc .vmem S128x1 .f32
  harg9 : arg9.IsWhole
  arg10 : Memref sig .tc .vmem S128x1 .f32
  harg10 : arg10.IsWhole
  arg11 : Memref sig .tc .vmem S1x1024 .f32
  harg11 : arg11.IsWhole
  arg12 : Memref sig .tc .vmem S1x1024 .f32
  harg12 : arg12.IsWhole
  arg13 : Memref sig .tc .vmem S8x1024 .f32
  harg13 : arg13.IsWhole
  arg14 : Memref sig .tc .vmem S1x256x1024 .bf16
  harg14 : arg14.IsWhole
  arg15 : Memref sig .tc .vmem S1x256x512 .bf16
  harg15 : arg15.IsWhole
  arg16 : Memref sig .tc .vmem S12x264x128 .f32
  harg16 : arg16.IsWhole
  arg17 : Memref sig .tc .vmem S2x128x512 .f32
  harg17 : arg17.IsWhole
  arg18 : Memref sig .tc .vmem S4x3x256x512 .f32
  harg18 : arg18.IsWhole
  arg19 : Memref sig .tc .vmem S3x8x768x256 .f32
  harg19 : arg19.IsWhole
  arg20 : Memref sig .tc .vmem S3x256x512 .bf16
  harg20 : arg20.IsWhole
  arg21 : Memref sig .tc .vmem S3x640x256 .bf16
  harg21 : arg21.IsWhole
  arg22 : Memref sig .tc .vmem S1x256x1024 .f32
  harg22 : arg22.IsWhole
  arg23 : Memref sig .tc .vmem S1x256x512 .bf16
  harg23 : arg23.IsWhole
  arg24 : Memref sig .tc .vmem S1x256x1024 .f32
  harg24 : arg24.IsWhole
  arg25 : Memref sig .tc .vmem S1x256x512 .bf16
  harg25 : arg25.IsWhole
  arg26 : Memref sig .tc .vmem S1x256x128 .f32
  harg26 : arg26.IsWhole
  arg27 : Memref sig .tc .vmem S1x256x128 .f32
  harg27 : arg27.IsWhole
  arg28 : Memref sig .tc .vmem S128x256 .f32
  harg28 : arg28.IsWhole

/-- The contents of the inputs. -/
structure Ins (F : FTy → Type) where
  x0 : Vec F S1x256x1024 .f32
  x1 : Vec F S1x1024 .f32
  x2 : Vec F S1024x3712 .bf16
  x3 : Vec F S640x1024 .bf16
  x4 : Vec F S640x1 .f32
  x5 : Vec F S4x1536 .f32
  x6 : Vec F S1x1536 .f32
  x7 : Vec F S128x1 .f32
  x8 : Vec F S128x1 .f32
  x9 : Vec F S1x1024 .f32
  x10 : Vec F S1x1024 .f32
  x11 : Vec F S8x1024 .f32

/-- What is known of the attention output, the scores, the bias table, the two rings and the queries. -/
structure Pred (F : FTy → Type) where
  p15 : Vec F S1x256x512 .bf16 → Prop
  p18 : Vec F S4x3x256x512 .f32 → Prop
  p19 : Vec F S3x8x768x256 .f32 → Prop
  p20 : Vec F S3x256x512 .bf16 → Prop
  p21 : Vec F S3x640x256 .bf16 → Prop
  p25 : Vec F S1x256x512 .bf16 → Prop

/-- Nothing known. -/
def top : Pred F := ⟨fun _ => True, fun _ => True, fun _ => True, fun _ => True, fun _ => True, fun _ => True⟩

/-- What the body holds: each input at its contents, six buffers at contents meeting `p`, the others at some contents. -/
def RP (c : Dev nD) (b : Bufs) (x : Ins F) (p : Pred F) : sProp 𝕄 :=
  iprop(owns (c : Thread nD τ) b.arg2 fullShare x.x0 ∗ owns (c : Thread nD τ) b.arg3 fullShare x.x1 ∗ owns (c : Thread nD τ) b.arg4 fullShare x.x2 ∗ owns (c : Thread nD τ) b.arg5 fullShare x.x3 ∗ owns (c : Thread nD τ) b.arg6 fullShare x.x4 ∗ owns (c : Thread nD τ) b.arg7 fullShare x.x5 ∗ owns (c : Thread nD τ) b.arg8 fullShare x.x6 ∗ owns (c : Thread nD τ) b.arg9 fullShare x.x7 ∗ owns (c : Thread nD τ) b.arg10 fullShare x.x8 ∗ owns (c : Thread nD τ) b.arg11 fullShare x.x9 ∗ owns (c : Thread nD τ) b.arg12 fullShare x.x10 ∗ owns (c : Thread nD τ) b.arg13 fullShare x.x11 ∗ (∃ d, owns (c : Thread nD τ) b.arg14 fullShare d) ∗ sat (c : Thread nD τ) b.arg15 p.p15 ∗ (∃ d, owns (c : Thread nD τ) b.arg16 fullShare d) ∗ (∃ d, owns (c : Thread nD τ) b.arg17 fullShare d) ∗ sat (c : Thread nD τ) b.arg18 p.p18 ∗ sat (c : Thread nD τ) b.arg19 p.p19 ∗ sat (c : Thread nD τ) b.arg20 p.p20 ∗ sat (c : Thread nD τ) b.arg21 p.p21 ∗ (∃ d, owns (c : Thread nD τ) b.arg22 fullShare d) ∗ (∃ d, owns (c : Thread nD τ) b.arg23 fullShare d) ∗ (∃ d, owns (c : Thread nD τ) b.arg24 fullShare d) ∗ sat (c : Thread nD τ) b.arg25 p.p25 ∗ (∃ d, owns (c : Thread nD τ) b.arg26 fullShare d) ∗ (∃ d, owns (c : Thread nD τ) b.arg27 fullShare d) ∗ (∃ d, owns (c : Thread nD τ) b.arg28 fullShare d))

variable (c : Dev nD) (E : Set ℕ) (b : Bufs) (x : Ins F) (p : Pred F)

/-- The resource holds window 0 at its contents. -/
theorem has2 : Has (c : Thread nD τ) (RP c b x p) b.arg2 x.x0 := by
  unfold RP; exact Has.left (Has.of_owns)
/-- The resource holds window 1 at its contents. -/
theorem has3 : Has (c : Thread nD τ) (RP c b x p) b.arg3 x.x1 := by
  unfold RP; exact Has.right (Has.left (Has.of_owns))
/-- The resource holds window 2 at its contents. -/
theorem has4 : Has (c : Thread nD τ) (RP c b x p) b.arg4 x.x2 := by
  unfold RP; exact Has.right (Has.right (Has.left (Has.of_owns)))
/-- The resource holds window 3 at its contents. -/
theorem has5 : Has (c : Thread nD τ) (RP c b x p) b.arg5 x.x3 := by
  unfold RP; exact Has.right (Has.right (Has.right (Has.left (Has.of_owns))))
/-- The resource holds window 4 at its contents. -/
theorem has6 : Has (c : Thread nD τ) (RP c b x p) b.arg6 x.x4 := by
  unfold RP; exact Has.right (Has.right (Has.right (Has.right (Has.left (Has.of_owns)))))
/-- The resource holds window 5 at its contents. -/
theorem has7 : Has (c : Thread nD τ) (RP c b x p) b.arg7 x.x5 := by
  unfold RP; exact Has.right (Has.right (Has.right (Has.right (Has.right (Has.left (Has.of_owns))))))
/-- The resource holds window 6 at its contents. -/
theorem has8 : Has (c : Thread nD τ) (RP c b x p) b.arg8 x.x6 := by
  unfold RP; exact Has.right (Has.right (Has.right (Has.right (Has.right (Has.right (Has.left (Has.of_owns)))))))
/-- The resource holds window 7 at its contents. -/
theorem has9 : Has (c : Thread nD τ) (RP c b x p) b.arg9 x.x7 := by
  unfold RP; exact Has.right (Has.right (Has.right (Has.right (Has.right (Has.right (Has.right (Has.left (Has.of_owns))))))))
/-- The resource holds window 8 at its contents. -/
theorem has10 : Has (c : Thread nD τ) (RP c b x p) b.arg10 x.x8 := by
  unfold RP; exact Has.right (Has.right (Has.right (Has.right (Has.right (Has.right (Has.right (Has.right (Has.left (Has.of_owns)))))))))
/-- The resource holds window 9 at its contents. -/
theorem has11 : Has (c : Thread nD τ) (RP c b x p) b.arg11 x.x9 := by
  unfold RP; exact Has.right (Has.right (Has.right (Has.right (Has.right (Has.right (Has.right (Has.right (Has.right (Has.left (Has.of_owns))))))))))
/-- The resource holds window 10 at its contents. -/
theorem has12 : Has (c : Thread nD τ) (RP c b x p) b.arg12 x.x10 := by
  unfold RP; exact Has.right (Has.right (Has.right (Has.right (Has.right (Has.right (Has.right (Has.right (Has.right (Has.right (Has.left (Has.of_owns)))))))))))
/-- The resource holds window 11 at its contents. -/
theorem has13 : Has (c : Thread nD τ) (RP c b x p) b.arg13 x.x11 := by
  unfold RP; exact Has.right (Has.right (Has.right (Has.right (Has.right (Has.right (Has.right (Has.right (Has.right (Has.right (Has.right (Has.left (Has.of_owns))))))))))))
/-- The resource holds buffer 15 at a statement that may be replaced. -/
theorem slot15 : Slot (c : Thread nD τ) (fun P => RP c b x { p with p15 := P }) b.arg15 := by
  unfold RP; dsimp only; exact Slot.right (Slot.right (Slot.right (Slot.right (Slot.right (Slot.right (Slot.right (Slot.right (Slot.right (Slot.right (Slot.right (Slot.right (Slot.right (Slot.left (Slot.here _))))))))))))))
/-- The resource holds buffer 18 at a statement that may be replaced. -/
theorem slot18 : Slot (c : Thread nD τ) (fun P => RP c b x { p with p18 := P }) b.arg18 := by
  unfold RP; dsimp only; exact Slot.right (Slot.right (Slot.right (Slot.right (Slot.right (Slot.right (Slot.right (Slot.right (Slot.right (Slot.right (Slot.right (Slot.right (Slot.right (Slot.right (Slot.right (Slot.right (Slot.left (Slot.here _)))))))))))))))))
/-- The resource holds buffer 19 at a statement that may be replaced. -/
theorem slot19 : Slot (c : Thread nD τ) (fun P => RP c b x { p with p19 := P }) b.arg19 := by
  unfold RP; dsimp only; exact Slot.right (Slot.right (Slot.right (Slot.right (Slot.right (Slot.right (Slot.right (Slot.right (Slot.right (Slot.right (Slot.right (Slot.right (Slot.right (Slot.right (Slot.right (Slot.right (Slot.right (Slot.left (Slot.here _))))))))))))))))))
/-- The resource holds buffer 20 at a statement that may be replaced. -/
theorem slot20 : Slot (c : Thread nD τ) (fun P => RP c b x { p with p20 := P }) b.arg20 := by
  unfold RP; dsimp only; exact Slot.right (Slot.right (Slot.right (Slot.right (Slot.right (Slot.right (Slot.right (Slot.right (Slot.right (Slot.right (Slot.right (Slot.right (Slot.right (Slot.right (Slot.right (Slot.right (Slot.right (Slot.right (Slot.left (Slot.here _)))))))))))))))))))
/-- The resource holds buffer 21 at a statement that may be replaced. -/
theorem slot21 : Slot (c : Thread nD τ) (fun P => RP c b x { p with p21 := P }) b.arg21 := by
  unfold RP; dsimp only; exact Slot.right (Slot.right (Slot.right (Slot.right (Slot.right (Slot.right (Slot.right (Slot.right (Slot.right (Slot.right (Slot.right (Slot.right (Slot.right (Slot.right (Slot.right (Slot.right (Slot.right (Slot.right (Slot.right (Slot.left (Slot.here _))))))))))))))))))))
/-- The resource holds buffer 25 at a statement that may be replaced. -/
theorem slot25 : Slot (c : Thread nD τ) (fun P => RP c b x { p with p25 := P }) b.arg25 := by
  unfold RP; dsimp only; exact Slot.right (Slot.right (Slot.right (Slot.right (Slot.right (Slot.right (Slot.right (Slot.right (Slot.right (Slot.right (Slot.right (Slot.right (Slot.right (Slot.right (Slot.right (Slot.right (Slot.right (Slot.right (Slot.right (Slot.right (Slot.right (Slot.right (Slot.right (Slot.left (Slot.here _))))))))))))))))))))))))

/-- The body's resource, its six buffers taking the stores that keep what is known of them. -/
theorem holds_of (free : Prop)
    (h15 : ∀ (r : Rect S1x256x512) (X X' : Vec F S1x256x512 .bf16), (free ∨ 128 ≤ r.off 2) → p.p15 X → (∀ y, y ∉ r.set → X' y = X y) → p.p15 X')
    (h18 : ∀ (r : Rect S4x3x256x512) (X X' : Vec F S4x3x256x512 .f32), (free ∨ 1 ≤ r.off 0) → p.p18 X → (∀ y, y ∉ r.set → X' y = X y) → p.p18 X')
    (h19 : ∀ (r : Rect S3x8x768x256) (X X' : Vec F S3x8x768x256 .f32), (free ∨ 1 ≤ r.off 0 ∨ 1 ≤ r.off 1) → p.p19 X → (∀ y, y ∉ r.set → X' y = X y) → p.p19 X')
    (h20 : ∀ (r : Rect S3x256x512) (X X' : Vec F S3x256x512 .bf16), (free) → p.p20 X → (∀ y, y ∉ r.set → X' y = X y) → p.p20 X')
    (h21 : ∀ (r : Rect S3x640x256) (X X' : Vec F S3x640x256 .bf16), (free) → p.p21 X → (∀ y, y ∉ r.set → X' y = X y) → p.p21 X')
    (h25 : ∀ (r : Rect S1x256x512) (X X' : Vec F S1x256x512 .bf16), (free) → p.p25 X → (∀ y, y ∉ r.set → X' y = X y) → p.p25 X') :
    Holds c (RP c b x p) free b.arg2 b.arg3 b.arg4 b.arg5 b.arg6 b.arg7 b.arg8 b.arg9 b.arg10 b.arg11 b.arg12 b.arg13 b.arg14 b.arg15 b.arg16 b.arg17 b.arg18 b.arg19 b.arg20 b.arg21 b.arg22 b.arg23 b.arg24 b.arg25 b.arg26 b.arg27 b.arg28 where
  r2 := by unfold RP; exact Reads.left (Reads.of_owns b.harg2)
  r3 := by unfold RP; exact Reads.right (Reads.left (Reads.of_owns b.harg3))
  r4 := by unfold RP; exact Reads.right (Reads.right (Reads.left (Reads.of_owns b.harg4)))
  r5 := by unfold RP; exact Reads.right (Reads.right (Reads.right (Reads.left (Reads.of_owns b.harg5))))
  r6 := by unfold RP; exact Reads.right (Reads.right (Reads.right (Reads.right (Reads.left (Reads.of_owns b.harg6)))))
  r7 := by unfold RP; exact Reads.right (Reads.right (Reads.right (Reads.right (Reads.right (Reads.left (Reads.of_owns b.harg7))))))
  r8 := by unfold RP; exact Reads.right (Reads.right (Reads.right (Reads.right (Reads.right (Reads.right (Reads.left (Reads.of_owns b.harg8)))))))
  r9 := by unfold RP; exact Reads.right (Reads.right (Reads.right (Reads.right (Reads.right (Reads.right (Reads.right (Reads.left (Reads.of_owns b.harg9))))))))
  r10 := by unfold RP; exact Reads.right (Reads.right (Reads.right (Reads.right (Reads.right (Reads.right (Reads.right (Reads.right (Reads.left (Reads.of_owns b.harg10)))))))))
  r11 := by unfold RP; exact Reads.right (Reads.right (Reads.right (Reads.right (Reads.right (Reads.right (Reads.right (Reads.right (Reads.right (Reads.left (Reads.of_owns b.harg11))))))))))
  r12 := by unfold RP; exact Reads.right (Reads.right (Reads.right (Reads.right (Reads.right (Reads.right (Reads.right (Reads.right (Reads.right (Reads.right (Reads.left (Reads.of_owns b.harg12)))))))))))
  r13 := by unfold RP; exact Reads.right (Reads.right (Reads.right (Reads.right (Reads.right (Reads.right (Reads.right (Reads.right (Reads.right (Reads.right (Reads.right (Reads.left (Reads.of_owns b.harg13))))))))))))
  w14 := by unfold RP; exact Writes.right (Writes.right (Writes.right (Writes.right (Writes.right (Writes.right (Writes.right (Writes.right (Writes.right (Writes.right (Writes.right (Writes.right (Writes.left (Writes.of_owns b.harg14)))))))))))))
  w15 := (slot15 c b x p).stores b.harg15 p.p15 _ h15
  w16 := by unfold RP; exact Writes.right (Writes.right (Writes.right (Writes.right (Writes.right (Writes.right (Writes.right (Writes.right (Writes.right (Writes.right (Writes.right (Writes.right (Writes.right (Writes.right (Writes.left (Writes.of_owns b.harg16)))))))))))))))
  w17 := by unfold RP; exact Writes.right (Writes.right (Writes.right (Writes.right (Writes.right (Writes.right (Writes.right (Writes.right (Writes.right (Writes.right (Writes.right (Writes.right (Writes.right (Writes.right (Writes.right (Writes.left (Writes.of_owns b.harg17))))))))))))))))
  w18 := (slot18 c b x p).stores b.harg18 p.p18 _ h18
  w19 := (slot19 c b x p).stores b.harg19 p.p19 _ h19
  w20 := (slot20 c b x p).stores b.harg20 p.p20 _ h20
  w21 := (slot21 c b x p).stores b.harg21 p.p21 _ h21
  w22 := by unfold RP; exact Writes.right (Writes.right (Writes.right (Writes.right (Writes.right (Writes.right (Writes.right (Writes.right (Writes.right (Writes.right (Writes.right (Writes.right (Writes.right (Writes.right (Writes.right (Writes.right (Writes.right (Writes.right (Writes.right (Writes.right (Writes.left (Writes.of_owns b.harg22)))))))))))))))))))))
  w23 := by unfold RP; exact Writes.right (Writes.right (Writes.right (Writes.right (Writes.right (Writes.right (Writes.right (Writes.right (Writes.right (Writes.right (Writes.right (Writes.right (Writes.right (Writes.right (Writes.right (Writes.right (Writes.right (Writes.right (Writes.right (Writes.right (Writes.right (Writes.left (Writes.of_owns b.harg23))))))))))))))))))))))
  w24 := by unfold RP; exact Writes.right (Writes.right (Writes.right (Writes.right (Writes.right (Writes.right (Writes.right (Writes.right (Writes.right (Writes.right (Writes.right (Writes.right (Writes.right (Writes.right (Writes.right (Writes.right (Writes.right (Writes.right (Writes.right (Writes.right (Writes.right (Writes.right (Writes.left (Writes.of_owns b.harg24)))))))))))))))))))))))
  w25 := (slot25 c b x p).stores b.harg25 p.p25 _ h25
  w26 := by unfold RP; exact Writes.right (Writes.right (Writes.right (Writes.right (Writes.right (Writes.right (Writes.right (Writes.right (Writes.right (Writes.right (Writes.right (Writes.right (Writes.right (Writes.right (Writes.right (Writes.right (Writes.right (Writes.right (Writes.right (Writes.right (Writes.right (Writes.right (Writes.right (Writes.right (Writes.left (Writes.of_owns b.harg26)))))))))))))))))))))))))
  w27 := by unfold RP; exact Writes.right (Writes.right (Writes.right (Writes.right (Writes.right (Writes.right (Writes.right (Writes.right (Writes.right (Writes.right (Writes.right (Writes.right (Writes.right (Writes.right (Writes.right (Writes.right (Writes.right (Writes.right (Writes.right (Writes.right (Writes.right (Writes.right (Writes.right (Writes.right (Writes.right (Writes.left (Writes.of_owns b.harg27))))))))))))))))))))))))))
  w28 := by unfold RP; exact Writes.right (Writes.right (Writes.right (Writes.right (Writes.right (Writes.right (Writes.right (Writes.right (Writes.right (Writes.right (Writes.right (Writes.right (Writes.right (Writes.right (Writes.right (Writes.right (Writes.right (Writes.right (Writes.right (Writes.right (Writes.right (Writes.right (Writes.right (Writes.right (Writes.right (Writes.right (Writes.of_owns b.harg28))))))))))))))))))))))))))

/-- With nothing known, every store is allowed. -/
theorem holds_top : Holds c (RP c b x top) True b.arg2 b.arg3 b.arg4 b.arg5 b.arg6 b.arg7 b.arg8 b.arg9 b.arg10 b.arg11 b.arg12 b.arg13 b.arg14 b.arg15 b.arg16 b.arg17 b.arg18 b.arg19 b.arg20 b.arg21 b.arg22 b.arg23 b.arg24 b.arg25 b.arg26 b.arg27 b.arg28 :=
  holds_of c b x top True (fun _ _ _ _ _ _ => trivial) (fun _ _ _ _ _ _ => trivial) (fun _ _ _ _ _ _ => trivial) (fun _ _ _ _ _ _ => trivial)
    (fun _ _ _ _ _ _ => trivial) (fun _ _ _ _ _ _ => trivial)

/-- What is known of a buffer concerns a corner of it only. -/
structure Kept (p : Pred F) : Prop where
  k15 : ∀ X X', p.p15 X → (∀ y, (y 2).val < 128 → X' y = X y) → p.p15 X'
  k18 : ∀ X X', p.p18 X → (∀ y, (y 0).val = 0 → X' y = X y) → p.p18 X'
  k19 : ∀ X X', p.p19 X → (∀ y, (y 0).val = 0 → (y 1).val = 0 → X' y = X y) → p.p19 X'

/-- A place of a rectangle is at or after its offset. -/
theorem off_le {s : Shape} {r : Rect s} {y : s.Idx} (h : y ∈ r.set) (a : Fin s.rank) : r.off a ≤ (y a).val := by
  rw [← Rect.map_emb_univ, Finset.mem_map] at h
  obtain ⟨z, -, rfl⟩ := h
  rw [Rect.emb_apply]; exact Nat.le_add_right _ _

variable {p}

/-- Stores away from the corners are allowed. -/
theorem holds_kept (hk : Kept p) : Holds c (RP c b x p) False b.arg2 b.arg3 b.arg4 b.arg5 b.arg6 b.arg7 b.arg8 b.arg9 b.arg10 b.arg11 b.arg12 b.arg13 b.arg14 b.arg15 b.arg16 b.arg17 b.arg18 b.arg19 b.arg20 b.arg21 b.arg22 b.arg23 b.arg24 b.arg25 b.arg26 b.arg27 b.arg28 :=
  holds_of c b x p False
    (fun r X X' h hX hy => hk.k15 X X' hX fun y h2 => hy y fun hm => absurd (off_le hm 2) (by have := h.resolve_left id; omega))
    (fun r X X' h hX hy => hk.k18 X X' hX fun y h0 => hy y fun hm => absurd (off_le hm 0) (by have := h.resolve_left id; omega))
    (fun r X X' h hX hy => hk.k19 X X' hX fun y h0 h1 => hy y fun hm => by
      rcases h.resolve_left id with h | h
      · exact absurd (off_le hm 0) (by omega)
      · exact absurd (off_le hm 1) (by omega))
    (fun _ _ _ h _ _ => h.elim) (fun _ _ _ h _ _ => h.elim) (fun _ _ _ h _ _ => h.elim)

end Cert.KernelIdeal.Mine

end
-- ==== Proof.FrontParts.lean ====
module

public import proofs.«01_k».proof.Proof.FrontRes
public import Idealize.ShloMosaic.Lib.Claim

/-! What the parts of the middle call's body that lead to its first head compute at the first grid point. -/

@[expose] public section

set_option maxRecDepth 65536

noncomputable section

namespace Cert.KernelIdeal.Mine

open Cert.KernelIdeal Cert.KernelIdeal.Gen Cert.Safe
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

/-! ## What is known of the buffers -/

def on18 (G : FVec Ideal S1x1x256x512 .f32) : Vec Ideal S4x3x256x512 .f32 → Prop := fun X =>
  ∀ (a : Fin 256) (d : Fin 512), X (ix4 0 2 a d) = G (ix4 0 0 a d)

def on19 (G : FVec Ideal S1x1x768x256 .f32) : Vec Ideal S3x8x768x256 .f32 → Prop := fun X =>
  ∀ (a : Fin 768) (d : Fin 256), X (ix4 0 0 a d) = G (ix4 0 0 a d)

def on20 (G : FVec Ideal S1x256x512 .bf16) : Vec Ideal S3x256x512 .bf16 → Prop := fun X =>
  ∀ (a : Fin 256) (d : Fin 512), X (ix3 0 a d) = G (ix3 0 a d)

def on21 (G : FVec Ideal S1x640x256 .bf16) : Vec Ideal S3x640x256 .bf16 → Prop := fun X =>
  ∀ (a : Fin 640) (d : Fin 256), X (ix3 0 a d) = G (ix3 0 a d)

def on25 (G : FVec Ideal S1x256x512 .bf16) : Vec Ideal S1x256x512 .bf16 → Prop := fun X =>
  ∀ (a : Fin 256) (d : Fin 512), X (ix3 0 a d) = G (ix3 0 a d)

/-- The first head's attention output, a column per query, meets `G`. -/
def on15 (G : FVec Ideal S64x256 .f32 → Prop) : Vec Ideal S1x256x512 .bf16 → Prop := fun X =>
  ∃ v, G v ∧ ∀ (q : Fin 256) (d : Fin 64), X (ix3 0 q ⟨d.val, by omega⟩) = v (ix2 d q)

theorem kept15 (G) : ∀ X X', on15 G X → (∀ y : S1x256x512.Idx, (y 2).val < 128 → X' y = X y) → on15 G X' := by
  rintro X X' ⟨v, hv, h⟩ hy
  exact ⟨v, hv, fun q d => (hy _ (by show d.val < 128; omega)).trans (h q d)⟩

theorem kept18 (G) : ∀ X X', on18 G X → (∀ y : S4x3x256x512.Idx, (y 0).val = 0 → X' y = X y) → on18 G X' :=
  fun X X' h hy a d => (hy _ rfl).trans (h a d)

theorem kept19 (G) : ∀ X X', on19 G X → (∀ y : S3x8x768x256.Idx, (y 0).val = 0 → (y 1).val = 0 → X' y = X y) → on19 G X' :=
  fun X X' h hy a d => (hy _ rfl rfl).trans (h a d)

/-- A rectangle's place, told coordinate by coordinate. -/
theorem at_coords {s : Shape} {α : Type} (X : s.Idx → α) (r : Rect s) (x : r.shape.Idx) (y : s.Idx)
    (h : ∀ a, (y a).val = r.off a + r.stride a * (x a).val) : X (r.emb x) = X y :=
  congrArg X (Rect.emb_eq_of_coords r x y h)

theorem at_store {s : Shape} {α : Type} {X' : s.Idx → α} {r : Rect s} {w : r.shape.Idx → α} (h1 : ∀ x, X' (r.emb x) = w x)
    (x : r.shape.Idx) (y : s.Idx) (h : ∀ a, (y a).val = r.off a + r.stride a * (x a).val) : X' y = w x :=
  (at_coords X' r x y h).symm.trans (h1 x)

variable (c : Dev nD) (E : Set ℕ) (b : Bufs) (x : Ins Ideal) {p : Pred Ideal} (i : grid0.Coords)

/-! ## The offsets at the first point -/

theorem off1_eq (h : (i 1).val = 0) : k0_off1 i = ![0, 0, 0] := by simp only [k0_off1, h]; rfl
theorem off2_eq (h : (i 1).val = 0) : k0_off2 i = ![0, 0, 0] := by simp only [k0_off2, h]; rfl
theorem off3_eq (h : (i 1).val = 0) : k0_off3 i 3#32 = ![0, 0, 0] := by simp only [k0_off3, h]; rfl
theorem off6_eq (h : (i 1).val = 0) : k0_off6 i 3#32 = ![0, 0, 0] := by simp only [k0_off6, h]; rfl
theorem off4_eq (h : (i 1).val = 0) : k0_off4 i = ![0, 0, 512, 0] := by simp only [k0_off4, h]; rfl
theorem off5_eq (h : (i 1).val = 0) : k0_off5 i = ![0, 0, 640, 128] := by simp only [k0_off5, h]; rfl
theorem off7_eq (h : (i 1).val = 0) : k0_off7 i = ![0, 0, 256, 0] := by simp only [k0_off7, h]; rfl
theorem off8_eq (h : (i 1).val = 0) : k0_off8 i = ![0, 0, 128, 0] := by simp only [k0_off8, h]; rfl
theorem off9_eq (h : (i 1).val = 0) : k0_off9 i = ![0, 0, 0, 0] := by simp only [k0_off9, h]; rfl

/-! ## The stored values -/

abbrev gH (x : Ins Ideal) : FVec Ideal S256x1024 .bf16 :=
  k0_pay47 (View.ld (Val := Elt Ideal) x.x0 (Rect.unit (s := S1x256x1024) ![0, 0, 0] S1x256x1024.size inb_S1x256x1024_S1x256x1024_0_0_0))
    (View.ld (Val := Elt Ideal) x.x1 (Rect.unit (s := S1x1024) ![0, 0] S1x1024.size inb_S1x1024_S1x1024_0_0))
abbrev gV (x : Ins Ideal) : FVec Ideal S1x640x256 .bf16 :=
  k0_pay70 (gH x) (View.ld (Val := Elt Ideal) x.x3 (Rect.unit (s := S640x1024) ![0, 0] S640x1024.size inb_S640x1024_S640x1024_0_0))
    (View.ld (Val := Elt Ideal) x.x4 (Rect.unit (s := S640x1) ![0, 0] S640x1.size inb_S640x1_S640x1_0_0))
abbrev gW (x : Ins Ideal) : FVec Ideal S1024x512 .bf16 :=
  k0_pay72 (View.ld (Val := Elt Ideal) x.x2 (Rect.unit (s := S1024x3712) ![0, 2560] S1024x512.size inb_S1024x3712_S1024x512_0_2560))
abbrev gQ (x : Ins Ideal) : FVec Ideal S1x256x512 .bf16 := k0_pay73 (gH x) (gW x) (constant S256x512 .f32 0x00000000#32)
abbrev gK (x : Ins Ideal) : FVec Ideal S1x256x512 .bf16 :=
  k0_pay74 (gH x) (View.ld (Val := Elt Ideal) x.x2 (Rect.unit (s := S1024x3712) ![0, 3072] S1024x512.size inb_S1024x3712_S1024x512_0_3072))
abbrev gB (x : Ins Ideal) : FVec Ideal S1x1x768x256 .f32 :=
  k0_pay8 (iota .tc S768x256 32 [0] iota_S768x256_d0_w32) k0_pay2 k0_pay3 k0_pay4 k0_pay5 0#32
    (View.ld (Val := Elt Ideal) x.x11 (Rect.unit (s := S8x1024) ![0, 0] S1x1024.size inb_S8x1024_S1x1024_0_0))

/-! ## The parts -/

theorem kept_top : Kept (top : Pred Ideal) := ⟨fun _ _ _ _ => trivial, fun _ _ _ _ => trivial, fun _ _ _ _ => trivial⟩

section
include b x p i

theorem run_part1 : Runs (defs₀ (F := Ideal)) c E (RP c b x p) (k0_part1 i b.arg2 b.harg2 b.arg3 b.harg3 b.arg4 b.harg4 b.arg5 b.harg5 b.arg6 b.harg6 b.arg7 b.harg7 b.arg8 b.harg8 b.arg9 b.harg9 b.arg10 b.harg10 b.arg11 b.harg11 b.arg12 b.harg12 b.arg13 b.harg13 b.arg14 b.harg14 b.arg15 b.harg15 b.arg16 b.harg16 b.arg17 b.harg17 b.arg18 b.harg18 b.arg19 b.harg19 b.arg20 b.harg20 b.arg21 b.harg21 b.arg22 b.harg22 b.arg23 b.harg23 b.arg24 b.harg24 b.arg25 b.harg25 b.arg26 b.harg26 b.arg27 b.harg27 b.arg28 b.harg28)
    (fun r => r = ⟨iota .tc S768x256 32 [0] iota_S768x256_d0_w32, k0_pay2, k0_pay3, k0_pay4, k0_pay5, 0#32⟩) (RP c b x p) := by
  rw [k0_part1_eq_skeleton]
  exact Runs.pure _ rfl

theorem run_part2 (hk : Kept p) (v2851 v2878 v2880 v2894 v2896 c0) :
    Runs (defs₀ (F := Ideal)) c E (RP c b x p) (k0_part2 i b.arg2 b.harg2 b.arg3 b.harg3 b.arg4 b.harg4 b.arg5 b.harg5 b.arg6 b.harg6 b.arg7 b.harg7 b.arg8 b.harg8 b.arg9 b.harg9 b.arg10 b.harg10 b.arg11 b.harg11 b.arg12 b.harg12 b.arg13 b.harg13 b.arg14 b.harg14 b.arg15 b.harg15 b.arg16 b.harg16 b.arg17 b.harg17 b.arg18 b.harg18 b.arg19 b.harg19 b.arg20 b.harg20 b.arg21 b.harg21 b.arg22 b.harg22 b.arg23 b.harg23 b.arg24 b.harg24 b.arg25 b.harg25 b.arg26 b.harg26 b.arg27 b.harg27 b.arg28 b.harg28 v2851 v2878 v2880 v2894 v2896 c0) (fun _ => True)
      (RP c b x { p with p19 := on19 (k0_pay8 v2851 v2878 v2880 v2894 v2896 c0
        (View.ld (Val := Elt Ideal) x.x11 (Rect.unit (s := S8x1024) ![0, 0] S1x1024.size inb_S8x1024_S1x1024_0_0))) }) := by
  rw [k0_part2_eq_skeleton]
  have h := holds_kept c b x hk
  refine Runs.bind ((has13 c b x p).load b.harg13) fun _ e => ?_
  subst e
  refine Runs.bind (.of_safe h.w19.loads.load) fun _ _ => ?_
  refine Runs.bind ((slot19 c b x p).store b.harg19 p.p19 (on19 (k0_pay8 v2851 v2878 v2880 v2894 v2896 c0
        (View.ld (Val := Elt Ideal) x.x11 (Rect.unit (s := S8x1024) ![0, 0] S1x1024.size inb_S8x1024_S1x1024_0_0)))) fun X X' _ h1 _ a d => ?_) fun _ _ => ?_
  · exact at_store h1 (ix4 0 0 a d) _ fun z => by fin_cases z <;> simp [ix4]
  have h := holds_kept c b x (p := { p with p19 := on19 (k0_pay8 v2851 v2878 v2880 v2894 v2896 c0
        (View.ld (Val := Elt Ideal) x.x11 (Rect.unit (s := S8x1024) ![0, 0] S1x1024.size inb_S8x1024_S1x1024_0_0))) }) ⟨hk.k15, hk.k18, kept19 _⟩
  refine Runs.bind (.of_safe h.w19.loads.load) fun _ _ => ?_
  refine Runs.bind (.of_safe (h.w19.store (.inr (.inl (show (1 : ℕ) ≤ 1 by decide))))) fun _ _ => ?_
  exact Runs.pure _ trivial

theorem run_part11 (hk : Kept p) : Runs (defs₀ (F := Ideal)) c E (RP c b x p) (k0_part11 i b.arg2 b.harg2 b.arg3 b.harg3 b.arg4 b.harg4 b.arg5 b.harg5 b.arg6 b.harg6 b.arg7 b.harg7 b.arg8 b.harg8 b.arg9 b.harg9 b.arg10 b.harg10 b.arg11 b.harg11 b.arg12 b.harg12 b.arg13 b.harg13 b.arg14 b.harg14 b.arg15 b.harg15 b.arg16 b.harg16 b.arg17 b.harg17 b.arg18 b.harg18 b.arg19 b.harg19 b.arg20 b.harg20 b.arg21 b.harg21 b.arg22 b.harg22 b.arg23 b.harg23 b.arg24 b.harg24 b.arg25 b.harg25 b.arg26 b.harg26 b.arg27 b.harg27 b.arg28 b.harg28) (fun r => r.1 = gH x) (RP c b x p) := by
  rw [k0_part11_eq_skeleton]
  have h := holds_kept c b x hk
  refine Runs.bind ((has2 c b x p).load b.harg2) fun _ e1 => ?_
  refine Runs.bind ((has3 c b x p).load b.harg3) fun _ e2 => ?_
  subst e1 e2
  refine Runs.bind (.of_safe h.r4.load) fun _ _ => ?_
  refine Runs.bind (.of_safe h.w26.load) fun _ _ => ?_
  refine Runs.bind (.of_safe h.w26.store) fun _ _ => ?_
  refine Runs.bind (.of_safe h.w26.load) fun _ _ => ?_
  refine Runs.bind (.of_safe h.r9.load) fun _ _ => ?_
  exact Runs.pure _ rfl

theorem run_part15 (hi : (i 1).val = 0) (hk : Kept p) (v27 v137 v174) : Runs (defs₀ (F := Ideal)) c E (RP c b x p) (k0_part15 i b.arg2 b.harg2 b.arg3 b.harg3 b.arg4 b.harg4 b.arg5 b.harg5 b.arg6 b.harg6 b.arg7 b.harg7 b.arg8 b.harg8 b.arg9 b.harg9 b.arg10 b.harg10 b.arg11 b.harg11 b.arg12 b.harg12 b.arg13 b.harg13 b.arg14 b.harg14 b.arg15 b.harg15 b.arg16 b.harg16 b.arg17 b.harg17 b.arg18 b.harg18 b.arg19 b.harg19 b.arg20 b.harg20 b.arg21 b.harg21 b.arg22 b.harg22 b.arg23 b.harg23 b.arg24 b.harg24 b.arg25 b.harg25 b.arg26 b.harg26 b.arg27 b.harg27 b.arg28 b.harg28 v27 (gH x) v137 v174)
    (fun r => r = ⟨gW x, constant S256x512 .f32 0x00000000#32⟩) (RP c b x { p with p21 := on21 (gV x) }) := by
  rw [k0_part15_eq_skeleton]
  have h := holds_kept c b x hk
  refine Runs.bind (.of_safe h.w16.load) fun _ _ => ?_
  refine Runs.bind (.of_safe h.w16.store) fun _ _ => ?_
  refine Runs.bind (.of_safe h.w16.load) fun _ _ => ?_
  refine Runs.bind (.of_safe h.w16.store) fun _ _ => ?_
  refine Runs.bind (.of_safe h.w16.load) fun _ _ => ?_
  refine Runs.bind (.of_safe h.w16.store) fun _ _ => ?_
  refine Runs.bind ((has5 c b x p).load b.harg5) fun _ e1 => ?_
  refine Runs.bind ((has6 c b x p).load b.harg6) fun _ e2 => ?_
  subst e1 e2
  refine Runs.bind (.of_safe h.w21.loads.load) fun _ _ => ?_
  refine Runs.bind ((slot21 c b x p).store b.harg21 p.p21 (on21 (gV x)) fun X X' _ h1 _ a d => ?_) fun _ _ => ?_
  · refine at_store h1 (ix3 0 a d) _ fun z => ?_
    refine Eq.trans ?_ (congrArg₂ (· + ·) (congrFun (off1_eq i hi) z).symm rfl)
    fin_cases z <;> simp [ix3]
  have h := holds_kept c b x (p := { p with p21 := on21 (gV x) }) ⟨hk.k15, hk.k18, hk.k19⟩
  refine Runs.bind (.of_safe h.r4.load) fun _ _ => ?_
  refine Runs.bind (.of_safe h.w24.load) fun _ _ => ?_
  refine Runs.bind (.of_safe h.w24.store) fun _ _ => ?_
  refine Runs.bind ((has4 c b x _).load b.harg4) fun _ e => ?_
  subst e
  exact Runs.pure _ rfl

theorem run_part16 (hi : (i 1).val = 0) (hk : Kept p) (v16) : Runs (defs₀ (F := Ideal)) c E (RP c b x p) (k0_part16 i b.arg2 b.harg2 b.arg3 b.harg3 b.arg4 b.harg4 b.arg5 b.harg5 b.arg6 b.harg6 b.arg7 b.harg7 b.arg8 b.harg8 b.arg9 b.harg9 b.arg10 b.harg10 b.arg11 b.harg11 b.arg12 b.harg12 b.arg13 b.harg13 b.arg14 b.harg14 b.arg15 b.harg15 b.arg16 b.harg16 b.arg17 b.harg17 b.arg18 b.harg18 b.arg19 b.harg19 b.arg20 b.harg20 b.arg21 b.harg21 b.arg22 b.harg22 b.arg23 b.harg23 b.arg24 b.harg24 b.arg25 b.harg25 b.arg26 b.harg26 b.arg27 b.harg27 b.arg28 b.harg28 v16 (gH x) (gW x) (constant S256x512 .f32 0x00000000#32))
    (fun r => True) (RP c b x { p with p20 := on20 (gK x), p25 := on25 (gQ x) }) := by
  rw [k0_part16_eq_skeleton]
  have h := holds_kept c b x hk
  refine Runs.bind (.of_safe h.w25.loads.load) fun _ _ => ?_
  refine Runs.bind ((slot25 c b x p).store b.harg25 p.p25 (on25 (gQ x)) fun X X' _ h1 _ a d => ?_) fun _ _ => ?_
  · exact at_store h1 (ix3 0 a d) _ fun z => by fin_cases z <;> simp [ix3]
  have h := holds_kept c b x (p := { p with p25 := on25 (gQ x) }) ⟨hk.k15, hk.k18, hk.k19⟩
  refine Runs.bind ((has4 c b x _).load b.harg4) fun _ e => ?_
  subst e
  refine Runs.bind (.of_safe h.w20.loads.load) fun _ _ => ?_
  refine Runs.bind ((slot20 c b x { p with p25 := on25 (gQ x) }).store b.harg20 p.p20 (on20 (gK x)) fun X X' _ h1 _ a d => ?_) fun _ _ => ?_
  · refine at_store h1 (ix3 0 a d) _ fun z => ?_
    refine Eq.trans ?_ (congrArg₂ (· + ·) (congrFun (off2_eq i hi) z).symm rfl)
    fin_cases z <;> simp [ix3]
  have h := holds_kept c b x (p := { p with p20 := on20 (gK x), p25 := on25 (gQ x) }) ⟨hk.k15, hk.k18, hk.k19⟩
  refine Runs.bind (.of_safe h.r8.load) fun _ _ => ?_
  refine Runs.bind (.of_safe h.w16.load) fun _ _ => ?_
  refine Runs.bind (.of_safe h.r7.load) fun _ _ => ?_
  refine Runs.bind (.of_safe h.w16.load) fun _ _ => ?_
  refine Runs.bind (.of_safe h.r7.load) fun _ _ => ?_
  refine Runs.bind (.of_safe h.w16.load) fun _ _ => ?_
  refine Runs.bind (.of_safe h.r7.load) fun _ _ => ?_
  exact Runs.pure _ trivial

/-- The masked queries of the first pair of heads. -/
def Q783 (x : Ins Ideal) (v : FVec Ideal S512x128 .bf16) : Prop :=
  ∃ u : Vec Ideal S1x256x128 .bf16, (∀ (a : Fin 256) (d : Fin 128), u (ix3 0 a d) = gQ x (ix3 0 a ⟨d.val, by omega⟩)) ∧ v = k0_pay112 u

theorem run_part32 (hi0 : (i 0).val = 0) (hi : (i 1).val = 0) (hk : Kept p) (h25 : p.p25 = on25 (gQ x)) (v747 c3 v748) :
    Runs (defs₀ (F := Ideal)) c E (RP c b x p) (k0_part32 i b.arg2 b.harg2 b.arg3 b.harg3 b.arg4 b.harg4 b.arg5 b.harg5 b.arg6 b.harg6 b.arg7 b.harg7 b.arg8 b.harg8 b.arg9 b.harg9 b.arg10 b.harg10 b.arg11 b.harg11 b.arg12 b.harg12 b.arg13 b.harg13 b.arg14 b.harg14 b.arg15 b.harg15 b.arg16 b.harg16 b.arg17 b.harg17 b.arg18 b.harg18 b.arg19 b.harg19 b.arg20 b.harg20 b.arg21 b.harg21 b.arg22 b.harg22 b.arg23 b.harg23 b.arg24 b.harg24 b.arg25 b.harg25 b.arg26 b.harg26 b.arg27 b.harg27 b.arg28 b.harg28 0#32 0#32 v747 c3 v748)
    (fun r => Q783 x r.2.2) (RP c b x { p with p19 := on19 (gB x) }) := by
  rw [k0_part32_eq_skeleton]
  unfold k0_part32_skel
  have hk' : Kept { p with p19 := on19 (gB x) } := ⟨hk.k15, hk.k18, kept19 _⟩
  have h := holds_kept c b x hk'
  refine Runs.pos (by decide) ?_
  refine Runs.bind (run_part1 c E b x i) ?_
  rintro ⟨v2851, v2878, v2880, v2894, v2896, c0⟩ e
  cases e
  refine Runs.bind (run_part2 c E b x i hk _ _ _ _ _ _) ?_
  rintro ⟨_, _, _⟩ _
  refine Runs.bind (.of_safe (safe_part3 c E _ False i h _ _ _ _)) ?_
  rintro _ _
  refine Runs.bind (.of_safe (safe_part4 c E _ False i h _ _ _)) ?_
  rintro ⟨_, _, _⟩ _
  refine Runs.bind (.of_safe (safe_part5 c E _ False i h _ _ _ _ _)) ?_
  rintro ⟨_, _⟩ _
  refine Runs.bind (.of_safe (safe_part6 c E _ False i h _ _ _ _)) ?_
  rintro ⟨_, _, _⟩ _
  refine Runs.bind (.of_safe (safe_part7 c E _ False i h _ _ _ _ _)) ?_
  rintro ⟨_, _⟩ _
  refine Runs.bind (.of_safe (safe_part8 c E _ False i h _ _ _ _)) ?_
  rintro ⟨_, _⟩ _
  refine Runs.bind (.of_safe (safe_part9 c E _ False i h _ _ _ _)) ?_
  rintro ⟨_, _⟩ _
  refine Runs.bind (.of_safe h.w19.loads.load) fun _ _ => ?_
  refine Runs.bind (.of_safe (h.w19.store (.inr (.inr (show (1 : ℕ) ≤ 7 by decide))))) fun _ _ => ?_
  refine Runs.bind (.of_safe h.w19.loads.load) fun _ _ => ?_
  refine Runs.bind (.of_safe (h.w19.store (.inr (.inr (show (1 : ℕ) ≤ 7 by decide))))) fun _ _ => ?_
  refine Runs.bind (.of_safe h.w19.loads.load) fun _ _ => ?_
  refine Runs.bind (.of_safe (h.w19.store (.inr (.inr (show (1 : ℕ) ≤ 7 by decide))))) fun _ _ => ?_
  refine Runs.bind ((slot25 c b x { p with p19 := on19 (gB x) }).load b.harg25 p.p25 (fun X => View.ld X _) rfl fun f => rfl) fun v hv => ?_
  obtain ⟨X, hX, rfl⟩ := hv
  rw [h25] at hX
  refine Runs.pure _ ⟨_, fun a d => ?_, rfl⟩
  exact (at_coords X _ _ _ fun z => by fin_cases z <;> simp [ix3]).trans (hX a _)

/-- The scores of the first head pair against the point's own keys. -/
def S801 (x : Ins Ideal) (v : FVec Ideal S1x1x256x512 .f32) : Prop :=
  ∃ (u : FVec Ideal S512x128 .bf16) (w : Vec Ideal S1x256x128 .bf16), Q783 x u ∧
    (∀ (a : Fin 256) (d : Fin 128), w (ix3 0 a d) = gK x (ix3 0 a ⟨d.val, by omega⟩)) ∧ v = k0_pay115 u w

theorem run_part33 (hi : (i 1).val = 0) (hk : Kept p) (h18 : p.p18 = fun _ => True) (h20 : p.p20 = on20 (gK x)) (v777 v783) (hv : Q783 x v783) :
    Runs (defs₀ (F := Ideal)) c E (RP c b x p) (k0_part33 i b.arg2 b.harg2 b.arg3 b.harg3 b.arg4 b.harg4 b.arg5 b.harg5 b.arg6 b.harg6 b.arg7 b.harg7 b.arg8 b.harg8 b.arg9 b.harg9 b.arg10 b.harg10 b.arg11 b.harg11 b.arg12 b.harg12 b.arg13 b.harg13 b.arg14 b.harg14 b.arg15 b.harg15 b.arg16 b.harg16 b.arg17 b.harg17 b.arg18 b.harg18 b.arg19 b.harg19 b.arg20 b.harg20 b.arg21 b.harg21 b.arg22 b.harg22 b.arg23 b.harg23 b.arg24 b.harg24 b.arg25 b.harg25 b.arg26 b.harg26 b.arg27 b.harg27 b.arg28 b.harg28 v777 v783)
    (fun r => True) (RP c b x { p with p18 := fun X => ∃ G, S801 x G ∧ on18 G X }) := by
  rw [k0_part33_eq_skeleton]
  have h := holds_kept c b x hk
  have h18' : ∀ (r : Rect S4x3x256x512) (X X' : Vec Ideal S4x3x256x512 .f32), True → p.p18 X → (∀ y, y ∉ r.set → X' y = X y) → p.p18 X' := by
    rw [h18]; exact fun _ _ _ _ _ _ => trivial
  have g : Stores (c : Thread nD τ) (RP c b x p) b.arg18 (fun _ => True) := (slot18 c b x p).stores b.harg18 p.p18 _ h18'
  refine Runs.bind (.of_safe h.w20.loads.slice.load) fun _ _ => ?_
  refine Runs.bind (.of_safe h.w18.loads.load) fun _ _ => ?_
  refine Runs.bind (.of_safe (g.store trivial)) fun _ _ => ?_
  refine Runs.bind (.of_safe h.w20.loads.slice.load) fun _ _ => ?_
  refine Runs.bind (.of_safe h.w18.loads.load) fun _ _ => ?_
  refine Runs.bind (.of_safe (g.store trivial)) fun _ _ => ?_
  refine Runs.bind ((slot20 c b x p).load b.harg20 p.p20 (fun X => View.ld (View.ld X _) _) rfl fun f => rfl) fun w hw => ?_
  obtain ⟨X0, hX, rfl⟩ := hw
  rw [h20] at hX
  refine Runs.bind (.of_safe h.w18.loads.load) fun _ _ => ?_
  refine Runs.bind ((slot18 c b x p).store b.harg18 p.p18 (fun X => ∃ G, S801 x G ∧ on18 G X) fun X X' _ h1 _ => ?_) fun _ _ => ?_
  · refine ⟨k0_pay115 v783 (View.ld (Val := Elt Ideal) (View.ld (Val := Elt Ideal) X0 (Rect.unit (s := S3x256x512) (k0_off3 i 3#32) S1x256x512.size (k0_off3_inb i 2)))
      (Rect.unit (s := S1x256x512) ![0, 0, 0] S1x256x128.size inb_S1x256x512_S1x256x128_0_0_0)), ⟨v783, _, hv, fun a d => ?_, rfl⟩, fun a d => ?_⟩
    rotate_left
    · exact at_store h1 (ix4 0 0 a d) _ fun z => by fin_cases z <;> simp [ix4]
    · refine Eq.trans ?_ (hX a _)
      refine congrArg X0 (funext fun z => Fin.ext ?_)
      refine (congrArg (· + _) (congrFun (off3_eq i hi) z)).trans ?_
      fin_cases z <;> simp [ix3]
  have h := holds_kept c b x (p := { p with p18 := fun X => ∃ G, S801 x G ∧ on18 G X })
    ⟨hk.k15, fun X X' ⟨G, hG, h⟩ hy => ⟨G, hG, kept18 G X X' h hy⟩, hk.k19⟩
  refine Runs.bind (.of_safe h.w25.loads.load) fun _ _ => ?_
  exact Runs.pure _ trivial

end

end Cert.KernelIdeal.Mine

end
-- ==== Proof.FrontHead.lean ====
module

public import proofs.«01_k».proof.Proof.FrontParts
public import Idealize.ShloMosaic.Lib.Claim

/-! The body of the middle call at the first grid point: what its first head writes. -/

@[expose] public section

set_option maxRecDepth 65536

noncomputable section

namespace Cert.KernelIdeal.Mine

open Cert.KernelIdeal Cert.KernelIdeal.Gen Cert.Safe
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable (c : Dev nD) (E : Set ℕ) (b : Bufs) (x : Ins Ideal) {p : Pred Ideal} (i : grid0.Coords)

/-- The running maximum and weighted sums over the point's own keys. -/
def R37 (x : Ins Ideal) (m : FVec Ideal S1x256 .f32) (o : FVec Ideal S80x256 .f32) : Prop :=
  ∃ (G G' : FVec Ideal S1x1x256x512 .f32) (u886 u889 : Vec Ideal S1x1x128x256 .f32) (u892 u895 : Vec Ideal S1x1x128x128 .f32) (u919 : Vec Ideal S80x256 .bf16),
    S801 x G ∧ S801 x G' ∧ (∀ (a : Fin 128) (d : Fin 256), u886 (ix4 0 0 a d) = G (ix4 0 0 ⟨a.val, by omega⟩ ⟨d.val, by omega⟩)) ∧
    (∀ (a : Fin 128) (d : Fin 256), u889 (ix4 0 0 a d) = gB x (ix4 0 0 ⟨512 + a.val, by omega⟩ d)) ∧
    (∀ (a : Fin 128) (d : Fin 128), u892 (ix4 0 0 a d) = G' (ix4 0 0 ⟨128 + a.val, by omega⟩ ⟨128 + d.val, by omega⟩)) ∧
    (∀ (a : Fin 128) (d : Fin 128), u895 (ix4 0 0 a d) = gB x (ix4 0 0 ⟨640 + a.val, by omega⟩ ⟨128 + d.val, by omega⟩)) ∧
    (∀ (a : Fin 80) (d : Fin 256), u919 (ix2 a d) = gV x (ix3 0 ⟨a.val, by omega⟩ d)) ∧
    m = k0_pay132 u886 u889 u892 u895 ∧ o = k0_pay133 u886 u889 u892 u895 u919

/-- The same after the two blocks of keys before. -/
def R38 (x : Ins Ideal) (m : FVec Ideal S1x256 .f32) (o : FVec Ideal S80x256 .f32) (s1 : FVec Ideal S128x256 .f32) (s2 s3 : FVec Ideal S128x128 .f32) : Prop :=
  ∃ (m0 : FVec Ideal S1x256 .f32) (o0 : FVec Ideal S80x256 .f32) (u921 u924 : Vec Ideal S1x1x256x256 .f32) (u936 : Vec Ideal S80x256 .bf16)
    (u943 u946 : Vec Ideal S1x1x128x256 .f32) (u949 u952 : Vec Ideal S1x1x128x128 .f32), R37 x m0 o0 ∧
    (∀ (a : Fin 256) (d : Fin 256), u924 (ix4 0 0 a d) = gB x (ix4 0 0 ⟨256 + a.val, by omega⟩ d)) ∧
    (∀ (a : Fin 128) (d : Fin 256), u946 (ix4 0 0 a d) = gB x (ix4 0 0 ⟨128 + a.val, by omega⟩ d)) ∧
    (∀ (a : Fin 128) (d : Fin 128), u952 (ix4 0 0 a d) = gB x (ix4 0 0 ⟨a.val, by omega⟩ ⟨d.val, by omega⟩)) ∧
    m = k0_pay135 m0 u921 u924 ∧ o = k0_pay136 m0 o0 u921 u924 u936 ∧ s1 = k0_pay137 u943 u946 ∧ s2 = k0_pay138 u949 ∧ s3 = k0_pay139 u952

/-- The first head's output, a column per query. -/
def R39 (x : Ins Ideal) (v : FVec Ideal S64x256 .f32) : Prop :=
  ∃ m o s1 s2 s3, R38 x m o s1 s2 s3 ∧ ∃ u977 : Vec Ideal S80x256 .bf16, v = k0_pay140 m o s1 s2 s3 u977

/-- What holds of the buffers once the scores are stored. -/
structure Ready (x : Ins Ideal) (p : Pred Ideal) : Prop where
  kept : Kept p
  h18 : p.p18 = fun X => ∃ G, S801 x G ∧ on18 G X
  h19 : p.p19 = on19 (gB x)
  h21 : p.p21 = on21 (gV x)

/-- The place of a squeezed row. -/
theorem squeeze_at (h : S640x256.numel = S1x640x256.numel) (a : Fin 640) (d : Fin 256) : Shape.reshapeEquiv h (ix2 a d) = ix3 0 a d :=
  Shape.reshapeEquiv_eq_of_rowMajor h (by
    rw [Shape.rowMajor_val_three, Shape.rowMajor_val_two]
    show ((0 * 640 + a.val) * 256 + d.val) = a.val * 256 + d.val
    simp only [Nat.zero_mul, Nat.zero_add])

/-- What the first head pair stores, its first half. -/
theorem pay154_at (v987 : FVec Ideal S64x256 .f32) (v1031 v1044 v1064 v1068 v1071 v1079) (q : Fin 256) (d : Fin 64) :
    k0_pay154 (F := Ideal) v987 v1031 v1044 v1064 v1068 v1071 v1079 (ix3 0 q ⟨d.val, by omega⟩) = v987 (ix2 d q) := by
  pointwise [k0_pay154]

section
include b x p i

theorem load19 (hp : p.p19 = on19 (gB x)) {rows cols : ℕ} {off : Fin 4 → ℕ} {inb} {hl} (o2 o3 : ℕ) (h2 : o2 + rows ≤ 768) (h3 : o3 + cols ≤ 256)
    (ho : off = ![0, 0, o2, o3]) :
    Runs (defs₀ (F := Ideal)) c E (RP c b x p)
      (Prog.lift (.load b.arg19 (Rect.unit (s := S3x8x768x256) off (⟨4, ![1, 1, rows, cols]⟩ : Shape).size inb).toLoadRect hl))
      (fun v => ∀ (a : Fin rows) (d : Fin cols), v (ix4 0 0 a d) = gB x (ix4 0 0 ⟨o2 + a.val, by omega⟩ ⟨o3 + d.val, by omega⟩)) (RP c b x p) := by
  refine ((slot19 c b x p).load b.harg19 p.p19 (fun X => View.ld X _) rfl fun f => rfl).mono fun v hv => ?_
  obtain ⟨X, hX, rfl⟩ := hv
  rw [hp] at hX
  intro a d
  subst ho
  refine (at_coords X (Rect.unit (s := S3x8x768x256) _ _ inb) (ix4 0 0 a d) _ fun z => ?_).trans (hX _ _)
  fin_cases z <;> simp [ix4]

theorem run_part37 (hi : (i 1).val = 0) (h : Ready x p) (v774 v882) : Runs (defs₀ (F := Ideal)) c E (RP c b x p) (k0_part37 i b.arg2 b.harg2 b.arg3 b.harg3 b.arg4 b.harg4 b.arg5 b.harg5 b.arg6 b.harg6 b.arg7 b.harg7 b.arg8 b.harg8 b.arg9 b.harg9 b.arg10 b.harg10 b.arg11 b.harg11 b.arg12 b.harg12 b.arg13 b.harg13 b.arg14 b.harg14 b.arg15 b.harg15 b.arg16 b.harg16 b.arg17 b.harg17 b.arg18 b.harg18 b.arg19 b.harg19 b.arg20 b.harg20 b.arg21 b.harg21 b.arg22 b.harg22 b.arg23 b.harg23 b.arg24 b.harg24 b.arg25 b.harg25 b.arg26 b.harg26 b.arg27 b.harg27 b.arg28 b.harg28 v774 v882)
    (fun r => R37 x r.1 r.2) (RP c b x p) := by
  rw [k0_part37_eq_skeleton]
  have hh := holds_kept c b x h.kept
  refine Runs.bind (.of_safe (hh.w18.store (.inr (show (1 : ℕ) ≤ 3 by decide)))) fun _ _ => ?_
  refine Runs.bind ((slot18 c b x p).load b.harg18 p.p18 (fun X => View.ld X _) rfl fun f => rfl) fun _ h1 => ?_
  refine Runs.bind (load19 c E b x i h.h19 512 0 (by decide) (by decide) (off4_eq i hi)) fun u889 h2 => ?_
  refine Runs.bind ((slot18 c b x p).load b.harg18 p.p18 (fun X => View.ld X _) rfl fun f => rfl) fun _ h3 => ?_
  refine Runs.bind (load19 c E b x i h.h19 640 128 (by decide) (by decide) (off5_eq i hi)) fun u895 h4 => ?_
  refine Runs.bind ((slot21 c b x p).load b.harg21 p.p21 (fun X => View.ld (Val := Elt Ideal) (fun y => View.ld (Val := Elt Ideal) X
    (Rect.unit (s := S3x640x256) (k0_off6 i 3#32) S1x640x256.size (k0_off6_inb i 2)) (Shape.reshapeEquiv squeezes_S1x640x256_S640x256.numel_eq y))
    (Rect.unit (s := S640x256) ![0, 0] S80x256.size inb_S640x256_S80x256_0_0)) rfl fun f => rfl) fun _ h5 => ?_
  obtain ⟨X1, h1, rfl⟩ := h1
  obtain ⟨X3, h3, rfl⟩ := h3
  obtain ⟨X5, h5, rfl⟩ := h5
  rw [h.h18] at h1 h3
  rw [h.h21] at h5
  obtain ⟨G, hG, h1⟩ := h1
  obtain ⟨G', hG', h3⟩ := h3
  refine Runs.pure _ ⟨G, G', _, u889, _, u895, _, hG, hG', fun a d => ?_, fun a d => ?_, fun a d => ?_, h4, fun a d => ?_, rfl, rfl⟩
  · refine Eq.trans (congrArg X1 (funext fun z => Fin.ext ?_)) (h1 ⟨a.val, by omega⟩ ⟨d.val, by omega⟩)
    fin_cases z <;> simp [ix4]
  · exact (h2 a d).trans (congrArg (gB x) (funext fun z => Fin.ext (by fin_cases z <;> simp [ix4])))
  · refine Eq.trans (congrArg X3 (funext fun z => Fin.ext ?_)) (h3 ⟨128 + a.val, by omega⟩ ⟨128 + d.val, by omega⟩)
    fin_cases z <;> simp [ix4]
  · refine Eq.trans ?_ (h5 ⟨a.val, by omega⟩ d)
    have e : (Rect.unit (s := S640x256) ![0, 0] S80x256.size inb_S640x256_S80x256_0_0).emb (ix2 a d) = ix2 (⟨a.val, by omega⟩ : Fin 640) (⟨d.val, by omega⟩ : Fin 256) :=
      Rect.emb_eq_of_coords _ _ _ fun z => by fin_cases z <;> simp [ix2]
    refine (congrArg (fun y => X5 ((Rect.unit (s := S3x640x256) (k0_off6 i 3#32) S1x640x256.size (k0_off6_inb i 2)).emb
      (Shape.reshapeEquiv squeezes_S1x640x256_S640x256.numel_eq y))) e).trans ?_
    refine (congrArg (fun y => X5 ((Rect.unit (s := S3x640x256) (k0_off6 i 3#32) S1x640x256.size (k0_off6_inb i 2)).emb y)) (squeeze_at _ _ _)).trans ?_
    refine congrArg X5 (funext fun z => Fin.ext ?_)
    refine Eq.trans (congrArg₂ (· + ·) (congrFun (off6_eq i hi) z) rfl) ?_
    fin_cases z <;> simp [ix3]

theorem run_part38 (hi : (i 1).val = 0) (h : Ready x p) (v774 m o) (hm : R37 x m o) : Runs (defs₀ (F := Ideal)) c E (RP c b x p) (k0_part38 i b.arg2 b.harg2 b.arg3 b.harg3 b.arg4 b.harg4 b.arg5 b.harg5 b.arg6 b.harg6 b.arg7 b.harg7 b.arg8 b.harg8 b.arg9 b.harg9 b.arg10 b.harg10 b.arg11 b.harg11 b.arg12 b.harg12 b.arg13 b.harg13 b.arg14 b.harg14 b.arg15 b.harg15 b.arg16 b.harg16 b.arg17 b.harg17 b.arg18 b.harg18 b.arg19 b.harg19 b.arg20 b.harg20 b.arg21 b.harg21 b.arg22 b.harg22 b.arg23 b.harg23 b.arg24 b.harg24 b.arg25 b.harg25 b.arg26 b.harg26 b.arg27 b.harg27 b.arg28 b.harg28 v774 m o)
    (fun r => R38 x r.1 r.2.1 r.2.2.1 r.2.2.2.1 r.2.2.2.2) (RP c b x p) := by
  rw [k0_part38_eq_skeleton]
  refine Runs.bind ((slot18 c b x p).load b.harg18 p.p18 (fun X => View.ld X _) rfl fun f => rfl) fun u921 _ => ?_
  refine Runs.bind (load19 c E b x i h.h19 256 0 (by decide) (by decide) (off7_eq i hi)) fun u924 h2 => ?_
  refine Runs.bind ((slot21 c b x p).load b.harg21 p.p21 (fun X => View.ld (Val := Elt Ideal) (fun y => View.ld (Val := Elt Ideal) X
    (Rect.unit (s := S3x640x256) (k0_off6 i 2#32) S1x640x256.size (k0_off6_inb i 1)) (Shape.reshapeEquiv squeezes_S1x640x256_S640x256.numel_eq y))
    (Rect.unit (s := S640x256) ![0, 0] S80x256.size inb_S640x256_S80x256_0_0)) rfl fun f => rfl) fun u936 _ => ?_
  refine Runs.bind ((slot18 c b x p).load b.harg18 p.p18 (fun X => View.ld X _) rfl fun f => rfl) fun u943 _ => ?_
  refine Runs.bind (load19 c E b x i h.h19 128 0 (by decide) (by decide) (off8_eq i hi)) fun u946 h4 => ?_
  refine Runs.bind ((slot18 c b x p).load b.harg18 p.p18 (fun X => View.ld X _) rfl fun f => rfl) fun u949 _ => ?_
  refine Runs.bind (load19 c E b x i h.h19 0 0 (by decide) (by decide) (off9_eq i hi)) fun u952 h6 => ?_
  refine Runs.pure _ ⟨m, o, u921, u924, u936, u943, u946, u949, u952, hm, fun a d => ?_, fun a d => ?_, fun a d => ?_, rfl, rfl, rfl, rfl, rfl⟩
  · exact (h2 a d).trans (congrArg (gB x) (funext fun z => Fin.ext (by fin_cases z <;> simp [ix4])))
  · exact (h4 a d).trans (congrArg (gB x) (funext fun z => Fin.ext (by fin_cases z <;> simp [ix4])))
  · exact (h6 a d).trans (congrArg (gB x) (funext fun z => Fin.ext (by fin_cases z <;> simp [ix4])))

theorem run_part39 (h : Ready x p) (v774 m o s1 s2 s3) (hm : R38 x m o s1 s2 s3) : Runs (defs₀ (F := Ideal)) c E (RP c b x p) (k0_part39 i b.arg2 b.harg2 b.arg3 b.harg3 b.arg4 b.harg4 b.arg5 b.harg5 b.arg6 b.harg6 b.arg7 b.harg7 b.arg8 b.harg8 b.arg9 b.harg9 b.arg10 b.harg10 b.arg11 b.harg11 b.arg12 b.harg12 b.arg13 b.harg13 b.arg14 b.harg14 b.arg15 b.harg15 b.arg16 b.harg16 b.arg17 b.harg17 b.arg18 b.harg18 b.arg19 b.harg19 b.arg20 b.harg20 b.arg21 b.harg21 b.arg22 b.harg22 b.arg23 b.harg23 b.arg24 b.harg24 b.arg25 b.harg25 b.arg26 b.harg26 b.arg27 b.harg27 b.arg28 b.harg28 v774 m o s1 s2 s3)
    (fun r => R39 x r.1) (RP c b x p) := by
  rw [k0_part39_eq_skeleton]
  have hh := holds_kept c b x h.kept
  refine Runs.bind ((slot21 c b x p).load b.harg21 p.p21 (fun X => View.ld (Val := Elt Ideal) (fun y => View.ld (Val := Elt Ideal) X
    (Rect.unit (s := S3x640x256) (k0_off6 i 1#32) S1x640x256.size (k0_off6_inb i 0)) (Shape.reshapeEquiv squeezes_S1x640x256_S640x256.numel_eq y))
    (Rect.unit (s := S640x256) ![0, 0] S80x256.size inb_S640x256_S80x256_0_0)) rfl fun f => rfl) fun u977 _ => ?_
  refine Runs.bind (.of_safe hh.w18.loads.load) fun _ _ => ?_
  refine Runs.bind (.of_safe hh.w19.loads.load) fun _ _ => ?_
  exact Runs.pure _ ⟨m, o, s1, s2, s3, hm, u977, rfl⟩

theorem run_part42 (h : Ready x p) (v774 v987 v1031 v1044 v1064 v1068 v1071) (hv : R39 x v987) :
    Runs (defs₀ (F := Ideal)) c E (RP c b x p) (k0_part42 i b.arg2 b.harg2 b.arg3 b.harg3 b.arg4 b.harg4 b.arg5 b.harg5 b.arg6 b.harg6 b.arg7 b.harg7 b.arg8 b.harg8 b.arg9 b.harg9 b.arg10 b.harg10 b.arg11 b.harg11 b.arg12 b.harg12 b.arg13 b.harg13 b.arg14 b.harg14 b.arg15 b.harg15 b.arg16 b.harg16 b.arg17 b.harg17 b.arg18 b.harg18 b.arg19 b.harg19 b.arg20 b.harg20 b.arg21 b.harg21 b.arg22 b.harg22 b.arg23 b.harg23 b.arg24 b.harg24 b.arg25 b.harg25 b.arg26 b.harg26 b.arg27 b.harg27 b.arg28 b.harg28 v774 v987 v1031 v1044 v1064 v1068 v1071)
    (fun _ => True) (RP c b x { p with p15 := on15 (R39 x) }) := by
  rw [k0_part42_eq_skeleton]
  have hh := holds_kept c b x h.kept
  refine Runs.bind (.of_safe hh.w21.loads.slice.squeeze.load) fun _ _ => ?_
  refine Runs.bind (.of_safe hh.w15.loads.load) fun _ _ => ?_
  refine Runs.bind ((slot15 c b x p).store b.harg15 p.p15 (on15 (R39 x)) fun X X' _ h1 _ => ?_) fun _ _ => ?_
  · refine ⟨v987, hv, fun q d => Eq.trans (at_store h1 (ix3 0 q (⟨d.val, by omega⟩ : Fin 128)) _ fun z => ?_) (pay154_at v987 _ _ _ _ _ _ q d)⟩
    fin_cases z <;> simp [ix3]
  have hh := holds_kept c b x (p := { p with p15 := on15 (R39 x) }) ⟨kept15 _, h.kept.k18, h.kept.k19⟩
  refine Runs.bind (.of_safe hh.w18.loads.load) fun _ _ => ?_
  refine Runs.bind (.of_safe hh.w19.loads.load) fun _ _ => ?_
  refine Runs.bind (.of_safe hh.w18.loads.load) fun _ _ => ?_
  refine Runs.bind (.of_safe hh.w19.loads.load) fun _ _ => ?_
  exact Runs.pure _ trivial

end

end Cert.KernelIdeal.Mine

end
-- ==== Proof.FrontBias.lean ====
module

public import proofs.«01_k».proof.Proof.FrontHead
public import Idealize.ShloMosaic.Lib.Pipeline.ValueKit

/-! The kernel's bias table at the first point, at an index. -/

@[expose] public section

set_option maxRecDepth 65536

noncomputable section

namespace Cert.KernelIdeal.Mine

open Cert.KernelIdeal Cert.KernelIdeal.Gen
open Idealize.ShloMosaic Idealize.ShloMosaic.TcCoe Idealize.ShloMosaic.Tactic

/-- The chunk of a query. -/
theorem chunk_q (k : Fin 768) (q : Fin 256) : k0_pay2 (ix2 k q) = BitVec.ofNat 32 ((q.val + 512) / 64) := by
  unfold k0_pay2
  pointwise
  revert q; decide +kernel

/-- The chunk of a key. -/
theorem chunk_k (k : Fin 768) (q : Fin 256) : k0_pay6 k0_pay2 k0_pay3 k0_pay4 k0_pay5 0#32 (ix2 k q) =
    BitVec.ofNat 32 ((q.val + 512) / 64) - BitVec.ofNat 32 (k.val / 64) := by
  unfold k0_pay6
  pointwise
  rw [chunk_q]
  congr 1
  unfold k0_pay3 k0_pay4 k0_pay5
  pointwise
  revert k; decide +kernel

/-- The mask's value. -/
theorem mask_eq : (Named.named κ "mask" 0xF149F2CA#32 : Ideal .f32) = (⊥ : EReal) := by
  rfl

/-- Which keys belong to the queries' own block. -/
theorem late : ∀ k : Fin 768, IntOp.cmpi CmpIPredicate.sge (BitVec.ofNat 32 k.val) 512#32 = if 512 ≤ k.val then 1#1 else 0#1 := by
  decide +kernel

/-- Not a later chunk. -/
theorem chunk_ge : ∀ a b : Fin 12, IntOp.cmpi CmpIPredicate.sge (BitVec.ofNat 32 a.val - BitVec.ofNat 32 b.val) 0#32 =
    if b.val ≤ a.val then 1#1 else 0#1 := by decide +kernel

/-- At most eight chunks before. -/
theorem chunk_le : ∀ a b : Fin 12, 8 ≤ b.val → IntOp.cmpi CmpIPredicate.sle (BitVec.ofNat 32 a.val - BitVec.ofNat 32 b.val) 8#32 = 1#1 := by
  decide +kernel

/-- The table at an index. -/
theorem gB_at (x : Ins Ideal) (k : Fin 768) (q : Fin 256) : gB x (ix4 0 0 k q) =
    if 512 ≤ k.val then if k.val / 64 ≤ (q.val + 512) / 64 then x.x11 (ix2 0 ⟨(q.val + 1024 - k.val % 1024) % 1024, Nat.mod_lt _ (by omega)⟩)
      else (⊥ : EReal) else (⊥ : EReal) := by
  unfold gB k0_pay8 k0_pay7
  pointwise
  rw [chunk_k, late, mask_eq]
  by_cases h : 512 ≤ k.val
  · have h1 := chunk_ge ⟨(q.val + 512) / 64, by omega⟩ ⟨k.val / 64, by omega⟩
    have h2 := chunk_le ⟨(q.val + 512) / 64, by omega⟩ ⟨k.val / 64, by omega⟩ (by show 8 ≤ k.val / 64; omega)
    dsimp only at h1 h2
    rw [h1, h2, if_pos h, if_pos h]
    by_cases h3 : k.val / 64 ≤ (q.val + 512) / 64
    · rw [if_pos h3, if_pos h3]; rfl
    · rw [if_neg h3, if_neg h3]; rfl
  · rw [if_neg h, if_neg h]; rfl

/-- Of the two blocks of keys before, everything is masked; -/
theorem gB_before (x : Ins Ideal) (k : Fin 768) (q : Fin 256) (h : k.val < 512) : gB x (ix4 0 0 k q) = (⊥ : EReal) := by
  rw [gB_at, if_neg (by omega)]

/-- of the queries' own block, the bias of the distance, or masked where the key's chunk is a later one. -/
theorem gB_self (x : Ins Ideal) (a q : Fin 256) : gB x (ix4 0 0 ⟨512 + a.val, by omega⟩ q) =
    if a.val / 64 ≤ q.val / 64 then x.x11 (ix2 0 ⟨q.val + 512 - a.val, by omega⟩) else (⊥ : EReal) := by
  rw [gB_at, if_pos (by show 512 ≤ 512 + a.val; omega)]
  have e : (q.val + 1024 - (512 + a.val) % 1024) % 1024 = q.val + 512 - a.val := by omega
  have e2 : (512 + a.val) / 64 ≤ (q.val + 512) / 64 ↔ a.val / 64 ≤ q.val / 64 := by omega
  simp only [e, e2]

end Cert.KernelIdeal.Mine

end
-- ==== Proof.FrontScores.lean ====
module

public import proofs.«01_k».proof.Proof.FrontBias
public import Idealize.ShloMosaic.Lib.Pipeline.ValueKit

/-! The first head at the first point, at an index: the scores, the running maximum, the weighted sums. -/

@[expose] public section

set_option maxRecDepth 65536

noncomputable section

namespace Cert.KernelIdeal.Mine

open Cert.KernelIdeal Cert.KernelIdeal.Gen
open Idealize.ShloMosaic Idealize.ShloMosaic.TcCoe Idealize.ShloMosaic.Tactic

/-- The score of key `k` for query `q`. -/
def sc (x : Ins Ideal) (k q : Fin 256) : EReal := ∑ d : Fin 64, gK x (ix3 0 k ⟨d.val, by omega⟩) * gQ x (ix3 0 q ⟨d.val, by omega⟩)

/-- Score plus bias, masked. -/
def tt (x : Ins Ideal) (k q : Fin 256) : EReal :=
  sc x k q + if k.val / 64 ≤ q.val / 64 then x.x11 (ix2 0 ⟨q.val + 512 - k.val, by omega⟩) else ⊥

/-- The first 64 of 128 channels. -/
theorem half : ∀ d : Fin 128, IntOp.cmpi CmpIPredicate.slt (BitVec.ofNat 32 d.val) 64#32 = if d.val < 64 then 1#1 else 0#1 := by
  decide +kernel

/-- The stored scores: the head's 64 channels count, the other head's are blanked. -/
theorem S801_at {x : Ins Ideal} {G} (h : S801 x G) (k q : Fin 256) : G (ix4 0 0 k ⟨q.val, by omega⟩) = sc x k q := by
  obtain ⟨u, w, ⟨u', hu', rfl⟩, hw, rfl⟩ := h
  unfold k0_pay115 sc
  pointwise [k0_pay112, k0_pay111]
  refine (Fin.sum_univ_add (a := 64) (b := 64) _).trans ?_
  have z : ∀ d : Fin 64, Scalar.select (IntOp.cmpi CmpIPredicate.slt (BitVec.ofNat 32 (Fin.natAdd 64 d).val) 64#32)
      (w (ix3 0 k (Fin.natAdd 64 d)) * u' (ix3 0 q (Fin.natAdd 64 d))) (0 : EReal) = 0 := fun d => by
    rw [half (Fin.natAdd 64 d), if_neg (by simp)]; rfl
  rw [Finset.sum_congr rfl fun d _ => z d, Finset.sum_const_zero, add_zero]
  refine Finset.sum_congr rfl fun d _ => ?_
  rw [half (Fin.castAdd 64 d), if_pos (by simp), hw, hu']; rfl

/-- The maximum of finitely many numbers below `⊤`, one of them above `⊥`. -/
theorem fold_lt {n : ℕ} {f : Fin n → EReal} {b : EReal} (hb : b < ⊤) (h : ∀ i, f i < ⊤) : Finset.fold max b f Finset.univ < ⊤ :=
  (Finset.fold_max_lt _).2 ⟨hb, fun i _ => h i⟩

/-- A maximum with a member above its bound. -/
theorem lt_fold {n : ℕ} {f : Fin n → EReal} {b : EReal} (i : Fin n) (h : ⊥ < f i) : ⊥ < Finset.fold max b f Finset.univ :=
  (Finset.lt_fold_max _).2 (.inr ⟨i, Finset.mem_univ _, h⟩)

/-- The maximum of numbers all least is least. -/
theorem fold_bot {n : ℕ} {f : Fin n → EReal} (h : ∀ i, f i = ⊥) : Finset.fold max ⊥ f Finset.univ = ⊥ := by
  rw [← le_bot_iff]; exact (Finset.fold_max_le _).2 ⟨le_rfl, fun i _ => (h i).le⟩

/-- The number a maximum starts from. -/
theorem lo_eq : Ideal.ofBits FTy.f32 0xFF800000#32 = (⊥ : EReal) := by
  rfl

/-- What the query's scores must be: none `⊤`, the first key's not masked. -/
def Good (x : Ins Ideal) (q : Fin 256) : Prop := (∀ k, tt x k q < ⊤) ∧ ⊥ < tt x 0 q

/-- A weighted sum of the values over the queries' own block, relative to `M`. -/
def ws (x : Ins Ideal) (r : Fin 80) (q : Fin 256) (M : EReal) : EReal :=
  ∑ j : Fin 256, gV x (ix3 0 ⟨r.val, by omega⟩ j) * Ideal.exp (tt x j q - M)

/-- A masked key weighs nothing. -/
theorem exp_masked (M : EReal) : Ideal.exp (⊥ - M) = 0 := by
  rw [sub_eq_add_neg, EReal.bot_add]; rfl

/-- The greatest score weighs one. -/
theorem exp_self {a : EReal} (h : ⊥ < a ∧ a < ⊤) : Ideal.exp (a - a) = 1 := by
  rw [EReal.sub_self h.2.ne h.1.ne']
  exact (congrArg (fun y : ℝ => (y : EReal)) Real.exp_zero).trans EReal.coe_one

/-- After the queries' own block. -/
theorem R37_at {x : Ins Ideal} {m o} (h : R37 x m o) (q : Fin 256) (hg : Good x q) :
    (⊥ < m (ix2 0 q) ∧ m (ix2 0 q) < ⊤) ∧ ∀ r, o (ix2 r q) = ws x r q (m (ix2 0 q)) := by
  obtain ⟨G, G', u886, u889, u892, u895, u919, hG, hG', h1, h2, h3, h4, h5, rfl, rfl⟩ := h
  have t1 : ∀ a : Fin 128, u886 (ix4 0 0 a q) + u889 (ix4 0 0 a q) = tt x ⟨a.val, by omega⟩ q := fun a => by
    rw [h1, h2]; exact congrArg₂ (· + ·) (S801_at hG ⟨a.val, by omega⟩ q) (gB_self x ⟨a.val, by omega⟩ q)
  have t2 : ∀ a p : Fin 128, u892 (ix4 0 0 a p) + u895 (ix4 0 0 a p) = tt x ⟨128 + a.val, by omega⟩ ⟨128 + p.val, by omega⟩ := fun a p => by
    rw [h3, h4]
    have e : (⟨640 + a.val, by omega⟩ : Fin 768) = ⟨512 + (128 + a.val), by omega⟩ := Fin.ext (by show 640 + a.val = 512 + (128 + a.val); omega)
    rw [e]
    exact congrArg₂ (· + ·) (S801_at hG' ⟨128 + a.val, by omega⟩ ⟨128 + p.val, by omega⟩) (gB_self x ⟨128 + a.val, by omega⟩ ⟨128 + p.val, by omega⟩)
  constructor
  · unfold k0_pay132
    pointwise [k0_pay130, k0_pay131]
    simp only [t1, t2, lo_eq, mask_eq]
    refine ⟨lt_max_of_lt_left (lt_fold 0 hg.2), max_lt (fold_lt bot_lt_top fun a => hg.1 _) ?_⟩
    split
    · exact bot_lt_top
    · rename_i hq
      refine fold_lt bot_lt_top fun a => ?_
      have e : (⟨128 + (q.val - 128), by omega⟩ : Fin 256) = q := Fin.ext (by show 128 + (q.val - 128) = q.val; omega)
      rw [e]; exact hg.1 _
  · intro r
    unfold k0_pay133
    generalize hm : k0_pay132 (F := Ideal) u886 u889 u892 u895 = m
    pointwise [k0_pay130, k0_pay131]
    simp only [t1, t2, h5]
    refine Eq.trans ?_ (Fin.sum_univ_add (a := 128) (b := 128) _).symm
    refine congrArg₂ (· + ·) rfl (Finset.sum_congr rfl fun a _ => congrArg₂ (· * ·) rfl ?_)
    split
    · rename_i hq
      have : tt x (Fin.natAdd 128 a) q = ⊥ := by
        unfold tt
        rw [if_neg (by show ¬ (128 + a.val) / 64 ≤ q.val / 64; omega), EReal.add_bot]
      exact ((congrArg (fun y => Ideal.exp (y - m (ix2 0 q))) this).trans (exp_masked _)).symm
    · rename_i hq
      have e : (⟨128 + (q.val - 128), by omega⟩ : Fin 256) = q := Fin.ext (by show 128 + (q.val - 128) = q.val; omega)
      rw [e]; rfl

/-- The two blocks of keys before are masked and change nothing. -/
theorem R38_at {x : Ins Ideal} {m o s1 s2 s3} (h : R38 x m o s1 s2 s3) (q : Fin 256) (hg : Good x q) :
    ((⊥ < m (ix2 0 q) ∧ m (ix2 0 q) < ⊤) ∧ ∀ r, o (ix2 r q) = ws x r q (m (ix2 0 q))) ∧
      (∀ a, s1 (ix2 a q) = (⊥ : EReal)) ∧ ∀ a p, s2 (ix2 a p) + s3 (ix2 a p) = (⊥ : EReal) := by
  obtain ⟨m0, o0, u921, u924, u936, u943, u946, u949, u952, h37, h1, h2, h3, rfl, rfl, rfl, rfl, rfl⟩ := h
  have h37 := R37_at h37 q hg
  have t1 : ∀ a : Fin 256, u921 (ix4 0 0 a q) + u924 (ix4 0 0 a q) = (⊥ : EReal) := fun a => by
    rw [h1, gB_before x _ _ (by show 256 + a.val < 512; omega), EReal.add_bot]
  have hm : k0_pay135 m0 u921 u924 (ix2 0 q) = m0 (ix2 0 q) := by
    unfold k0_pay135
    pointwise [k0_pay134]
    rw [lo_eq, fold_bot t1, max_bot_right]
  refine ⟨⟨by rw [hm]; exact h37.1, fun r => ?_⟩, fun a => ?_, fun a p => ?_⟩
  · rw [hm]
    unfold k0_pay136
    generalize k0_pay135 (F := Ideal) m0 u921 u924 = m at hm ⊢
    pointwise [k0_pay134]
    simp only [t1, hm, exp_masked, mul_zero, Finset.sum_const_zero, add_zero]
    rw [exp_self h37.1, mul_one]; exact h37.2 r
  · unfold k0_pay137
    pointwise
    rw [h2, gB_before x _ _ (by show 128 + a.val < 512; omega), EReal.add_bot]
  · unfold k0_pay138 k0_pay139
    pointwise
    rw [h3, gB_before x _ _ (by show a.val < 512; omega), EReal.add_bot]

/-- The first head's output: the weighted sums over the sum of the weights. -/
theorem R39_at {x : Ins Ideal} {v} (h : R39 x v) (q : Fin 256) (hg : Good x q) (d : Fin 64) :
    ∃ M : EReal, (⊥ < M ∧ M < ⊤) ∧ v (ix2 d q) = Ideal.div (ws x ⟨d.val, by omega⟩ q M) (ws x ⟨64, by omega⟩ q M) := by
  obtain ⟨m, o, s1, s2, s3, h38, u977, rfl⟩ := h
  obtain ⟨⟨hM, ho⟩, h1, h2⟩ := R38_at h38 q hg
  refine ⟨m (ix2 0 q), hM, ?_⟩
  unfold k0_pay140
  pointwise
  have hb : ∀ n, Finset.fold max ⊥ (fun _ : Fin n => (⊥ : EReal)) Finset.univ = ⊥ := fun n => fold_bot fun _ => rfl
  simp only [h1, h2, lo_eq, mask_eq, exp_masked, hb, dite_eq_ite, ite_self, max_bot_right, mul_zero, Finset.sum_const_zero, add_zero]
  rw [exp_self hM, mul_one, mul_one]
  exact congrArg₂ Ideal.div (ho _) (ho _)

end Cert.KernelIdeal.Mine

end
-- ==== Proof.FrontBody.lean ====
module

public import proofs.«01_k».proof.Proof.FrontHead
public import Idealize.ShloMosaic.Lib.Claim

/-! The body of the middle call at the first grid point. -/

@[expose] public section

set_option maxRecDepth 65536

noncomputable section

namespace Cert.KernelIdeal.Mine

open Cert.KernelIdeal Cert.KernelIdeal.Gen Cert.Safe
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable (c : Dev nD) (E : Set ℕ) (b : Bufs) (x : Ins Ideal) (i : grid0.Coords)

theorem run_part10 (hi0 : (i 0).val = 0) (hi : (i 1).val = 0) : Runs (defs₀ (F := Ideal)) c E (RP c b x top) (k0_part10 i b.arg2 b.harg2 b.arg3 b.harg3 b.arg4 b.harg4 b.arg5 b.harg5 b.arg6 b.harg6 b.arg7 b.harg7 b.arg8 b.harg8 b.arg9 b.harg9 b.arg10 b.harg10 b.arg11 b.harg11 b.arg12 b.harg12 b.arg13 b.harg13 b.arg14 b.harg14 b.arg15 b.harg15 b.arg16 b.harg16 b.arg17 b.harg17 b.arg18 b.harg18 b.arg19 b.harg19 b.arg20 b.harg20 b.arg21 b.harg21 b.arg22 b.harg22 b.arg23 b.harg23 b.arg24 b.harg24 b.arg25 b.harg25 b.arg26 b.harg26 b.arg27 b.harg27 b.arg28 b.harg28)
    (fun r => r.1 = 0#32 ∧ r.2.1 = 0#32) (RP c b x top) := by
  have h := holds_top c b x
  rw [k0_part10_eq_skeleton]
  refine Runs.ite (fun _ => ?_) (fun _ => ?_)
  · refine Runs.bind (.of_safe ?_) fun _ _ => ?_
    · exact h.w20.loads.load
    refine Runs.bind (.of_safe ?_) fun _ _ => ?_
    · exact h.w20.store trivial
    refine Runs.bind (.of_safe ?_) fun _ _ => ?_
    · exact h.w21.loads.load
    refine Runs.bind (.of_safe ?_) fun _ _ => ?_
    · exact h.w21.store trivial
    refine Runs.ite (fun _ => ?_) (fun _ => ?_)
    · refine Runs.bind (.of_safe ?_) fun _ _ => ?_
      · exact h.w16.load
      refine Runs.bind (.of_safe ?_) fun _ _ => ?_
      · exact h.w16.store
      refine Runs.ite (fun _ => ?_) (fun _ => ?_)
      · refine Runs.bind (.of_safe ?_) fun _ _ => ?_
        · exact h.w16.load
        refine Runs.bind (.of_safe ?_) fun _ _ => ?_
        · exact h.w16.load
        refine Runs.bind (.of_safe ?_) fun _ _ => ?_
        · exact h.w16.store
        exact Runs.pure _ ⟨by simp [hi0], by simp [hi]⟩
      · exact Runs.pure _ ⟨by simp [hi0], by simp [hi]⟩
    · refine Runs.ite (fun _ => ?_) (fun _ => ?_)
      · refine Runs.bind (.of_safe ?_) fun _ _ => ?_
        · exact h.w16.load
        refine Runs.bind (.of_safe ?_) fun _ _ => ?_
        · exact h.w16.load
        refine Runs.bind (.of_safe ?_) fun _ _ => ?_
        · exact h.w16.store
        exact Runs.pure _ ⟨by simp [hi0], by simp [hi]⟩
      · exact Runs.pure _ ⟨by simp [hi0], by simp [hi]⟩
  · refine Runs.ite (fun _ => ?_) (fun _ => ?_)
    · refine Runs.bind (.of_safe ?_) fun _ _ => ?_
      · exact h.w16.load
      refine Runs.bind (.of_safe ?_) fun _ _ => ?_
      · exact h.w16.store
      refine Runs.ite (fun _ => ?_) (fun _ => ?_)
      · refine Runs.bind (.of_safe ?_) fun _ _ => ?_
        · exact h.w16.load
        refine Runs.bind (.of_safe ?_) fun _ _ => ?_
        · exact h.w16.load
        refine Runs.bind (.of_safe ?_) fun _ _ => ?_
        · exact h.w16.store
        exact Runs.pure _ ⟨by simp [hi0], by simp [hi]⟩
      · exact Runs.pure _ ⟨by simp [hi0], by simp [hi]⟩
    · refine Runs.ite (fun _ => ?_) (fun _ => ?_)
      · refine Runs.bind (.of_safe ?_) fun _ _ => ?_
        · exact h.w16.load
        refine Runs.bind (.of_safe ?_) fun _ _ => ?_
        · exact h.w16.load
        refine Runs.bind (.of_safe ?_) fun _ _ => ?_
        · exact h.w16.store
        exact Runs.pure _ ⟨by simp [hi0], by simp [hi]⟩
      · exact Runs.pure _ ⟨by simp [hi0], by simp [hi]⟩

/-- What is known of the buffers after each stage of the point. -/
def st1 (x : Ins Ideal) : Pred Ideal := { (top : Pred Ideal) with p21 := on21 (gV x) }
def st2 (x : Ins Ideal) : Pred Ideal := { st1 x with p20 := on20 (gK x), p25 := on25 (gQ x) }
def st3 (x : Ins Ideal) : Pred Ideal := { st2 x with p19 := on19 (gB x) }
def st4 (x : Ins Ideal) : Pred Ideal := { st3 x with p18 := fun X => ∃ G, S801 x G ∧ on18 G X }
def st5 (x : Ins Ideal) : Pred Ideal := { st4 x with p15 := on15 (R39 x) }

theorem kept1 : Kept (st1 x) := ⟨kept_top.k15, kept_top.k18, kept_top.k19⟩
theorem kept2 : Kept (st2 x) := ⟨kept_top.k15, kept_top.k18, kept_top.k19⟩
theorem kept3 : Kept (st3 x) := ⟨kept_top.k15, kept_top.k18, kept19 _⟩
theorem kept4 : Kept (st4 x) := ⟨kept_top.k15, fun X X' ⟨G, hG, h⟩ hy => ⟨G, hG, kept18 G X X' h hy⟩, kept19 _⟩
theorem kept5 : Kept (st5 x) := ⟨kept15 _, (kept4 x).k18, kept19 _⟩
theorem ready4 : Ready x (st4 x) := ⟨kept4 x, rfl, rfl, rfl⟩

theorem run_part80 (hi0 : (i 0).val = 0) (hi : (i 1).val = 0) : Runs (defs₀ (F := Ideal)) c E (RP c b x top) (k0_part80 i b.arg2 b.harg2 b.arg3 b.harg3 b.arg4 b.harg4 b.arg5 b.harg5 b.arg6 b.harg6 b.arg7 b.harg7 b.arg8 b.harg8 b.arg9 b.harg9 b.arg10 b.harg10 b.arg11 b.harg11 b.arg12 b.harg12 b.arg13 b.harg13 b.arg14 b.harg14 b.arg15 b.harg15 b.arg16 b.harg16 b.arg17 b.harg17 b.arg18 b.harg18 b.arg19 b.harg19 b.arg20 b.harg20 b.arg21 b.harg21 b.arg22 b.harg22 b.arg23 b.harg23 b.arg24 b.harg24 b.arg25 b.harg25 b.arg26 b.harg26 b.arg27 b.harg27 b.arg28 b.harg28)
    (fun _ => True) (RP c b x (st5 x)) := by
  unfold k0_part80
  have h := holds_kept c b x kept_top
  refine Runs.bind (run_part10 c E b x i hi0 hi) ?_
  rintro ⟨arg0, arg1, v16, v27⟩ ⟨e0, e1⟩
  cases e0; cases e1
  refine Runs.bind (run_part11 c E b x i kept_top) ?_
  rintro ⟨v49, v70⟩ e
  cases e
  refine Runs.bind (.of_safe (safe_part12 c E _ False i h _)) ?_
  rintro ⟨_, _⟩ _
  refine Runs.bind (.of_safe (safe_part13 c E _ False i h _ _ _ _)) ?_
  rintro ⟨_, _⟩ _
  refine Runs.bind (.of_safe (safe_part14 c E _ False i h _ _)) ?_
  rintro _ _
  refine Runs.bind (run_part15 c E b x i hi kept_top _ _ _) ?_
  rintro ⟨v205, cst⟩ e
  cases e
  have h := holds_kept c b x (kept1 x)
  refine Runs.bind (run_part16 c E b x (p := st1 x) i hi (kept1 x) _) ?_
  rintro ⟨_, _⟩ _
  have h := holds_kept c b x (kept2 x)
  refine Runs.bind (.of_safe (safe_part17 c E _ False i h _ _)) ?_
  rintro ⟨_, _⟩ _
  refine Runs.bind (.of_safe (safe_part18 c E _ False i h _ _)) ?_
  rintro ⟨_, _⟩ _
  refine Runs.bind (.of_safe (safe_part19 c E _ False i h _ _)) ?_
  rintro _ _
  refine Runs.bind (.of_safe (safe_part20 c E _ False i h _)) ?_
  rintro _ _
  refine Runs.bind (.of_safe (safe_part21 c E _ False i h _)) ?_
  rintro ⟨_, _⟩ _
  refine Runs.bind (.of_safe (safe_part22 c E _ False i h _ _)) ?_
  rintro ⟨_, _⟩ _
  refine Runs.bind (.of_safe (safe_part23 c E _ False i h _ _)) ?_
  rintro ⟨_, _⟩ _
  refine Runs.bind (.of_safe (safe_part24 c E _ False i h _ _)) ?_
  rintro ⟨_, _⟩ _
  refine Runs.bind (.of_safe (safe_part25 c E _ False i h _ _)) ?_
  rintro ⟨_, _⟩ _
  refine Runs.bind (.of_safe (safe_part26 c E _ False i h _ _)) ?_
  rintro ⟨_, _⟩ _
  refine Runs.bind (.of_safe (safe_part27 c E _ False i h _ _)) ?_
  rintro ⟨_, _⟩ _
  refine Runs.bind (.of_safe (safe_part28 c E _ False i h _ _)) ?_
  rintro ⟨_, _⟩ _
  refine Runs.bind (.of_safe (safe_part29 c E _ False i h _ _)) ?_
  rintro _ _
  refine Runs.bind (.of_safe (safe_part30 c E _ False i h _ _)) ?_
  rintro ⟨_, _, _⟩ _
  refine Runs.bind (.of_safe (safe_part31 c E _ False i h _ _ _ _)) ?_
  rintro ⟨_, _, _⟩ _
  refine Runs.bind (run_part32 c E b x (p := st2 x) i hi0 hi (kept2 x) rfl _ _ _) ?_
  rintro ⟨v774, v777, v783⟩ hv
  have h := holds_kept c b x (kept3 x)
  refine Runs.bind (run_part33 c E b x (p := st3 x) i hi (kept3 x) rfl rfl _ _ hv) ?_
  rintro _ _
  have h := holds_kept c b x (kept4 x)
  refine Runs.bind (.of_safe (safe_part34 c E _ False i h _)) ?_
  rintro ⟨_, _⟩ _
  refine Runs.bind (.of_safe (safe_part35 c E _ False i h _ _ _)) ?_
  rintro _ _
  refine Runs.bind (.of_safe (safe_part36 c E _ False i h _)) ?_
  rintro _ _
  refine Runs.bind (run_part37 c E b x (p := st4 x) i hi (ready4 x) _ _) ?_
  rintro ⟨v904, v920⟩ hm
  refine Runs.bind (run_part38 c E b x (p := st4 x) i hi (ready4 x) _ _ _ hm) ?_
  rintro ⟨v929, v942, v948, v950, v953⟩ hm
  refine Runs.bind (run_part39 c E b x (p := st4 x) i (ready4 x) _ _ _ _ _ _ hm) ?_
  rintro ⟨v987, v993⟩ hm
  refine Runs.bind (.of_safe (safe_part40 c E _ False i h _ _)) ?_
  rintro ⟨_, _, _, _⟩ _
  refine Runs.bind (.of_safe (safe_part41 c E _ False i h _ _ _ _ _)) ?_
  rintro ⟨_, _, _, _⟩ _
  refine Runs.bind (run_part42 c E b x (p := st4 x) i (ready4 x) _ _ _ _ _ _ _ hm) ?_
  rintro ⟨_, _⟩ _
  have h := holds_kept c b x (kept5 x)
  refine Runs.bind (.of_safe (safe_part43 c E _ False i h _ _ _)) ?_
  rintro ⟨_, _, _, _, _⟩ _
  refine Runs.bind (.of_safe (safe_part44 c E _ False i h _ _ _ _ _ _)) ?_
  rintro ⟨_, _, _⟩ _
  refine Runs.bind (.of_safe (safe_part45 c E _ False i h _ _ _ _ _)) ?_
  rintro ⟨_, _, _, _⟩ _
  refine Runs.bind (.of_safe (safe_part46 c E _ False i h _ _ _ _)) ?_
  rintro ⟨_, _, _, _⟩ _
  refine Runs.bind (.of_safe (safe_part47 c E _ False i h _ _ _ _ _ _)) ?_
  rintro _ _
  refine Runs.bind (.of_safe (safe_part48 c E _ False i h _ _)) ?_
  rintro ⟨_, _⟩ _
  refine Runs.bind (.of_safe (safe_part49 c E _ False i h _ _ _)) ?_
  rintro ⟨_, _, _, _⟩ _
  refine Runs.bind (.of_safe (safe_part50 c E _ False i h _ _ _ _ _)) ?_
  rintro ⟨_, _⟩ _
  refine Runs.bind (.of_safe (safe_part51 c E _ False i h _ _)) ?_
  rintro ⟨_, _, _, _⟩ _
  refine Runs.bind (.of_safe (safe_part52 c E _ False i h _ _ _ _ _)) ?_
  rintro ⟨_, _, _, _, _⟩ _
  refine Runs.bind (.of_safe (safe_part53 c E _ False i h _ _ _ _ _ _ _)) ?_
  rintro ⟨_, _⟩ _
  refine Runs.bind (.of_safe (safe_part54 c E _ False i h _ _ _)) ?_
  rintro ⟨_, _, _, _⟩ _
  refine Runs.bind (.of_safe (safe_part55 c E _ False i h _ _ _ _ _)) ?_
  rintro ⟨_, _, _, _⟩ _
  refine Runs.bind (.of_safe (safe_part56 c E _ False i h _ _ _ _ _ _)) ?_
  rintro ⟨_, _, _, _, _⟩ _
  refine Runs.bind (.of_safe (safe_part57 c E _ False i h _ _ _ _ _)) ?_
  rintro ⟨_, _, _⟩ _
  refine Runs.bind (.of_safe (safe_part58 c E _ False i h _ _ _ _)) ?_
  rintro _ _
  refine Runs.bind (.of_safe (safe_part59 c E _ False i h _ _ _)) ?_
  rintro ⟨_, _, _, _, _, _, _, _, _, _, _⟩ _
  refine Runs.bind (.of_safe (safe_part60 c E _ False i h _ _ _ _ _ _ _ _)) ?_
  rintro ⟨_, _, _, _, _, _, _, _⟩ _
  refine Runs.bind (.of_safe (safe_part61 c E _ False i h _ _ _ _ _ _ _)) ?_
  rintro ⟨_, _, _, _, _, _, _⟩ _
  refine Runs.bind (.of_safe (safe_part62 c E _ False i h _ _ _ _ _ _ _ _ _ _ _ _ _ _ _ _ _ _ _)) ?_
  rintro ⟨_, _, _, _, _, _⟩ _
  refine Runs.bind (.of_safe (safe_part63 c E _ False i h _ _ _ _ _ _ _ _)) ?_
  rintro ⟨_, _, _, _, _⟩ _
  refine Runs.bind (.of_safe (safe_part64 c E _ False i h _ _ _ _ _ _ _ _ _ _ _ _ _ _ _ _ _)) ?_
  rintro ⟨_, _, _⟩ _
  refine Runs.bind (.of_safe (safe_part65 c E _ False i h _ _ _ _ _ _ _ _)) ?_
  rintro ⟨_, _, _, _, _, _, _⟩ _
  refine Runs.bind (.of_safe (safe_part66 c E _ False i h _ _ _ _ _ _ _ _ _ _ _ _ _ _ _)) ?_
  rintro ⟨_, _, _, _, _, _⟩ _
  refine Runs.bind (.of_safe (safe_part67 c E _ False i h _ _ _ _ _ _ _ _ _ _ _ _ _ _ _)) ?_
  rintro ⟨_, _, _, _, _⟩ _
  refine Runs.bind (.of_safe (safe_part68 c E _ False i h _ _ _ _ _ _ _ _)) ?_
  rintro ⟨_, _, _, _, _, _, _, _⟩ _
  refine Runs.bind (.of_safe (safe_part69 c E _ False i h _ _ _ _ _ _ _ _ _ _ _ _ _ _ _ _ _ _ _ _)) ?_
  rintro ⟨_, _, _, _, _, _, _, _⟩ _
  exact Runs.pure _ trivial

/-- The first point's body, run: its first tile of the attention output is the first head's. -/
theorem run_first (hi0 : (i 0).val = 0) (hi : (i 1).val = 0) : Runs (defs₀ (F := Ideal)) c E (RP c b x top) (cc0_front i b.arg2 b.harg2 b.arg3 b.harg3 b.arg4 b.harg4 b.arg5 b.harg5 b.arg6 b.harg6 b.arg7 b.harg7 b.arg8 b.harg8 b.arg9 b.harg9 b.arg10 b.harg10 b.arg11 b.harg11 b.arg12 b.harg12 b.arg13 b.harg13 b.arg14 b.harg14 b.arg15 b.harg15 b.arg16 b.harg16 b.arg17 b.harg17 b.arg18 b.harg18 b.arg19 b.harg19 b.arg20 b.harg20 b.arg21 b.harg21 b.arg22 b.harg22 b.arg23 b.harg23 b.arg24 b.harg24 b.arg25 b.harg25 b.arg26 b.harg26 b.arg27 b.harg27 b.arg28 b.harg28)
    (fun _ => True) (RP c b x (st5 x)) := by
  unfold cc0_front
  have h := holds_kept c b x (kept5 x)
  refine Runs.bind (run_part80 c E b x i hi0 hi) ?_
  rintro ⟨_, _, _, _, _, _, _, _, _, _, _, _, _, _, _, _, _, _, _⟩ _
  refine Runs.bind (.of_safe (safe_part70 c E _ False i h _ _ _ _ _ _ _ _)) ?_
  rintro ⟨_, _, _, _, _, _, _, _⟩ _
  refine Runs.bind (.of_safe (safe_part71 c E _ False i h _ _ _ _ _ _ _ _ _ _ _ _ _ _ _ _)) ?_
  rintro ⟨_, _, _, _, _⟩ _
  refine Runs.bind (.of_safe (safe_part72 c E _ False i h _ _ _ _ _ _ _ _ _ _ _ _ _ _)) ?_
  rintro ⟨_, _, _, _, _, _⟩ _
  refine Runs.bind (.of_safe (safe_part73 c E _ False i h _ _ _ _ _ _ _ _ _)) ?_
  rintro ⟨_, _, _, _, _, _, _, _⟩ _
  refine Runs.bind (.of_safe (safe_part74 c E _ False i h _ _ _ _ _ _ _ _ _ _ _ _ _ _ _ _ _ _ _ _)) ?_
  rintro ⟨_, _, _, _, _⟩ _
  refine Runs.bind (.of_safe (safe_part75 c E _ False i h _ _ _ _ _ _ _)) ?_
  rintro ⟨_, _, _, _, _, _⟩ _
  refine Runs.bind (.of_safe (safe_part76 c E _ False i h _ _ _ _ _ _ _ _ _ _ _ _ _ _ _ _)) ?_
  rintro _ _
  refine Runs.bind (.of_safe (safe_part77 c E _ False i h _ _ _ _ _ _ _)) ?_
  rintro ⟨_, _, _, _, _, _⟩ _
  refine Runs.bind (.of_safe (safe_part78 c E _ False i h _ _ _ _ _ _ _ _ _ _ _ _ _)) ?_
  rintro ⟨_, _, _, _, _⟩ _
  refine Runs.bind (.of_safe (safe_part79 c E _ False i h _ _ _ _ _ _ _ _ _ _ _ _ _ _ _ _)) ?_
  rintro ⟨_, _, _⟩ _
  refine Runs.bind (.of_safe h.w14.load) fun _ _ => ?_
  refine Runs.bind (.of_safe h.w14.store) fun _ _ => ?_
  exact Runs.pure _ trivial

end Cert.KernelIdeal.Mine

end
-- ==== Proof.FrontFrameIdeal.lean ====
module

public import proofs.«01_k».proof.Proof.FrontBody
public import Idealize.ShloMosaic.Lib.Pipeline.ValueKit
public import Idealize.ShloMosaic.Lib.Pipeline.DatRel
public import Idealize.ShloMosaic.Lib.Pipeline.ArrRel

/-! The frame of the middle call: at every grid point its body runs from whatever the rings, the state, the bias
table and the other scratch buffers hold, and the pipeline returns every argument array unchanged. Of the results it is
stated that the attention output's first tile of its first head is what the body stores at the first point. -/

@[expose] public section

set_option maxRecDepth 65536

noncomputable section

namespace Cert.KernelIdeal.Mine

open Cert.KernelIdeal Cert.KernelIdeal.Gen Cert.Safe
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationRel)

local notation "𝕄" => MT nD τ sig Unit (Elt Ideal) ℕ (UR sig nD τ) ℕ

variable (m : (ℓ : Loc nD τ sig) → Buf (Elt Ideal) ℓ) (ρ : Dev nD → PrngReg)

/-! ## The buffers at a grid point -/

abbrev ms0_0 (t : Fin cfg0.N) : Memref sig .tc .vmem S1x256x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x3712 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S640x1024 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S640x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S4x1536 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1536 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S128x1 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S128x1 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x1024 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x1024 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S8x1024 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x256x1024 .bf16 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x256x512 .bf16 := win0_13.stage (cfg0.slots t 13)
abbrev hs0_13 (t : Fin cfg0.N) : (ms0_13 t).IsWhole := hstage0_13 ((cfg0.slots t 13).cast nbuf0_13)
abbrev scM0_0 : Memref sig .tc .vmem S12x264x128 .f32 := Memref.whole cc0_scratch0
abbrev scM0_1 : Memref sig .tc .vmem S2x128x512 .f32 := Memref.whole cc0_scratch1
abbrev scM0_2 : Memref sig .tc .vmem S4x3x256x512 .f32 := Memref.whole cc0_scratch2
abbrev scM0_3 : Memref sig .tc .vmem S3x8x768x256 .f32 := Memref.whole cc0_scratch3
abbrev scM0_4 : Memref sig .tc .vmem S3x256x512 .bf16 := Memref.whole cc0_scratch4
abbrev scM0_5 : Memref sig .tc .vmem S3x640x256 .bf16 := Memref.whole cc0_scratch5
abbrev scM0_6 : Memref sig .tc .vmem S1x256x1024 .f32 := Memref.whole cc0_scratch6
abbrev scM0_7 : Memref sig .tc .vmem S1x256x512 .bf16 := Memref.whole cc0_scratch7
abbrev scM0_8 : Memref sig .tc .vmem S1x256x1024 .f32 := Memref.whole cc0_scratch8
abbrev scM0_9 : Memref sig .tc .vmem S1x256x512 .bf16 := Memref.whole cc0_scratch9
abbrev scM0_10 : Memref sig .tc .vmem S1x256x128 .f32 := Memref.whole cc0_scratch10
abbrev scM0_11 : Memref sig .tc .vmem S1x256x128 .f32 := Memref.whole cc0_scratch11
abbrev scM0_12 : Memref sig .tc .vmem S128x256 .f32 := Memref.whole cc0_scratch12

/-- The launch's own invariant, buffer by buffer. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d) ∗ (∃ d, owns (c : Thread nD τ) scM0_9 fullShare d) ∗ (∃ d, owns (c : Thread nD τ) scM0_10 fullShare d) ∗ (∃ d, owns (c : Thread nD τ) scM0_11 fullShare d) ∗ (∃ d, owns (c : Thread nD τ) scM0_12 fullShare d)) ∗ (∃ r, prngReg c r)) := by
  unfold Pipeline.ΦA; rw [scopedRest0_eq]; simp only [scM0_0, scM0_1, scM0_2, scM0_3, scM0_4, scM0_5, scM0_6, scM0_7, scM0_8, scM0_9, scM0_10, scM0_11, scM0_12, owns_whole]; try rfl

/-- The buffers the body is handed at point `t`. -/
def bufs (t : Fin cfg0.N) : Bufs :=
  ⟨ms0_0 t, hs0_0 t, ms0_1 t, hs0_1 t, ms0_2 t, hs0_2 t, ms0_3 t, hs0_3 t, ms0_4 t, hs0_4 t, ms0_5 t, hs0_5 t, ms0_6 t, hs0_6 t, ms0_7 t, hs0_7 t, ms0_8 t, hs0_8 t, ms0_9 t, hs0_9 t, ms0_10 t, hs0_10 t, ms0_11 t, hs0_11 t, ms0_12 t, hs0_12 t, ms0_13 t, hs0_13 t, scM0_0, Memref.isWhole_whole _, scM0_1, Memref.isWhole_whole _, scM0_2, Memref.isWhole_whole _, scM0_3, Memref.isWhole_whole _, scM0_4, Memref.isWhole_whole _, scM0_5, Memref.isWhole_whole _, scM0_6, Memref.isWhole_whole _, scM0_7, Memref.isWhole_whole _, scM0_8, Memref.isWhole_whole _, scM0_9, Memref.isWhole_whole _, scM0_10, Memref.isWhole_whole _, scM0_11, Memref.isWhole_whole _, scM0_12, Memref.isWhole_whole _⟩

/-- The inputs' blocks at point `t`. -/
def ins (c : Dev nD) (t : Fin cfg0.N) : Ins Ideal := ⟨iblk m c 0 t, iblk m c 1 t, iblk m c 2 t, iblk m c 3 t, iblk m c 4 t, iblk m c 5 t, iblk m c 6 t, iblk m c 7 t, iblk m c 8 t, iblk m c 9 t, iblk m c 10 t, iblk m c 11 t⟩

/-- What the body leaves in the attention output's buffer: at the first point its first head's columns are the head's output. -/
def left13 (c : Dev nD) (t : Fin cfg0.N) : Vec Ideal S1x256x512 .bf16 → Prop :=
  fun X => t.val = 0 → on15 (R39 (ins m c t)) X

/-- What the body holds at point `t`, before it runs -/
def res (c : Dev nD) (t : Fin cfg0.N) : sProp 𝕄 := RP c (bufs t) (ins m c t) top
/-- and after. -/
def res' (c : Dev nD) (t : Fin cfg0.N) : sProp 𝕄 := RP c (bufs t) (ins m c t) { (top : Pred Ideal) with p15 := left13 m c t }

theorem sat_mono {c : Dev nD} {s : Shape} {e : EltTy} {M : Memref sig .tc .vmem s e} {P Q : Vec Ideal s e → Prop} (h : ∀ X, P X → Q X) :
    (sat (c : Thread nD τ) M P : sProp 𝕄) ⊢ sat (c : Thread nD τ) M Q := by
  unfold sat; iintro ⟨%X, %hX, H⟩; iexists X
  isplitr
  · ipureintro; exact h X hX
  iexact H

/-- What is known may be weakened. -/
theorem RP_mono (c : Dev nD) (b : Bufs) (x : Ins Ideal) {p p' : Pred Ideal} (h15 : ∀ X, p.p15 X → p'.p15 X) (h18 : ∀ X, p.p18 X → p'.p18 X)
    (h19 : ∀ X, p.p19 X → p'.p19 X) (h20 : ∀ X, p.p20 X → p'.p20 X) (h21 : ∀ X, p.p21 X → p'.p21 X) (h25 : ∀ X, p.p25 X → p'.p25 X) :
    (RP c b x p : sProp 𝕄) ⊢ RP c b x p' := by
  unfold RP
  exact sep_mono_right (sep_mono_right (sep_mono_right (sep_mono_right (sep_mono_right (sep_mono_right (sep_mono_right (sep_mono_right (sep_mono_right (sep_mono_right (sep_mono_right (sep_mono_right (sep_mono_right ((sep_mono_left (sat_mono h15)).trans (sep_mono_right (sep_mono_right (sep_mono_right ((sep_mono_left (sat_mono h18)).trans (sep_mono_right ((sep_mono_left (sat_mono h19)).trans (sep_mono_right ((sep_mono_left (sat_mono h20)).trans (sep_mono_right ((sep_mono_left (sat_mono h21)).trans (sep_mono_right (sep_mono_right (sep_mono_right (sep_mono_right ((sep_mono_left (sat_mono h25)).trans (sep_mono_right (BIBase.Entails.rfl))))))))))))))))))))))))))))))

/-- The body runs from the one and gives the other. -/
theorem safe_body (c : Dev nD) (t : Fin cfg0.N) :
    res m c t ⊢ wp frame (wpE (defs₀ (F := Ideal)) Variants.none c none) Set.univ (bodyAt0 t) (fun _ => res' m c t) := by
  by_cases ht : t.val = 0
  · have hc : grid0.coords t = grid0.coords ⟨0, by decide⟩ := congrArg _ (Fin.ext ht)
    refine (run_first c Set.univ (bufs t) (ins m c t) (grid0.coords t) (by rw [hc]; decide) (by rw [hc]; decide)).trans (wp_mono _ _ _ fun _ => ?_)
    refine BIBase.Entails.trans (?_ : _ ⊢ RP c (bufs t) (ins m c t) (st5 (ins m c t))) (RP_mono c (bufs t) (ins m c t)
      (fun X h _ => h) (fun _ _ => trivial) (fun _ _ => trivial) (fun _ _ => trivial) (fun _ _ => trivial) (fun _ _ => trivial))
    iintro ⟨-, H⟩
    iexact H
  · exact (safe_cc0_front c Set.univ _ True (grid0.coords t)
      (holds_top c (bufs t) (ins m c t)) trivial).trans (wp_mono _ _ _ fun _ =>
        RP_mono c _ _ (fun _ _ h => absurd h ht) (fun _ h => h) (fun _ h => h) (fun _ h => h) (fun _ h => h) (fun _ h => h))

/-! ## The proof data -/

/-- The outputs are the windows whose contents are not stated. -/
def forgets0 : Fin 14 → Bool := fun w => decide (12 ≤ w.val)

/-- The proof data: arrays as the region finds them, the inputs' buffers at their blocks after the body. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => Pipeline.Dat.unnamed (cfg := cfg0) 12 t
    | ⟨13, _⟩ => Pipeline.Dat.unnamed (cfg := cfg0) 13 t
    | ⟨_ + 14, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d

/-- What the body leaves in the outputs' buffers. -/
def Rl (c : Dev nD) : (w : Fin cfg0.W) → Fin cfg0.N → ((cfg0.win w).block.Idx → Elt Ideal (cfg0.win w).elt) → Prop :=
  fun w => match w with
    | ⟨13, _⟩ => left13 m c
    | _ => fun _ _ => True

/-! ## The body obligation -/

/-- What the body is called with at point `t`, -/
def bodyPre (c : Dev nD) (t : Fin cfg0.N) : sProp 𝕄 :=
  iprop((dats m 0 c).Φ t.castSucc ∗ (dats m 0 c).owesAt () t.castSucc ∗ (∃ d, owns (c : Thread nD τ) (ms0_0 t) fullShare ((dats m 0 c).before 0 t d)) ∗ (∃ d, owns (c : Thread nD τ) (ms0_1 t) fullShare ((dats m 0 c).before 1 t d)) ∗ (∃ d, owns (c : Thread nD τ) (ms0_2 t) fullShare ((dats m 0 c).before 2 t d)) ∗ (∃ d, owns (c : Thread nD τ) (ms0_3 t) fullShare ((dats m 0 c).before 3 t d)) ∗ (∃ d, owns (c : Thread nD τ) (ms0_4 t) fullShare ((dats m 0 c).before 4 t d)) ∗ (∃ d, owns (c : Thread nD τ) (ms0_5 t) fullShare ((dats m 0 c).before 5 t d)) ∗ (∃ d, owns (c : Thread nD τ) (ms0_6 t) fullShare ((dats m 0 c).before 6 t d)) ∗ (∃ d, owns (c : Thread nD τ) (ms0_7 t) fullShare ((dats m 0 c).before 7 t d)) ∗ (∃ d, owns (c : Thread nD τ) (ms0_8 t) fullShare ((dats m 0 c).before 8 t d)) ∗ (∃ d, owns (c : Thread nD τ) (ms0_9 t) fullShare ((dats m 0 c).before 9 t d)) ∗ (∃ d, owns (c : Thread nD τ) (ms0_10 t) fullShare ((dats m 0 c).before 10 t d)) ∗ (∃ d, owns (c : Thread nD τ) (ms0_11 t) fullShare ((dats m 0 c).before 11 t d)) ∗ (∃ d, ⌜((dats m 0 c).toRRel forgets0 (Rl m c)).Finds 12 t d⌝ ∗ owns (c : Thread nD τ) (ms0_12 t) fullShare d) ∗ (∃ d, ⌜((dats m 0 c).toRRel forgets0 (Rl m c)).Finds 13 t d⌝ ∗ owns (c : Thread nD τ) (ms0_13 t) fullShare d))
/-- and what it returns. -/
def bodyPost (c : Dev nD) (t : Fin cfg0.N) : sProp 𝕄 :=
  iprop((dats m 0 c).Φ t.succ ∗ (dats m 0 c).owesAt () t.succ ∗ owns (c : Thread nD τ) (ms0_0 t) fullShare ((dats m 0 c).after 0 t) ∗ owns (c : Thread nD τ) (ms0_1 t) fullShare ((dats m 0 c).after 1 t) ∗ owns (c : Thread nD τ) (ms0_2 t) fullShare ((dats m 0 c).after 2 t) ∗ owns (c : Thread nD τ) (ms0_3 t) fullShare ((dats m 0 c).after 3 t) ∗ owns (c : Thread nD τ) (ms0_4 t) fullShare ((dats m 0 c).after 4 t) ∗ owns (c : Thread nD τ) (ms0_5 t) fullShare ((dats m 0 c).after 5 t) ∗ owns (c : Thread nD τ) (ms0_6 t) fullShare ((dats m 0 c).after 6 t) ∗ owns (c : Thread nD τ) (ms0_7 t) fullShare ((dats m 0 c).after 7 t) ∗ owns (c : Thread nD τ) (ms0_8 t) fullShare ((dats m 0 c).after 8 t) ∗ owns (c : Thread nD τ) (ms0_9 t) fullShare ((dats m 0 c).after 9 t) ∗ owns (c : Thread nD τ) (ms0_10 t) fullShare ((dats m 0 c).after 10 t) ∗ owns (c : Thread nD τ) (ms0_11 t) fullShare ((dats m 0 c).after 11 t) ∗ (∃ X, ⌜True⌝ ∗ owns (c : Thread nD τ) (ms0_12 t) fullShare X) ∗ (∃ X, ⌜left13 m c t X⌝ ∗ owns (c : Thread nD τ) (ms0_13 t) fullShare X))

set_option maxHeartbeats 1600000 in
/-- The body at any point. -/
theorem sound_body (c : Dev nD) (t : Fin cfg0.N) :
    bodyPre m c t ⊢ wp frame (wpE (defs₀ (F := Ideal)) Variants.none c none) Set.univ (bodyAt0 t) (fun _ => bodyPost m c t) := by
  have hpre : bodyPre m c t ⊢ iprop(res m c t ∗ (∃ r, prngReg c r) ∗ (dats m 0 c).owesAt () t.castSucc) := by
    unfold bodyPre res RP sat bufs ins top; dsimp only
    simp only [before0_0, before0_1, before0_2, before0_3, before0_4, before0_5, before0_6, before0_7, before0_8, before0_9, before0_10, before0_11]
    rw [show (dats m 0 c).Φ t.castSucc = Pipeline.ΦA spec0 c from rfl, PhiA0_eq]
    iintro ⟨⟨⟨S0, S1, ⟨%dS2, S2⟩, ⟨%dS3, S3⟩, ⟨%dS4, S4⟩, ⟨%dS5, S5⟩, S6, S7, S8, ⟨%dS9, S9⟩, S10, S11, S12⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%dH12, %fH12, H12⟩, ⟨%dH13, %fH13, H13⟩⟩
    isplitr [Hg Ho]
    swap
    · isplitl [Hg]; · iexact Hg
      iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists dH12; iexact H12
    isplitl [H13]
    · iexists dH13; isplitr
      · ipureintro; trivial
      iexact H13
    isplitl [S0]; · iexact S0
    isplitl [S1]; · iexact S1
    isplitl [S2]
    · iexists dS2; isplitr
      · ipureintro; trivial
      iexact S2
    isplitl [S3]
    · iexists dS3; isplitr
      · ipureintro; trivial
      iexact S3
    isplitl [S4]
    · iexists dS4; isplitr
      · ipureintro; trivial
      iexact S4
    isplitl [S5]
    · iexists dS5; isplitr
      · ipureintro; trivial
      iexact S5
    isplitl [S6]; · iexact S6
    isplitl [S7]; · iexact S7
    isplitl [S8]; · iexact S8
    isplitl [S9]
    · iexists dS9; isplitr
      · ipureintro; trivial
      iexact S9
    isplitl [S10]; · iexact S10
    isplitl [S11]; · iexact S11
    iexact S12
  have hpost : iprop(res' m c t ∗ (∃ r, prngReg c r) ∗ (dats m 0 c).owesAt () t.castSucc) ⊢ bodyPost m c t := by
    unfold bodyPost res' RP sat bufs ins top; dsimp only
    rw [show (dats m 0 c).Φ t.succ = Pipeline.ΦA spec0 c from rfl, PhiA0_eq,
      show (dats m 0 c).owesAt () t.succ = (dats m 0 c).owesAt () t.castSucc from rfl,
      after0_0, after0_1, after0_2, after0_3, after0_4, after0_5, after0_6, after0_7, after0_8, after0_9, after0_10, after0_11]
    iintro ⟨⟨H0, H1, H2, H3, H4, H5, H6, H7, H8, H9, H10, H11, ⟨%dH12, H12⟩, H13, S0, S1, ⟨%dS2, %fS2, S2⟩, ⟨%dS3, %fS3, S3⟩, ⟨%dS4, %fS4, S4⟩, ⟨%dS5, %fS5, S5⟩, S6, S7, S8, ⟨%dS9, %fS9, S9⟩, S10, S11, S12⟩, Hg, Ho⟩
    isplitl [S0 S1 S2 S3 S4 S5 S6 S7 S8 S9 S10 S11 S12 Hg]
    · isplitr [Hg]
      swap; · iexact Hg
      isplitl [S0]; · iexact S0
      isplitl [S1]; · iexact S1
      isplitl [S2]; · iexists dS2; iexact S2
      isplitl [S3]; · iexists dS3; iexact S3
      isplitl [S4]; · iexists dS4; iexact S4
      isplitl [S5]; · iexists dS5; iexact S5
      isplitl [S6]; · iexact S6
      isplitl [S7]; · iexact S7
      isplitl [S8]; · iexact S8
      isplitl [S9]; · iexists dS9; iexact S9
      isplitl [S10]; · iexact S10
      isplitl [S11]; · iexact S11
      iexact S12
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]
    · iexists dH12; isplitr
      · ipureintro; trivial
      iexact H12
    iexact H13
  exact hpre.trans ((sep_mono_left (safe_body m c t)).trans ((wp_frame_r _ _ _).trans (wp_mono _ _ _ fun _ => hpost)))

/-- The body table's row at point `t`'s buffers is the body there. -/
theorem defs₀_row (t : Fin cfg0.N) :
    defs₀ (F := Ideal) .tc cfg0.body (cfg0.bodyArgs t (cfg0.slots t)) = bodyAt0 t := by
  unfold defs₀; rw [Defs.onTc_tc]

/-- The pipeline's body obligation, at every point. -/
theorem body_obligation (c : Dev nD) :
    BodyObligationRel (dats m 0 c) (defs₀ (F := Ideal)) Variants.none () Set.univ forgets0 (Rl m c) := fun t => by
  rw [bigSep_W0, bigSep_W0, defs₀_row]
  exact triple_restated (sound_body m c t) rfl .rfl fun _ => .rfl

/-! ## The run and the frame -/

-- the launch theorem's implicit arguments are found through plain definitions
set_option backward.isDefEq.respectTransparency.types false in
/-- The run: every buffer the outputs do not reach ends as the region found it, each output's array ends overwritten block by
block by contents meeting the relation, every counter at zero. -/
theorem run_main : θ_run defs (onTc (τ := τ) (main (F := Ideal))) (s₀ m ρ)
    (fun r => Pipeline.RDat.FramePost (cfgs 0) (fun c => (dats m 0 c).toRRel forgets0 (Rl m c)) (V m) r ∧ r.2.sem = fun _ => 0) :=
  Pipeline.RDat.θ_run_frame_track (Q' := _) cfgs (0 : Fin 1) launch0 defs₀ Variants.none
    (fun c => (dats m 0 c).toRRel forgets0 (Rl m c)) m ρ main
    (hbody := fun c => (body_obligation m c).toRRel) (hshare := fun c w => (dats m 0 c).share_full (fun _ => rfl) w)
    (howed := fun _ _ => rfl) (V := V m) (hmain := hmain m Variants.none) (hA := fun c w => A_eq m c w)
    (hin := fun _ => .rfl) (hout := fun _ => .rfl)

/-- The frame: the argument arrays end unchanged, every counter at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun _ h => ⟨fun c => ⟨(h.1.arr_in c 0 rfl).trans ((A_eq m c 0).trans (V_main_arg0 m c)),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      (h.1.arr_in c 5 rfl).trans ((A_eq m c 5).trans (V_main_arg3 m c)),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c),
      ((h.1 c).2 main_arg8 (Pipeline.mem_restRefs_of main_arg8 (by decide) (by decide))).trans (V_main_arg8 m c),
      ((h.1 c).2 main_arg9 (Pipeline.mem_restRefs_of main_arg9 (by decide) (by decide))).trans (V_main_arg9 m c)⟩, h.2⟩) (run_main m ρ)

/-- The attention output's first tile of its first head ends as what the body stored at the first point. -/
theorem first_tile_of {r} (h : Pipeline.RDat.FramePost (cfgs 0) (fun c => (dats m 0 c).toRRel forgets0 (Rl m c)) (V m) r) (c : Dev nD)
    (q : Fin 256) (d : Fin 64) : ∃ v, R39 (ins m c ⟨0, by decide⟩) v
      ∧ r.2.mem ((c.tc : Thread nD τ).loc main_v40_1) (ix3 (0 : Fin 4) (⟨q.val, by omega⟩ : Fin 8192) (⟨d.val, by omega⟩ : Fin 512)) = v (ix2 d q) := by
  obtain ⟨after, hL, hA⟩ := h.exists_exact c
  have hA := hA (13 : Fin 14)
  have key := fun i => Pipeline.Dat.arrAt_forall_of_covers ((((dats m 0 c).toRRel forgets0 (Rl m c)).withAfter after)) (13 : Fin 14)
    (fun (i : S4x8192x512.Idx) (v : Ideal .bf16) => (i 0).val = 0 → ∀ (q : Fin 256) (d : Fin 64), (i 1).val = q.val → (i 2).val = d.val →
      ∃ u, R39 (ins m c ⟨0, by decide⟩) u ∧ v = u (ix2 d q)) (by decide +kernel) (fun t hf y => ?_) i
  · obtain ⟨u, hu, e⟩ := key (ix3 (0 : Fin 4) (⟨q.val, by omega⟩ : Fin 8192) (⟨d.val, by omega⟩ : Fin 512)) rfl q d rfl rfl
    exact ⟨u, hu, (congrFun hA _).trans e⟩
  · have hl := ((dats m 0 c).toRRel_leaves (fgt := forgets0) (Rl := Rl m c) (w := (13 : Fin 14)) rfl (hL (13 : Fin 14) t hf) : left13 m c t _)
    have hz : ∀ t : Fin cfg0.N, win0_13.index t 0 = 0 → win0_13.index t 1 = 0 → win0_13.index t 2 = 0 ∧ t.val = 0 := by decide +kernel
    blk_simp
    intro h0 q d h1 h2
    obtain ⟨-, e0⟩ := hz t h0 (by omega)
    have e2 := (hz t h0 (by omega)).1
    obtain ⟨u, hu, e⟩ := (hl : left13 m c t _) e0
    have ht : t = (⟨0, by decide⟩ : Fin cfg0.N) := Fin.ext e0
    refine ⟨u, (by rw [ht] at hu; exact hu), ?_⟩
    have hy : y = ix3 (0 : Fin 1) q (⟨d.val, by omega⟩ : Fin 512) := by
      funext a; apply Fin.ext
      match a with
      | ⟨0, _⟩ => have := (y 0).isLt; exact Nat.lt_one_iff.mp this
      | ⟨1, _⟩ => change (y 1).val = q.val; omega
      | ⟨2, _⟩ => change (y 2).val = d.val; omega
    rw [← e q d, ← hy]; rfl

end Cert.KernelIdeal.Mine

end
-- ==== Proof.FrontProj.lean ====
module

public import proofs.«01_k».proof.Proof.FrontScores
public import proofs.«01_k».proof.Proof.FrontFrameIdeal
public import proofs.«01_k».proof.Proof.Spec
public import Idealize.ShloMosaic.Lib.Pipeline.ValueKit

/-! The projections at the first point, at an index. -/

@[expose] public section

set_option maxRecDepth 65536

noncomputable section

namespace Cert.KernelIdeal.Mine

open Cert.Layer Cert.KernelIdeal Cert.KernelIdeal.Gen
open Idealize.ShloMosaic Idealize.ShloMosaic.TcCoe Idealize.ShloMosaic.Tactic

/-- The normalized rows. -/
theorem gH_at (x : Ins Ideal) (q : Fin 256) (c : Fin 1024) :
    gH x (ix2 q c) = rms (fun k => x.x0 (ix3 0 q k)) (fun k => x.x1 (ix2 0 k)) c := by
  unfold gH
  pointwise [k0_pay47, rms]

/-- The keys. -/
theorem gK_at (x : Ins Ideal) (k : Fin 256) (j : Fin 512) :
    gK x (ix3 0 k j) = ∑ c : Fin 1024, gH x (ix2 k c) * x.x2 (ix2 c ⟨3072 + j.val, by omega⟩) := by
  unfold gK
  generalize gH x = h
  pointwise [k0_pay74]

/-- The queries. -/
theorem gQ_at (x : Ins Ideal) (q : Fin 256) (j : Fin 512) :
    gQ x (ix3 0 q j) = ∑ c : Fin 1024, gH x (ix2 q c) * x.x2 (ix2 c ⟨2560 + j.val, by omega⟩) := by
  unfold gQ gW
  generalize gH x = h
  pointwise [k0_pay73, k0_pay72]

/-- The values, with their offsets. -/
theorem gV_at (x : Ins Ideal) (r : Fin 640) (a : Fin 256) :
    gV x (ix3 0 r a) = (∑ c : Fin 1024, x.x3 (ix2 r c) * gH x (ix2 a c)) + x.x4 (ix2 r 0) := by
  unfold gV
  generalize gH x = h
  pointwise [k0_pay70]

end Cert.KernelIdeal.Mine

end
-- ==== Proof.FrontArgs.lean ====
module

public import proofs.«01_k».proof.Proof.FrontProj
public import Idealize.ShloMosaic.Lib.Routing.OpsSet
public import Idealize.ShloMosaic.Lib.Pipeline.ValueKit

/-! What the first point reads: the launch's arrays from the call's arguments. -/

@[expose] public section

set_option maxRecDepth 65536

noncomputable section

namespace Cert.KernelIdeal.Mine

open Cert.Layer Cert.KernelIdeal Cert.KernelIdeal.Gen
open Idealize.ShloMosaic Idealize.ShloMosaic.TcCoe Idealize.ShloMosaic.Tactic

variable (m : (ℓ : Loc nD τ sig) → Buf (Elt Ideal) ℓ) (c : Dev nD)

/-- The first point. -/
abbrev pt0 : Fin cfg0.N := ⟨0, by decide⟩

/-- The blocks the first point reads begin at the origin. -/
theorem idx : win0_0.index pt0 = ![0, 0, 0] ∧ win0_1.index pt0 = ![0, 0] ∧ win0_2.index pt0 = ![0, 0] ∧
    win0_3.index pt0 = ![0, 0] ∧ win0_4.index pt0 = ![0, 0] ∧ win0_11.index pt0 = ![0, 0] := by decide +kernel

/-- The call's arguments. -/
abbrev aX (q : Fin 8192) (k : Fin 1024) : EReal := m ((c : Thread nD τ).loc main_arg0) (ix3 (0 : Fin 4) q k)
/-- The channel weights. -/
abbrev aN (k : Fin 1024) : EReal := m ((c : Thread nD τ).loc main_arg1) (ix1 k)
/-- The projection. -/
abbrev aW (i : Fin 4112) (k : Fin 1024) : EReal := m ((c : Thread nD τ).loc main_arg2) (ix2 i k)
/-- The first head's biases. -/
abbrev aB (j : Fin 513) : EReal := m ((c : Thread nD τ).loc main_arg9) (ix2 (0 : Fin 8) j)

/-- Operations run one list after another. -/
theorem after_app (A B : List (HloOp τ sig (Elt Ideal))) (σ) : StableHlo.after (A ++ B) σ = StableHlo.after B (StableHlo.after A σ) := by
  induction A generalizing σ with
  | nil => rfl
  | cons op l ih => exact ih _

/-- The host's operations before the launch. -/
abbrev hops : List (HloOp τ sig (Elt Ideal)) :=
  List.flatten [hostOps0, hostOps0_1, hostOps0_2, hostOps0_3, hostOps0_4, hostOps0_5, hostOps0_6]

/-- The rows of the first block. -/
theorem in0 (q : Fin 256) (k : Fin 1024) : iblk m c 0 pt0 (ix3 0 q k) =
    aX m c ⟨q.val, by omega⟩ k := by
  blk_ext [iblk, V, idx]

/-- The channel weights. -/
theorem in1 (k : Fin 1024) : iblk m c 1 pt0 (ix2 0 k) = aN m c k := by
  have hk : ((View.whole main_v23).slice (win0_1.rect pt0)).emb (ix2 0 k) = (ix2 0 k : S1x1024.Idx) := by
    blk_ext [idx]
  blk_simp [iblk, V]
  refine (congrArg (StableHlo.after hops (fun b => m (c, b)) (Proc.devRef .tc main_v23)) hk).trans ?_
  clear hk
  simp only [hops, List.flatten_cons, List.flatten_nil, List.append_nil, List.cons_append, List.nil_append]
  set_option maxHeartbeats 1600000 in after_results_simp
  pointwise

/-- The columns of the queries, scaled by an eighth. -/
theorem in2q (k : Fin 1024) (j : Fin 512) : iblk m c 2 pt0 (ix2 k ⟨2560 + j.val, by omega⟩) =
    (aW m c ⟨2576 + j.val, by omega⟩ k * Ideal.ofBits .bf16 0x3E00#16 : EReal) := by
  have hk : ((View.whole main_v9).slice (win0_2.rect pt0)).emb (ix2 k ⟨2560 + j.val, by omega⟩) = (ix2 k ⟨2560 + j.val, by omega⟩ : S1024x3712.Idx) := by
    blk_ext [idx]
  blk_simp [iblk, V]
  refine (congrArg (StableHlo.after hops (fun b => m (c, b)) (Proc.devRef .tc main_v9)) hk).trans ?_
  clear hk
  simp only [hops, List.flatten_cons, List.flatten_nil, List.append_nil, List.cons_append, List.nil_append]
  set_option maxHeartbeats 1600000 in after_results_simp
  pointwise
  rw [dif_neg (by omega), dif_neg (by omega), dif_pos (by omega)]
  after_results_simp
  pointwise
  exact congrArg (fun i => aW m c i k * Ideal.ofBits .bf16 0x3E00#16) (Fin.ext (by dsimp only; omega))

/-- The columns of the keys. -/
theorem in2k (k : Fin 1024) (j : Fin 512) : iblk m c 2 pt0 (ix2 k ⟨3072 + j.val, by omega⟩) =
    aW m c ⟨3088 + j.val, by omega⟩ k := by
  have hk : ((View.whole main_v9).slice (win0_2.rect pt0)).emb (ix2 k ⟨3072 + j.val, by omega⟩) = (ix2 k ⟨3072 + j.val, by omega⟩ : S1024x3712.Idx) := by
    blk_ext [idx]
  blk_simp [iblk, V]
  refine (congrArg (StableHlo.after hops (fun b => m (c, b)) (Proc.devRef .tc main_v9)) hk).trans ?_
  clear hk
  simp only [hops, List.flatten_cons, List.flatten_nil, List.append_nil, List.cons_append, List.nil_append]
  set_option maxHeartbeats 1600000 in after_results_simp
  pointwise
  rw [dif_neg (by omega), dif_neg (by omega), dif_neg (by omega), dif_pos (by omega)]
  after_results_simp
  pointwise
  exact congrArg (fun i => aW m c i k) (Fin.ext (by dsimp only; omega))

/-- The rows of the first head's values, and a row of zeros. -/
theorem in3 (r : Fin 65) (k : Fin 1024) : iblk m c 3 pt0 (ix2 ⟨r.val, by omega⟩ k) =
    (if h : r.val < 64 then aW m c ⟨3600 + r.val, by omega⟩ k else (0 : EReal) : EReal) := by
  have hk : ((View.whole main_v13).slice (win0_3.rect pt0)).emb (ix2 ⟨r.val, by omega⟩ k) = (ix2 ⟨r.val, by omega⟩ k : S640x1024.Idx) := by
    blk_ext [idx]
  blk_simp [iblk, V]
  refine (congrArg (StableHlo.after hops (fun b => m (c, b)) (Proc.devRef .tc main_v13)) hk).trans ?_
  clear hk
  simp only [hops, List.flatten_cons, List.flatten_nil, List.append_nil, List.cons_append, List.nil_append]
  set_option maxHeartbeats 1600000 in after_results_simp
  pointwise
  change (pad S8x80x1024 ![0, 0, 0] ![0, 16, 0] ![0, 0, 0]
        (fun i : S8x64x1024.Idx => m (c, Proc.devRef .tc main_arg2) (ix2 (⟨3600 + ((i 0).val * 64 + (i 1).val), by have := (i 0).isLt; have := (i 1).isLt; simp [S8x64x1024] at *; omega⟩ : Fin 4112) (i 2)))
        (sitofp (F := Ideal) .bf16 (constantI S_ 32 0#32)) pads_S8x64x1024_S8x80x1024_000_0160_000 h_S_) (ix3 ⟨r.val / 80, by omega⟩ ⟨r.val % 80, by omega⟩ k) = _
  pointwise
  by_cases h : r.val < 64
  · rw [dif_pos (by omega), dif_pos h]
    exact congrArg (fun i => aW m c i k) (Fin.ext (by dsimp only; omega))
  · rw [dif_neg (by omega), dif_neg h]
    exact (congrArg (fun y : ℝ => (y : EReal)) (by norm_num)).trans EReal.coe_zero

/-- Where the scatter of ones lands: column 64 of each head. -/
theorem lands : ∀ k : Fin 8, (scatter_S8x80_S1_S8_0_1_1_0.start (ix1 k) (broadcastInDim S1 ![] bcast_S_S1 (constantI S_ 32 64#32)) 0 +
      (scatter_S8x80_S1_S8_0_1_1_0.window (ix1 k) 0 : Int) = k.val) ∧
    (scatter_S8x80_S1_S8_0_1_1_0.start (ix1 k) (broadcastInDim S1 ![] bcast_S_S1 (constantI S_ 32 64#32)) 1 +
      (scatter_S8x80_S1_S8_0_1_1_0.window (ix1 k) 1 : Int) = 64) := by decide +kernel

/-- The offsets of the values: zero, and one in the row of zeros. -/
theorem in4 (r : Fin 65) : iblk m c 4 pt0 (ix2 ⟨r.val, by omega⟩ 0) = (if r.val < 64 then 0 else 1 : EReal) := by
  have hk : ((View.whole main_v18).slice (win0_4.rect pt0)).emb (ix2 ⟨r.val, by omega⟩ 0) = (ix2 ⟨r.val, by omega⟩ 0 : S640x1.Idx) := by
    blk_ext [idx]
  blk_simp [iblk, V]
  refine (congrArg (StableHlo.after hops (fun b => m (c, b)) (Proc.devRef .tc main_v18)) hk).trans ?_
  clear hk
  simp only [hops, List.flatten_cons, List.flatten_nil, List.append_nil, List.cons_append, List.nil_append]
  set_option maxHeartbeats 1600000 in after_results_simp
  pointwise
  have hl : ∀ (k : Fin 8) (a : Fin 8) (b : Fin 80), scatter_S8x80_S1_S8_0_1_1_0.resultIdx? (ix1 k) (broadcastInDim S1 ![] bcast_S_S1 (constantI S_ 32 64#32)) = some (ix2 a b) ↔
      k = a ∧ b.val = 64 := fun k a b => by
    refine (Routing.resultIdx?_ix2 _ _ _ _ _).trans ?_
    rw [(lands k).1, (lands k).2]; omega
  have hz : ∀ k : Fin 8, broadcastInDim S8 ![] bcast_S_S8 (constant (F := Ideal) S_ FTy.f32 1065353216#32) (ix1 k) = (1 : EReal) := fun k => by
    pointwise
  by_cases h : r.val < 64
  · rw [if_pos h]
    refine (Routing.scatter_set_miss _ _ _ _ _ fun k hk => ?_).trans ?_
    · obtain ⟨k, rfl⟩ : ∃ a, k = ix1 a := ⟨k 0, by idx_vars k⟩
      have := ((hl _ _ _).1 hk).2; simp at this; omega
    · pointwise
  · rw [if_neg h]
    refine Routing.scatter_set_hit _ _ _ _ _ (1 : EReal) (fun k hk => ?_) (ix1 0) ((hl _ _ _).2 ⟨Fin.ext (by simp; omega), by simp; omega⟩)
    obtain ⟨k, rfl⟩ : ∃ a, k = ix1 a := ⟨k 0, by idx_vars k⟩
    exact hz k

/-- The biases, in the order of the ring. -/
theorem in11 (j : Fin 511) : iblk m c 11 pt0 (ix2 0 ⟨257 + j.val, by omega⟩) =
    aB m c ⟨1 + j.val, by omega⟩ := by
  have hk : ((View.whole main_v39).slice (win0_11.rect pt0)).emb (ix2 0 ⟨257 + j.val, by omega⟩) = (ix2 0 ⟨257 + j.val, by omega⟩ : S8x1024.Idx) := by
    blk_ext [idx]
  blk_simp [iblk, V]
  refine (congrArg (StableHlo.after hops (fun b => m (c, b)) (Proc.devRef .tc main_v39)) hk).trans ?_
  clear hk
  have hA : StableHlo.after (List.flatten [hostOps0, hostOps0_1, hostOps0_2, hostOps0_3, hostOps0_4, hostOps0_5]) (fun b => m (c, b)) (Proc.devRef .tc main_arg9) =
      m ((c : Thread nD τ).loc main_arg9) := by
    simp only [List.flatten_cons, List.flatten_nil, List.append_nil, List.cons_append, List.nil_append]
    set_option maxHeartbeats 1600000 in after_results_simp
  have e : hops = List.flatten [hostOps0, hostOps0_1, hostOps0_2, hostOps0_3, hostOps0_4, hostOps0_5] ++ hostOps0_6 := rfl
  rw [e, after_app]
  generalize StableHlo.after (List.flatten [hostOps0, hostOps0_1, hostOps0_2, hostOps0_3, hostOps0_4, hostOps0_5]) (fun b => m (c, b)) = W at hA ⊢
  after_results_simp
  pointwise
  after_results_simp
  pointwise
  rw [hA]

end Cert.KernelIdeal.Mine

end
-- ==== Proof.FrontRef.lean ====
module

public import proofs.«01_k».proof.Proof.Spec
public import proofs.«01_k».proof.Proof.Gen.ReferenceIdeal.Run
public import Idealize.ShloMosaic.Lib.Pipeline.ValueKit
public import Idealize.ShloMosaic.Lib.Routing.OpsSet

/-! The attention reference, read at the first head and the first 256 queries of the first sequence. -/

@[expose] public section

set_option maxRecDepth 65536

namespace Cert.ReferenceIdeal.Mine

open Idealize.ShloMosaic Idealize.ShloMosaic.TcCoe Idealize.SL.Sem
open Idealize.ShloMosaic.StableHlo
open Cert.ReferenceIdeal Cert.ReferenceIdeal.Gen Cert.ReferenceIdeal.Value Cert.Layer

noncomputable section

/-- Every row, normalized. -/
def nrm (a0 : FVec Ideal S4x8192x1024 .f32) (a1 : FVec Ideal S1024 .f32) : FVec Ideal S4x8192x1024 .f32 :=
  mulf (mulf a0 (broadcastInDim S4x8192x1024 ![0, 1, 2] bcast_S4x8192x1_S4x8192x1024_0_1_2 (Host.rsqrt (addf (Host.divf (broadcastInDim S4x8192x1 ![0, 1] bcast_S4x8192_S4x8192x1_0_1 (Host.reduceAdd (mulf a0 a0) (constant S_ .f32 0x00000000#32) reducesTo_S4x8192x1024_S4x8192_d2 h_S_)) (broadcastInDim S4x8192x1 ![] bcast_S_S4x8192x1 (constant S_ .f32 0x44800000#32))) (broadcastInDim S4x8192x1 ![] bcast_S_S4x8192x1 (constant S_ .f32 0x3727C5AC#32)))))) (broadcastInDim S4x8192x1024 ![0, 1, 2] bcast_S1x1x1024_S4x8192x1024_0_1_2 (broadcastInDim S1x1x1024 ![2] bcast_S1024_S1x1x1024_2 a1))

/-- The projection of every row. -/
def proj (X : FVec Ideal S4x8192x1024 .f32) (a2 : FVec Ideal S4112x1024 .bf16) : FVec Ideal S4x8192x4112 .f32 :=
  Host.dotGeneral dot_S4x8192x1024_S1024x4112_S4x8192x4112_2_0_01_1_n_n none X (transpose S1024x4112 [1, 0] (extf .f32 a2 bitsLt_bf16_f32) transposes_S4112x1024_S1024x4112_1_0)

/-- The queries, by head. -/
def qh (P : FVec Ideal S4x8192x4112 .f32) : FVec Ideal S4x8192x8x64 .f32 :=
  shapeCast _ (extractStridedSlice S4x8192x512 ![0, 0, 2576] P slices_S4x8192x4112_S4x8192x512_0_0_2576) shapeCasts_S4x8192x512_S4x8192x8x64

/-- The keys, by head. -/
def kh (P : FVec Ideal S4x8192x4112 .f32) : FVec Ideal S4x8192x8x64 .f32 :=
  shapeCast _ (extractStridedSlice S4x8192x512 ![0, 0, 3088] P slices_S4x8192x4112_S4x8192x512_0_0_3088) shapeCasts_S4x8192x512_S4x8192x8x64

/-- The values, by head. -/
def vh (P : FVec Ideal S4x8192x4112 .f32) : FVec Ideal S4x8192x8x64 .f32 :=
  shapeCast _ (extractStridedSlice S4x8192x512 ![0, 0, 3600] P slices_S4x8192x4112_S4x8192x512_0_0_3600) shapeCasts_S4x8192x512_S4x8192x8x64

/-- The index of the bias of a query row and a key row. -/
def rel : IVec S8192x8192 32 :=
  addi (minsi (broadcastInDim S8192x8192 ![] bcast_S_S8192x8192 (id (constantI S_ 32 256#32))) (maxsi (broadcastInDim S8192x8192 ![] bcast_S_S8192x8192 (id (constantI S_ 32 4294967040#32))) (subi (iotaInDim S8192x8192 32 0) (iotaInDim S8192x8192 32 1)))) (broadcastInDim S8192x8192 ![] bcast_S_S8192x8192 (constantI S_ 32 256#32))

/-- The bias of a query row and a key row. -/
def bias (a9 : FVec Ideal S8x513 .f32) : FVec Ideal S8x8192x8192 .f32 :=
  Host.gather gather_S8x513_S8192x8192x1_S8x8192x8192_0_1_n_n_1_2_81 a9 (broadcastInDim S8192x8192x1 ![0, 1] bcast_S8192x8192_S8192x8192x1_0_1 rel)

/-- Which keys a query attends to. -/
def see : IVec S8192x8192 1 :=
  andi (cmpi .sge (subi (Host.divsi (iotaInDim S8192x8192 32 0) (broadcastInDim S8192x8192 ![] bcast_S_S8192x8192 (constantI S_ 32 64#32))) (Host.divsi (iotaInDim S8192x8192 32 1) (broadcastInDim S8192x8192 ![] bcast_S_S8192x8192 (constantI S_ 32 64#32)))) (broadcastInDim S8192x8192 ![] bcast_S_S8192x8192 (constantI S_ 32 0#32))) (cmpi .sle (subi (Host.divsi (iotaInDim S8192x8192 32 0) (broadcastInDim S8192x8192 ![] bcast_S_S8192x8192 (constantI S_ 32 64#32))) (Host.divsi (iotaInDim S8192x8192 32 1) (broadcastInDim S8192x8192 ![] bcast_S_S8192x8192 (constantI S_ 32 64#32)))) (broadcastInDim S8192x8192 ![] bcast_S_S8192x8192 (constantI S_ 32 8#32)))

/-- The scores. -/
def score (P : FVec Ideal S4x8192x4112 .f32) (a9 : FVec Ideal S8x513 .f32) : FVec Ideal S4x8x8192x8192 .f32 :=
  select (broadcastInDim S4x8x8192x8192 ![0, 1, 2, 3] bcast_S1x1x8192x8192_S4x8x8192x8192_0_1_2_3 (broadcastInDim S1x1x8192x8192 ![2, 3] bcast_S8192x8192_S1x1x8192x8192_2_3 see)) (addf (mulf (Host.dotGeneral dot_S4x8192x8x64_S4x8192x8x64_S4x8x8192x8192_3_3_1_1_02_02 none (qh P) (kh P)) (broadcastInDim S4x8x8192x8192 ![] bcast_S_S4x8x8192x8192 (constant S_ .f32 0x3E000000#32))) (broadcastInDim S4x8x8192x8192 ![0, 1, 2, 3] bcast_S1x8x8192x8192_S4x8x8192x8192_0_1_2_3 (broadcastInDim S1x8x8192x8192 ![1, 2, 3] bcast_S8x8192x8192_S1x8x8192x8192_1_2_3 (bias a9)))) (broadcastInDim S4x8x8192x8192 ![] bcast_S_S4x8x8192x8192 (id (constant S_ .f32 0xFF800000#32)))

/-- The softmax of the scores. -/
def prob (S : FVec Ideal S4x8x8192x8192 .f32) : FVec Ideal S4x8x8192x8192 .f32 :=
  Host.divf (Host.exp (subf S (broadcastInDim S4x8x8192x8192 ![0, 1, 2, 3] bcast_S4x8x8192x1_S4x8x8192x8192_0_1_2_3 (broadcastInDim S4x8x8192x1 ![0, 1, 2] bcast_S4x8x8192_S4x8x8192x1_0_1_2 (Host.reduce FloatOps.maximumf S (constant S_ .f32 0xFF800000#32) reducesTo_S4x8x8192x8192_S4x8x8192_d3 h_S_))))) (broadcastInDim S4x8x8192x8192 ![0, 1, 2, 3] bcast_S4x8x8192x1_S4x8x8192x8192_0_1_2_3 (broadcastInDim S4x8x8192x1 ![0, 1, 2] bcast_S4x8x8192_S4x8x8192x1_0_1_2 (Host.reduceAdd (Host.exp (subf S (broadcastInDim S4x8x8192x8192 ![0, 1, 2, 3] bcast_S4x8x8192x1_S4x8x8192x8192_0_1_2_3 (broadcastInDim S4x8x8192x1 ![0, 1, 2] bcast_S4x8x8192_S4x8x8192x1_0_1_2 (Host.reduce FloatOps.maximumf S (constant S_ .f32 0xFF800000#32) reducesTo_S4x8x8192x8192_S4x8x8192_d3 h_S_))))) (constant S_ .f32 0x00000000#32) reducesTo_S4x8x8192x8192_S4x8x8192_d3 h_S_)))

/-- The weighted sums of the values. -/
def comb (P : FVec Ideal S4x8192x4112 .f32) (B : FVec Ideal S4x8x8192x8192 .f32) : FVec Ideal S4x8192x512 .bf16 :=
  truncf .bf16 (shapeCast _ (transpose S4x8192x8x64 [0, 3, 1, 2] (Host.dotGeneral dot_S4x8192x8x64_S4x8x8192x8192_S4x8x64x8192_1_3_3_2_02_01 none (vh P) B) transposes_S4x8x64x8192_S4x8192x8x64_0_3_1_2) shapeCasts_S4x8192x8x64_S4x8192x512) bitsLt_bf16_f32

/-- The run's term. -/
theorem res_eq (m : (ℓ : Loc nD τ sig) → Buf (Elt Ideal) ℓ) (c : Dev nD) :
    res_out0 m c = comb (proj (nrm (m ((c.tc : Thread nD τ).loc main_arg0)) (m ((c.tc : Thread nD τ).loc main_arg1))) (m ((c.tc : Thread nD τ).loc main_arg2)))
      (prob (score (proj (nrm (m ((c.tc : Thread nD τ).loc main_arg0)) (m ((c.tc : Thread nD τ).loc main_arg1))) (m ((c.tc : Thread nD τ).loc main_arg2)))
        (m ((c.tc : Thread nD τ).loc main_arg9)))) := by
  unfold res_out0 res_main_v59
  rfl

/-- A normalized row. -/
theorem nrm_at (a0 : FVec Ideal S4x8192x1024 .f32) (a1 : FVec Ideal S1024 .f32) (b : Fin 4) (s : Fin 8192) (k : Fin 1024) :
    nrm a0 a1 (ix3 b s k) = rms (fun k => a0 (ix3 b s k)) (fun k => a1 (ix1 k)) k := by
  pointwise [nrm, rms]

/-- A channel of the projection. -/
theorem proj_at (X : FVec Ideal S4x8192x1024 .f32) (a2 : FVec Ideal S4112x1024 .bf16) (b : Fin 4) (s : Fin 8192) (j : Fin 4112) :
    proj X a2 (ix3 b s j) = ∑ k : Fin 1024, X (ix3 b s k) * a2 (ix2 j k) := by
  pointwise [proj]

/-- The first head's output: a weighted sum of the values. -/
theorem comb_at (P : FVec Ideal S4x8192x4112 .f32) (B : FVec Ideal S4x8x8192x8192 .f32) (q : Fin 256) (d : Fin 64) :
    comb P B (ix3 (0 : Fin 4) (⟨q.val, by omega⟩ : Fin 8192) (⟨d.val, by omega⟩ : Fin 512)) =
      ∑ k : Fin 8192, P (ix3 0 k ⟨3600 + d.val, by omega⟩) * B (ix4 0 0 ⟨q.val, by omega⟩ k) := by
  have h0 : d.val / 64 = 0 := by omega
  have h1 : d.val / 64 * 64 + d.val % 64 = d.val := by omega
  pointwise [comb, vh]
  refine Finset.sum_congr rfl fun k _ => congrArg₂ (fun a b : EReal => a * b) (congrArg P ?_) (congrArg B ?_)
  · refine congrArg (fun i : Fin 4112 => ix3 (0 : Fin 4) k i) (Fin.ext ?_)
    show 3600 + (d.val / 64 * 64 + d.val % 64) = 3600 + d.val
    rw [h1]
  · exact congrArg (fun i : Fin 8 => ix4 (0 : Fin 4) i (⟨q.val, by omega⟩ : Fin 8192) k) (Fin.ext (by show d.val / 64 = 0; omega))

/-- The number a maximum starts from. -/
theorem lo_eq : Ideal.ofBits FTy.f32 4286578688#32 = (⊥ : EReal) := rfl

/-- A weight: the exponential of the score less the greatest, over their sum. -/
theorem prob_at (S : FVec Ideal S4x8x8192x8192 .f32) (q k : Fin 8192) :
    prob S (ix4 0 0 q k) = Ideal.div (Ideal.exp (S (ix4 0 0 q k) - Finset.fold max ⊥ (fun j => S (ix4 0 0 q j)) Finset.univ))
      (∑ l, Ideal.exp (S (ix4 0 0 q l) - Finset.fold max ⊥ (fun j => S (ix4 0 0 q j)) Finset.univ)) := by
  pointwise [prob]
  simp only [lo_eq]

/-- The chunk of a position. -/
theorem chunk_at (n : Fin 8192) : IntOp.divsi ArithUnit.host (BitVec.ofNat 32 n.val) 64#32 = BitVec.ofNat 32 (n.val / 64) := by
  revert n
  decide +kernel

/-- Which pairs of chunks attend. -/
theorem gap_at (a : Fin 4) (b : Fin 128) :
    IntOp.andi (IntOp.cmpi .sge (IntOp.subi (BitVec.ofNat 32 a.val) (BitVec.ofNat 32 b.val)) 0#32)
      (IntOp.cmpi .sle (IntOp.subi (BitVec.ofNat 32 a.val) (BitVec.ofNat 32 b.val)) 8#32) = if b.val ≤ a.val then 1#1 else 0#1 := by
  revert a b
  decide +kernel

/-- A query of the first 256 attends to the keys of its own chunk and of those before. -/
theorem see_at (q : Fin 256) (k : Fin 8192) : see (ix2 (⟨q.val, by omega⟩ : Fin 8192) k) = if k.val / 64 ≤ q.val / 64 then 1#1 else 0#1 := by
  have h := gap_at ⟨q.val / 64, by omega⟩ ⟨k.val / 64, by omega⟩
  have hq := chunk_at (⟨q.val, by omega⟩ : Fin 8192)
  have hk := chunk_at k
  simp only at h hq
  pointwise [see]
  rw [hq, hk]
  exact h

/-- The clip changes no distance up to 256. -/
theorem clip_at (a : Fin 513) :
    IntOp.addi (IntOp.minsi 256#32 (IntOp.maxsi 4294967040#32 (BitVec.ofNat 32 a.val - 256#32))) 256#32 = BitVec.ofNat 32 a.val := by
  revert a
  decide +kernel

/-- The index of the bias of a query and a key of the first 256. -/
theorem rel_at (q k : Fin 256) : rel (ix2 (⟨q.val, by omega⟩ : Fin 8192) (⟨k.val, by omega⟩ : Fin 8192)) = BitVec.ofNat 32 (q.val + 256 - k.val) := by
  have h : IntOp.subi (BitVec.ofNat 32 q.val) (BitVec.ofNat 32 k.val) = BitVec.ofNat 32 (q.val + 256 - k.val) - 256#32 := by
    show BitVec.ofNat 32 q.val - BitVec.ofNat 32 k.val = _
    apply BitVec.eq_of_toNat_eq
    simp only [BitVec.toNat_sub, BitVec.toNat_ofNat]
    omega
  pointwise [rel]
  rw [h]
  exact clip_at ⟨q.val + 256 - k.val, by omega⟩

/-- The dimensions of the gather of the biases. -/
abbrev gd : GatherDims S8x513 S8192x8192x1 S8x8192x8192 := gather_S8x513_S8192x8192x1_S8x8192x8192_0_1_n_n_1_2_81

/-- The gather of the biases, at an index. -/
theorem take_at {w : Nat} (x : FVec Ideal S8x513 .f32) (I : IVec S8192x8192x1 w) (q k : Fin 8192) (h : Fin 8) :
    Host.gather gd x I (ix3 h q k) = x (ix2 h ⟨min (I (ix3 q k 0)).toInt.toNat 512, by omega⟩) := by
  unfold Host.gather
  refine congrArg x ?_
  funext a
  refine Fin.ext ?_
  show gd.start (ix3 h q k) I a + gd.batchCoord (ix3 h q k) a + gd.offCoord (ix3 h q k) a = _
  rw [GatherDims.batchCoord_eq_zero _ _ _ List.not_mem_nil]
  have h01 : a = 0 ∨ a = 1 := by
    match a with
    | ⟨0, _⟩ => exact Or.inl rfl
    | ⟨1, _⟩ => exact Or.inr rfl
  rcases h01 with rfl | rfl
  · have e : gd.start (ix3 h q k) I 0 = 0 := by
      unfold GatherDims.start
      exact dif_neg (show ¬ (0 : Fin 2) ∈ ([1] : List (Fin 2)) by decide)
    rw [e]
    unfold GatherDims.offCoord
    rw [dif_pos ((GatherDims.mem_sKept _ _).mpr ⟨show ¬ (0 : Fin 2) ∈ ([1] : List (Fin 2)) by decide, List.not_mem_nil⟩)]
    simp only [Nat.zero_add]
    rfl
  · rw [GatherDims.offCoord_eq_zero _ _ _ (fun h => ((GatherDims.mem_sKept _ _).mp h).1 (List.mem_singleton.mpr rfl))]
    simp only [Nat.add_zero]
    unfold GatherDims.start
    rw [dif_pos (show (1 : Fin 2) ∈ gd.startIndexMap from List.mem_singleton.mpr rfl)]
    have hsi : gd.siIdx (ix3 h q k) ⟨List.idxOf (1 : Fin 2) gd.startIndexMap,
        List.idxOf_lt_length_iff.2 (List.mem_singleton.mpr rfl)⟩ = ix3 q k 0 := by
      funext b; refine Fin.ext ?_
      match b with
      | ⟨0, _⟩ => rfl
      | ⟨1, _⟩ => rfl
      | ⟨2, _⟩ => rfl
    rw [hsi]
    rfl

/-- An index up to 512 is read as itself. -/
theorem at_small (a : Fin 513) : min (BitVec.ofNat 32 a.val).toInt.toNat 512 = a.val := by
  revert a
  decide +kernel

/-- The bias of a query and a key of the first 256. -/
theorem bias_at (a9 : FVec Ideal S8x513 .f32) (q k : Fin 256) :
    bias a9 (ix3 0 (⟨q.val, by omega⟩ : Fin 8192) (⟨k.val, by omega⟩ : Fin 8192)) = a9 (ix2 0 ⟨q.val + 256 - k.val, by omega⟩) := by
  have h := rel_at q k
  have hs := at_small ⟨q.val + 256 - k.val, by omega⟩
  unfold bias
  generalize rel = R at h ⊢
  refine (take_at _ _ _ _ _).trans (congrArg a9 (congrArg (ix2 (0 : Fin 8)) (Fin.ext ?_)))
  refine Eq.trans ?_ hs
  refine congrArg (fun v : BitVec 32 => min v.toInt.toNat 512) (Eq.trans ?_ h)
  pointwise

/-- The first head's scores. -/
theorem score_at (P : FVec Ideal S4x8192x4112 .f32) (a9 : FVec Ideal S8x513 .f32) (q : Fin 256) (k : Fin 8192) :
    score P a9 (ix4 0 0 (⟨q.val, by omega⟩ : Fin 8192) k) = if k.val / 64 ≤ q.val / 64 then
      (∑ x : Fin 64, P (ix3 0 (⟨q.val, by omega⟩ : Fin 8192) ⟨2576 + x.val, by omega⟩) * P (ix3 0 k ⟨3088 + x.val, by omega⟩)) * Ideal.ofBits FTy.f32 1040187392#32
        + bias a9 (ix3 0 (⟨q.val, by omega⟩ : Fin 8192) k) else (⊥ : EReal) := by
  have h := see_at q k
  unfold score
  generalize see = R at h ⊢
  generalize bias a9 = B
  pointwise [qh, kh]
  rw [h]
  by_cases hk : k.val / 64 ≤ q.val / 64
  · rw [if_pos hk, if_pos hk]
    rfl
  · rw [if_neg hk, if_neg hk]
    rfl

end

end Cert.ReferenceIdeal.Mine
-- ==== Proof.FrontSoft.lean ====
module

public import proofs.«01_k».proof.Proof.Spec

/-! Attention over real numbers: sums, exponentials and quotients of real numbers are real, and the softmax average
does not depend on the number subtracted from the scores, nor on the keys that are masked. -/

@[expose] public section

namespace Cert.Layer

open Idealize.ShloMosaic

noncomputable section

/-- A finite sum of real numbers. -/
theorem coe_sum {n : ℕ} (f : Fin n → ℝ) : (∑ k, (f k : EReal)) = ((∑ k, f k : ℝ) : EReal) := by
  classical
  generalize (Finset.univ : Finset (Fin n)) = s
  induction s using Finset.induction_on with
  | empty => simp
  | insert a s h ih => rw [Finset.sum_insert h, Finset.sum_insert h, ih, EReal.coe_add]

/-- A quotient of real numbers. -/
theorem quot (a b : ℝ) (h : b ≠ 0) : Ideal.div (a : EReal) (b : EReal) = ((a / b : ℝ) : EReal) := by
  rw [Ideal.div_coe h, ← EReal.coe_mul, mul_one_div]

/-- The scale of the scores. -/
theorem eighth : Ideal.ofBits .f32 1040187392#32 = (((1 : ℝ) / 8 : ℝ) : EReal) := by
  simp [Ideal.ofBits, Ideal.ieee, -EReal.coe_mul]
  norm_num
/-- The same scale in the shorter format. -/
theorem eighth16 : Ideal.ofBits .bf16 0x3E00#16 = (((1 : ℝ) / 8 : ℝ) : EReal) := by
  simp [Ideal.ofBits, Ideal.ieee, -EReal.coe_mul]
  norm_num
/-- The number of channels. -/
theorem kilo : Ideal.ofBits .f32 0x44800000#32 = ((1024 : ℝ) : EReal) := by
  simp [Ideal.ofBits, Ideal.ieee, -EReal.coe_mul]
  norm_num
/-- The number added to the mean square is positive. -/
theorem small : ∃ e : ℝ, 0 < e ∧ Ideal.ofBits .f32 0x3727C5AC#32 = (e : EReal) := by
  refine ⟨_, ?_, by simp [Ideal.ofBits, Ideal.ieee, -EReal.coe_mul]; rfl⟩
  norm_num

/-- The normalized row of real numbers is real. -/
theorem rms_coe (x w : Fin 1024 → ℝ) (c : Fin 1024) :
    ∃ r : ℝ, rms (fun k => (x k : EReal)) (fun k => (w k : EReal)) c = (r : EReal) := by
  obtain ⟨e, he, hs⟩ := small
  have hp : 0 < (∑ k, x k * x k) / 1024 + e :=
    add_pos_of_nonneg_of_pos (div_nonneg (Finset.sum_nonneg fun k _ => mul_self_nonneg _) (by norm_num)) he
  refine ⟨x c * (Real.sqrt ((∑ k, x k * x k) / 1024 + e))⁻¹ * w c, ?_⟩
  unfold rms
  rw [hs, kilo]
  simp only [← EReal.coe_mul]
  rw [coe_sum, quot _ _ (by norm_num), ← EReal.coe_add, Ideal.rsqrt_coe, if_neg hp.not_gt, if_neg hp.ne', ← EReal.coe_mul,
    ← EReal.coe_mul]

/-- The normalized row is real whatever the row: a row with an infinite number in it has an infinite mean square, and
normalizes to zero. -/
theorem rms_real (x : Fin 1024 → EReal) (w : Fin 1024 → ℝ) (c : Fin 1024) :
    ∃ r : ℝ, rms x (fun k => (w k : EReal)) c = (r : EReal) := by
  by_cases h : ∀ k, ∃ r : ℝ, x k = (r : EReal)
  · choose y hy using h
    obtain rfl : x = fun k => (y k : EReal) := funext hy
    exact rms_coe y w c
  · obtain ⟨k, hk⟩ := not_forall.mp h
    have sq : ∀ a : EReal, 0 ≤ a * a := fun a => by
      induction a using EReal.rec with
      | bot => simp
      | top => simp
      | coe r => rw [← EReal.coe_mul]; exact EReal.coe_nonneg.mpr (mul_self_nonneg r)
    have ht : x k * x k = ⊤ := by
      generalize x k = a at hk
      induction a using EReal.rec with
      | bot => simp
      | top => simp
      | coe r => exact absurd ⟨r, rfl⟩ hk
    have hs : ∑ k, x k * x k = ⊤ :=
      top_le_iff.mp (ht ▸ Finset.single_le_sum (f := fun k => x k * x k) (fun k _ => sq _) (Finset.mem_univ k))
    obtain ⟨e, _, he⟩ := small
    refine ⟨0, ?_⟩
    unfold rms
    rw [hs, he, kilo, Ideal.div_coe (by norm_num), EReal.top_mul_coe_of_pos (by norm_num), EReal.top_add_coe]
    show x c * (0 : EReal) * _ = _
    rw [mul_zero, zero_mul, EReal.coe_zero]

/-- A row times the columns of a matrix. -/
theorem dot_real {n : ℕ} (h w : Fin n → ℝ) : (∑ c, (h c : EReal) * (w c : EReal)) = ((∑ c, h c * w c : ℝ) : EReal) := by
  simp only [← EReal.coe_mul]
  exact coe_sum _

/-- The exponential of a score less a real number: zero at a masked key. -/
theorem exp_score (p : Prop) [Decidable p] (s M : ℝ) :
    Ideal.exp ((if p then (s : EReal) else ⊥) - (M : EReal)) = ((if p then Real.exp s / Real.exp M else 0 : ℝ) : EReal) := by
  by_cases h : p
  · rw [if_pos h, if_pos h, ← EReal.coe_sub, Ideal.exp_coe, Real.exp_sub]
  · rw [if_neg h, if_neg h, EReal.bot_sub, Ideal.exp_bot]; rfl

/-- A sum over 8192 rows whose terms vanish from the row 256 on. -/
theorem sum_head (f : Fin 8192 → ℝ) (h : ∀ k : Fin 8192, 256 ≤ k.val → f k = 0) :
    ∑ k, f k = ∑ j : Fin 256, f ⟨j.val, by omega⟩ := by
  refine (Fin.sum_univ_add (a := 256) (b := 7936) f).trans ?_
  rw [Finset.sum_eq_zero (s := (Finset.univ : Finset (Fin 7936))) fun k _ => h _ (by simp), add_zero]
  rfl

/-- The softmax average, over all keys with one subtrahend, or over the first 256 with another. -/
theorem soft (p : Fin 8192 → Prop) [DecidablePred p] (hp : ∀ k, p k → k.val < 256) (h0 : p 0) (S v : Fin 8192 → ℝ) (M M' : ℝ) :
    ∑ k : Fin 8192, (v k : EReal) * Ideal.div (Ideal.exp ((if p k then (S k : EReal) else ⊥) - (M : EReal)))
        (∑ l : Fin 8192, Ideal.exp ((if p l then (S l : EReal) else ⊥) - (M : EReal))) =
      Ideal.div (∑ j : Fin 256, (v ⟨j.val, by omega⟩ : EReal) *
          Ideal.exp ((if p ⟨j.val, by omega⟩ then (S ⟨j.val, by omega⟩ : EReal) else ⊥) - (M' : EReal)))
        (∑ j : Fin 256, (1 : EReal) * Ideal.exp ((if p ⟨j.val, by omega⟩ then (S ⟨j.val, by omega⟩ : EReal) else ⊥) - (M' : EReal))) := by
  set e : Fin 8192 → ℝ := fun k => if p k then Real.exp (S k) else 0 with he
  have hM := Real.exp_pos M
  have hM' := Real.exp_pos M'
  have hx : ∀ (N : ℝ) (k : Fin 8192), Ideal.exp ((if p k then (S k : EReal) else ⊥) - (N : EReal)) = ((e k / Real.exp N : ℝ) : EReal) :=
    fun N k => (exp_score (p k) (S k) N).trans (by simp only [he]; split <;> simp)
  have hz : ∀ k : Fin 8192, 256 ≤ k.val → e k = 0 := fun k hk => by
    simp only [he]; exact if_neg fun h => absurd (hp k h) (by omega)
  have hn : ∀ k, 0 ≤ e k := fun k => by simp only [he]; split <;> positivity
  have hpos : 0 < ∑ k, e k := Finset.sum_pos' (fun k _ => hn k) ⟨0, Finset.mem_univ _, by simp only [he, if_pos h0]; positivity⟩
  have e1 := sum_head e hz
  have e2 := sum_head (fun k => v k * e k) fun k hk => by simp only [hz k hk, mul_zero]
  have hpos' : 0 < ∑ j : Fin 256, e ⟨j.val, by omega⟩ := e1 ▸ hpos
  simp only [hx, one_mul, coe_sum, dot_real]
  have q1 : (∑ k, e k / Real.exp M) ≠ 0 := by rw [← Finset.sum_div]; exact (div_pos hpos hM).ne'
  have q2 : (∑ j : Fin 256, e ⟨j.val, by omega⟩ / Real.exp M') ≠ 0 := by rw [← Finset.sum_div]; exact (div_pos hpos' hM').ne'
  simp only [quot _ _ q1, dot_real]
  rw [quot _ _ q2]
  refine congrArg _ ?_
  simp only [← Finset.sum_div, mul_div_assoc', div_div, ← e1, ← e2]
  rw [mul_div_cancel_left₀ _ hM.ne', mul_div_cancel_left₀ _ hM'.ne']

end

end Cert.Layer
-- ==== Proof.FrontTile.lean ====
module

public import proofs.«01_k».proof.Pre_finite
public import proofs.«01_k».proof.Proof.FrontArgs
public import proofs.«01_k».proof.Proof.FrontFrameIdeal
public import proofs.«01_k».proof.Proof.FrontScores
public import proofs.«01_k».proof.Proof.FrontRef
public import proofs.«01_k».proof.Proof.FrontSoft
public import Idealize.ShloMosaic.Lib.ReduceAll

/-! The first head's first 256 queries, from real weights and biases: the kernel's quotient of weighted sums over the queries'
own block is the reference's softmax over all 8192 keys. -/

@[expose] public section

set_option maxRecDepth 65536

noncomputable section

namespace Cert.Tile

open Cert.Layer
open Idealize.ShloMosaic Idealize.ShloMosaic.TcCoe Idealize.SL.Sem

/-- Both bits of a conjunction that is set are set. -/
theorem and_one : ∀ a b : BitVec 1, IntOp.andi a b = 1#1 → a = 1#1 ∧ b = 1#1 := by decide

/-- A number whose absolute value is below infinity is real. -/
theorem real_of (x : EReal) (h : Ideal.cmp .olt (max x (-x)) (Ideal.ofBits .f32 0x7F800000#32) = 1#1) : ∃ r : ℝ, x = (r : EReal) := by
  have h' : max x (-x) < ⊤ := by
    unfold Ideal.cmp at h
    by_contra hc
    exact absurd h (by simp [show ¬ max x (-x) < Ideal.ofBits .f32 0x7F800000#32 from hc])
  induction x using EReal.rec with
  | bot => simp at h'
  | top => simp at h'
  | coe r => exact ⟨r, rfl⟩

section
variable [Cert.Pre_finite.Facts]
open Cert.Pre_finite

/-- What the precondition says: the channel weights, the projection and the biases are real. -/
theorem reals {a0 : FVec Ideal S4x8192x1024 .f32} {a1 : FVec Ideal S1024 .f32} {a2 : FVec Ideal S4112x1024 .bf16}
    {a3 a4 a5 a6 a7 a8} {a9 : FVec Ideal S8x513 .f32} (h : fn (F := Ideal) a0 a1 a2 a3 a4 a5 a6 a7 a8 a9 = fun _ => 1#1) :
    (∀ i, ∃ r : ℝ, a1 i = (r : EReal)) ∧ (∀ i, ∃ r : ℝ, a2 i = (r : EReal)) ∧
      ∀ i, ∃ r : ℝ, a9 i = (r : EReal) := by
  have : Subsingleton S_.Idx := ⟨fun a b => funext fun d => d.elim0⟩
  have h := congrFun h ix0
  obtain ⟨h, h9⟩ := and_one _ _ h
  obtain ⟨h1, h2⟩ := and_one _ _ h
  exact ⟨fun i => real_of _ (Host.reduce_andi_all _ _ _ _ _ h1 i),
    fun i => real_of _ (Host.reduce_andi_all _ _ _ _ _ h2 i), fun i => real_of _ (Host.reduce_andi_all _ _ _ _ _ h9 i)⟩

end

variable (x : Fin 8192 → Fin 1024 → EReal) (n : Fin 1024 → ℝ) (w : Fin 4112 → Fin 1024 → ℝ) (b : Fin 513 → ℝ)

/-- The normalized rows, as real numbers. -/
def nr (q : Fin 8192) (c : Fin 1024) : ℝ := Classical.choose (rms_real (x q) n c)

/-- They are the normalized rows. -/
theorem nr_eq (q : Fin 8192) (c : Fin 1024) : rms (x q) (fun k => (n k : EReal)) c = (nr x n q c : EReal) :=
  Classical.choose_spec (rms_real (x q) n c)

/-- Channel `i` of the projection of row `s`. -/
def pr (i : Fin 4112) (s : Fin 8192) : ℝ := ∑ c, nr x n s c * w i c

/-- The score of key `k` for query `q`, unmasked. -/
def sr (q : Fin 256) (k : Fin 8192) : ℝ :=
  (∑ d : Fin 64, pr x n w ⟨2576 + d.val, by omega⟩ ⟨q.val, by omega⟩ * pr x n w ⟨3088 + d.val, by omega⟩ k) * (1 / 8) +
    if h : k.val < 256 then b ⟨q.val + 256 - k.val, by omega⟩ else 0

section
open Cert.KernelIdeal Cert.KernelIdeal.Gen Cert.KernelIdeal.Mine
variable {m : (ℓ : Loc nD τ sig) → Buf (Elt Ideal) ℓ} {c : Dev nD} {x n w b}
  (hx : ∀ q k, aX m c q k = x q k) (hn : ∀ k, aN m c k = (n k : EReal))
  (hw : ∀ i k, aW m c i k = (w i k : EReal)) (hb : ∀ j, aB m c j = (b j : EReal))

include hx hn in
/-- The kernel's normalized rows are real. -/
theorem gH_real (q : Fin 256) (k : Fin 1024) : gH (ins m c pt0) (ix2 q k) = (nr x n ⟨q.val, by omega⟩ k : EReal) := by
  rw [gH_at, ← nr_eq]
  exact congrArg₂ (fun f g => rms f g k) (funext fun k => (in0 m c q k).trans (hx _ _)) (funext fun k => (in1 m c k).trans (hn k))

include hx hn hw in
/-- The kernel's keys are real. -/
theorem gK_real (k : Fin 256) (j : Fin 512) : gK (ins m c pt0) (ix3 0 k j) = (pr x n w ⟨3088 + j.val, by omega⟩ ⟨k.val, by omega⟩ : EReal) := by
  rw [gK_at]
  refine (Finset.sum_congr rfl fun a _ => congrArg₂ (fun u v : EReal => u * v) (gH_real hx hn k a) ((in2k m c a j).trans (hw _ _))).trans ?_
  exact dot_real _ _

include hx hn hw in
/-- The kernel's queries are real, and scaled by an eighth. -/
theorem gQ_real (q : Fin 256) (j : Fin 512) : gQ (ins m c pt0) (ix3 0 q j) = ((pr x n w ⟨2576 + j.val, by omega⟩ ⟨q.val, by omega⟩ * (1 / 8) : ℝ) : EReal) := by
  rw [gQ_at]
  refine (Finset.sum_congr rfl fun a _ => congrArg₂ (fun u v : EReal => u * v) (gH_real hx hn q a) ((in2q m c a j).trans
    ((congrArg₂ (fun u v : EReal => u * v) (hw _ _) eighth16).trans (EReal.coe_mul _ _).symm))).trans ?_
  refine (dot_real _ _).trans (congrArg _ ?_)
  unfold pr
  rw [Finset.sum_mul]
  exact Finset.sum_congr rfl fun a _ => (mul_assoc _ _ _).symm

include hx hn hw in
/-- The first head's values are real. -/
theorem gV_real (d : Fin 64) (k : Fin 256) : gV (ins m c pt0) (ix3 0 ⟨d.val, by omega⟩ k) = (pr x n w ⟨3600 + d.val, by omega⟩ ⟨k.val, by omega⟩ : EReal) := by
  rw [gV_at]
  have h4 : (ins m c pt0).x4 (ix2 ⟨d.val, by omega⟩ 0) = (0 : EReal) := (in4 m c ⟨d.val, by omega⟩).trans (if_pos d.isLt)
  have h3 : ∀ a, (ins m c pt0).x3 (ix2 ⟨d.val, by omega⟩ a) = (w ⟨3600 + d.val, by omega⟩ a : EReal) := fun a =>
    ((in3 m c ⟨d.val, by omega⟩ a).trans (dif_pos d.isLt)).trans (hw _ _)
  refine (congrArg₂ (fun u v : EReal => u + v) (Finset.sum_congr rfl fun a _ =>
    congrArg₂ (fun u v : EReal => u * v) (h3 a) (gH_real hx hn k a)) h4).trans ?_
  refine (add_zero _).trans ((dot_real _ _).trans (congrArg _ ?_))
  exact Finset.sum_congr rfl fun a _ => mul_comm _ _

include hx hn in
/-- The row that counts the weights is one. -/
theorem gV_one (k : Fin 256) : gV (ins m c pt0) (ix3 0 ⟨64, by omega⟩ k) = (1 : EReal) := by
  rw [gV_at]
  have h4 : (ins m c pt0).x4 (ix2 ⟨64, by omega⟩ 0) = (1 : EReal) := by
    have e := in4 m c ⟨64, by decide⟩
    exact e.trans (if_neg (by decide))
  have h3 : ∀ a, (ins m c pt0).x3 (ix2 ⟨64, by omega⟩ a) = (0 : EReal) := fun a => by
    have e := in3 m c ⟨64, by decide⟩ a
    exact e.trans (dif_neg (by decide))
  refine (congrArg₂ (fun u v : EReal => u + v) (Finset.sum_eq_zero fun a _ =>
    (congrArg (fun u : EReal => u * _) (h3 a)).trans (zero_mul _)) h4).trans (zero_add _)

include hx hn hw hb in
/-- A score is real, or masked. -/
theorem tt_real (k q : Fin 256) : tt (ins m c pt0) k q =
    if k.val / 64 ≤ q.val / 64 then (sr x n w b q ⟨k.val, by omega⟩ : EReal) else ⊥ := by
  have hs : sc (ins m c pt0) k q = (((∑ d : Fin 64, pr x n w ⟨2576 + d.val, by omega⟩ ⟨q.val, by omega⟩ *
      pr x n w ⟨3088 + d.val, by omega⟩ ⟨k.val, by omega⟩) * (1 / 8) : ℝ) : EReal) := by
    unfold sc
    refine (Finset.sum_congr rfl fun d _ => congrArg₂ (fun u v : EReal => u * v) (gK_real hx hn hw k ⟨d.val, by omega⟩)
      (gQ_real hx hn hw q ⟨d.val, by omega⟩)).trans ((dot_real _ _).trans (congrArg _ ?_))
    rw [Finset.sum_mul]
    exact Finset.sum_congr rfl fun d _ => by ring
  unfold tt
  rw [hs]
  by_cases h : k.val / 64 ≤ q.val / 64
  · rw [if_pos h, if_pos h]
    have e : (⟨q.val + 512 - k.val, by omega⟩ : Fin 1024) = ⟨257 + (q.val + 255 - k.val), by omega⟩ := Fin.ext (by show q.val + 512 - k.val = 257 + (q.val + 255 - k.val); omega)
    have e' : (⟨1 + (q.val + 255 - k.val), by omega⟩ : Fin 513) = ⟨q.val + 256 - k.val, by omega⟩ := Fin.ext (by show 1 + (q.val + 255 - k.val) = q.val + 256 - k.val; omega)
    have h11 : (ins m c pt0).x11 (ix2 0 ⟨q.val + 512 - k.val, by omega⟩) = (b ⟨q.val + 256 - k.val, by omega⟩ : EReal) :=
      (congrArg (fun i => (ins m c pt0).x11 (ix2 0 i)) e).trans ((in11 m c ⟨q.val + 255 - k.val, by omega⟩).trans ((hb _).trans (congrArg (fun i => (b i : EReal)) e')))
    refine (congrArg (fun u : EReal => _ + u) h11).trans ?_
    rw [← EReal.coe_add]
    refine congrArg _ ?_
    unfold sr
    rw [dif_pos (show (⟨k.val, by omega⟩ : Fin 8192).val < 256 from k.isLt)]
  · rw [if_neg h, if_neg h, EReal.add_bot]

include hx hn hw hb in
/-- No score is infinite, and the first key is not masked. -/
theorem good (q : Fin 256) : Good (ins m c pt0) q := by
  refine ⟨fun k => ?_, ?_⟩
  · rw [tt_real hx hn hw hb]
    split
    · exact EReal.coe_lt_top _
    · exact bot_lt_top
  · rw [tt_real hx hn hw hb, if_pos (show (0 : Fin 256).val / 64 ≤ q.val / 64 from Nat.zero_le _)]
    exact EReal.bot_lt_coe _

include hx hn hw hb in
/-- The kernel's tile. -/
theorem kernel_tile {v} (hv : R39 (ins m c pt0) v) (q : Fin 256) (d : Fin 64) : ∃ M : ℝ, v (ix2 d q) =
    Ideal.div (∑ j : Fin 256, (pr x n w ⟨3600 + d.val, by omega⟩ ⟨j.val, by omega⟩ : EReal) *
        Ideal.exp ((if j.val / 64 ≤ q.val / 64 then (sr x n w b q ⟨j.val, by omega⟩ : EReal) else ⊥) - (M : EReal)))
      (∑ j : Fin 256, (1 : EReal) * Ideal.exp ((if j.val / 64 ≤ q.val / 64 then (sr x n w b q ⟨j.val, by omega⟩ : EReal) else ⊥) - (M : EReal))) := by
  obtain ⟨M, ⟨h0, h1⟩, h⟩ := R39_at hv q (good hx hn hw hb q) d
  lift M to ℝ using ⟨h1.ne, h0.ne'⟩
  refine ⟨M, h.trans (congrArg₂ Ideal.div ?_ ?_)⟩
  · exact Finset.sum_congr rfl fun j _ => congrArg₂ (fun u v : EReal => u * v) (gV_real hx hn hw d j)
      (congrArg (fun t : EReal => Ideal.exp (t - (M : EReal))) (tt_real hx hn hw hb j q))
  · exact Finset.sum_congr rfl fun j _ => congrArg₂ (fun u v : EReal => u * v) (gV_one hx hn j)
      (congrArg (fun t : EReal => Ideal.exp (t - (M : EReal))) (tt_real hx hn hw hb j q))

end

section
open Cert.ReferenceIdeal Cert.ReferenceIdeal.Gen Cert.ReferenceIdeal.Mine
variable {a0 : FVec Ideal S4x8192x1024 .f32} {a1 : FVec Ideal S1024 .f32} {a2 : FVec Ideal S4112x1024 .bf16} {a9 : FVec Ideal S8x513 .f32} {x n w b}
  (hx : ∀ q k, a0 (ix3 0 q k) = x q k) (hn : ∀ k, a1 (ix1 k) = (n k : EReal))
  (hw : ∀ i k, a2 (ix2 i k) = (w i k : EReal)) (hb : ∀ j, a9 (ix2 0 j) = (b j : EReal))

include hx hn hw in
/-- The reference's projection is real. -/
theorem proj_real (s : Fin 8192) (j : Fin 4112) : proj (nrm a0 a1) a2 (ix3 0 s j) = (pr x n w j s : EReal) := by
  rw [proj_at]
  refine (Finset.sum_congr rfl fun k _ => congrArg₂ (fun u v : EReal => u * v) (((nrm_at a0 a1 0 s k).trans
    (congrArg₂ (fun f g => rms f g k) (funext fun k => hx s k) (funext fun k => hn k))).trans (nr_eq x n s k)) (hw j k)).trans ?_
  exact dot_real _ _

include hx hn hw hb in
/-- The reference's score is the same real number, or masked. -/
theorem score_real (q : Fin 256) (k : Fin 8192) : score (proj (nrm a0 a1) a2) a9 (ix4 0 0 (⟨q.val, by omega⟩ : Fin 8192) k) =
    if k.val / 64 ≤ q.val / 64 then (sr x n w b q k : EReal) else ⊥ := by
  rw [score_at]
  by_cases h : k.val / 64 ≤ q.val / 64
  · rw [if_pos h, if_pos h]
    have hk : k.val < 256 := by omega
    have e := (bias_at a9 q ⟨k.val, hk⟩).trans (hb _)
    refine (congrArg₂ (fun u v : EReal => u + v) (congrArg₂ (fun u v : EReal => u * v) ((Finset.sum_congr rfl fun d _ =>
      congrArg₂ (fun u v : EReal => u * v) (proj_real hx hn hw _ _) (proj_real hx hn hw _ _)).trans (dot_real _ _)) eighth) e).trans ?_
    rw [← EReal.coe_mul, ← EReal.coe_add]
    refine congrArg _ ?_
    unfold sr
    rw [dif_pos hk]
  · rw [if_neg h, if_neg h]

include hx hn hw hb in
/-- The reference's tile. -/
theorem ref_tile (q : Fin 256) (d : Fin 64) : ∃ M : ℝ,
    comb (proj (nrm a0 a1) a2) (prob (score (proj (nrm a0 a1) a2) a9)) (ix3 (0 : Fin 4) (⟨q.val, by omega⟩ : Fin 8192) (⟨d.val, by omega⟩ : Fin 512)) =
      ∑ k : Fin 8192, (pr x n w ⟨3600 + d.val, by omega⟩ k : EReal) *
        Ideal.div (Ideal.exp ((if k.val / 64 ≤ q.val / 64 then (sr x n w b q k : EReal) else ⊥) - (M : EReal)))
          (∑ l : Fin 8192, Ideal.exp ((if l.val / 64 ≤ q.val / 64 then (sr x n w b q l : EReal) else ⊥) - (M : EReal))) := by
  have hs := score_real hx hn hw hb q
  have hM0 : ⊥ < Finset.fold max ⊥ (fun j : Fin 8192 => score (proj (nrm a0 a1) a2) a9 (ix4 0 0 (⟨q.val, by omega⟩ : Fin 8192) j)) Finset.univ :=
    Cert.KernelIdeal.Mine.lt_fold 0 (by rw [hs, if_pos (show (0 : Fin 8192).val / 64 ≤ q.val / 64 from Nat.zero_le _)]; exact EReal.bot_lt_coe _)
  have hM1 : Finset.fold max ⊥ (fun j : Fin 8192 => score (proj (nrm a0 a1) a2) a9 (ix4 0 0 (⟨q.val, by omega⟩ : Fin 8192) j)) Finset.univ < ⊤ :=
    Cert.KernelIdeal.Mine.fold_lt bot_lt_top fun j => by
      rw [hs]
      split
      · exact EReal.coe_lt_top _
      · exact bot_lt_top
  obtain ⟨M, hM⟩ : ∃ M : ℝ, Finset.fold max ⊥ (fun j : Fin 8192 => score (proj (nrm a0 a1) a2) a9 (ix4 0 0 (⟨q.val, by omega⟩ : Fin 8192) j)) Finset.univ = (M : EReal) :=
    ⟨_, (EReal.coe_toReal hM1.ne hM0.ne').symm⟩
  refine ⟨M, (comb_at _ _ q d).trans (Finset.sum_congr rfl fun k _ => congrArg₂ (fun u v : EReal => u * v) (proj_real hx hn hw _ _) ?_)⟩
  rw [prob_at, hM]
  simp only [hs]

end

end Cert.Tile

end
-- ==== Proof.Front.lean ====
module

public import proofs.«01_k».proof.Defs
public import proofs.«01_k».proof.Proof.FrontTile
public import Idealize.ShloMosaic.Lib.Claim

/-! The claims about the second call's attention output: the first head of the first 256 queries of the first
sequence is the reference's. -/

@[expose] public section

set_option maxRecDepth 65536

noncomputable section

namespace Cert.Proof

open Idealize.ShloMosaic Idealize.ShloMosaic.TcCoe Idealize.SL.Sem
open Cert.Layer Cert.Tile

/-- The precondition's operations are well shaped. -/
instance pre_facts : Cert.Pre_finite.Facts where
  h_S_ := by decide
  bcast_S_S1024 := by decide
  reducesTo_S1024_S_d0 := by decide
  bitsLt_bf16_f32 := by decide
  bcast_S_S4112x1024 := by decide
  reducesTo_S4112x1024_S_d0_1 := by decide
  bcast_S_S8x513 := by decide
  reducesTo_S8x513_S_d0_1 := by decide

/-- The tile's mask is well shaped. -/
instance on_facts : Cert.On_first_tile.Facts where
  bcast_S_S4x8192x512 := by decide

/-- The reference leaves its arguments alone. -/
theorem quiescent1 : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- A coordinate whose word is less than a small bound is less than the bound. -/
theorem below : ∀ (n : ℕ) (a : ℕ), n ≤ 256 → a < 8192 → IntOp.cmpi .slt (BitVec.ofNat 32 a) (BitVec.ofNat 32 n) = 1#1 → a < n := by
  intro n a hn ha h
  by_contra hc
  have e : (BitVec.ofNat 32 a).slt (BitVec.ofNat 32 n) = false := by
    rw [BitVec.slt_eq_decide, decide_eq_false_iff_not, BitVec.toInt_eq_toNat_of_lt, BitVec.toInt_eq_toNat_of_lt]
    · simp only [BitVec.toNat_ofNat]; omega
    · simp only [BitVec.toNat_ofNat]; omega
    · simp only [BitVec.toNat_ofNat]; omega
  have : IntOp.cmpi .slt (BitVec.ofNat 32 a) (BitVec.ofNat 32 n) = BitVec.ofBool ((BitVec.ofNat 32 a).slt (BitVec.ofNat 32 n)) := rfl
  rw [this, e] at h
  exact absurd h (by decide)

/-- Where the mask is set. -/
theorem on_tile {a0 a1 a2 a3 a4 a5 a6 a7 a8 a9} {b : Fin 4} {s : Fin 8192} {k : Fin 512}
    (h : Cert.On_first_tile.fn (F := Ideal) a0 a1 a2 a3 a4 a5 a6 a7 a8 a9 (ix3 b s k) = 1#1) : b.val < 1 ∧ s.val < 256 ∧ k.val < 64 := by
  obtain ⟨h, h2⟩ := and_one _ _ h
  obtain ⟨h0, h1⟩ := and_one _ _ h
  exact ⟨below 1 _ (by decide) (by omega) h0, below 256 _ (by decide) (by omega) h1, below 64 _ (by decide) (by omega) h2⟩

open Cert.ReferenceIdeal.Mine (comb prob score proj nrm)

/-- The reference's attention output, of the kernel's arguments. -/
def out (m : (ℓ : Loc Cert.KernelIdeal.nD Cert.KernelIdeal.τ Cert.KernelIdeal.sig) → Buf (Elt Ideal) ℓ) (c : Dev Cert.KernelIdeal.nD) :
    FVec Ideal Cert.ReferenceIdeal.S4x8192x512 .bf16 :=
  comb (proj (nrm (m ((c.tc : Thread Cert.KernelIdeal.nD Cert.KernelIdeal.τ).loc Cert.KernelIdeal.main_arg0)) (m ((c.tc : Thread Cert.KernelIdeal.nD Cert.KernelIdeal.τ).loc Cert.KernelIdeal.main_arg1))) (m ((c.tc : Thread Cert.KernelIdeal.nD Cert.KernelIdeal.τ).loc Cert.KernelIdeal.main_arg2)))
    (prob (score (proj (nrm (m ((c.tc : Thread Cert.KernelIdeal.nD Cert.KernelIdeal.τ).loc Cert.KernelIdeal.main_arg0)) (m ((c.tc : Thread Cert.KernelIdeal.nD Cert.KernelIdeal.τ).loc Cert.KernelIdeal.main_arg1))) (m ((c.tc : Thread Cert.KernelIdeal.nD Cert.KernelIdeal.τ).loc Cert.KernelIdeal.main_arg2)))
      (m ((c.tc : Thread Cert.KernelIdeal.nD Cert.KernelIdeal.τ).loc Cert.KernelIdeal.main_arg9))))

/-- The first tile of the kernel's output is the reference's. -/
theorem tile_eq (m : (ℓ : Loc Cert.KernelIdeal.nD Cert.KernelIdeal.τ Cert.KernelIdeal.sig) → Buf (Elt Ideal) ℓ) (c : Dev Cert.KernelIdeal.nD)
    (hp : Cert.Pre_KernelIdeal_finite m) {v} (hv : Cert.KernelIdeal.Mine.R39 (Cert.KernelIdeal.Mine.ins m c Cert.KernelIdeal.Mine.pt0) v) (q : Fin 256) (d : Fin 64) :
    v (ix2 d q) = out m c (ix3 (0 : Fin 4) (⟨q.val, by omega⟩ : Fin 8192) (⟨d.val, by omega⟩ : Fin 512)) := by
  obtain ⟨h1, h2, h9⟩ := reals (hp c)
  choose n hn using fun (k : Fin 1024) => h1 (ix1 k)
  choose w hw using fun (i : Fin 4112) (k : Fin 1024) => h2 (ix2 i k)
  choose b hb using fun (j : Fin 513) => h9 (ix2 (0 : Fin 8) j)
  obtain ⟨M', h⟩ := kernel_tile (m := m) (c := c) (fun _ _ => rfl) hn hw hb hv q d
  obtain ⟨M, h'⟩ := ref_tile (fun _ _ => rfl) hn hw hb q d
  refine h.trans (Eq.trans ?_ h'.symm)
  exact (soft (fun k : Fin 8192 => k.val / 64 ≤ q.val / 64) (fun k hk => by omega) (Nat.zero_le _) (sr _ n w b q)
    (fun k => pr _ n w ⟨3600 + d.val, by omega⟩ k) M M').symm

/-- Kernel and reference end with equal results on the first tile. -/
theorem algebraic1 : Cert.algebraic_KernelIdeal_ReferenceIdeal_on_first_tile_pre_finite := fun m g m' g' hp hagree =>
  ⟨fun c => out m c,
    (θ_run Cert.KernelIdeal.defs _ _).mono
      (fun r h c => ⟨fun i hi => by
        obtain ⟨b, s, k, rfl⟩ : ∃ (b : Fin 4) (s : Fin 8192) (k : Fin 512), i = ix3 b s k := ⟨i 0, i 1, i 2, by
          funext a
          match a with
          | ⟨0, _⟩ => rfl
          | ⟨1, _⟩ => rfl
          | ⟨2, _⟩ => rfl⟩
        obtain ⟨hb, hs, hk⟩ := on_tile hi
        obtain rfl : b = 0 := Fin.ext (by show b.val = 0; omega)
        obtain ⟨v, hv, e⟩ := Cert.KernelIdeal.Mine.first_tile_of m h.1.1 c ⟨s.val, hs⟩ ⟨k.val, hk⟩
        exact e.trans (tile_eq m c hp hv ⟨s.val, hs⟩ ⟨k.val, hk⟩), h.2.1 c⟩)
      (θ_run_and (Cert.KernelIdeal.Mine.run_main m g) (Cert.KernelIdeal.Mine.frame m g)),
    (θ_run Cert.ReferenceIdeal.defs _ _).mono
      (fun r h c => by
        obtain ⟨h0, h1, h2, h3, h4, h5, h6, h7, h8, h9⟩ := hagree c
        refine ⟨fun i _ => ?_, (h c).2⟩
        refine (congrFun (((h c).1).trans (Cert.ReferenceIdeal.Mine.res_eq m' c)) i).trans ?_
        rw [h0, h1, h2, h9]
        rfl)
      (Cert.ReferenceIdeal.Value.run (F := Ideal) m' g')⟩

end Cert.Proof

end
-- ==== Proof.FrontSafe.lean ====
module

public import proofs.«01_k».proof.Proof.Gen.Kernel.Frame
public import proofs.«01_k».proof.Proof.Gen.Kernel.Skeleton
public import proofs.«01_k».proof.Proof.Safe

/-! The body of the middle call runs from any contents of its output and scratch buffers: each part of it only loads
from the buffers it is handed and stores into its own, so it is safe over any resource that holds them. -/

@[expose] public section

set_option maxRecDepth 65536

noncomputable section

namespace Cert.Kernel.Mine

open Cert.Kernel Cert.Kernel.Gen Cert.Safe
open Idealize.ShloMosaic Idealize.ShloMosaic.TcCoe
open Idealize.SL Idealize.SL.RA Idealize.SL.BI
open scoped Idealize.SL.BI
open Idealize.SL.BI.BIBase Idealize.SL.BI.Laws Idealize.SL.Sem
open Idealize.ShloMosaic.Rounds

variable {F : FTy → Type} [FloatOps F]

/-- The buffers a resource must hold for the body: a share of each input, each output and each scratch buffer
outright at whatever contents. -/
structure Holds (c : Dev nD) (R : sProp (MT nD τ sig Unit (Elt F) ℕ (UR sig nD τ) ℕ))
    (arg2 : Memref sig .tc .vmem S1x256x1024 .f32)
    (arg3 : Memref sig .tc .vmem S1x1024 .f32)
    (arg4 : Memref sig .tc .vmem S1024x3712 .bf16)
    (arg5 : Memref sig .tc .vmem S640x1024 .bf16)
    (arg6 : Memref sig .tc .vmem S640x1 .f32)
    (arg7 : Memref sig .tc .vmem S4x1536 .f32)
    (arg8 : Memref sig .tc .vmem S1x1536 .f32)
    (arg9 : Memref sig .tc .vmem S128x1 .f32)
    (arg10 : Memref sig .tc .vmem S128x1 .f32)
    (arg11 : Memref sig .tc .vmem S1x1024 .f32)
    (arg12 : Memref sig .tc .vmem S1x1024 .f32)
    (arg13 : Memref sig .tc .vmem S8x1024 .f32)
    (arg14 : Memref sig .tc .vmem S1x256x1024 .bf16)
    (arg15 : Memref sig .tc .vmem S1x256x512 .bf16)
    (arg16 : Memref sig .tc .vmem S12x264x128 .f32)
    (arg17 : Memref sig .tc .vmem S2x128x512 .f32)
    (arg18 : Memref sig .tc .vmem S4x3x256x512 .f32)
    (arg19 : Memref sig .tc .vmem S3x8x768x256 .f32)
    (arg20 : Memref sig .tc .vmem S3x256x512 .bf16)
    (arg21 : Memref sig .tc .vmem S3x640x256 .bf16)
    (arg22 : Memref sig .tc .vmem S1x256x1024 .f32)
    (arg23 : Memref sig .tc .vmem S1x256x512 .bf16)
    (arg24 : Memref sig .tc .vmem S1x256x1024 .f32)
    (arg25 : Memref sig .tc .vmem S1x256x512 .bf16)
    (arg26 : Memref sig .tc .vmem S1x256x128 .f32)
    (arg27 : Memref sig .tc .vmem S1x256x128 .f32)
    (arg28 : Memref sig .tc .vmem S128x256 .f32) : Prop where
  r2 : Reads R (arg2.view.loc (c : Thread nD τ))
  r3 : Reads R (arg3.view.loc (c : Thread nD τ))
  r4 : Reads R (arg4.view.loc (c : Thread nD τ))
  r5 : Reads R (arg5.view.loc (c : Thread nD τ))
  r6 : Reads R (arg6.view.loc (c : Thread nD τ))
  r7 : Reads R (arg7.view.loc (c : Thread nD τ))
  r8 : Reads R (arg8.view.loc (c : Thread nD τ))
  r9 : Reads R (arg9.view.loc (c : Thread nD τ))
  r10 : Reads R (arg10.view.loc (c : Thread nD τ))
  r11 : Reads R (arg11.view.loc (c : Thread nD τ))
  r12 : Reads R (arg12.view.loc (c : Thread nD τ))
  r13 : Reads R (arg13.view.loc (c : Thread nD τ))
  w14 : Writes R (arg14.view.loc (c : Thread nD τ))
  w15 : Writes R (arg15.view.loc (c : Thread nD τ))
  w16 : Writes R (arg16.view.loc (c : Thread nD τ))
  w17 : Writes R (arg17.view.loc (c : Thread nD τ))
  w18 : Writes R (arg18.view.loc (c : Thread nD τ))
  w19 : Writes R (arg19.view.loc (c : Thread nD τ))
  w20 : Writes R (arg20.view.loc (c : Thread nD τ))
  w21 : Writes R (arg21.view.loc (c : Thread nD τ))
  w22 : Writes R (arg22.view.loc (c : Thread nD τ))
  w23 : Writes R (arg23.view.loc (c : Thread nD τ))
  w24 : Writes R (arg24.view.loc (c : Thread nD τ))
  w25 : Writes R (arg25.view.loc (c : Thread nD τ))
  w26 : Writes R (arg26.view.loc (c : Thread nD τ))
  w27 : Writes R (arg27.view.loc (c : Thread nD τ))
  w28 : Writes R (arg28.view.loc (c : Thread nD τ))

variable (c : Dev nD) (E : Set ℕ) (R : sProp (MT nD τ sig Unit (Elt F) ℕ (UR sig nD τ) ℕ)) (i : grid0.Coords)
  {arg2 : Memref sig .tc .vmem S1x256x1024 .f32} {harg2 : arg2.IsWhole}
  {arg3 : Memref sig .tc .vmem S1x1024 .f32} {harg3 : arg3.IsWhole}
  {arg4 : Memref sig .tc .vmem S1024x3712 .bf16} {harg4 : arg4.IsWhole}
  {arg5 : Memref sig .tc .vmem S640x1024 .bf16} {harg5 : arg5.IsWhole}
  {arg6 : Memref sig .tc .vmem S640x1 .f32} {harg6 : arg6.IsWhole}
  {arg7 : Memref sig .tc .vmem S4x1536 .f32} {harg7 : arg7.IsWhole}
  {arg8 : Memref sig .tc .vmem S1x1536 .f32} {harg8 : arg8.IsWhole}
  {arg9 : Memref sig .tc .vmem S128x1 .f32} {harg9 : arg9.IsWhole}
  {arg10 : Memref sig .tc .vmem S128x1 .f32} {harg10 : arg10.IsWhole}
  {arg11 : Memref sig .tc .vmem S1x1024 .f32} {harg11 : arg11.IsWhole}
  {arg12 : Memref sig .tc .vmem S1x1024 .f32} {harg12 : arg12.IsWhole}
  {arg13 : Memref sig .tc .vmem S8x1024 .f32} {harg13 : arg13.IsWhole}
  {arg14 : Memref sig .tc .vmem S1x256x1024 .bf16} {harg14 : arg14.IsWhole}
  {arg15 : Memref sig .tc .vmem S1x256x512 .bf16} {harg15 : arg15.IsWhole}
  {arg16 : Memref sig .tc .vmem S12x264x128 .f32} {harg16 : arg16.IsWhole}
  {arg17 : Memref sig .tc .vmem S2x128x512 .f32} {harg17 : arg17.IsWhole}
  {arg18 : Memref sig .tc .vmem S4x3x256x512 .f32} {harg18 : arg18.IsWhole}
  {arg19 : Memref sig .tc .vmem S3x8x768x256 .f32} {harg19 : arg19.IsWhole}
  {arg20 : Memref sig .tc .vmem S3x256x512 .bf16} {harg20 : arg20.IsWhole}
  {arg21 : Memref sig .tc .vmem S3x640x256 .bf16} {harg21 : arg21.IsWhole}
  {arg22 : Memref sig .tc .vmem S1x256x1024 .f32} {harg22 : arg22.IsWhole}
  {arg23 : Memref sig .tc .vmem S1x256x512 .bf16} {harg23 : arg23.IsWhole}
  {arg24 : Memref sig .tc .vmem S1x256x1024 .f32} {harg24 : arg24.IsWhole}
  {arg25 : Memref sig .tc .vmem S1x256x512 .bf16} {harg25 : arg25.IsWhole}
  {arg26 : Memref sig .tc .vmem S1x256x128 .f32} {harg26 : arg26.IsWhole}
  {arg27 : Memref sig .tc .vmem S1x256x128 .f32} {harg27 : arg27.IsWhole}
  {arg28 : Memref sig .tc .vmem S128x256 .f32} {harg28 : arg28.IsWhole}

variable (h : Holds c R arg2 arg3 arg4 arg5 arg6 arg7 arg8 arg9 arg10 arg11 arg12 arg13 arg14 arg15 arg16 arg17 arg18 arg19 arg20 arg21 arg22 arg23 arg24 arg25 arg26 arg27 arg28)

include c E R i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 h

/-- Part 10 of the body is safe. -/
theorem safe_part10 :
    Safe (defs₀ (F := F)) c E R (k0_part10 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28) := by
  rw [k0_part10_eq_skeleton]
  refine safe_ite (fun _ => ?_) (fun _ => ?_)
  · refine safe_bind h.w20.load fun _ => ?_
    refine safe_bind h.w20.store fun _ => ?_
    refine safe_bind h.w21.load fun _ => ?_
    refine safe_bind h.w21.store fun _ => ?_
    refine safe_ite (fun _ => ?_) (fun _ => ?_)
    · refine safe_bind h.w16.load fun _ => ?_
      refine safe_bind h.w16.store fun _ => ?_
      refine safe_ite (fun _ => ?_) (fun _ => ?_)
      · refine safe_bind h.w16.load fun _ => ?_
        refine safe_bind h.w16.load fun _ => ?_
        refine safe_bind h.w16.store fun _ => ?_
        exact safe_pure _
      · exact safe_pure _
    · refine safe_ite (fun _ => ?_) (fun _ => ?_)
      · refine safe_bind h.w16.load fun _ => ?_
        refine safe_bind h.w16.load fun _ => ?_
        refine safe_bind h.w16.store fun _ => ?_
        exact safe_pure _
      · exact safe_pure _
  · refine safe_ite (fun _ => ?_) (fun _ => ?_)
    · refine safe_bind h.w16.load fun _ => ?_
      refine safe_bind h.w16.store fun _ => ?_
      refine safe_ite (fun _ => ?_) (fun _ => ?_)
      · refine safe_bind h.w16.load fun _ => ?_
        refine safe_bind h.w16.load fun _ => ?_
        refine safe_bind h.w16.store fun _ => ?_
        exact safe_pure _
      · exact safe_pure _
    · refine safe_ite (fun _ => ?_) (fun _ => ?_)
      · refine safe_bind h.w16.load fun _ => ?_
        refine safe_bind h.w16.load fun _ => ?_
        refine safe_bind h.w16.store fun _ => ?_
        exact safe_pure _
      · exact safe_pure _

/-- Part 11 of the body is safe. -/
theorem safe_part11 :
    Safe (defs₀ (F := F)) c E R (k0_part11 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28) := by
  rw [k0_part11_eq_skeleton]
  refine safe_bind h.r2.load fun _ => ?_
  refine safe_bind h.r3.load fun _ => ?_
  refine safe_bind h.r4.load fun _ => ?_
  refine safe_bind h.w26.load fun _ => ?_
  refine safe_bind h.w26.store fun _ => ?_
  refine safe_bind h.w26.load fun _ => ?_
  refine safe_bind h.r9.load fun _ => ?_
  exact safe_pure _

/-- Part 12 of the body is safe. -/
theorem safe_part12 (v70 : FVec F S128x256 .f32) :
    Safe (defs₀ (F := F)) c E R (k0_part12 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v70) := by
  rw [k0_part12_eq_skeleton]
  refine safe_bind h.r10.load fun _ => ?_
  exact safe_pure _

/-- Part 13 of the body is safe. -/
theorem safe_part13 (v49 : FVec F S256x1024 .bf16) (v70 : FVec F S128x256 .f32) (v75 : IVec S128x256 32) (v111 : FVec F S128x256 .f32) :
    Safe (defs₀ (F := F)) c E R (k0_part13 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v49 v70 v75 v111) := by
  rw [k0_part13_eq_skeleton]
  refine safe_bind h.w28.load fun _ => ?_
  refine safe_bind h.w28.store fun _ => ?_
  refine safe_bind h.w26.load fun _ => ?_
  refine safe_bind h.w26.store fun _ => ?_
  refine safe_bind h.w27.load fun _ => ?_
  refine safe_bind h.w27.store fun _ => ?_
  refine safe_bind h.r4.load fun _ => ?_
  refine safe_bind h.w16.load fun _ => ?_
  refine safe_bind h.w16.store fun _ => ?_
  refine safe_bind h.w16.load fun _ => ?_
  exact safe_pure _

/-- Part 14 of the body is safe. -/
theorem safe_part14 (v137 : FVec F S256x1536 .f32) (v142 : FVec F S256x128 .f32) :
    Safe (defs₀ (F := F)) c E R (k0_part14 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v137 v142) := by
  rw [k0_part14_eq_skeleton]
  refine safe_bind h.w16.store fun _ => ?_
  refine safe_bind h.w16.load fun _ => ?_
  refine safe_bind h.w16.store fun _ => ?_
  refine safe_bind h.w16.load fun _ => ?_
  refine safe_bind h.w16.store fun _ => ?_
  refine safe_bind h.w16.load fun _ => ?_
  refine safe_bind h.w16.store fun _ => ?_
  refine safe_bind h.w16.load fun _ => ?_
  refine safe_bind h.w16.store fun _ => ?_
  refine safe_bind h.w16.load fun _ => ?_
  refine safe_bind h.w16.store fun _ => ?_
  refine safe_bind h.w16.load fun _ => ?_
  refine safe_bind h.w16.store fun _ => ?_
  refine safe_bind h.w16.load fun _ => ?_
  refine safe_bind h.w16.store fun _ => ?_
  exact safe_pure _

/-- Part 15 of the body is safe. -/
theorem safe_part15 (v27 : BitVec 32) (v49 : FVec F S256x1024 .bf16) (v137 : FVec F S256x1536 .f32) (v174 : FVec F S256x128 .f32) :
    Safe (defs₀ (F := F)) c E R (k0_part15 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v27 v49 v137 v174) := by
  rw [k0_part15_eq_skeleton]
  refine safe_bind h.w16.load fun _ => ?_
  refine safe_bind h.w16.store fun _ => ?_
  refine safe_bind h.w16.load fun _ => ?_
  refine safe_bind h.w16.store fun _ => ?_
  refine safe_bind h.w16.load fun _ => ?_
  refine safe_bind h.w16.store fun _ => ?_
  refine safe_bind h.r5.load fun _ => ?_
  refine safe_bind h.r6.load fun _ => ?_
  refine safe_bind h.w21.load fun _ => ?_
  refine safe_bind h.w21.store fun _ => ?_
  refine safe_bind h.r4.load fun _ => ?_
  refine safe_bind h.w24.load fun _ => ?_
  refine safe_bind h.w24.store fun _ => ?_
  refine safe_bind h.r4.load fun _ => ?_
  exact safe_pure _

/-- Part 16 of the body is safe. -/
theorem safe_part16 (v16 : BitVec 32) (v49 : FVec F S256x1024 .bf16) (v205 : FVec F S1024x512 .bf16) (cst_103 : FVec F S256x512 .f32) :
    Safe (defs₀ (F := F)) c E R (k0_part16 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v16 v49 v205 cst_103) := by
  rw [k0_part16_eq_skeleton]
  refine safe_bind h.w25.load fun _ => ?_
  refine safe_bind h.w25.store fun _ => ?_
  refine safe_bind h.r4.load fun _ => ?_
  refine safe_bind h.w20.load fun _ => ?_
  refine safe_bind h.w20.store fun _ => ?_
  refine safe_bind h.r8.load fun _ => ?_
  refine safe_bind h.w16.load fun _ => ?_
  refine safe_bind h.r7.load fun _ => ?_
  refine safe_bind h.w16.load fun _ => ?_
  refine safe_bind h.r7.load fun _ => ?_
  refine safe_bind h.w16.load fun _ => ?_
  refine safe_bind h.r7.load fun _ => ?_
  exact safe_pure _

/-- Part 17 of the body is safe. -/
theorem safe_part17 (v233 : FVec F S256x128 .f32) (v238 : FVec F S256x128 .f32) :
    Safe (defs₀ (F := F)) c E R (k0_part17 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v233 v238) := by
  rw [k0_part17_eq_skeleton]
  refine safe_bind h.w16.load fun _ => ?_
  refine safe_bind h.r7.load fun _ => ?_
  refine safe_bind h.w22.slice.squeeze.load fun _ => ?_
  refine safe_bind h.w22.slice.squeeze.store fun _ => ?_
  refine safe_bind h.r8.load fun _ => ?_
  refine safe_bind h.w16.load fun _ => ?_
  refine safe_bind h.r7.load fun _ => ?_
  refine safe_bind h.w16.load fun _ => ?_
  refine safe_bind h.r7.load fun _ => ?_
  exact safe_pure _

/-- Part 18 of the body is safe. -/
theorem safe_part18 (v267 : FVec F S256x128 .f32) (v272 : FVec F S256x128 .f32) :
    Safe (defs₀ (F := F)) c E R (k0_part18 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v267 v272) := by
  rw [k0_part18_eq_skeleton]
  refine safe_bind h.w16.load fun _ => ?_
  refine safe_bind h.r7.load fun _ => ?_
  refine safe_bind h.w16.load fun _ => ?_
  refine safe_bind h.r7.load fun _ => ?_
  refine safe_bind h.w22.slice.squeeze.load fun _ => ?_
  refine safe_bind h.w22.slice.squeeze.store fun _ => ?_
  refine safe_bind h.r8.load fun _ => ?_
  refine safe_bind h.w16.load fun _ => ?_
  refine safe_bind h.r7.load fun _ => ?_
  exact safe_pure _

/-- Part 19 of the body is safe. -/
theorem safe_part19 (v305 : FVec F S256x128 .f32) (v306 : FVec F S256x128 .f32) :
    Safe (defs₀ (F := F)) c E R (k0_part19 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v305 v306) := by
  rw [k0_part19_eq_skeleton]
  refine safe_bind h.w16.load fun _ => ?_
  refine safe_bind h.r7.load fun _ => ?_
  refine safe_bind h.w16.load fun _ => ?_
  refine safe_bind h.r7.load fun _ => ?_
  refine safe_bind h.w16.load fun _ => ?_
  refine safe_bind h.r7.load fun _ => ?_
  refine safe_bind h.w22.slice.squeeze.load fun _ => ?_
  refine safe_bind h.w22.slice.squeeze.store fun _ => ?_
  refine safe_bind h.r8.load fun _ => ?_
  exact safe_pure _

/-- Part 20 of the body is safe. -/
theorem safe_part20 (v340 : FVec F S1x128 .f32) :
    Safe (defs₀ (F := F)) c E R (k0_part20 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v340) := by
  rw [k0_part20_eq_skeleton]
  refine safe_bind h.w16.load fun _ => ?_
  refine safe_bind h.r7.load fun _ => ?_
  refine safe_bind h.w16.load fun _ => ?_
  refine safe_bind h.r7.load fun _ => ?_
  refine safe_bind h.w16.load fun _ => ?_
  refine safe_bind h.r7.load fun _ => ?_
  refine safe_bind h.w16.load fun _ => ?_
  refine safe_bind h.r7.load fun _ => ?_
  exact safe_pure _

/-- Part 21 of the body is safe. -/
theorem safe_part21 (v373 : FVec F S256x128 .f32) :
    Safe (defs₀ (F := F)) c E R (k0_part21 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v373) := by
  rw [k0_part21_eq_skeleton]
  refine safe_bind h.w22.slice.squeeze.load fun _ => ?_
  refine safe_bind h.w22.slice.squeeze.store fun _ => ?_
  refine safe_bind h.r8.load fun _ => ?_
  refine safe_bind h.w16.load fun _ => ?_
  refine safe_bind h.r7.load fun _ => ?_
  refine safe_bind h.w16.load fun _ => ?_
  refine safe_bind h.r7.load fun _ => ?_
  refine safe_bind h.w16.load fun _ => ?_
  refine safe_bind h.r7.load fun _ => ?_
  refine safe_bind h.w16.load fun _ => ?_
  refine safe_bind h.r7.load fun _ => ?_
  exact safe_pure _

/-- Part 22 of the body is safe. -/
theorem safe_part22 (v405 : FVec F S256x128 .f32) (v408 : FVec F S256x128 .f32) :
    Safe (defs₀ (F := F)) c E R (k0_part22 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v405 v408) := by
  rw [k0_part22_eq_skeleton]
  refine safe_bind h.w22.slice.squeeze.load fun _ => ?_
  refine safe_bind h.w22.slice.squeeze.store fun _ => ?_
  refine safe_bind h.r8.load fun _ => ?_
  refine safe_bind h.w16.load fun _ => ?_
  refine safe_bind h.r7.load fun _ => ?_
  refine safe_bind h.w16.load fun _ => ?_
  refine safe_bind h.r7.load fun _ => ?_
  refine safe_bind h.w16.load fun _ => ?_
  refine safe_bind h.r7.load fun _ => ?_
  refine safe_bind h.w16.load fun _ => ?_
  exact safe_pure _

/-- Part 23 of the body is safe. -/
theorem safe_part23 (v439 : FVec F S256x128 .f32) (v440 : Vec F S1x256x128 .f32) :
    Safe (defs₀ (F := F)) c E R (k0_part23 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v439 v440) := by
  rw [k0_part23_eq_skeleton]
  refine safe_bind h.r7.load fun _ => ?_
  refine safe_bind h.w22.slice.squeeze.load fun _ => ?_
  refine safe_bind h.w22.slice.squeeze.store fun _ => ?_
  refine safe_bind h.r8.load fun _ => ?_
  refine safe_bind h.w16.load fun _ => ?_
  refine safe_bind h.r7.load fun _ => ?_
  refine safe_bind h.w16.load fun _ => ?_
  refine safe_bind h.r7.load fun _ => ?_
  refine safe_bind h.w16.load fun _ => ?_
  exact safe_pure _

/-- Part 24 of the body is safe. -/
theorem safe_part24 (v473 : FVec F S256x128 .f32) (v474 : Vec F S1x256x128 .f32) :
    Safe (defs₀ (F := F)) c E R (k0_part24 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v473 v474) := by
  rw [k0_part24_eq_skeleton]
  refine safe_bind h.r7.load fun _ => ?_
  refine safe_bind h.w16.load fun _ => ?_
  refine safe_bind h.r7.load fun _ => ?_
  refine safe_bind h.w22.slice.squeeze.load fun _ => ?_
  refine safe_bind h.w22.slice.squeeze.store fun _ => ?_
  refine safe_bind h.r8.load fun _ => ?_
  refine safe_bind h.w16.load fun _ => ?_
  refine safe_bind h.r7.load fun _ => ?_
  refine safe_bind h.w16.load fun _ => ?_
  exact safe_pure _

/-- Part 25 of the body is safe. -/
theorem safe_part25 (v507 : FVec F S256x128 .f32) (v508 : Vec F S1x256x128 .f32) :
    Safe (defs₀ (F := F)) c E R (k0_part25 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v507 v508) := by
  rw [k0_part25_eq_skeleton]
  refine safe_bind h.r7.load fun _ => ?_
  refine safe_bind h.w16.load fun _ => ?_
  refine safe_bind h.r7.load fun _ => ?_
  refine safe_bind h.w16.load fun _ => ?_
  refine safe_bind h.r7.load fun _ => ?_
  refine safe_bind h.w22.slice.squeeze.load fun _ => ?_
  refine safe_bind h.w22.slice.squeeze.store fun _ => ?_
  refine safe_bind h.r8.load fun _ => ?_
  refine safe_bind h.w16.load fun _ => ?_
  exact safe_pure _

/-- Part 26 of the body is safe. -/
theorem safe_part26 (v540 : FVec F S1x128 .f32) (v542 : FVec F S256x128 .f32) :
    Safe (defs₀ (F := F)) c E R (k0_part26 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v540 v542) := by
  rw [k0_part26_eq_skeleton]
  refine safe_bind h.r7.load fun _ => ?_
  refine safe_bind h.w16.load fun _ => ?_
  refine safe_bind h.r7.load fun _ => ?_
  refine safe_bind h.w16.load fun _ => ?_
  refine safe_bind h.r7.load fun _ => ?_
  refine safe_bind h.w16.load fun _ => ?_
  refine safe_bind h.r7.load fun _ => ?_
  refine safe_bind h.w23.slice.squeeze.load fun _ => ?_
  exact safe_pure _

/-- Part 27 of the body is safe. -/
theorem safe_part27 (v574 : FVec F S256x128 .bf16) (v577 : Vec F S256x128 .bf16) :
    Safe (defs₀ (F := F)) c E R (k0_part27 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v574 v577) := by
  rw [k0_part27_eq_skeleton]
  refine safe_bind h.w23.store fun _ => ?_
  refine safe_bind h.r8.load fun _ => ?_
  refine safe_bind h.w16.load fun _ => ?_
  refine safe_bind h.r7.load fun _ => ?_
  refine safe_bind h.w16.load fun _ => ?_
  refine safe_bind h.r7.load fun _ => ?_
  refine safe_bind h.w16.load fun _ => ?_
  refine safe_bind h.r7.load fun _ => ?_
  refine safe_bind h.w16.load fun _ => ?_
  refine safe_bind h.r7.load fun _ => ?_
  exact safe_pure _

/-- Part 28 of the body is safe. -/
theorem safe_part28 (v606 : FVec F S256x128 .f32) (v611 : FVec F S256x128 .f32) :
    Safe (defs₀ (F := F)) c E R (k0_part28 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v606 v611) := by
  rw [k0_part28_eq_skeleton]
  refine safe_bind h.w23.slice.squeeze.load fun _ => ?_
  refine safe_bind h.w23.store fun _ => ?_
  refine safe_bind h.r8.load fun _ => ?_
  refine safe_bind h.w16.load fun _ => ?_
  refine safe_bind h.r7.load fun _ => ?_
  refine safe_bind h.w16.load fun _ => ?_
  refine safe_bind h.r7.load fun _ => ?_
  refine safe_bind h.w16.load fun _ => ?_
  refine safe_bind h.r7.load fun _ => ?_
  refine safe_bind h.w16.load fun _ => ?_
  exact safe_pure _

/-- Part 29 of the body is safe. -/
theorem safe_part29 (v641 : FVec F S256x128 .f32) (v643 : FVec F S256x128 .f32) :
    Safe (defs₀ (F := F)) c E R (k0_part29 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v641 v643) := by
  rw [k0_part29_eq_skeleton]
  refine safe_bind h.r7.load fun _ => ?_
  refine safe_bind h.w23.slice.squeeze.load fun _ => ?_
  refine safe_bind h.w23.store fun _ => ?_
  refine safe_bind h.r8.load fun _ => ?_
  refine safe_bind h.w16.load fun _ => ?_
  refine safe_bind h.r7.load fun _ => ?_
  refine safe_bind h.w16.load fun _ => ?_
  refine safe_bind h.r7.load fun _ => ?_
  exact safe_pure _

/-- Part 30 of the body is safe. -/
theorem safe_part30 (arg1 : BitVec 32) (v676 : FVec F S256x128 .f32) :
    Safe (defs₀ (F := F)) c E R (k0_part30 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg1 v676) := by
  rw [k0_part30_eq_skeleton]
  refine safe_bind h.w16.load fun _ => ?_
  refine safe_bind h.r7.load fun _ => ?_
  refine safe_bind h.w16.load fun _ => ?_
  refine safe_bind h.r7.load fun _ => ?_
  refine safe_bind h.w23.slice.squeeze.load fun _ => ?_
  refine safe_bind h.w23.store fun _ => ?_
  exact safe_pure _

/-- Part 31 of the body is safe. -/
theorem safe_part31 (arg1 : BitVec 32) (v706 : BitVec 32) (v711 : BitVec 1) (v712 : BitVec 32) :
    Safe (defs₀ (F := F)) c E R (k0_part31 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg1 v706 v711 v712) := by
  rw [k0_part31_eq_skeleton]
  exact safe_pure _

/-- Part 1 of the body is safe. -/
theorem safe_part1 :
    Safe (defs₀ (F := F)) c E R (k0_part1 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28) := by
  rw [k0_part1_eq_skeleton]
  exact safe_pure _

/-- Part 2 of the body is safe. -/
theorem safe_part2 (v2851 : IVec S768x256 32) (v2878 : IVec S768x256 32) (v2880 : IVec S768x256 32) (v2894 : IVec S768x256 1) (v2896 : IVec S768x256 32) (c0_i32_1260 : BitVec 32) :
    Safe (defs₀ (F := F)) c E R (k0_part2 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v2851 v2878 v2880 v2894 v2896 c0_i32_1260) := by
  rw [k0_part2_eq_skeleton]
  refine safe_bind h.r13.load fun _ => ?_
  refine safe_bind h.w19.load fun _ => ?_
  refine safe_bind h.w19.store fun _ => ?_
  refine safe_bind h.w19.load fun _ => ?_
  refine safe_bind h.w19.store fun _ => ?_
  exact safe_pure _

/-- Part 3 of the body is safe. -/
theorem safe_part3 (v2851 : IVec S768x256 32) (v2903 : IVec S768x256 32) (v2917 : FVec F S768x256 .f32) (v2933 : IVec S768x256 1) :
    Safe (defs₀ (F := F)) c E R (k0_part3 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v2851 v2903 v2917 v2933) := by
  rw [k0_part3_eq_skeleton]
  refine safe_bind h.w19.load fun _ => ?_
  refine safe_bind h.w19.store fun _ => ?_
  refine safe_bind h.r13.load fun _ => ?_
  refine safe_bind h.w19.load fun _ => ?_
  refine safe_bind h.w19.store fun _ => ?_
  refine safe_bind h.w19.load fun _ => ?_
  refine safe_bind h.w19.store fun _ => ?_
  exact safe_pure _

/-- Part 4 of the body is safe. -/
theorem safe_part4 (v2851 : IVec S768x256 32) (v2903 : IVec S768x256 32) (v2952 : FVec F S768x256 .f32) :
    Safe (defs₀ (F := F)) c E R (k0_part4 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v2851 v2903 v2952) := by
  rw [k0_part4_eq_skeleton]
  refine safe_bind h.w19.load fun _ => ?_
  refine safe_bind h.w19.store fun _ => ?_
  refine safe_bind h.r13.load fun _ => ?_
  refine safe_bind h.w19.load fun _ => ?_
  refine safe_bind h.w19.store fun _ => ?_
  refine safe_bind h.w19.load fun _ => ?_
  exact safe_pure _

/-- Part 5 of the body is safe. -/
theorem safe_part5 (v2851 : IVec S768x256 32) (v2903 : IVec S768x256 32) (v2987 : FVec F S768x256 .f32) (v2998 : FVec F S768x256 .f32) (v2999 : Vec F S1x1x768x256 .f32) :
    Safe (defs₀ (F := F)) c E R (k0_part5 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v2851 v2903 v2987 v2998 v2999) := by
  rw [k0_part5_eq_skeleton]
  refine safe_bind h.w19.store fun _ => ?_
  refine safe_bind h.w19.load fun _ => ?_
  refine safe_bind h.w19.store fun _ => ?_
  refine safe_bind h.r13.load fun _ => ?_
  refine safe_bind h.w19.load fun _ => ?_
  refine safe_bind h.w19.store fun _ => ?_
  exact safe_pure _

/-- Part 6 of the body is safe. -/
theorem safe_part6 (v2851 : IVec S768x256 32) (v2903 : IVec S768x256 32) (v3022 : FVec F S768x256 .f32) (v3033 : FVec F S768x256 .f32) :
    Safe (defs₀ (F := F)) c E R (k0_part6 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v2851 v2903 v3022 v3033) := by
  rw [k0_part6_eq_skeleton]
  refine safe_bind h.w19.load fun _ => ?_
  refine safe_bind h.w19.store fun _ => ?_
  refine safe_bind h.w19.load fun _ => ?_
  refine safe_bind h.w19.store fun _ => ?_
  refine safe_bind h.r13.load fun _ => ?_
  refine safe_bind h.w19.load fun _ => ?_
  refine safe_bind h.w19.store fun _ => ?_
  exact safe_pure _

/-- Part 7 of the body is safe. -/
theorem safe_part7 (v2851 : IVec S768x256 32) (v2903 : IVec S768x256 32) (v3057 : FVec F S768x256 .f32) (v3066 : IVec S768x256 1) (v3067 : FVec F S768x256 .f32) :
    Safe (defs₀ (F := F)) c E R (k0_part7 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v2851 v2903 v3057 v3066 v3067) := by
  rw [k0_part7_eq_skeleton]
  refine safe_bind h.w19.load fun _ => ?_
  refine safe_bind h.w19.store fun _ => ?_
  refine safe_bind h.w19.load fun _ => ?_
  refine safe_bind h.w19.store fun _ => ?_
  refine safe_bind h.r13.load fun _ => ?_
  refine safe_bind h.w19.load fun _ => ?_
  refine safe_bind h.w19.store fun _ => ?_
  exact safe_pure _

/-- Part 8 of the body is safe. -/
theorem safe_part8 (v2851 : IVec S768x256 32) (v2903 : IVec S768x256 32) (v3092 : FVec F S768x256 .f32) (v3100 : IVec S768x256 32) :
    Safe (defs₀ (F := F)) c E R (k0_part8 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v2851 v2903 v3092 v3100) := by
  rw [k0_part8_eq_skeleton]
  refine safe_bind h.w19.load fun _ => ?_
  refine safe_bind h.w19.store fun _ => ?_
  refine safe_bind h.w19.load fun _ => ?_
  refine safe_bind h.w19.store fun _ => ?_
  refine safe_bind h.r13.load fun _ => ?_
  refine safe_bind h.w19.load fun _ => ?_
  exact safe_pure _

/-- Part 9 of the body is safe. -/
theorem safe_part9 (v2851 : IVec S768x256 32) (v2903 : IVec S768x256 32) (v3127 : FVec F S768x256 .f32) (v3134 : FVec F S1x1x768x256 .f32) :
    Safe (defs₀ (F := F)) c E R (k0_part9 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v2851 v2903 v3127 v3134) := by
  rw [k0_part9_eq_skeleton]
  refine safe_bind h.w19.store fun _ => ?_
  refine safe_bind h.w19.load fun _ => ?_
  refine safe_bind h.w19.store fun _ => ?_
  refine safe_bind h.w19.load fun _ => ?_
  refine safe_bind h.w19.store fun _ => ?_
  refine safe_bind h.r13.load fun _ => ?_
  exact safe_pure _

/-- Part 32 of the body is safe. -/
theorem safe_part32 (arg0 : BitVec 32) (arg1 : BitVec 32) (v747 : BitVec 32) (c3_i32_489 : BitVec 32) (v748 : BitVec 1) :
    Safe (defs₀ (F := F)) c E R (k0_part32 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg0 arg1 v747 c3_i32_489 v748) := by
  rw [k0_part32_eq_skeleton]
  refine safe_ite (fun _ => ?_) (fun _ => ?_)
  · refine safe_bind (safe_part1 c E R i h) ?_
    rintro ⟨_, _, _, _, _, _⟩
    refine safe_bind (safe_part2 c E R i h _ _ _ _ _ _) ?_
    rintro ⟨_, _, _⟩
    refine safe_bind ?_ fun _ => ?_
    · exact safe_part3 c E R i h _ _ _ _
    refine safe_bind (safe_part4 c E R i h _ _ _) ?_
    rintro ⟨_, _, _⟩
    refine safe_bind (safe_part5 c E R i h _ _ _ _ _) ?_
    rintro ⟨_, _⟩
    refine safe_bind (safe_part6 c E R i h _ _ _ _) ?_
    rintro ⟨_, _, _⟩
    refine safe_bind (safe_part7 c E R i h _ _ _ _ _) ?_
    rintro ⟨_, _⟩
    refine safe_bind (safe_part8 c E R i h _ _ _ _) ?_
    rintro ⟨_, _⟩
    refine safe_bind (safe_part9 c E R i h _ _ _ _) ?_
    rintro ⟨_, _⟩
    refine safe_bind h.w19.load fun _ => ?_
    refine safe_bind h.w19.store fun _ => ?_
    refine safe_bind h.w19.load fun _ => ?_
    refine safe_bind h.w19.store fun _ => ?_
    refine safe_bind h.w19.load fun _ => ?_
    refine safe_bind h.w19.store fun _ => ?_
    refine safe_bind h.w25.load fun _ => ?_
    exact safe_pure _
  · refine safe_bind h.w25.load fun _ => ?_
    exact safe_pure _

/-- Part 33 of the body is safe. -/
theorem safe_part33 (v777 : IVec S256x128 1) (v783 : FVec F S512x128 .bf16) :
    Safe (defs₀ (F := F)) c E R (k0_part33 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v777 v783) := by
  rw [k0_part33_eq_skeleton]
  refine safe_bind h.w20.slice.load fun _ => ?_
  refine safe_bind h.w18.load fun _ => ?_
  refine safe_bind h.w18.store fun _ => ?_
  refine safe_bind h.w20.slice.load fun _ => ?_
  refine safe_bind h.w18.load fun _ => ?_
  refine safe_bind h.w18.store fun _ => ?_
  refine safe_bind h.w20.slice.load fun _ => ?_
  refine safe_bind h.w18.load fun _ => ?_
  refine safe_bind h.w18.store fun _ => ?_
  refine safe_bind h.w25.load fun _ => ?_
  exact safe_pure _

/-- Part 34 of the body is safe. -/
theorem safe_part34 (v810 : FVec F S512x128 .bf16) :
    Safe (defs₀ (F := F)) c E R (k0_part34 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v810) := by
  rw [k0_part34_eq_skeleton]
  refine safe_bind h.w20.slice.load fun _ => ?_
  refine safe_bind h.w18.load fun _ => ?_
  refine safe_bind h.w18.store fun _ => ?_
  refine safe_bind h.w20.slice.load fun _ => ?_
  refine safe_bind h.w18.load fun _ => ?_
  refine safe_bind h.w18.store fun _ => ?_
  refine safe_bind h.w20.slice.load fun _ => ?_
  refine safe_bind h.w18.load fun _ => ?_
  refine safe_bind h.w18.store fun _ => ?_
  refine safe_bind h.w25.load fun _ => ?_
  exact safe_pure _

/-- Part 35 of the body is safe. -/
theorem safe_part35 (v777 : IVec S256x128 1) (v833 : FVec F S256x128 .bf16) (cst_578 : F .bf16) :
    Safe (defs₀ (F := F)) c E R (k0_part35 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v777 v833 cst_578) := by
  rw [k0_part35_eq_skeleton]
  refine safe_bind h.w20.slice.load fun _ => ?_
  refine safe_bind h.w18.load fun _ => ?_
  refine safe_bind h.w18.store fun _ => ?_
  refine safe_bind h.w20.slice.load fun _ => ?_
  refine safe_bind h.w18.load fun _ => ?_
  refine safe_bind h.w18.store fun _ => ?_
  refine safe_bind h.w20.slice.load fun _ => ?_
  refine safe_bind h.w18.load fun _ => ?_
  refine safe_bind h.w18.store fun _ => ?_
  exact safe_pure _

/-- Part 36 of the body is safe. -/
theorem safe_part36 (v777 : IVec S256x128 1) :
    Safe (defs₀ (F := F)) c E R (k0_part36 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v777) := by
  rw [k0_part36_eq_skeleton]
  refine safe_bind h.w25.load fun _ => ?_
  refine safe_bind h.w20.slice.load fun _ => ?_
  refine safe_bind h.w18.load fun _ => ?_
  refine safe_bind h.w18.store fun _ => ?_
  refine safe_bind h.w20.slice.load fun _ => ?_
  refine safe_bind h.w18.load fun _ => ?_
  refine safe_bind h.w18.store fun _ => ?_
  refine safe_bind h.w20.slice.load fun _ => ?_
  refine safe_bind h.w18.load fun _ => ?_
  exact safe_pure _

/-- Part 37 of the body is safe. -/
theorem safe_part37 (v774 : BitVec 32) (v882 : FVec F S256x512 .f32) :
    Safe (defs₀ (F := F)) c E R (k0_part37 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v774 v882) := by
  rw [k0_part37_eq_skeleton]
  refine safe_bind h.w18.store fun _ => ?_
  refine safe_bind h.w18.load fun _ => ?_
  refine safe_bind h.w19.load fun _ => ?_
  refine safe_bind h.w18.load fun _ => ?_
  refine safe_bind h.w19.load fun _ => ?_
  refine safe_bind h.w21.slice.squeeze.load fun _ => ?_
  exact safe_pure _

/-- Part 38 of the body is safe. -/
theorem safe_part38 (v774 : BitVec 32) (v904 : FVec F S1x256 .f32) (v920 : FVec F S80x256 .f32) :
    Safe (defs₀ (F := F)) c E R (k0_part38 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v774 v904 v920) := by
  rw [k0_part38_eq_skeleton]
  refine safe_bind h.w18.load fun _ => ?_
  refine safe_bind h.w19.load fun _ => ?_
  refine safe_bind h.w21.slice.squeeze.load fun _ => ?_
  refine safe_bind h.w18.load fun _ => ?_
  refine safe_bind h.w19.load fun _ => ?_
  refine safe_bind h.w18.load fun _ => ?_
  refine safe_bind h.w19.load fun _ => ?_
  exact safe_pure _

/-- Part 39 of the body is safe. -/
theorem safe_part39 (v774 : BitVec 32) (v929 : FVec F S1x256 .f32) (v942 : FVec F S80x256 .f32) (v948 : FVec F S128x256 .f32) (v950 : FVec F S128x128 .f32) (v953 : FVec F S128x128 .f32) :
    Safe (defs₀ (F := F)) c E R (k0_part39 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v774 v929 v942 v948 v950 v953) := by
  rw [k0_part39_eq_skeleton]
  refine safe_bind h.w21.slice.squeeze.load fun _ => ?_
  refine safe_bind h.w18.load fun _ => ?_
  refine safe_bind h.w19.load fun _ => ?_
  exact safe_pure _

/-- Part 40 of the body is safe. -/
theorem safe_part40 (v774 : BitVec 32) (v993 : FVec F S128x256 .f32) :
    Safe (defs₀ (F := F)) c E R (k0_part40 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v774 v993) := by
  rw [k0_part40_eq_skeleton]
  refine safe_bind h.w18.load fun _ => ?_
  refine safe_bind h.w19.load fun _ => ?_
  refine safe_bind h.w21.slice.squeeze.load fun _ => ?_
  refine safe_bind h.w18.load fun _ => ?_
  refine safe_bind h.w19.load fun _ => ?_
  exact safe_pure _

/-- Part 41 of the body is safe. -/
theorem safe_part41 (v774 : BitVec 32) (v1006 : FVec F S1x256 .f32) (v1022 : FVec F S80x256 .f32) (v1031 : FVec F S1x256 .f32) (v1033 : FVec F S256x256 .f32) :
    Safe (defs₀ (F := F)) c E R (k0_part41 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v774 v1006 v1022 v1031 v1033) := by
  rw [k0_part41_eq_skeleton]
  refine safe_bind h.w21.slice.squeeze.load fun _ => ?_
  refine safe_bind h.w18.load fun _ => ?_
  refine safe_bind h.w19.load fun _ => ?_
  refine safe_bind h.w18.load fun _ => ?_
  refine safe_bind h.w19.load fun _ => ?_
  exact safe_pure _

/-- Part 42 of the body is safe. -/
theorem safe_part42 (v774 : BitVec 32) (v987 : FVec F S64x256 .f32) (v1031 : FVec F S1x256 .f32) (v1044 : FVec F S80x256 .f32) (v1064 : FVec F S1x256 .f32) (v1068 : FVec F S128x256 .bf16) (v1071 : FVec F S128x128 .f32) :
    Safe (defs₀ (F := F)) c E R (k0_part42 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v774 v987 v1031 v1044 v1064 v1068 v1071) := by
  rw [k0_part42_eq_skeleton]
  refine safe_bind h.w21.slice.squeeze.load fun _ => ?_
  refine safe_bind h.w15.load fun _ => ?_
  refine safe_bind h.w15.store fun _ => ?_
  refine safe_bind h.w18.load fun _ => ?_
  refine safe_bind h.w19.load fun _ => ?_
  refine safe_bind h.w18.load fun _ => ?_
  refine safe_bind h.w19.load fun _ => ?_
  exact safe_pure _

/-- Part 43 of the body is safe. -/
theorem safe_part43 (v774 : BitVec 32) (v1101 : FVec F S128x256 .f32) (v1107 : FVec F S128x128 .f32) :
    Safe (defs₀ (F := F)) c E R (k0_part43 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v774 v1101 v1107) := by
  rw [k0_part43_eq_skeleton]
  refine safe_bind h.w21.slice.squeeze.load fun _ => ?_
  refine safe_bind h.w18.load fun _ => ?_
  refine safe_bind h.w19.load fun _ => ?_
  refine safe_bind h.w21.slice.squeeze.load fun _ => ?_
  exact safe_pure _

/-- Part 44 of the body is safe. -/
theorem safe_part44 (v774 : BitVec 32) (v1114 : FVec F S1x256 .f32) (v1130 : FVec F S80x256 .f32) (v1139 : FVec F S1x256 .f32) (v1143 : FVec F S256x256 .bf16) (v1146 : Vec F S80x256 .bf16) :
    Safe (defs₀ (F := F)) c E R (k0_part44 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v774 v1114 v1130 v1139 v1143 v1146) := by
  rw [k0_part44_eq_skeleton]
  refine safe_bind h.w18.load fun _ => ?_
  refine safe_bind h.w19.load fun _ => ?_
  refine safe_bind h.w18.load fun _ => ?_
  refine safe_bind h.w19.load fun _ => ?_
  exact safe_pure _

/-- Part 45 of the body is safe. -/
theorem safe_part45 (v774 : BitVec 32) (v1139 : FVec F S1x256 .f32) (v1152 : FVec F S80x256 .f32) (v1172 : FVec F S1x256 .f32) (v1184 : FVec F S256x256 .bf16) :
    Safe (defs₀ (F := F)) c E R (k0_part45 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v774 v1139 v1152 v1172 v1184) := by
  rw [k0_part45_eq_skeleton]
  refine safe_bind h.w21.slice.squeeze.load fun _ => ?_
  refine safe_bind h.w18.load fun _ => ?_
  refine safe_bind h.w19.load fun _ => ?_
  refine safe_bind h.w18.load fun _ => ?_
  refine safe_bind h.w19.load fun _ => ?_
  exact safe_pure _

/-- Part 46 of the body is safe. -/
theorem safe_part46 (v774 : BitVec 32) (v1216 : FVec F S1x256 .f32) (v1220 : FVec F S128x256 .bf16) (v1225 : FVec F S128x128 .bf16) :
    Safe (defs₀ (F := F)) c E R (k0_part46 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v774 v1216 v1220 v1225) := by
  rw [k0_part46_eq_skeleton]
  refine safe_bind h.w21.slice.squeeze.load fun _ => ?_
  refine safe_bind h.w18.load fun _ => ?_
  refine safe_bind h.w19.load fun _ => ?_
  refine safe_bind h.w21.slice.squeeze.load fun _ => ?_
  refine safe_bind h.w18.load fun _ => ?_
  refine safe_bind h.w19.load fun _ => ?_
  exact safe_pure _

/-- Part 47 of the body is safe. -/
theorem safe_part47 (v774 : BitVec 32) (v1197 : FVec F S64x256 .f32) (v1241 : FVec F S1x256 .f32) (v1254 : FVec F S80x256 .f32) (v1256 : FVec F S128x256 .f32) (v1259 : FVec F S128x256 .f32) :
    Safe (defs₀ (F := F)) c E R (k0_part47 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v774 v1197 v1241 v1254 v1256 v1259) := by
  rw [k0_part47_eq_skeleton]
  refine safe_bind h.w18.load fun _ => ?_
  refine safe_bind h.w19.load fun _ => ?_
  refine safe_bind h.w21.slice.squeeze.load fun _ => ?_
  exact safe_pure _

/-- Part 48 of the body is safe. -/
theorem safe_part48 (v774 : BitVec 32) (v1302 : FVec F S256x128 .bf16) :
    Safe (defs₀ (F := F)) c E R (k0_part48 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v774 v1302) := by
  rw [k0_part48_eq_skeleton]
  refine safe_bind h.w15.load fun _ => ?_
  refine safe_bind h.w15.store fun _ => ?_
  refine safe_bind h.w18.load fun _ => ?_
  refine safe_bind h.w19.load fun _ => ?_
  refine safe_bind h.w18.load fun _ => ?_
  refine safe_bind h.w19.load fun _ => ?_
  exact safe_pure _

/-- Part 49 of the body is safe. -/
theorem safe_part49 (v774 : BitVec 32) (v1324 : FVec F S1x256 .f32) (v1336 : FVec F S256x256 .bf16) :
    Safe (defs₀ (F := F)) c E R (k0_part49 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v774 v1324 v1336) := by
  rw [k0_part49_eq_skeleton]
  refine safe_bind h.w21.slice.squeeze.load fun _ => ?_
  refine safe_bind h.w18.load fun _ => ?_
  refine safe_bind h.w19.load fun _ => ?_
  refine safe_bind h.w21.slice.squeeze.load fun _ => ?_
  refine safe_bind h.w18.load fun _ => ?_
  refine safe_bind h.w19.load fun _ => ?_
  refine safe_bind h.w18.load fun _ => ?_
  exact safe_pure _

/-- Part 50 of the body is safe. -/
theorem safe_part50 (v774 : BitVec 32) (v1349 : FVec F S1x256 .f32) (v1362 : FVec F S80x256 .f32) (v1368 : FVec F S128x256 .f32) (v1370 : FVec F S128x128 .f32) :
    Safe (defs₀ (F := F)) c E R (k0_part50 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v774 v1349 v1362 v1368 v1370) := by
  rw [k0_part50_eq_skeleton]
  refine safe_bind h.w19.load fun _ => ?_
  refine safe_bind h.w21.slice.squeeze.load fun _ => ?_
  refine safe_bind h.w18.load fun _ => ?_
  refine safe_bind h.w19.load fun _ => ?_
  exact safe_pure _

/-- Part 51 of the body is safe. -/
theorem safe_part51 (v774 : BitVec 32) (v1413 : FVec F S128x256 .f32) :
    Safe (defs₀ (F := F)) c E R (k0_part51 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v774 v1413) := by
  rw [k0_part51_eq_skeleton]
  refine safe_bind h.w18.load fun _ => ?_
  refine safe_bind h.w19.load fun _ => ?_
  refine safe_bind h.w21.slice.squeeze.load fun _ => ?_
  refine safe_bind h.w18.load fun _ => ?_
  refine safe_bind h.w19.load fun _ => ?_
  exact safe_pure _

/-- Part 52 of the body is safe. -/
theorem safe_part52 (v774 : BitVec 32) (v1426 : FVec F S1x256 .f32) (v1442 : FVec F S80x256 .f32) (v1448 : FVec F S256x256 .f32) (v1449 : FVec F S256 .f32) :
    Safe (defs₀ (F := F)) c E R (k0_part52 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v774 v1426 v1442 v1448 v1449) := by
  rw [k0_part52_eq_skeleton]
  refine safe_bind h.w21.slice.squeeze.load fun _ => ?_
  refine safe_bind h.w18.load fun _ => ?_
  refine safe_bind h.w19.load fun _ => ?_
  refine safe_bind h.w18.load fun _ => ?_
  refine safe_bind h.w19.load fun _ => ?_
  exact safe_pure _

/-- Part 53 of the body is safe. -/
theorem safe_part53 (v774 : BitVec 32) (v1407 : FVec F S64x256 .f32) (v1451 : FVec F S1x256 .f32) (v1464 : FVec F S80x256 .f32) (v1476 : FVec F S128x128 .f32) (v1484 : FVec F S1x256 .f32) (v1487 : FVec F S128x256 .bf16) :
    Safe (defs₀ (F := F)) c E R (k0_part53 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v774 v1407 v1451 v1464 v1476 v1484 v1487) := by
  rw [k0_part53_eq_skeleton]
  refine safe_bind h.w21.slice.squeeze.load fun _ => ?_
  refine safe_bind h.w15.load fun _ => ?_
  refine safe_bind h.w15.store fun _ => ?_
  refine safe_bind h.w18.load fun _ => ?_
  refine safe_bind h.w19.load fun _ => ?_
  refine safe_bind h.w18.load fun _ => ?_
  exact safe_pure _

/-- Part 54 of the body is safe. -/
theorem safe_part54 (v774 : BitVec 32) (v1521 : FVec F S128x256 .f32) (v1523 : FVec F S128x128 .f32) :
    Safe (defs₀ (F := F)) c E R (k0_part54 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v774 v1521 v1523) := by
  rw [k0_part54_eq_skeleton]
  refine safe_bind h.w19.load fun _ => ?_
  refine safe_bind h.w21.slice.squeeze.load fun _ => ?_
  refine safe_bind h.w18.load fun _ => ?_
  refine safe_bind h.w19.load fun _ => ?_
  exact safe_pure _

/-- Part 55 of the body is safe. -/
theorem safe_part55 (v774 : BitVec 32) (v1534 : FVec F S1x256 .f32) (v1550 : FVec F S80x256 .f32) (v1559 : FVec F S1x256 .f32) (v1563 : FVec F S256x256 .bf16) :
    Safe (defs₀ (F := F)) c E R (k0_part55 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v774 v1534 v1550 v1559 v1563) := by
  rw [k0_part55_eq_skeleton]
  refine safe_bind h.w21.slice.squeeze.load fun _ => ?_
  refine safe_bind h.w18.load fun _ => ?_
  refine safe_bind h.w19.load fun _ => ?_
  refine safe_bind h.w18.load fun _ => ?_
  refine safe_bind h.w19.load fun _ => ?_
  exact safe_pure _

/-- Part 56 of the body is safe. -/
theorem safe_part56 (v774 : BitVec 32) (v1559 : FVec F S1x256 .f32) (v1572 : FVec F S80x256 .f32) (v1592 : FVec F S1x256 .f32) (v1596 : FVec F S128x256 .bf16) (v1603 : FVec F S128x256 .bf16) :
    Safe (defs₀ (F := F)) c E R (k0_part56 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v774 v1559 v1572 v1592 v1596 v1603) := by
  rw [k0_part56_eq_skeleton]
  refine safe_bind h.w21.slice.squeeze.load fun _ => ?_
  refine safe_bind h.w18.load fun _ => ?_
  refine safe_bind h.w19.load fun _ => ?_
  refine safe_bind h.w18.load fun _ => ?_
  refine safe_bind h.w19.load fun _ => ?_
  exact safe_pure _

/-- Part 57 of the body is safe. -/
theorem safe_part57 (v774 : BitVec 32) (v1629 : FVec F S128x128 .f32) (v1636 : FVec F S1x256 .f32) (v1640 : FVec F S128x256 .bf16) (v1641 : FVec F S1x128 .f32) :
    Safe (defs₀ (F := F)) c E R (k0_part57 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v774 v1629 v1636 v1640 v1641) := by
  rw [k0_part57_eq_skeleton]
  refine safe_bind h.w21.slice.squeeze.load fun _ => ?_
  refine safe_bind h.w18.load fun _ => ?_
  refine safe_bind h.w19.load fun _ => ?_
  refine safe_bind h.w21.slice.squeeze.load fun _ => ?_
  refine safe_bind h.w18.load fun _ => ?_
  exact safe_pure _

/-- Part 58 of the body is safe. -/
theorem safe_part58 (v774 : BitVec 32) (v1661 : FVec F S1x256 .f32) (v1674 : FVec F S80x256 .f32) (v1676 : FVec F S128x256 .f32) :
    Safe (defs₀ (F := F)) c E R (k0_part58 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v774 v1661 v1674 v1676) := by
  rw [k0_part58_eq_skeleton]
  refine safe_bind h.w19.load fun _ => ?_
  refine safe_bind h.w18.load fun _ => ?_
  refine safe_bind h.w19.load fun _ => ?_
  refine safe_bind h.w21.slice.squeeze.load fun _ => ?_
  exact safe_pure _

/-- Part 59 of the body is safe. -/
theorem safe_part59 (arg1 : BitVec 32) (v1617 : FVec F S64x256 .f32) (v1719 : FVec F S64x256 .f32) :
    Safe (defs₀ (F := F)) c E R (k0_part59 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg1 v1617 v1719) := by
  rw [k0_part59_eq_skeleton]
  refine safe_bind h.w15.load fun _ => ?_
  refine safe_bind h.w15.store fun _ => ?_
  refine safe_ite (fun _ => ?_) (fun _ => ?_)
  · refine safe_bind h.w17.load fun _ => ?_
    refine safe_bind h.w17.store fun _ => ?_
    refine safe_bind h.w22.load fun _ => ?_
    refine safe_bind h.w23.load fun _ => ?_
    refine safe_bind h.w23.load fun _ => ?_
    refine safe_bind h.w26.load fun _ => ?_
    refine safe_bind h.w27.load fun _ => ?_
    refine safe_bind h.w28.load fun _ => ?_
    exact safe_pure _
  · refine safe_bind h.w22.load fun _ => ?_
    refine safe_bind h.w23.load fun _ => ?_
    refine safe_bind h.w23.load fun _ => ?_
    refine safe_bind h.w26.load fun _ => ?_
    refine safe_bind h.w27.load fun _ => ?_
    refine safe_bind h.w28.load fun _ => ?_
    exact safe_pure _

/-- Part 60 of the body is safe. -/
theorem safe_part60 (v1730 : FVec F S256x1024 .f32) (v1732 : FVec F S256x256 .bf16) (v1736 : FVec F S256x128 .f32) (v1738 : FVec F S256x128 .f32) (v1739 : Vec F S128x256 .f32) (v1742 : IVec S128x128 1) (v1745 : IVec S256x128 1) (v1752 : FVec F S256x128 .bf16) :
    Safe (defs₀ (F := F)) c E R (k0_part60 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v1730 v1732 v1736 v1738 v1739 v1742 v1745 v1752) := by
  rw [k0_part60_eq_skeleton]
  refine safe_bind h.w17.load fun _ => ?_
  exact safe_pure _

/-- Part 61 of the body is safe. -/
theorem safe_part61 (v1738 : FVec F S256x128 .f32) (v1739 : Vec F S128x256 .f32) (v1742 : IVec S128x128 1) (v1755 : FVec F S256x256 .bf16) (v1759 : FVec F S128x256 .bf16) (v1791 : FVec F S128x128 .bf16) (v1800 : FVec F S128x128 .bf16) :
    Safe (defs₀ (F := F)) c E R (k0_part61 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v1738 v1739 v1742 v1755 v1759 v1791 v1800) := by
  rw [k0_part61_eq_skeleton]
  exact safe_pure _

/-- Part 62 of the body is safe. -/
theorem safe_part62 (v1730 : FVec F S256x1024 .f32) (v1736 : FVec F S256x128 .f32) (v1738 : FVec F S256x128 .f32) (v1739 : Vec F S128x256 .f32) (v1742 : IVec S128x128 1) (v1745 : IVec S256x128 1) (v1748 : IVec S128x128 1) (v1751 : IVec S1x128 1) (v1761 : FVec F S128x512 .f32) (v1763 : FVec F S256x512 .f32) (v1773 : FVec F S256x128 .bf16) (v1804 : FVec F S128x256 .bf16) (v1809 : FVec F S128x256 .bf16) (v1840 : FVec F S128x256 .bf16) (v1845 : FVec F S128x256 .bf16) (v1846 : FVec F S1x1 .f32) (v1847 : FVec F S1x1 .f32) (v1854 : FVec F S128x256 .bf16) (v1861 : FVec F S128x256 .bf16) :
    Safe (defs₀ (F := F)) c E R (k0_part62 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v1730 v1736 v1738 v1739 v1742 v1745 v1748 v1751 v1761 v1763 v1773 v1804 v1809 v1840 v1845 v1846 v1847 v1854 v1861) := by
  rw [k0_part62_eq_skeleton]
  refine safe_bind h.w17.load fun _ => ?_
  refine safe_bind h.w17.store fun _ => ?_
  exact safe_pure _

/-- Part 63 of the body is safe. -/
theorem safe_part63 (v1738 : FVec F S256x128 .f32) (v1739 : Vec F S128x256 .f32) (v1742 : IVec S128x128 1) (v1755 : FVec F S256x256 .bf16) (v1904 : FVec F S256x1 .f32) (v1905 : FVec F S1x256 .f32) (v1914 : FVec F S128x128 .bf16) (v1915 : FVec F S128x1 .f32) :
    Safe (defs₀ (F := F)) c E R (k0_part63 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v1738 v1739 v1742 v1755 v1904 v1905 v1914 v1915) := by
  rw [k0_part63_eq_skeleton]
  exact safe_pure _

/-- Part 64 of the body is safe. -/
theorem safe_part64 (v1730 : FVec F S256x1024 .f32) (v1736 : FVec F S256x128 .f32) (v1738 : FVec F S256x128 .f32) (v1739 : Vec F S128x256 .f32) (v1745 : IVec S256x128 1) (v1748 : IVec S128x128 1) (v1751 : IVec S1x128 1) (v1755 : FVec F S256x256 .bf16) (v1759 : FVec F S128x256 .bf16) (v1761 : FVec F S128x512 .f32) (v1763 : FVec F S256x512 .f32) (v1903 : FVec F S256x128 .bf16) (v1934 : FVec F S128x256 .bf16) (v1939 : FVec F S128x256 .bf16) (v1957 : FVec F S128x128 .bf16) (v1966 : FVec F S128x128 .bf16) (v1970 : FVec F S128x256 .bf16) :
    Safe (defs₀ (F := F)) c E R (k0_part64 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v1730 v1736 v1738 v1739 v1745 v1748 v1751 v1755 v1759 v1761 v1763 v1903 v1934 v1939 v1957 v1966 v1970) := by
  rw [k0_part64_eq_skeleton]
  refine safe_bind h.w17.load fun _ => ?_
  refine safe_bind h.w17.store fun _ => ?_
  exact safe_pure _

/-- Part 65 of the body is safe. -/
theorem safe_part65 (v1736 : FVec F S256x128 .f32) (v1738 : FVec F S256x128 .f32) (v1739 : Vec F S128x256 .f32) (v1742 : IVec S128x128 1) (v1745 : IVec S256x128 1) (v1755 : FVec F S256x256 .bf16) (v2024 : FVec F S256x128 .f32) (v2025 : FVec F S256x1 .f32) :
    Safe (defs₀ (F := F)) c E R (k0_part65 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v1736 v1738 v1739 v1742 v1745 v1755 v2024 v2025) := by
  rw [k0_part65_eq_skeleton]
  exact safe_pure _

/-- Part 66 of the body is safe. -/
theorem safe_part66 (v1738 : FVec F S256x128 .f32) (v1739 : Vec F S128x256 .f32) (v1742 : IVec S128x128 1) (v1745 : IVec S256x128 1) (v1748 : IVec S128x128 1) (v1755 : FVec F S256x256 .bf16) (v1759 : FVec F S128x256 .bf16) (v1763 : FVec F S256x512 .f32) (v2033 : FVec F S256x128 .bf16) (v2064 : FVec F S128x256 .bf16) (v2069 : FVec F S128x256 .bf16) (v2070 : FVec F S256x1 .f32) (v2071 : FVec F S1x256 .f32) (v2080 : FVec F S128x128 .bf16) (v2081 : FVec F S128x1 .f32) :
    Safe (defs₀ (F := F)) c E R (k0_part66 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v1738 v1739 v1742 v1745 v1748 v1755 v1759 v1763 v2033 v2064 v2069 v2070 v2071 v2080 v2081) := by
  rw [k0_part66_eq_skeleton]
  exact safe_pure _

/-- Part 67 of the body is safe. -/
theorem safe_part67 (v1730 : FVec F S256x1024 .f32) (v1736 : FVec F S256x128 .f32) (v1738 : FVec F S256x128 .f32) (v1739 : Vec F S128x256 .f32) (v1742 : IVec S128x128 1) (v1745 : IVec S256x128 1) (v1751 : IVec S1x128 1) (v1755 : FVec F S256x256 .bf16) (v1761 : FVec F S128x512 .f32) (v2106 : FVec F S1x1 .f32) (v2107 : FVec F S1x1 .f32) (v2126 : FVec F S256x128 .f32) (v2129 : FVec F S128x128 .f32) (v2137 : FVec F S256x128 .f32) (v2138 : FVec F S256x128 .f32) :
    Safe (defs₀ (F := F)) c E R (k0_part67 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v1730 v1736 v1738 v1739 v1742 v1745 v1751 v1755 v1761 v2106 v2107 v2126 v2129 v2137 v2138) := by
  rw [k0_part67_eq_skeleton]
  refine safe_bind h.w17.load fun _ => ?_
  refine safe_bind h.w17.store fun _ => ?_
  exact safe_pure _

/-- Part 68 of the body is safe. -/
theorem safe_part68 (v1738 : FVec F S256x128 .f32) (v1739 : Vec F S128x256 .f32) (v1742 : IVec S128x128 1) (v1755 : FVec F S256x256 .bf16) (v1759 : FVec F S128x256 .bf16) (v2181 : FVec F S128x128 .bf16) (v2190 : FVec F S128x128 .bf16) (v2192 : FVec F S128x128 .bf16) :
    Safe (defs₀ (F := F)) c E R (k0_part68 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v1738 v1739 v1742 v1755 v1759 v2181 v2190 v2192) := by
  rw [k0_part68_eq_skeleton]
  exact safe_pure _

/-- Part 69 of the body is safe. -/
theorem safe_part69 (v1730 : FVec F S256x1024 .f32) (v1732 : FVec F S256x256 .bf16) (v1734 : FVec F S256x256 .bf16) (v1736 : FVec F S256x128 .f32) (v1738 : FVec F S256x128 .f32) (v1745 : IVec S256x128 1) (v1748 : IVec S128x128 1) (v1751 : IVec S1x128 1) (v1759 : FVec F S128x256 .bf16) (v1761 : FVec F S128x512 .f32) (v1763 : FVec F S256x512 .f32) (v2163 : FVec F S256x128 .bf16) (v2194 : FVec F S128x256 .bf16) (v2199 : FVec F S128x256 .bf16) (v2230 : FVec F S128x256 .bf16) (v2235 : FVec F S128x256 .bf16) (v2236 : FVec F S1x1 .f32) (v2237 : FVec F S1x1 .f32) (v2244 : FVec F S128x256 .bf16) (v2248 : FVec F S1x256 .bf16) :
    Safe (defs₀ (F := F)) c E R (k0_part69 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v1730 v1732 v1734 v1736 v1738 v1745 v1748 v1751 v1759 v1761 v1763 v2163 v2194 v2199 v2230 v2235 v2236 v2237 v2244 v2248) := by
  rw [k0_part69_eq_skeleton]
  refine safe_bind h.w17.load fun _ => ?_
  refine safe_bind h.w17.store fun _ => ?_
  refine safe_bind h.w17.load fun _ => ?_
  exact safe_pure _

/-- Part 80 of the body is safe. -/
theorem safe_part80 :
    Safe (defs₀ (F := F)) c E R (k0_part80 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28) := by
  rw [k0_part80_eq_skeleton]
  refine safe_bind (safe_part10 c E R i h) ?_
  rintro ⟨_, _, _, _⟩
  refine safe_bind (safe_part11 c E R i h) ?_
  rintro ⟨_, _⟩
  refine safe_bind (safe_part12 c E R i h _) ?_
  rintro ⟨_, _⟩
  refine safe_bind (safe_part13 c E R i h _ _ _ _) ?_
  rintro ⟨_, _⟩
  refine safe_bind ?_ fun _ => ?_
  · exact safe_part14 c E R i h _ _
  refine safe_bind (safe_part15 c E R i h _ _ _ _) ?_
  rintro ⟨_, _⟩
  refine safe_bind (safe_part16 c E R i h _ _ _ _) ?_
  rintro ⟨_, _⟩
  refine safe_bind (safe_part17 c E R i h _ _) ?_
  rintro ⟨_, _⟩
  refine safe_bind (safe_part18 c E R i h _ _) ?_
  rintro ⟨_, _⟩
  refine safe_bind ?_ fun _ => ?_
  · exact safe_part19 c E R i h _ _
  refine safe_bind ?_ fun _ => ?_
  · exact safe_part20 c E R i h _
  refine safe_bind (safe_part21 c E R i h _) ?_
  rintro ⟨_, _⟩
  refine safe_bind (safe_part22 c E R i h _ _) ?_
  rintro ⟨_, _⟩
  refine safe_bind (safe_part23 c E R i h _ _) ?_
  rintro ⟨_, _⟩
  refine safe_bind (safe_part24 c E R i h _ _) ?_
  rintro ⟨_, _⟩
  refine safe_bind (safe_part25 c E R i h _ _) ?_
  rintro ⟨_, _⟩
  refine safe_bind (safe_part26 c E R i h _ _) ?_
  rintro ⟨_, _⟩
  refine safe_bind (safe_part27 c E R i h _ _) ?_
  rintro ⟨_, _⟩
  refine safe_bind (safe_part28 c E R i h _ _) ?_
  rintro ⟨_, _⟩
  refine safe_bind ?_ fun _ => ?_
  · exact safe_part29 c E R i h _ _
  refine safe_bind (safe_part30 c E R i h _ _) ?_
  rintro ⟨_, _, _⟩
  refine safe_bind (safe_part31 c E R i h _ _ _ _) ?_
  rintro ⟨_, _, _⟩
  refine safe_bind (safe_part32 c E R i h _ _ _ _ _) ?_
  rintro ⟨_, _, _⟩
  refine safe_bind ?_ fun _ => ?_
  · exact safe_part33 c E R i h _ _
  refine safe_bind (safe_part34 c E R i h _) ?_
  rintro ⟨_, _⟩
  refine safe_bind ?_ fun _ => ?_
  · exact safe_part35 c E R i h _ _ _
  refine safe_bind ?_ fun _ => ?_
  · exact safe_part36 c E R i h _
  refine safe_bind (safe_part37 c E R i h _ _) ?_
  rintro ⟨_, _⟩
  refine safe_bind (safe_part38 c E R i h _ _ _) ?_
  rintro ⟨_, _, _, _, _⟩
  refine safe_bind (safe_part39 c E R i h _ _ _ _ _ _) ?_
  rintro ⟨_, _⟩
  refine safe_bind (safe_part40 c E R i h _ _) ?_
  rintro ⟨_, _, _, _⟩
  refine safe_bind (safe_part41 c E R i h _ _ _ _ _) ?_
  rintro ⟨_, _, _, _⟩
  refine safe_bind (safe_part42 c E R i h _ _ _ _ _ _ _) ?_
  rintro ⟨_, _⟩
  refine safe_bind (safe_part43 c E R i h _ _ _) ?_
  rintro ⟨_, _, _, _, _⟩
  refine safe_bind (safe_part44 c E R i h _ _ _ _ _ _) ?_
  rintro ⟨_, _, _⟩
  refine safe_bind (safe_part45 c E R i h _ _ _ _ _) ?_
  rintro ⟨_, _, _, _⟩
  refine safe_bind (safe_part46 c E R i h _ _ _ _) ?_
  rintro ⟨_, _, _, _⟩
  refine safe_bind ?_ fun _ => ?_
  · exact safe_part47 c E R i h _ _ _ _ _ _
  refine safe_bind (safe_part48 c E R i h _ _) ?_
  rintro ⟨_, _⟩
  refine safe_bind (safe_part49 c E R i h _ _ _) ?_
  rintro ⟨_, _, _, _⟩
  refine safe_bind (safe_part50 c E R i h _ _ _ _ _) ?_
  rintro ⟨_, _⟩
  refine safe_bind (safe_part51 c E R i h _ _) ?_
  rintro ⟨_, _, _, _⟩
  refine safe_bind (safe_part52 c E R i h _ _ _ _ _) ?_
  rintro ⟨_, _, _, _, _⟩
  refine safe_bind (safe_part53 c E R i h _ _ _ _ _ _ _) ?_
  rintro ⟨_, _⟩
  refine safe_bind (safe_part54 c E R i h _ _ _) ?_
  rintro ⟨_, _, _, _⟩
  refine safe_bind (safe_part55 c E R i h _ _ _ _ _) ?_
  rintro ⟨_, _, _, _⟩
  refine safe_bind (safe_part56 c E R i h _ _ _ _ _ _) ?_
  rintro ⟨_, _, _, _, _⟩
  refine safe_bind (safe_part57 c E R i h _ _ _ _ _) ?_
  rintro ⟨_, _, _⟩
  refine safe_bind ?_ fun _ => ?_
  · exact safe_part58 c E R i h _ _ _ _
  refine safe_bind (safe_part59 c E R i h _ _ _) ?_
  rintro ⟨_, _, _, _, _, _, _, _, _, _, _⟩
  refine safe_bind (safe_part60 c E R i h _ _ _ _ _ _ _ _) ?_
  rintro ⟨_, _, _, _, _, _, _, _⟩
  refine safe_bind (safe_part61 c E R i h _ _ _ _ _ _ _) ?_
  rintro ⟨_, _, _, _, _, _, _⟩
  refine safe_bind (safe_part62 c E R i h _ _ _ _ _ _ _ _ _ _ _ _ _ _ _ _ _ _ _) ?_
  rintro ⟨_, _, _, _, _, _⟩
  refine safe_bind (safe_part63 c E R i h _ _ _ _ _ _ _ _) ?_
  rintro ⟨_, _, _, _, _⟩
  refine safe_bind (safe_part64 c E R i h _ _ _ _ _ _ _ _ _ _ _ _ _ _ _ _ _) ?_
  rintro ⟨_, _, _⟩
  refine safe_bind (safe_part65 c E R i h _ _ _ _ _ _ _ _) ?_
  rintro ⟨_, _, _, _, _, _, _⟩
  refine safe_bind (safe_part66 c E R i h _ _ _ _ _ _ _ _ _ _ _ _ _ _ _) ?_
  rintro ⟨_, _, _, _, _, _⟩
  refine safe_bind (safe_part67 c E R i h _ _ _ _ _ _ _ _ _ _ _ _ _ _ _) ?_
  rintro ⟨_, _, _, _, _⟩
  refine safe_bind (safe_part68 c E R i h _ _ _ _ _ _ _ _) ?_
  rintro ⟨_, _, _, _, _, _, _, _⟩
  refine safe_bind (safe_part69 c E R i h _ _ _ _ _ _ _ _ _ _ _ _ _ _ _ _ _ _ _ _) ?_
  rintro ⟨_, _, _, _, _, _, _, _⟩
  exact safe_pure _

/-- Part 70 of the body is safe. -/
theorem safe_part70 (v1738 : FVec F S256x128 .f32) (v1739 : Vec F S128x256 .f32) (v1742 : IVec S128x128 1) (v1745 : IVec S256x128 1) (v2287 : FVec F S256x256 .bf16) (v2296 : FVec F S256x128 .f32) (v2297 : FVec F S256x1 .f32) (v2298 : FVec F S256x1 .f32) :
    Safe (defs₀ (F := F)) c E R (k0_part70 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v1738 v1739 v1742 v1745 v2287 v2296 v2297 v2298) := by
  rw [k0_part70_eq_skeleton]
  exact safe_pure _

/-- Part 71 of the body is safe. -/
theorem safe_part71 (v1738 : FVec F S256x128 .f32) (v1739 : Vec F S128x256 .f32) (v1742 : IVec S128x128 1) (v1745 : IVec S256x128 1) (v1748 : IVec S128x128 1) (v2287 : FVec F S256x256 .bf16) (v2291 : FVec F S128x256 .bf16) (v2295 : FVec F S256x512 .f32) (v2305 : FVec F S256x128 .bf16) (v2336 : FVec F S128x256 .bf16) (v2341 : FVec F S128x256 .bf16) (v2342 : FVec F S256x1 .f32) (v2343 : FVec F S1x256 .f32) (v2352 : FVec F S128x128 .bf16) (v2353 : FVec F S128x1 .f32) (v2354 : FVec F S1x128 .f32) :
    Safe (defs₀ (F := F)) c E R (k0_part71 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v1738 v1739 v1742 v1745 v1748 v2287 v2291 v2295 v2305 v2336 v2341 v2342 v2343 v2352 v2353 v2354) := by
  rw [k0_part71_eq_skeleton]
  exact safe_pure _

/-- Part 72 of the body is safe. -/
theorem safe_part72 (v1730 : FVec F S256x1024 .f32) (v1736 : FVec F S256x128 .f32) (v1738 : FVec F S256x128 .f32) (v1739 : Vec F S128x256 .f32) (v1742 : IVec S128x128 1) (v1745 : IVec S256x128 1) (v1751 : IVec S1x128 1) (v2287 : FVec F S256x256 .bf16) (v2293 : FVec F S128x512 .f32) (v2378 : FVec F S1x1 .f32) (v2379 : FVec F S1x1 .f32) (v2398 : FVec F S256x128 .f32) (v2401 : FVec F S128x128 .f32) (v2411 : FVec F S256x128 .f32) :
    Safe (defs₀ (F := F)) c E R (k0_part72 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v1730 v1736 v1738 v1739 v1742 v1745 v1751 v2287 v2293 v2378 v2379 v2398 v2401 v2411) := by
  rw [k0_part72_eq_skeleton]
  refine safe_bind h.w17.load fun _ => ?_
  refine safe_bind h.w17.store fun _ => ?_
  exact safe_pure _

/-- Part 73 of the body is safe. -/
theorem safe_part73 (v1738 : FVec F S256x128 .f32) (v1739 : Vec F S128x256 .f32) (v1742 : IVec S128x128 1) (v2287 : FVec F S256x256 .bf16) (v2291 : FVec F S128x256 .bf16) (v2453 : FVec F S128x128 .bf16) (v2462 : FVec F S128x128 .bf16) (v2464 : FVec F S128x128 .bf16) (cst_1204 : F .bf16) :
    Safe (defs₀ (F := F)) c E R (k0_part73 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v1738 v1739 v1742 v2287 v2291 v2453 v2462 v2464 cst_1204) := by
  rw [k0_part73_eq_skeleton]
  exact safe_pure _

/-- Part 74 of the body is safe. -/
theorem safe_part74 (v1730 : FVec F S256x1024 .f32) (v1736 : FVec F S256x128 .f32) (v1738 : FVec F S256x128 .f32) (v1739 : Vec F S128x256 .f32) (v1742 : IVec S128x128 1) (v1745 : IVec S256x128 1) (v1748 : IVec S128x128 1) (v1751 : IVec S1x128 1) (v2291 : FVec F S128x256 .bf16) (v2293 : FVec F S128x512 .f32) (v2295 : FVec F S256x512 .f32) (v2435 : FVec F S256x128 .bf16) (v2466 : FVec F S128x256 .bf16) (v2471 : FVec F S128x256 .bf16) (v2502 : FVec F S128x256 .bf16) (v2507 : FVec F S128x256 .bf16) (v2508 : FVec F S1x1 .f32) (v2509 : FVec F S1x1 .f32) (v2516 : FVec F S128x256 .bf16) (v2521 : FVec F S1x256 .bf16) :
    Safe (defs₀ (F := F)) c E R (k0_part74 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v1730 v1736 v1738 v1739 v1742 v1745 v1748 v1751 v2291 v2293 v2295 v2435 v2466 v2471 v2502 v2507 v2508 v2509 v2516 v2521) := by
  rw [k0_part74_eq_skeleton]
  refine safe_bind h.w17.load fun _ => ?_
  refine safe_bind h.w17.store fun _ => ?_
  exact safe_pure _

/-- Part 75 of the body is safe. -/
theorem safe_part75 (v1738 : FVec F S256x128 .f32) (v1739 : Vec F S128x256 .f32) (v1742 : IVec S128x128 1) (v2287 : FVec F S256x256 .bf16) (v2566 : FVec F S256x1 .f32) (v2567 : FVec F S1x256 .f32) (v2575 : FVec F S128x128 .bf16) :
    Safe (defs₀ (F := F)) c E R (k0_part75 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v1738 v1739 v1742 v2287 v2566 v2567 v2575) := by
  rw [k0_part75_eq_skeleton]
  exact safe_pure _

/-- Part 76 of the body is safe. -/
theorem safe_part76 (v1738 : FVec F S256x128 .f32) (v1739 : Vec F S128x256 .f32) (v1745 : IVec S256x128 1) (v1748 : IVec S128x128 1) (v1751 : IVec S1x128 1) (v2287 : FVec F S256x256 .bf16) (v2291 : FVec F S128x256 .bf16) (v2293 : FVec F S128x512 .f32) (v2295 : FVec F S256x512 .f32) (v2565 : FVec F S256x128 .bf16) (v2596 : FVec F S128x256 .bf16) (v2601 : FVec F S128x256 .bf16) (v2619 : FVec F S128x128 .bf16) (v2628 : FVec F S128x128 .bf16) (v2630 : FVec F S128x128 .bf16) (cst_1217 : F .bf16) :
    Safe (defs₀ (F := F)) c E R (k0_part76 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v1738 v1739 v1745 v1748 v1751 v2287 v2291 v2293 v2295 v2565 v2596 v2601 v2619 v2628 v2630 cst_1217) := by
  rw [k0_part76_eq_skeleton]
  refine safe_bind h.w17.load fun _ => ?_
  refine safe_bind h.w17.store fun _ => ?_
  exact safe_pure _

/-- Part 77 of the body is safe. -/
theorem safe_part77 (v1730 : FVec F S256x1024 .f32) (v1736 : FVec F S256x128 .f32) (v1738 : FVec F S256x128 .f32) (v1739 : Vec F S128x256 .f32) (v1742 : IVec S128x128 1) (v1745 : IVec S256x128 1) (v2287 : FVec F S256x256 .bf16) :
    Safe (defs₀ (F := F)) c E R (k0_part77 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v1730 v1736 v1738 v1739 v1742 v1745 v2287) := by
  rw [k0_part77_eq_skeleton]
  exact safe_pure _

/-- Part 78 of the body is safe. -/
theorem safe_part78 (v1738 : FVec F S256x128 .f32) (v1739 : Vec F S128x256 .f32) (v1742 : IVec S128x128 1) (v1745 : IVec S256x128 1) (v1748 : IVec S128x128 1) (v2287 : FVec F S256x256 .bf16) (v2291 : FVec F S128x256 .bf16) (v2695 : FVec F S256x128 .bf16) (v2726 : FVec F S128x256 .bf16) (v2731 : FVec F S128x256 .bf16) (v2732 : FVec F S256x1 .f32) (v2733 : FVec F S1x256 .f32) (v2741 : FVec F S128x128 .bf16) :
    Safe (defs₀ (F := F)) c E R (k0_part78 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v1738 v1739 v1742 v1745 v1748 v2287 v2291 v2695 v2726 v2731 v2732 v2733 v2741) := by
  rw [k0_part78_eq_skeleton]
  exact safe_pure _

/-- Part 79 of the body is safe. -/
theorem safe_part79 (v1730 : FVec F S256x1024 .f32) (v1751 : IVec S1x128 1) (v1880 : FVec F S256x128 .f32) (v2010 : FVec F S256x128 .f32) (v2140 : FVec F S256x128 .f32) (v2270 : FVec F S256x128 .f32) (v2293 : FVec F S128x512 .f32) (v2295 : FVec F S256x512 .f32) (v2412 : FVec F S256x128 .f32) (v2542 : FVec F S256x128 .f32) (v2672 : FVec F S256x128 .f32) (v2768 : FVec F S1x1 .f32) (v2769 : FVec F S1x1 .f32) (v2788 : FVec F S256x128 .f32) (v2791 : FVec F S128x128 .f32) (v2798 : FVec F S256x128 .f32) :
    Safe (defs₀ (F := F)) c E R (k0_part79 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v1730 v1751 v1880 v2010 v2140 v2270 v2293 v2295 v2412 v2542 v2672 v2768 v2769 v2788 v2791 v2798) := by
  rw [k0_part79_eq_skeleton]
  refine safe_bind h.w17.load fun _ => ?_
  refine safe_bind h.w17.store fun _ => ?_
  refine safe_bind h.r11.load fun _ => ?_
  refine safe_bind h.w24.load fun _ => ?_
  refine safe_bind h.r12.load fun _ => ?_
  exact safe_pure _

/-- The whole body is safe. -/
theorem safe_cc0_front :
    Safe (defs₀ (F := F)) c E R (cc0_front i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28) := by
  rw [cc0_front_eq_skeleton]
  refine safe_bind (safe_part80 c E R i h) ?_
  rintro ⟨_, _, _, _, _, _, _, _, _, _, _, _, _, _, _, _, _, _, _⟩
  refine safe_bind (safe_part70 c E R i h _ _ _ _ _ _ _ _) ?_
  rintro ⟨_, _, _, _, _, _, _, _⟩
  refine safe_bind (safe_part71 c E R i h _ _ _ _ _ _ _ _ _ _ _ _ _ _ _ _) ?_
  rintro ⟨_, _, _, _, _⟩
  refine safe_bind (safe_part72 c E R i h _ _ _ _ _ _ _ _ _ _ _ _ _ _) ?_
  rintro ⟨_, _, _, _, _, _⟩
  refine safe_bind (safe_part73 c E R i h _ _ _ _ _ _ _ _ _) ?_
  rintro ⟨_, _, _, _, _, _, _, _⟩
  refine safe_bind (safe_part74 c E R i h _ _ _ _ _ _ _ _ _ _ _ _ _ _ _ _ _ _ _ _) ?_
  rintro ⟨_, _, _, _, _⟩
  refine safe_bind (safe_part75 c E R i h _ _ _ _ _ _ _) ?_
  rintro ⟨_, _, _, _, _, _⟩
  refine safe_bind ?_ fun _ => ?_
  · exact safe_part76 c E R i h _ _ _ _ _ _ _ _ _ _ _ _ _ _ _ _
  refine safe_bind (safe_part77 c E R i h _ _ _ _ _ _ _) ?_
  rintro ⟨_, _, _, _, _, _⟩
  refine safe_bind (safe_part78 c E R i h _ _ _ _ _ _ _ _ _ _ _ _ _) ?_
  rintro ⟨_, _, _, _, _⟩
  refine safe_bind (safe_part79 c E R i h _ _ _ _ _ _ _ _ _ _ _ _ _ _ _ _) ?_
  rintro ⟨_, _, _⟩
  refine safe_bind h.w14.load fun _ => ?_
  refine safe_bind h.w14.store fun _ => ?_
  exact safe_pure _

end Cert.Kernel.Mine

end
-- ==== Proof.FrontFrame.lean ====
module

public import proofs.«01_k».proof.Proof.FrontSafe
public import Idealize.ShloMosaic.Lib.Pipeline.ValueKit

/-! The frame of the middle call: at every grid point its body runs from whatever the rings, the state, the bias
table and the other scratch buffers hold, and the pipeline returns every argument array unchanged. Nothing is stated of
the two results. -/

@[expose] public section

set_option maxRecDepth 65536

noncomputable section

namespace Cert.Kernel.Mine

open Cert.Kernel Cert.Kernel.Gen Cert.Safe
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers at a grid point -/

abbrev ms0_0 (t : Fin cfg0.N) : Memref sig .tc .vmem S1x256x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x3712 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S640x1024 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S640x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S4x1536 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1536 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S128x1 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S128x1 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x1024 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x1024 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S8x1024 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x256x1024 .bf16 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x256x512 .bf16 := win0_13.stage (cfg0.slots t 13)
abbrev hs0_13 (t : Fin cfg0.N) : (ms0_13 t).IsWhole := hstage0_13 ((cfg0.slots t 13).cast nbuf0_13)
abbrev scM0_0 : Memref sig .tc .vmem S12x264x128 .f32 := Memref.whole cc0_scratch0
abbrev scM0_1 : Memref sig .tc .vmem S2x128x512 .f32 := Memref.whole cc0_scratch1
abbrev scM0_2 : Memref sig .tc .vmem S4x3x256x512 .f32 := Memref.whole cc0_scratch2
abbrev scM0_3 : Memref sig .tc .vmem S3x8x768x256 .f32 := Memref.whole cc0_scratch3
abbrev scM0_4 : Memref sig .tc .vmem S3x256x512 .bf16 := Memref.whole cc0_scratch4
abbrev scM0_5 : Memref sig .tc .vmem S3x640x256 .bf16 := Memref.whole cc0_scratch5
abbrev scM0_6 : Memref sig .tc .vmem S1x256x1024 .f32 := Memref.whole cc0_scratch6
abbrev scM0_7 : Memref sig .tc .vmem S1x256x512 .bf16 := Memref.whole cc0_scratch7
abbrev scM0_8 : Memref sig .tc .vmem S1x256x1024 .f32 := Memref.whole cc0_scratch8
abbrev scM0_9 : Memref sig .tc .vmem S1x256x512 .bf16 := Memref.whole cc0_scratch9
abbrev scM0_10 : Memref sig .tc .vmem S1x256x128 .f32 := Memref.whole cc0_scratch10
abbrev scM0_11 : Memref sig .tc .vmem S1x256x128 .f32 := Memref.whole cc0_scratch11
abbrev scM0_12 : Memref sig .tc .vmem S128x256 .f32 := Memref.whole cc0_scratch12

/-- The launch's own invariant, buffer by buffer. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d) ∗ (∃ d, owns (c : Thread nD τ) scM0_9 fullShare d) ∗ (∃ d, owns (c : Thread nD τ) scM0_10 fullShare d) ∗ (∃ d, owns (c : Thread nD τ) scM0_11 fullShare d) ∗ (∃ d, owns (c : Thread nD τ) scM0_12 fullShare d)) ∗ (∃ r, prngReg c r)) := by
  unfold Pipeline.ΦA; rw [scopedRest0_eq]; simp only [scM0_0, scM0_1, scM0_2, scM0_3, scM0_4, scM0_5, scM0_6, scM0_7, scM0_8, scM0_9, scM0_10, scM0_11, scM0_12, owns_whole]; try rfl

/-- What the body holds: each input at given contents, each output and scratch buffer at some contents. -/
def Res (c : Dev nD) (arg2 : Memref sig .tc .vmem S1x256x1024 .f32) (arg3 : Memref sig .tc .vmem S1x1024 .f32) (arg4 : Memref sig .tc .vmem S1024x3712 .bf16) (arg5 : Memref sig .tc .vmem S640x1024 .bf16) (arg6 : Memref sig .tc .vmem S640x1 .f32) (arg7 : Memref sig .tc .vmem S4x1536 .f32) (arg8 : Memref sig .tc .vmem S1x1536 .f32) (arg9 : Memref sig .tc .vmem S128x1 .f32) (arg10 : Memref sig .tc .vmem S128x1 .f32) (arg11 : Memref sig .tc .vmem S1x1024 .f32) (arg12 : Memref sig .tc .vmem S1x1024 .f32) (arg13 : Memref sig .tc .vmem S8x1024 .f32) (arg14 : Memref sig .tc .vmem S1x256x1024 .bf16) (arg15 : Memref sig .tc .vmem S1x256x512 .bf16) (arg16 : Memref sig .tc .vmem S12x264x128 .f32) (arg17 : Memref sig .tc .vmem S2x128x512 .f32) (arg18 : Memref sig .tc .vmem S4x3x256x512 .f32) (arg19 : Memref sig .tc .vmem S3x8x768x256 .f32) (arg20 : Memref sig .tc .vmem S3x256x512 .bf16) (arg21 : Memref sig .tc .vmem S3x640x256 .bf16) (arg22 : Memref sig .tc .vmem S1x256x1024 .f32) (arg23 : Memref sig .tc .vmem S1x256x512 .bf16) (arg24 : Memref sig .tc .vmem S1x256x1024 .f32) (arg25 : Memref sig .tc .vmem S1x256x512 .bf16) (arg26 : Memref sig .tc .vmem S1x256x128 .f32) (arg27 : Memref sig .tc .vmem S1x256x128 .f32) (arg28 : Memref sig .tc .vmem S128x256 .f32)
    (x0 : Vec F S1x256x1024 .f32) (x1 : Vec F S1x1024 .f32) (x2 : Vec F S1024x3712 .bf16) (x3 : Vec F S640x1024 .bf16) (x4 : Vec F S640x1 .f32) (x5 : Vec F S4x1536 .f32) (x6 : Vec F S1x1536 .f32) (x7 : Vec F S128x1 .f32) (x8 : Vec F S128x1 .f32) (x9 : Vec F S1x1024 .f32) (x10 : Vec F S1x1024 .f32) (x11 : Vec F S8x1024 .f32) : sProp 𝕄 :=
  iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d))

/-- It holds every buffer the body uses. -/
theorem holds (c : Dev nD) (arg2 : Memref sig .tc .vmem S1x256x1024 .f32) (arg3 : Memref sig .tc .vmem S1x1024 .f32) (arg4 : Memref sig .tc .vmem S1024x3712 .bf16) (arg5 : Memref sig .tc .vmem S640x1024 .bf16) (arg6 : Memref sig .tc .vmem S640x1 .f32) (arg7 : Memref sig .tc .vmem S4x1536 .f32) (arg8 : Memref sig .tc .vmem S1x1536 .f32) (arg9 : Memref sig .tc .vmem S128x1 .f32) (arg10 : Memref sig .tc .vmem S128x1 .f32) (arg11 : Memref sig .tc .vmem S1x1024 .f32) (arg12 : Memref sig .tc .vmem S1x1024 .f32) (arg13 : Memref sig .tc .vmem S8x1024 .f32) (arg14 : Memref sig .tc .vmem S1x256x1024 .bf16) (arg15 : Memref sig .tc .vmem S1x256x512 .bf16) (arg16 : Memref sig .tc .vmem S12x264x128 .f32) (arg17 : Memref sig .tc .vmem S2x128x512 .f32) (arg18 : Memref sig .tc .vmem S4x3x256x512 .f32) (arg19 : Memref sig .tc .vmem S3x8x768x256 .f32) (arg20 : Memref sig .tc .vmem S3x256x512 .bf16) (arg21 : Memref sig .tc .vmem S3x640x256 .bf16) (arg22 : Memref sig .tc .vmem S1x256x1024 .f32) (arg23 : Memref sig .tc .vmem S1x256x512 .bf16) (arg24 : Memref sig .tc .vmem S1x256x1024 .f32) (arg25 : Memref sig .tc .vmem S1x256x512 .bf16) (arg26 : Memref sig .tc .vmem S1x256x128 .f32) (arg27 : Memref sig .tc .vmem S1x256x128 .f32) (arg28 : Memref sig .tc .vmem S128x256 .f32)
    (harg2 : arg2.IsWhole) (harg3 : arg3.IsWhole) (harg4 : arg4.IsWhole) (harg5 : arg5.IsWhole) (harg6 : arg6.IsWhole) (harg7 : arg7.IsWhole) (harg8 : arg8.IsWhole) (harg9 : arg9.IsWhole) (harg10 : arg10.IsWhole) (harg11 : arg11.IsWhole) (harg12 : arg12.IsWhole) (harg13 : arg13.IsWhole) (harg14 : arg14.IsWhole) (harg15 : arg15.IsWhole) (harg16 : arg16.IsWhole) (harg17 : arg17.IsWhole) (harg18 : arg18.IsWhole) (harg19 : arg19.IsWhole) (harg20 : arg20.IsWhole) (harg21 : arg21.IsWhole) (harg22 : arg22.IsWhole) (harg23 : arg23.IsWhole) (harg24 : arg24.IsWhole) (harg25 : arg25.IsWhole) (harg26 : arg26.IsWhole) (harg27 : arg27.IsWhole) (harg28 : arg28.IsWhole)
    (x0 : Vec F S1x256x1024 .f32) (x1 : Vec F S1x1024 .f32) (x2 : Vec F S1024x3712 .bf16) (x3 : Vec F S640x1024 .bf16) (x4 : Vec F S640x1 .f32) (x5 : Vec F S4x1536 .f32) (x6 : Vec F S1x1536 .f32) (x7 : Vec F S128x1 .f32) (x8 : Vec F S128x1 .f32) (x9 : Vec F S1x1024 .f32) (x10 : Vec F S1x1024 .f32) (x11 : Vec F S8x1024 .f32) : Holds c (Res c arg2 arg3 arg4 arg5 arg6 arg7 arg8 arg9 arg10 arg11 arg12 arg13 arg14 arg15 arg16 arg17 arg18 arg19 arg20 arg21 arg22 arg23 arg24 arg25 arg26 arg27 arg28 x0 x1 x2 x3 x4 x5 x6 x7 x8 x9 x10 x11) arg2 arg3 arg4 arg5 arg6 arg7 arg8 arg9 arg10 arg11 arg12 arg13 arg14 arg15 arg16 arg17 arg18 arg19 arg20 arg21 arg22 arg23 arg24 arg25 arg26 arg27 arg28 := by
  unfold Res
  exact {
    r2 := Reads.left (Reads.of_owns harg2),
    r3 := Reads.right (Reads.left (Reads.of_owns harg3)),
    r4 := Reads.right (Reads.right (Reads.left (Reads.of_owns harg4))),
    r5 := Reads.right (Reads.right (Reads.right (Reads.left (Reads.of_owns harg5)))),
    r6 := Reads.right (Reads.right (Reads.right (Reads.right (Reads.left (Reads.of_owns harg6))))),
    r7 := Reads.right (Reads.right (Reads.right (Reads.right (Reads.right (Reads.left (Reads.of_owns harg7)))))),
    r8 := Reads.right (Reads.right (Reads.right (Reads.right (Reads.right (Reads.right (Reads.left (Reads.of_owns harg8))))))),
    r9 := Reads.right (Reads.right (Reads.right (Reads.right (Reads.right (Reads.right (Reads.right (Reads.left (Reads.of_owns harg9)))))))),
    r10 := Reads.right (Reads.right (Reads.right (Reads.right (Reads.right (Reads.right (Reads.right (Reads.right (Reads.left (Reads.of_owns harg10))))))))),
    r11 := Reads.right (Reads.right (Reads.right (Reads.right (Reads.right (Reads.right (Reads.right (Reads.right (Reads.right (Reads.left (Reads.of_owns harg11)))))))))),
    r12 := Reads.right (Reads.right (Reads.right (Reads.right (Reads.right (Reads.right (Reads.right (Reads.right (Reads.right (Reads.right (Reads.left (Reads.of_owns harg12))))))))))),
    r13 := Reads.right (Reads.right (Reads.right (Reads.right (Reads.right (Reads.right (Reads.right (Reads.right (Reads.right (Reads.right (Reads.right (Reads.left (Reads.of_owns harg13)))))))))))),
    w14 := Writes.right (Writes.right (Writes.right (Writes.right (Writes.right (Writes.right (Writes.right (Writes.right (Writes.right (Writes.right (Writes.right (Writes.right (Writes.left (Writes.of_owns harg14))))))))))))),
    w15 := Writes.right (Writes.right (Writes.right (Writes.right (Writes.right (Writes.right (Writes.right (Writes.right (Writes.right (Writes.right (Writes.right (Writes.right (Writes.right (Writes.left (Writes.of_owns harg15)))))))))))))),
    w16 := Writes.right (Writes.right (Writes.right (Writes.right (Writes.right (Writes.right (Writes.right (Writes.right (Writes.right (Writes.right (Writes.right (Writes.right (Writes.right (Writes.right (Writes.left (Writes.of_owns harg16))))))))))))))),
    w17 := Writes.right (Writes.right (Writes.right (Writes.right (Writes.right (Writes.right (Writes.right (Writes.right (Writes.right (Writes.right (Writes.right (Writes.right (Writes.right (Writes.right (Writes.right (Writes.left (Writes.of_owns harg17)))))))))))))))),
    w18 := Writes.right (Writes.right (Writes.right (Writes.right (Writes.right (Writes.right (Writes.right (Writes.right (Writes.right (Writes.right (Writes.right (Writes.right (Writes.right (Writes.right (Writes.right (Writes.right (Writes.left (Writes.of_owns harg18))))))))))))))))),
    w19 := Writes.right (Writes.right (Writes.right (Writes.right (Writes.right (Writes.right (Writes.right (Writes.right (Writes.right (Writes.right (Writes.right (Writes.right (Writes.right (Writes.right (Writes.right (Writes.right (Writes.right (Writes.left (Writes.of_owns harg19)))))))))))))))))),
    w20 := Writes.right (Writes.right (Writes.right (Writes.right (Writes.right (Writes.right (Writes.right (Writes.right (Writes.right (Writes.right (Writes.right (Writes.right (Writes.right (Writes.right (Writes.right (Writes.right (Writes.right (Writes.right (Writes.left (Writes.of_owns harg20))))))))))))))))))),
    w21 := Writes.right (Writes.right (Writes.right (Writes.right (Writes.right (Writes.right (Writes.right (Writes.right (Writes.right (Writes.right (Writes.right (Writes.right (Writes.right (Writes.right (Writes.right (Writes.right (Writes.right (Writes.right (Writes.right (Writes.left (Writes.of_owns harg21)))))))))))))))))))),
    w22 := Writes.right (Writes.right (Writes.right (Writes.right (Writes.right (Writes.right (Writes.right (Writes.right (Writes.right (Writes.right (Writes.right (Writes.right (Writes.right (Writes.right (Writes.right (Writes.right (Writes.right (Writes.right (Writes.right (Writes.right (Writes.left (Writes.of_owns harg22))))))))))))))))))))),
    w23 := Writes.right (Writes.right (Writes.right (Writes.right (Writes.right (Writes.right (Writes.right (Writes.right (Writes.right (Writes.right (Writes.right (Writes.right (Writes.right (Writes.right (Writes.right (Writes.right (Writes.right (Writes.right (Writes.right (Writes.right (Writes.right (Writes.left (Writes.of_owns harg23)))))))))))))))))))))),
    w24 := Writes.right (Writes.right (Writes.right (Writes.right (Writes.right (Writes.right (Writes.right (Writes.right (Writes.right (Writes.right (Writes.right (Writes.right (Writes.right (Writes.right (Writes.right (Writes.right (Writes.right (Writes.right (Writes.right (Writes.right (Writes.right (Writes.right (Writes.left (Writes.of_owns harg24))))))))))))))))))))))),
    w25 := Writes.right (Writes.right (Writes.right (Writes.right (Writes.right (Writes.right (Writes.right (Writes.right (Writes.right (Writes.right (Writes.right (Writes.right (Writes.right (Writes.right (Writes.right (Writes.right (Writes.right (Writes.right (Writes.right (Writes.right (Writes.right (Writes.right (Writes.right (Writes.left (Writes.of_owns harg25)))))))))))))))))))))))),
    w26 := Writes.right (Writes.right (Writes.right (Writes.right (Writes.right (Writes.right (Writes.right (Writes.right (Writes.right (Writes.right (Writes.right (Writes.right (Writes.right (Writes.right (Writes.right (Writes.right (Writes.right (Writes.right (Writes.right (Writes.right (Writes.right (Writes.right (Writes.right (Writes.right (Writes.left (Writes.of_owns harg26))))))))))))))))))))))))),
    w27 := Writes.right (Writes.right (Writes.right (Writes.right (Writes.right (Writes.right (Writes.right (Writes.right (Writes.right (Writes.right (Writes.right (Writes.right (Writes.right (Writes.right (Writes.right (Writes.right (Writes.right (Writes.right (Writes.right (Writes.right (Writes.right (Writes.right (Writes.right (Writes.right (Writes.right (Writes.left (Writes.of_owns harg27)))))))))))))))))))))))))),
    w28 := Writes.right (Writes.right (Writes.right (Writes.right (Writes.right (Writes.right (Writes.right (Writes.right (Writes.right (Writes.right (Writes.right (Writes.right (Writes.right (Writes.right (Writes.right (Writes.right (Writes.right (Writes.right (Writes.right (Writes.right (Writes.right (Writes.right (Writes.right (Writes.right (Writes.right (Writes.right (Writes.of_owns harg28)))))))))))))))))))))))))) }

/-- What the body holds at point `t`. -/
def res (c : Dev nD) (t : Fin cfg0.N) : sProp 𝕄 :=
  Res c (ms0_0 t) (ms0_1 t) (ms0_2 t) (ms0_3 t) (ms0_4 t) (ms0_5 t) (ms0_6 t) (ms0_7 t) (ms0_8 t) (ms0_9 t) (ms0_10 t) (ms0_11 t) (ms0_12 t) (ms0_13 t) scM0_0 scM0_1 scM0_2 scM0_3 scM0_4 scM0_5 scM0_6 scM0_7 scM0_8 scM0_9 scM0_10 scM0_11 scM0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)

/-- The body runs from that and gives it back. -/
theorem safe_body (c : Dev nD) (t : Fin cfg0.N) :
    res m c t ⊢ wp frame (wpE (defs₀ (F := F)) Variants.none c none) Set.univ (bodyAt0 t) (fun _ => res m c t) :=
  safe_cc0_front c Set.univ (res m c t) (grid0.coords t) (holds c (ms0_0 t) (ms0_1 t) (ms0_2 t) (ms0_3 t) (ms0_4 t) (ms0_5 t) (ms0_6 t) (ms0_7 t) (ms0_8 t) (ms0_9 t) (ms0_10 t) (ms0_11 t) (ms0_12 t) (ms0_13 t) scM0_0 scM0_1 scM0_2 scM0_3 scM0_4 scM0_5 scM0_6 scM0_7 scM0_8 scM0_9 scM0_10 scM0_11 scM0_12 (hs0_0 t) (hs0_1 t) (hs0_2 t) (hs0_3 t) (hs0_4 t) (hs0_5 t) (hs0_6 t) (hs0_7 t) (hs0_8 t) (hs0_9 t) (hs0_10 t) (hs0_11 t) (hs0_12 t) (hs0_13 t) (Memref.isWhole_whole _) (Memref.isWhole_whole _) (Memref.isWhole_whole _) (Memref.isWhole_whole _) (Memref.isWhole_whole _) (Memref.isWhole_whole _) (Memref.isWhole_whole _) (Memref.isWhole_whole _) (Memref.isWhole_whole _) (Memref.isWhole_whole _) (Memref.isWhole_whole _) (Memref.isWhole_whole _) (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t))

/-! ## The proof data -/

/-- The outputs are the windows whose contents are not stated. -/
def forgets0 : Fin 14 → Bool := fun w => decide (12 ≤ w.val)

/-- The proof data: arrays as the region finds them, the inputs' buffers at their blocks after the body. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => Pipeline.Dat.unnamed (cfg := cfg0) 12 t
    | ⟨13, _⟩ => Pipeline.Dat.unnamed (cfg := cfg0) 13 t
    | ⟨_ + 14, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc ∗ (∃ d, owns (c : Thread nD τ) (ms0_0 t) fullShare ((dats m 0 c).before 0 t d)) ∗ (∃ d, owns (c : Thread nD τ) (ms0_1 t) fullShare ((dats m 0 c).before 1 t d)) ∗ (∃ d, owns (c : Thread nD τ) (ms0_2 t) fullShare ((dats m 0 c).before 2 t d)) ∗ (∃ d, owns (c : Thread nD τ) (ms0_3 t) fullShare ((dats m 0 c).before 3 t d)) ∗ (∃ d, owns (c : Thread nD τ) (ms0_4 t) fullShare ((dats m 0 c).before 4 t d)) ∗ (∃ d, owns (c : Thread nD τ) (ms0_5 t) fullShare ((dats m 0 c).before 5 t d)) ∗ (∃ d, owns (c : Thread nD τ) (ms0_6 t) fullShare ((dats m 0 c).before 6 t d)) ∗ (∃ d, owns (c : Thread nD τ) (ms0_7 t) fullShare ((dats m 0 c).before 7 t d)) ∗ (∃ d, owns (c : Thread nD τ) (ms0_8 t) fullShare ((dats m 0 c).before 8 t d)) ∗ (∃ d, owns (c : Thread nD τ) (ms0_9 t) fullShare ((dats m 0 c).before 9 t d)) ∗ (∃ d, owns (c : Thread nD τ) (ms0_10 t) fullShare ((dats m 0 c).before 10 t d)) ∗ (∃ d, owns (c : Thread nD τ) (ms0_11 t) fullShare ((dats m 0 c).before 11 t d)) ∗ (∃ d, owns (c : Thread nD τ) (ms0_12 t) fullShare d) ∗ (∃ d, owns (c : Thread nD τ) (ms0_13 t) fullShare d))
/-- and what it returns. -/
def bodyPost (c : Dev nD) (t : Fin cfg0.N) : sProp 𝕄 :=
  iprop((dats m 0 c).Φ t.succ ∗ (dats m 0 c).owesAt () t.succ ∗ owns (c : Thread nD τ) (ms0_0 t) fullShare ((dats m 0 c).after 0 t) ∗ owns (c : Thread nD τ) (ms0_1 t) fullShare ((dats m 0 c).after 1 t) ∗ owns (c : Thread nD τ) (ms0_2 t) fullShare ((dats m 0 c).after 2 t) ∗ owns (c : Thread nD τ) (ms0_3 t) fullShare ((dats m 0 c).after 3 t) ∗ owns (c : Thread nD τ) (ms0_4 t) fullShare ((dats m 0 c).after 4 t) ∗ owns (c : Thread nD τ) (ms0_5 t) fullShare ((dats m 0 c).after 5 t) ∗ owns (c : Thread nD τ) (ms0_6 t) fullShare ((dats m 0 c).after 6 t) ∗ owns (c : Thread nD τ) (ms0_7 t) fullShare ((dats m 0 c).after 7 t) ∗ owns (c : Thread nD τ) (ms0_8 t) fullShare ((dats m 0 c).after 8 t) ∗ owns (c : Thread nD τ) (ms0_9 t) fullShare ((dats m 0 c).after 9 t) ∗ owns (c : Thread nD τ) (ms0_10 t) fullShare ((dats m 0 c).after 10 t) ∗ owns (c : Thread nD τ) (ms0_11 t) fullShare ((dats m 0 c).after 11 t) ∗ (∃ d, owns (c : Thread nD τ) (ms0_12 t) fullShare d) ∗ (∃ d, owns (c : Thread nD τ) (ms0_13 t) fullShare d))

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  have hpre : bodyPre m c t ⊢ iprop(res m c t ∗ (∃ r, prngReg c r) ∗ (dats m 0 c).owesAt () t.castSucc) := by
    unfold bodyPre res Res
    simp only [before0_0, before0_1, before0_2, before0_3, before0_4, before0_5, before0_6, before0_7, before0_8, before0_9, before0_10, before0_11]
    rw [show (dats m 0 c).Φ t.castSucc = Pipeline.ΦA spec0 c from rfl, PhiA0_eq]
    iintro ⟨⟨⟨S0, S1, S2, S3, S4, S5, S6, S7, S8, S9, S10, S11, S12⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, H12, H13⟩
    isplitr [Hg Ho]
    swap
    · isplitl [Hg]; · iexact Hg
      iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    iexact S12
  have hpost : iprop(res m c t ∗ (∃ r, prngReg c r) ∗ (dats m 0 c).owesAt () t.castSucc) ⊢ bodyPost m c t := by
    unfold bodyPost res Res
    rw [show (dats m 0 c).Φ t.succ = Pipeline.ΦA spec0 c from rfl, PhiA0_eq,
      show (dats m 0 c).owesAt () t.succ = (dats m 0 c).owesAt () t.castSucc from rfl,
      after0_0, after0_1, after0_2, after0_3, after0_4, after0_5, after0_6, after0_7, after0_8, after0_9, after0_10, after0_11]
    iintro ⟨⟨H0, H1, H2, H3, H4, H5, H6, H7, H8, H9, H10, H11, H12, H13, S0, S1, S2, S3, S4, S5, S6, S7, S8, S9, S10, S11, S12⟩, Hg, Ho⟩
    isplitl [S0 S1 S2 S3 S4 S5 S6 S7 S8 S9 S10 S11 S12 Hg]
    · isplitr [Hg]
      swap; · iexact Hg
      isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      isplitl [S8]; · iexact S8
      isplitl [S9]; · iexact S9
      isplitl [S10]; · iexact S10
      isplitl [S11]; · iexact S11
      iexact S12
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  exact hpre.trans ((sep_mono_left (safe_body m c t)).trans ((wp_frame_r _ _ _).trans (wp_mono _ _ _ fun _ => hpost)))

/-- The body table's row at point `t`'s buffers is the body there. -/
theorem defs₀_row (t : Fin cfg0.N) :
    defs₀ (F := F) .tc cfg0.body (cfg0.bodyArgs t (cfg0.slots t)) = bodyAt0 t := by
  unfold defs₀; rw [Defs.onTc_tc]

/-- The pipeline's body obligation, at every point. -/
theorem body_obligation (c : Dev nD) :
    BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- the launch theorem's implicit arguments are found through plain definitions
set_option backward.isDefEq.respectTransparency.types false in
/-- The run: every buffer the outputs do not reach ends as the region found it, every counter at zero. -/
theorem run_main : θ_run defs (onTc (τ := τ) (main (F := F))) (s₀ m ρ)
    (fun r => Pipeline.RDat.FramePost (cfgs 0) (fun c => (dats m 0 c).toRForget forgets0) (V m) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the argument arrays end unchanged, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun _ h => ⟨fun c => ⟨(h.1.arr_in c 0 rfl).trans ((A_eq m c 0).trans (V_main_arg0 m c)),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      (h.1.arr_in c 5 rfl).trans ((A_eq m c 5).trans (V_main_arg3 m c)),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c),
      ((h.1 c).2 main_arg8 (Pipeline.mem_restRefs_of main_arg8 (by decide) (by decide))).trans (V_main_arg8 m c),
      ((h.1 c).2 main_arg9 (Pipeline.mem_restRefs_of main_arg9 (by decide) (by decide))).trans (V_main_arg9 m c)⟩, h.2⟩) (run_main m ρ)

end Cert.Kernel.Mine

end
-- ==== Proof.OutRef.lean ====
module

public import proofs.«01_k».proof.Proof.Spec
public import proofs.«01_k».proof.Proof.Gen.Reference3Ideal.Run
public import Idealize.ShloMosaic.Lib.Pipeline.ValueKit

/-! The reference of the last call, read one element at a time: projection and residual, normalization, gated half
step, final normalization. -/

@[expose] public section

set_option maxRecDepth 16384

namespace Cert.Reference3Ideal.Mine

open Idealize.ShloMosaic Idealize.ShloMosaic.TcCoe Idealize.SL.Sem
open Idealize.ShloMosaic.StableHlo
open Cert.Reference3Ideal Cert.Reference3Ideal.Gen Cert.Reference3Ideal.Value Cert.Layer

noncomputable section

/-- The residual stream after the output projection. -/
def x2 (a0 : FVec Ideal S32768x1024 .f32) (a1 : FVec Ideal S4x8192x1024 .bf16) (a2 : FVec Ideal S4x8192x512 .bf16) (a3 : FVec Ideal S1536x1024 .bf16) :
    FVec Ideal S4x8192x1024 .f32 :=
  addf (shapeCast _ a0 shapeCasts_S32768x1024_S4x8192x1024) (Host.dotGeneral dot_S4x8192x1536_S1536x1024_S4x8192x1024_2_0_01_1_n_n none (concatenate S4x8192x1536 2 [⟨S4x8192x1024, (extf .f32 a1 bitsLt_bf16_f32)⟩, ⟨S4x8192x512, (extf .f32 a2 bitsLt_bf16_f32)⟩] concatenates_S4x8192x1024_S4x8192x512_S4x8192x1536_d2) (extf .f32 a3 bitsLt_bf16_f32))

/-- Normalization of every row of `X`, channel weights `w`. -/
def nrm (X2 : FVec Ideal S4x8192x1024 .f32) (a4 : FVec Ideal S1024 .f32) :
    FVec Ideal S4x8192x1024 .f32 :=
  mulf (mulf X2 (broadcastInDim S4x8192x1024 ![0, 1, 2] bcast_S4x8192x1_S4x8192x1024_0_1_2 (Host.rsqrt (addf (Host.divf (broadcastInDim S4x8192x1 ![0, 1] bcast_S4x8192_S4x8192x1_0_1 (Host.reduceAdd (mulf X2 X2) (constant S_ .f32 0x00000000#32) reducesTo_S4x8192x1024_S4x8192_d2 h_S_)) (broadcastInDim S4x8192x1 ![] bcast_S_S4x8192x1 (constant S_ .f32 0x44800000#32))) (broadcastInDim S4x8192x1 ![] bcast_S_S4x8192x1 (constant S_ .f32 0x3727C5AC#32)))))) (broadcastInDim S4x8192x1024 ![0, 1, 2] bcast_S1x1x1024_S4x8192x1024_0_1_2 (broadcastInDim S1x1x1024 ![2] bcast_S1024_S1x1x1024_2 a4))

/-- The gated hidden activations. -/
def hid (H : FVec Ideal S4x8192x1024 .f32) (a5 a6 : FVec Ideal S1024x2816 .bf16) :
    FVec Ideal S4x8192x2816 .f32 :=
  mulf (mulf (Host.dotGeneral dot_S4x8192x1024_S1024x2816_S4x8192x2816_2_0_01_1_n_n none H (extf .f32 a5 bitsLt_bf16_f32)) (Host.divf (broadcastInDim S4x8192x2816 ![] bcast_S_S4x8192x2816 (constant S_ .f32 0x3F800000#32)) (addf (broadcastInDim S4x8192x2816 ![] bcast_S_S4x8192x2816 (constant S_ .f32 0x3F800000#32)) (Host.exp (Host.negf (Host.dotGeneral dot_S4x8192x1024_S1024x2816_S4x8192x2816_2_0_01_1_n_n none H (extf .f32 a5 bitsLt_bf16_f32))))))) (Host.dotGeneral dot_S4x8192x1024_S1024x2816_S4x8192x2816_2_0_01_1_n_n none H (extf .f32 a6 bitsLt_bf16_f32))

/-- The residual half step. -/
def add (X2 : FVec Ideal S4x8192x1024 .f32) (A : FVec Ideal S4x8192x2816 .f32) (a7 : FVec Ideal S2816x1024 .bf16) :
    FVec Ideal S4x8192x1024 .f32 :=
  addf X2 (mulf (broadcastInDim S4x8192x1024 ![] bcast_S_S4x8192x1024 (constant S_ .f32 0x3F000000#32)) (Host.dotGeneral dot_S4x8192x2816_S2816x1024_S4x8192x1024_2_0_01_1_n_n none A (extf .f32 a7 bitsLt_bf16_f32)))

/-- The reference's result from its nine arguments. -/
def ref (a0 : FVec Ideal S32768x1024 .f32) (a1 : FVec Ideal S4x8192x1024 .bf16) (a2 : FVec Ideal S4x8192x512 .bf16) (a3 : FVec Ideal S1536x1024 .bf16) (a4 : FVec Ideal S1024 .f32)
    (a5 a6 : FVec Ideal S1024x2816 .bf16) (a7 : FVec Ideal S2816x1024 .bf16) (a8 : FVec Ideal S1024 .f32) :
    FVec Ideal S32768x1024 .f32 :=
  shapeCast _ (nrm (add (x2 a0 a1 a2 a3) (hid (nrm (x2 a0 a1 a2 a3) a4) a5 a6) a7) a8) shapeCasts_S4x8192x1024_S32768x1024

/-- The run's term is `ref` of the arguments. -/
theorem res_eq (m : (ℓ : Loc nD τ sig) → Buf (Elt Ideal) ℓ) (c : Dev nD) :
    res_out0 m c = ref (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (m ((c.tc : Thread nD τ).loc main_arg5))
      (m ((c.tc : Thread nD τ).loc main_arg6)) (m ((c.tc : Thread nD τ).loc main_arg7))
      (m ((c.tc : Thread nD τ).loc main_arg8)) := by
  unfold res_out0 res_main_v44
  rfl

theorem nrm_apply (X : FVec Ideal S4x8192x1024 .f32) (w : FVec Ideal S1024 .f32) (b : Fin 4) (s : Fin 8192) (c : Fin 1024) :
    nrm X w (ix3 b s c) = rms (fun k => X (ix3 b s k)) (fun k => w (ix1 k)) c := by
  pointwise [nrm, rms]

theorem hid_apply (H : FVec Ideal S4x8192x1024 .f32) (g u : FVec Ideal S1024x2816 .bf16) (b : Fin 4) (s : Fin 8192) (f : Fin 2816) :
    hid H g u (ix3 b s f) = act (fun k => H (ix3 b s k)) (fun k f => g (ix2 k f)) (fun k f => u (ix2 k f)) f := by
  pointwise [hid, act]
  simp only [zero_sub]

theorem add_apply (X : FVec Ideal S4x8192x1024 .f32) (A : FVec Ideal S4x8192x2816 .f32) (d : FVec Ideal S2816x1024 .bf16) (b : Fin 4) (s : Fin 8192) (c : Fin 1024) :
    add X A d (ix3 b s c) = halfStep (fun k => X (ix3 b s k)) (fun f => A (ix3 b s f)) (fun f c => d (ix2 f c)) c := by
  pointwise [add, halfStep]

theorem x2_apply (a0 : FVec Ideal S32768x1024 .f32) (a1 : FVec Ideal S4x8192x1024 .bf16) (a2 : FVec Ideal S4x8192x512 .bf16) (a3 : FVec Ideal S1536x1024 .bf16) (b : Fin 4) (s : Fin 8192) (c : Fin 1024) :
    x2 a0 a1 a2 a3 (ix3 b s c) = mix (fun k => a0 (ix2 ⟨b * 8192 + s, by omega⟩ k)) (fun k => a1 (ix3 b s k))
      (fun k => a2 (ix3 b s k)) (fun k c => a3 (ix2 k c)) c := by
  pointwise [x2, mix]

/-- The reference's result at token `i`, channel `c`. -/
theorem ref_apply (a0 : FVec Ideal S32768x1024 .f32) (a1 : FVec Ideal S4x8192x1024 .bf16) (a2 : FVec Ideal S4x8192x512 .bf16)
    (a3 : FVec Ideal S1536x1024 .bf16) (a4 : FVec Ideal S1024 .f32) (a5 a6 : FVec Ideal S1024x2816 .bf16)
    (a7 : FVec Ideal S2816x1024 .bf16) (a8 : FVec Ideal S1024 .f32) (i : Fin 32768) (c : Fin 1024) :
    ref a0 a1 a2 a3 a4 a5 a6 a7 a8 (ix2 i c) =
      rms (ffn (mix (fun k => a0 (ix2 i k)) (fun k => a1 (ix3 ⟨i / 8192, by omega⟩ ⟨i % 8192, by omega⟩ k))
          (fun k => a2 (ix3 ⟨i / 8192, by omega⟩ ⟨i % 8192, by omega⟩ k)) (fun k c => a3 (ix2 k c)))
        (fun k => a4 (ix1 k)) (fun k f => a5 (ix2 k f)) (fun k f => a6 (ix2 k f)) (fun f c => a7 (ix2 f c)))
        (fun k => a8 (ix1 k)) c := by
  pointwise [ref]
  have e : ∀ k, a0 (ix2 ⟨(i : ℕ) / 8192 * 8192 + (i : ℕ) % 8192, by omega⟩ k) = a0 (ix2 i k) := fun k =>
    congrArg (fun j => a0 (ix2 j k)) (Fin.ext (Nat.div_add_mod' _ _))
  simp only [nrm_apply, add_apply, hid_apply, x2_apply, e, ffn]

end

end Cert.Reference3Ideal.Mine
-- ==== Proof.OutValue.lean ====
module

public import proofs.«01_k».proof.Proof.OutRef
public import proofs.«01_k».proof.Proof.Gen.Kernel3Ideal.Value

/-! What one grid point of the last call writes, and the array all points together leave. -/

@[expose] public section

set_option maxRecDepth 16384

namespace Cert.Kernel3Ideal.Mine

open Idealize.ShloMosaic Idealize.ShloMosaic.TcCoe Idealize.SL.Sem
open Idealize.ShloMosaic.Pipeline (Dat)
open Cert.Kernel3Ideal Cert.Kernel3Ideal.Gen Cert.Layer

noncomputable section

/-- The residual row after the output projection, the weight matrix loaded in its two row ranges. -/
theorem pay3_apply (y : FVec Ideal S1024x1024 .bf16) (wo : FVec Ideal S1536x1024 .bf16) (a : FVec Ideal S1024x512 .bf16)
    (x : FVec Ideal S1024x1024 .f32) (r c : Fin 1024) :
    k0_pay3 (F := Ideal) y (View.ld (Val := Elt Ideal) (S := S1536x1024) (e' := .bf16) wo (Rect.unit ![0, 0] ![1024, 1024] inb_S1536x1024_S1024x1024_0_0)) a
        (View.ld (Val := Elt Ideal) (S := S1536x1024) (e' := .bf16) wo (Rect.unit ![1024, 0] ![512, 1024] inb_S1536x1024_S512x1024_1024_0)) x (ix2 r c) =
      mix (fun k => x (ix2 r k)) (fun k => y (ix2 r k)) (fun k => a (ix2 r k)) (fun k c => wo (ix2 k c)) c := by
  pointwise [k0_pay3, mix]

/-- The normalized row. -/
theorem pay4_apply (v0 v2 : FVec Ideal S1024x1024 .bf16) (v4 : FVec Ideal S1024x512 .bf16) (v6 : FVec Ideal S512x1024 .bf16)
    (v9 : FVec Ideal S1024x1024 .f32) (w : FVec Ideal S1x1024 .f32) (r c : Fin 1024) :
    k0_pay4 (F := Ideal) v0 v2 v4 v6 v9 w (ix2 r c) =
      rms (fun k => k0_pay3 (F := Ideal) v0 v2 v4 v6 v9 (ix2 r k)) (fun k => w (ix2 0 k)) c := by
  pointwise [k0_pay4, rms]

/-- The gated hidden block of a normalized block `h`. -/
def hidden (h : FVec Ideal S1024x1024 .bf16) (g u : FVec Ideal S1024x2816 .bf16) : FVec Ideal S1024x2816 .bf16 := fun i =>
  act (fun k => h (ix2 (i 0) k)) (fun k f => g (ix2 k f)) (fun k f => u (ix2 k f)) (i 1)

/-- The gated hidden block at row `r`, channel `f`. -/
theorem hidden_apply (h : FVec Ideal S1024x1024 .bf16) (g u : FVec Ideal S1024x2816 .bf16) (r : Fin 1024) (f : Fin 2816) :
    hidden h g u (ix2 r f) = act (fun k => h (ix2 r k)) (fun k f => g (ix2 k f)) (fun k f => u (ix2 k f)) f := rfl

/-- The three column ranges `0 … 1023`, `1024 … 2047`, `2048 … 2815` cover the scratch buffer. -/
theorem cols_cover (w1 w2 w3) (y : S1024x2816.Idx) :
    ∃ p ∈ ([⟨Rect.unit ![0, 2048] ![1024, 768] inb_S1024x2816_S1024x768_0_2048, w1⟩,
        ⟨Rect.unit ![0, 1024] ![1024, 1024] inb_S1024x2816_S1024x1024_0_1024, w2⟩,
        ⟨Rect.unit ![0, 0] ![1024, 1024] inb_S1024x2816_S1024x1024_0_0, w3⟩] :
        List (View.Piece (Elt Ideal) S1024x2816 .bf16)), y ∈ p.1.set := by
  idx_vars y
  by_cases h1 : y1.val < 1024
  · refine ⟨⟨Rect.unit ![0, 0] ![1024, 1024] inb_S1024x2816_S1024x1024_0_0, w3⟩, .tail _ (.tail _ (.head _)), ?_⟩
    refine (Rect.mem_set_unit (inb := inb_S1024x2816_S1024x1024_0_0)).2 fun a => ?_
    fin_cases a
    · exact ⟨Nat.zero_le _, by simp⟩
    · exact ⟨Nat.zero_le _, by simpa using h1⟩
  by_cases h2 : y1.val < 2048
  · refine ⟨⟨Rect.unit ![0, 1024] ![1024, 1024] inb_S1024x2816_S1024x1024_0_1024, w2⟩, .tail _ (.head _), ?_⟩
    refine (Rect.mem_set_unit (inb := inb_S1024x2816_S1024x1024_0_1024)).2 fun a => ?_
    fin_cases a
    · exact ⟨Nat.zero_le _, by simp⟩
    · exact ⟨by simpa using h1, by simpa using h2⟩
  · refine ⟨⟨Rect.unit ![0, 2048] ![1024, 768] inb_S1024x2816_S1024x768_0_2048, w1⟩, .head _, ?_⟩
    refine (Rect.mem_set_unit (inb := inb_S1024x2816_S1024x768_0_2048)).2 fun a => ?_
    fin_cases a
    · exact ⟨Nat.zero_le _, by simp⟩
    · exact ⟨by simpa using h2, by simp⟩

/-- The scratch buffer, stored in three column ranges and read back whole, holds the gated hidden block. -/
theorem hidden_eq (v0 v2 : FVec Ideal S1024x1024 .bf16) (v4 : FVec Ideal S1024x512 .bf16) (v6 : FVec Ideal S512x1024 .bf16)
    (v9 : FVec Ideal S1024x1024 .f32) (w : FVec Ideal S1x1024 .f32) (g u : FVec Ideal S1024x2816 .bf16) :
    (View.whole cc0_scratch0).readCov (Val := Elt Ideal)
        [⟨Rect.unit ![0, 2048] ![1024, 768] inb_S1024x2816_S1024x768_0_2048,
            k0_pay1 (F := Ideal)
              (k0_pay11 (k0_pay4 v0 v2 v4 v6 v9 w)
                (View.ld (Val := Elt Ideal) (S := S1024x2816) (e' := .bf16) g (Rect.unit ![0, 2048] ![1024, 768] inb_S1024x2816_S1024x768_0_2048)))
              (k0_pay12 (k0_pay4 v0 v2 v4 v6 v9 w)
                (View.ld (Val := Elt Ideal) (S := S1024x2816) (e' := .bf16) u (Rect.unit ![0, 2048] ![1024, 768] inb_S1024x2816_S1024x768_0_2048)))
              (k0_pay13 (k0_pay4 v0 v2 v4 v6 v9 w)
                (View.ld (Val := Elt Ideal) (S := S1024x2816) (e' := .bf16) g (Rect.unit ![0, 2048] ![1024, 768] inb_S1024x2816_S1024x768_0_2048)))
              (FloatOps.ofBits FTy.f32 1065353216#32)⟩,
          ⟨Rect.unit ![0, 1024] ![1024, 1024] inb_S1024x2816_S1024x1024_0_1024,
            k0_pay10 (F := Ideal) (k0_pay4 v0 v2 v4 v6 v9 w)
              (View.ld (Val := Elt Ideal) (S := S1024x2816) (e' := .bf16) g (Rect.unit ![0, 1024] ![1024, 1024] inb_S1024x2816_S1024x1024_0_1024))
              (View.ld (Val := Elt Ideal) (S := S1024x2816) (e' := .bf16) u (Rect.unit ![0, 1024] ![1024, 1024] inb_S1024x2816_S1024x1024_0_1024))⟩,
          ⟨Rect.unit ![0, 0] ![1024, 1024] inb_S1024x2816_S1024x1024_0_0,
            k0_pay9 (F := Ideal)
              (k0_pay5 v0 v2 v4 v6 v9 w
                (View.ld (Val := Elt Ideal) (S := S1024x2816) (e' := .bf16) g (Rect.unit ![0, 0] ![1024, 1024] inb_S1024x2816_S1024x1024_0_0)))
              (k0_pay6 v0 v2 v4 v6 v9 w
                (View.ld (Val := Elt Ideal) (S := S1024x2816) (e' := .bf16) u (Rect.unit ![0, 0] ![1024, 1024] inb_S1024x2816_S1024x1024_0_0)))
              (k0_pay7 v0 v2 v4 v6 v9 w
                (View.ld (Val := Elt Ideal) (S := S1024x2816) (e' := .bf16) g (Rect.unit ![0, 0] ![1024, 1024] inb_S1024x2816_S1024x1024_0_0)))
              k0_pay8⟩]
        (Rect.unit ![0, 0] ![1024, 2816] inb_S1024x2816_S1024x2816_0_0).toLoadRect =
      hidden (k0_pay4 v0 v2 v4 v6 v9 w) g u := by
  rw [View.readCov_eq_canon']
  generalize hh : k0_pay4 (F := Ideal) v0 v2 v4 v6 v9 w = h
  funext j
  canon_tiles x hx using cols_cover _ _ _ _
  all_goals idx_vars x
  all_goals idx_vars j
  all_goals
    rw [Rect.idx_unit_val] at hx0 hx1
    change 0 + j0.val = _ at hx0
    change 0 + j1.val = _ at hx1
    rw [Nat.zero_add] at hx0 hx1
    obtain rfl : x0 = j0 := Fin.ext hx0.symm
  · have hb : 2048 + x1.val < 2816 := by omega
    obtain rfl : j1 = ⟨2048 + x1, hb⟩ := Fin.ext hx1
    pointwise [hidden, act, k0_pay1, k0_pay11, k0_pay12, k0_pay13]
  · have hb : 1024 + x1.val < 2816 := by omega
    obtain rfl : j1 = ⟨1024 + x1, hb⟩ := Fin.ext hx1
    pointwise [hidden, act, k0_pay10]
  · have hb : x1.val < 2816 := by omega
    obtain rfl : j1 = ⟨x1, hb⟩ := Fin.ext hx1
    pointwise [hidden, act, k0_pay9, k0_pay5, k0_pay6, k0_pay7, k0_pay8]
    rw [hh]

/-- The block written: the half step of the residual row, normalized once more. -/
theorem pay2_apply (x : FVec Ideal S1024x1024 .f32) (a : FVec Ideal S1024x2816 .bf16) (d : FVec Ideal S2816x1024 .bf16)
    (w : FVec Ideal S1x1024 .f32) (r c : Fin 1024) :
    k0_pay2 (F := Ideal) x a d w (ix2 r c) =
      rms (halfStep (fun k => x (ix2 r k)) (fun f => a (ix2 r f)) (fun f c => d (ix2 f c))) (fun k => w (ix2 0 k)) c := by
  pointwise [k0_pay2, rms, halfStep]

variable (m : (ℓ : Loc nD τ sig) → Buf (Elt Ideal) ℓ)

/-- Which block each window holds at point `t`: rows of tile `t`, or the whole operand. -/
theorem idx : ∀ t : Fin cfg0.N,
    win0_0.index t = ![t.val, 0] ∧ win0_1.index t = ![t.val, 0] ∧ win0_2.index t = ![t.val, 0] ∧
      win0_3.index t = ![0, 0] ∧ win0_4.index t = ![0, 0] ∧ win0_5.index t = ![0, 0] ∧
      win0_6.index t = ![0, 0] ∧ win0_7.index t = ![0, 0] ∧ win0_8.index t = ![0, 0] ∧
      win0_9.index t = ![t.val, 0] :=
  (by decide +kernel : ∀ t : Fin grid0.N, _)

open Cert.Reference3Ideal.Mine (ref ref_apply)

/-- After the run the result array is the reference's term of the arguments. -/
theorem final (c : Dev nD) :
    (dats m 0 c).arrAt 9 (cfgs 0).N = ref (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7))
      (m ((c : Thread nD τ).loc main_arg8)) := by
  refine (dats m 0 c).arrAt_eq_of_covers 9 _ (by decide +kernel) fun t _ y => ?_
  blk_simp
  rw [after0_9]
  unfold Gen.outsAt0
  frame_out
  rw [hidden_eq]
  idx_vars y
  rw [pay2_apply]
  simp only [pay3_apply, pay4_apply, hidden_apply]
  have hN : t.val < 32 := t.isLt
  have hi : t.val * 1024 + y0.val < 32768 := by omega
  have he : (win0_9.blk t).view.emb (ix2 y0 y1) = (ix2 ⟨t.val * 1024 + y0.val, hi⟩ y1 : S32768x1024.Idx) := by
    blk_ext [idx t]
  refine Eq.trans ?_ (congrArg (ref _ _ _ _ _ _ _ _ _) he).symm
  rw [ref_apply]
  have h0 : ∀ k, iblk m c 0 t (ix2 y0 k) = m ((c : Thread nD τ).loc main_arg0) (ix2 ⟨t.val * 1024 + y0.val, hi⟩ k) := fun k => by
    blk_ext [iblk, V, idx t]
  have h1 : ∀ k, iblk m c 1 t (ix2 y0 k) = m ((c : Thread nD τ).loc main_arg1)
      (ix3 ⟨(t.val * 1024 + y0.val) / 8192, by omega⟩ ⟨(t.val * 1024 + y0.val) % 8192, by omega⟩ k) := fun k => by
    have hk : ((View.whole main_v0).slice (win0_1.rect t)).emb (ix2 y0 k) = (ix2 ⟨t.val * 1024 + y0.val, hi⟩ k : S32768x1024.Idx) := by
      blk_ext [idx t]
    blk_simp [iblk, V, idx t]
    entry_read
    refine (congrArg (shapeCast S32768x1024 _ _) hk).trans ?_
    pointwise
  have h2 : ∀ k, iblk m c 2 t (ix2 y0 k) = m ((c : Thread nD τ).loc main_arg2)
      (ix3 ⟨(t.val * 1024 + y0.val) / 8192, by omega⟩ ⟨(t.val * 1024 + y0.val) % 8192, by omega⟩ k) := fun k => by
    have hk : ((View.whole main_v1).slice (win0_2.rect t)).emb (ix2 y0 k) = (ix2 ⟨t.val * 1024 + y0.val, hi⟩ k : S32768x512.Idx) := by
      blk_ext [idx t]
    blk_simp [iblk, V, idx t]
    entry_read
    refine (congrArg (shapeCast S32768x512 _ _) hk).trans ?_
    pointwise
  have h3 : ∀ k f, iblk m c 3 t (ix2 k f) = m ((c : Thread nD τ).loc main_arg3) (ix2 k f) := fun k f => by
    blk_ext [iblk, V, idx t]
  have h4 : ∀ k, iblk m c 4 t (ix2 0 k) = m ((c : Thread nD τ).loc main_arg4) (ix1 k) := fun k => by
    have hk : ((View.whole main_v2).slice (win0_4.rect t)).emb (ix2 0 k) = (ix2 0 k : S1x1024.Idx) := by
      blk_ext [idx t]
    blk_simp [iblk, V, idx t]
    entry_read
    refine (congrArg (shapeCast S1x1024 _ _) hk).trans ?_
    pointwise
  have h5 : ∀ k f, iblk m c 5 t (ix2 k f) = m ((c : Thread nD τ).loc main_arg5) (ix2 k f) := fun k f => by
    blk_ext [iblk, V, idx t]
  have h6 : ∀ k f, iblk m c 6 t (ix2 k f) = m ((c : Thread nD τ).loc main_arg6) (ix2 k f) := fun k f => by
    blk_ext [iblk, V, idx t]
  have h7 : ∀ k f, iblk m c 7 t (ix2 k f) = m ((c : Thread nD τ).loc main_arg7) (ix2 k f) := fun k f => by
    blk_ext [iblk, V, idx t]
  have h8 : ∀ k, iblk m c 8 t (ix2 0 k) = m ((c : Thread nD τ).loc main_arg8) (ix1 k) := fun k => by
    have hk : ((View.whole main_v3).slice (win0_8.rect t)).emb (ix2 0 k) = (ix2 0 k : S1x1024.Idx) := by
      blk_ext [idx t]
    blk_simp [iblk, V, idx t]
    entry_read
    refine (congrArg (shapeCast S1x1024 _ _) hk).trans ?_
    pointwise
  simp only [h0, h1, h2, h3, h4, h5, h6, h7, h8]
  rfl

end

end Cert.Kernel3Ideal.Mine
-- ==== Proof.Out.lean ====
module

public import proofs.«01_k».proof.Defs
public import proofs.«01_k».proof.Proof.OutValue
public import proofs.«01_k».proof.Proof.Gen.Kernel3.Frame
public import Idealize.ShloMosaic.Lib.Claim

/-! The claims about the last call: output projection, second feed-forward half step, final normalization. -/

@[expose] public section

noncomputable section

namespace Cert.Proof

open Idealize.ShloMosaic Idealize.SL.Sem

/-- The reference leaves its arguments alone. -/
theorem quiescent3 : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- Kernel and reference end with equal results. -/
theorem algebraic3 : Cert.algebraic_Kernel3Ideal_Reference3Ideal := by
  pair_intro
  · run_from Cert.Kernel3Ideal.Value.run_blocks m g
  · run_from Cert.Reference3Ideal.Value.run m' g'
    obtain ⟨h0, h1, h2, h3, h4, h5, h6, h7, h8⟩ := hagree c
    refine (Cert.Reference3Ideal.Mine.res_eq m' c).trans ?_
    rw [h0, h1, h2, h3, h4, h5, h6, h7, h8]
    exact (Cert.Kernel3Ideal.Mine.final m c).symm

end Cert.Proof
end
-- ==== Proof.lean ====
module

public import proofs.«01_k».proof.Defs
public import proofs.«01_k».proof.Proof.Ffn
public import proofs.«01_k».proof.Proof.Front
public import proofs.«01_k».proof.Proof.FrontFrame
public import proofs.«01_k».proof.Proof.Out

/-! The certificate: each claim is proved in its own module. -/

@[expose] public section

noncomputable section

namespace Cert.Proof

open Idealize.ShloMosaic Idealize.SL.Sem

/-- Every claim of the certificate. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts, pre_facts, on_facts,
  fun m ρ _ => Cert.Kernel.Mine.frame m ρ, fun m ρ _ => Cert.KernelIdeal.Mine.frame m ρ,
  fun m ρ _ => Cert.KernelIdeal.Mine.frame m ρ, quiescent1, fun m ρ _ => quiescent1 m ρ trivial,
  fun m ρ _ => Cert.Kernel2.Mine.frame m ρ, fun m ρ _ => Cert.Kernel2Ideal.Mine.frame m ρ, quiescent2,
  fun m ρ _ => Cert.Kernel3.Gen.frame m ρ, fun m ρ _ => Cert.Kernel3Ideal.Gen.frame m ρ, quiescent3,
  IdealRules.named_const.statement _ _ _ _ _ rfl, algebraic1, trivial, algebraic2, trivial, algebraic3⟩

end Cert.Proof

end
